-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_bf16 [hPre_within_bf16 : Cert.Pre_within_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_within_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_bf16 [hPre_within_bf16 : Cert.Pre_within_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_within_bf16 [hKernelIdeal : Cert.KernelIdeal.Facts] [hPre_within_bf16 : Cert.Pre_within_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_within_bf16 [hReferenceIdeal : Cert.ReferenceIdeal.Facts] [hPre_within_bf16 : Cert.Pre_within_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_within_bf16 [hKernelIdeal : Cert.KernelIdeal.Facts] [hReferenceIdeal : Cert.ReferenceIdeal.Facts] [hPre_within_bf16 : Cert.Pre_within_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_v59) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_within_bf16 : Cert.Pre_within_bf16.Facts),
    quiescent_Kernel (hKernel := hKernel)
    ∧ quiescent_KernelIdeal (hKernelIdeal := hKernelIdeal)
    ∧ quiescent_KernelIdeal_pre_within_bf16 (hKernelIdeal := hKernelIdeal) (hPre_within_bf16 := hPre_within_bf16)
    ∧ quiescent_ReferenceIdeal (hReferenceIdeal := hReferenceIdeal)
    ∧ quiescent_ReferenceIdeal_pre_within_bf16 (hReferenceIdeal := hReferenceIdeal) (hPre_within_bf16 := hPre_within_bf16)
    ∧ preserves_Kernel_KernelIdeal
    ∧ algebraic_KernelIdeal_ReferenceIdeal_pre_within_bf16 (hKernelIdeal := hKernelIdeal) (hReferenceIdeal := hReferenceIdeal) (hPre_within_bf16 := hPre_within_bf16)
-- ==== Pre_within_bf16.lean ====
abbrev S8x4096x4096 : Shape := ⟨3, ![8, 4096, 4096]⟩
abbrev S8x4096x512 : Shape := ⟨3, ![8, 4096, 512]⟩
abbrev S_ : Shape := ⟨0, ![]⟩

class Facts : Prop where
  bitsLt_bf16_f32 : FTy.bits .bf16 < FTy.bits .f32
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_

variable [Facts]

def fn {F : FTy → Type} [FloatOps F] (main_arg0 : FVec F S8x4096x4096 .bf16) (main_arg1 : FVec F S8x4096x512 .bf16) (main_arg2 : FVec F S8x4096x512 .bf16) : IVec S_ 1 :=
  let main_v0 : FVec F S8x4096x4096 .f32 := (extf .f32 · bitsLt_bf16_f32) main_arg0
  let main_v1 : FVec F S8x4096x4096 .f32 := Host.absf main_v0
  let main_cst : FVec F S_ .f32 := constant S_ .f32 0x7F7F0000#32
  let main_v2 : FVec F S8x4096x4096 .f32 := broadcastInDim S8x4096x4096 ![] bcast_S_S8x4096x4096 main_cst
  let main_v3 : IVec S8x4096x4096 1 := cmpf .ole main_v1 main_v2
  let main_c : IVec S_ 1 := constantI S_ 1 1#1
  let main_v4 : IVec S_ 1 := (fun x v => Host.reduce IntOp.andi x v reducesTo_S8x4096x4096_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F7F0000#32
  let main_v7 : FVec F S8x4096x512 .f32 := broadcastInDim S8x4096x512 ![] bcast_S_S8x4096x512 main_cst_0
  let main_v8 : IVec S8x4096x512 1 := cmpf .ole main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S8x4096x512 .f32 := (extf .f32 · bitsLt_bf16_f32) main_arg2
  let main_v12 : FVec F S8x4096x512 .f32 := Host.absf main_v11
  let main_cst_2 : FVec F S_ .f32 := constant S_ .f32 0x7F7F0000#32
  let main_v13 : FVec F S8x4096x512 .f32 := broadcastInDim S8x4096x512 ![] bcast_S_S8x4096x512 main_cst_2
  let main_v14 : IVec S8x4096x512 1 := cmpf .ole main_v12 main_v13
  let main_c_3 : IVec S_ 1 := constantI S_ 1 1#1
  let main_v15 : IVec S_ 1 := (fun x v => Host.reduce IntOp.andi x v reducesTo_S8x4096x512_S_d0_1_2 h_S_) main_v14 main_c_3
  let main_v16 : IVec S_ 1 := andi main_v10 main_v15
  main_v16
-- ==== Kernel.lean ====
abbrev S8x4096x4096 : Shape := ⟨3, ![8, 4096, 4096]⟩
abbrev S8x4096x512 : Shape := ⟨3, ![8, 4096, 512]⟩
abbrev S8x32x32 : Shape := ⟨3, ![8, 32, 32]⟩
abbrev S8x4x64 : Shape := ⟨3, ![8, 4, 64]⟩
abbrev S8x4x128 : Shape := ⟨3, ![8, 4, 128]⟩
abbrev S1x128x1024 : Shape := ⟨3, ![1, 128, 1024]⟩
abbrev S1x4096x128 : Shape := ⟨3, ![1, 4096, 128]⟩
abbrev S1x8x32 : Shape := ⟨3, ![1, 8, 32]⟩
abbrev S1x4x64 : Shape := ⟨3, ![1, 4, 64]⟩
abbrev S1x4x128 : Shape := ⟨3, ![1, 4, 128]⟩
abbrev S4096x128 : Shape := ⟨2, ![4096, 128]⟩
abbrev S128x4096 : Shape := ⟨2, ![128, 4096]⟩
abbrev S64x128 : Shape := ⟨2, ![64, 128]⟩
abbrev S1x128 : Shape := ⟨2, ![1, 128]⟩
abbrev S1024x128 : Shape := ⟨2, ![1024, 128]⟩
abbrev S4x1152x256 : Shape := ⟨3, ![4, 1152, 256]⟩
abbrev S4x24x256 : Shape := ⟨3, ![4, 24, 256]⟩
abbrev S4x8x256 : Shape := ⟨3, ![4, 8, 256]⟩
abbrev S8x128 : Shape := ⟨2, ![8, 128]⟩
abbrev S1x512x128 : Shape := ⟨3, ![1, 512, 128]⟩
abbrev S512x128 : Shape := ⟨2, ![512, 128]⟩
abbrev S64x8x128 : Shape := ⟨3, ![64, 8, 128]⟩
abbrev S128 : Shape := ⟨1, ![128]⟩
abbrev S1x64x128 : Shape := ⟨3, ![1, 64, 128]⟩
abbrev S8x8x128 : Shape := ⟨3, ![8, 8, 128]⟩
abbrev S8 : Shape := ⟨1, ![8]⟩
abbrev S8x1 : Shape := ⟨2, ![8, 1]⟩
abbrev S1x64 : Shape := ⟨2, ![1, 64]⟩
abbrev S1x1x64 : Shape := ⟨3, ![1, 1, 64]⟩
abbrev S16x128 : Shape := ⟨2, ![16, 128]⟩
abbrev S32x16x128 : Shape := ⟨3, ![32, 16, 128]⟩
abbrev S1x1x128 : Shape := ⟨3, ![1, 1, 128]⟩
abbrev S1x128x128 : Shape := ⟨3, ![1, 128, 128]⟩
abbrev S128x128 : Shape := ⟨2, ![128, 128]⟩
abbrev S128x256 : Shape := ⟨2, ![128, 256]⟩
abbrev S8x16x128 : Shape := ⟨3, ![8, 16, 128]⟩
abbrev S1 : Shape := ⟨1, ![1]⟩
abbrev S1x1 : Shape := ⟨2, ![1, 1]⟩
abbrev S8x32 : Shape := ⟨2, ![8, 32]⟩
abbrev S256x128 : Shape := ⟨2, ![256, 128]⟩
abbrev S2x128 : Shape := ⟨2, ![2, 128]⟩
abbrev S2x256 : Shape := ⟨2, ![2, 256]⟩
abbrev S1x2x256 : Shape := ⟨3, ![1, 2, 256]⟩
abbrev S64x256 : Shape := ⟨2, ![64, 256]⟩
abbrev S1x1x256 : Shape := ⟨3, ![1, 1, 256]⟩
abbrev S1x256 : Shape := ⟨2, ![1, 256]⟩
abbrev S1x64x256 : Shape := ⟨3, ![1, 64, 256]⟩
abbrev S8x8x256 : Shape := ⟨3, ![8, 8, 256]⟩
abbrev S8x256 : Shape := ⟨2, ![8, 256]⟩
abbrev S256 : Shape := ⟨1, ![256]⟩
abbrev S1x128x256 : Shape := ⟨3, ![1, 128, 256]⟩
abbrev S16x8x256 : Shape := ⟨3, ![16, 8, 256]⟩
abbrev S256x256 : Shape := ⟨2, ![256, 256]⟩
abbrev S4x128 : Shape := ⟨2, ![4, 128]⟩
abbrev S4x256 : Shape := ⟨2, ![4, 256]⟩
abbrev S1x4x256 : Shape := ⟨3, ![1, 4, 256]⟩
abbrev S384x128 : Shape := ⟨2, ![384, 128]⟩
abbrev S384x256 : Shape := ⟨2, ![384, 256]⟩
abbrev S6x128 : Shape := ⟨2, ![6, 128]⟩
abbrev S6x256 : Shape := ⟨2, ![6, 256]⟩
abbrev S1x6x256 : Shape := ⟨3, ![1, 6, 256]⟩
abbrev S128x384 : Shape := ⟨2, ![128, 384]⟩
abbrev S512x256 : Shape := ⟨2, ![512, 256]⟩
abbrev S1x8x256 : Shape := ⟨3, ![1, 8, 256]⟩
abbrev S128x512 : Shape := ⟨2, ![128, 512]⟩
abbrev S640x128 : Shape := ⟨2, ![640, 128]⟩
abbrev S640x256 : Shape := ⟨2, ![640, 256]⟩
abbrev S10x128 : Shape := ⟨2, ![10, 128]⟩
abbrev S10x256 : Shape := ⟨2, ![10, 256]⟩
abbrev S1x10x256 : Shape := ⟨3, ![1, 10, 256]⟩
abbrev S128x640 : Shape := ⟨2, ![128, 640]⟩
abbrev S768x128 : Shape := ⟨2, ![768, 128]⟩
abbrev S768x256 : Shape := ⟨2, ![768, 256]⟩
abbrev S12x128 : Shape := ⟨2, ![12, 128]⟩
abbrev S12x256 : Shape := ⟨2, ![12, 256]⟩
abbrev S1x12x256 : Shape := ⟨3, ![1, 12, 256]⟩
abbrev S128x768 : Shape := ⟨2, ![128, 768]⟩
abbrev S896x128 : Shape := ⟨2, ![896, 128]⟩
abbrev S896x256 : Shape := ⟨2, ![896, 256]⟩
abbrev S14x128 : Shape := ⟨2, ![14, 128]⟩
abbrev S14x256 : Shape := ⟨2, ![14, 256]⟩
abbrev S1x14x256 : Shape := ⟨3, ![1, 14, 256]⟩
abbrev S128x896 : Shape := ⟨2, ![128, 896]⟩
abbrev S1024x256 : Shape := ⟨2, ![1024, 256]⟩
abbrev S16x256 : Shape := ⟨2, ![16, 256]⟩
abbrev S1x16x256 : Shape := ⟨3, ![1, 16, 256]⟩
abbrev S128x1024 : Shape := ⟨2, ![128, 1024]⟩
abbrev S1152x128 : Shape := ⟨2, ![1152, 128]⟩
abbrev S1152x256 : Shape := ⟨2, ![1152, 256]⟩
abbrev S18x128 : Shape := ⟨2, ![18, 128]⟩
abbrev S18x256 : Shape := ⟨2, ![18, 256]⟩
abbrev S1x18x256 : Shape := ⟨3, ![1, 18, 256]⟩
abbrev S128x1152 : Shape := ⟨2, ![128, 1152]⟩

abbrev nBuf : Space → Nat
  | .hbm => 10
  | .vmem => 28
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x512, .bf16⟩
  | .hbm, ⟨2, _⟩ => ⟨S8x4096x512, .bf16⟩
  | .hbm, ⟨3, _⟩ => ⟨S8x4096x4096, .bf16⟩
  | .hbm, ⟨4, _⟩ => ⟨S8x4096x4096, .i8⟩
  | .hbm, ⟨5, _⟩ => ⟨S8x32x32, .f32⟩
  | .hbm, ⟨6, _⟩ => ⟨S8x4096x512, .i8⟩
  | .hbm, ⟨7, _⟩ => ⟨S8x4x64, .f32⟩
  | .hbm, ⟨8, _⟩ => ⟨S8x4096x512, .fp8e4m3⟩
  | .hbm, ⟨9, _⟩ => ⟨S8x4x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .i8⟩
  | .local _ .vmem, ⟨9, _⟩ => ⟨S1x128x1024, .i8⟩
  | .local _ .vmem, ⟨10, _⟩ => ⟨S1x8x32, .f32⟩
  | .local _ .vmem, ⟨11, _⟩ => ⟨S1x8x32, .f32⟩
  | .local _ .vmem, ⟨12, _⟩ => ⟨S1x4096x128, .i8⟩
  | .local _ .vmem, ⟨13, _⟩ => ⟨S1x4096x128, .i8⟩
  | .local _ .vmem, ⟨14, _⟩ => ⟨S1x4x64, .f32⟩
  | .local _ .vmem, ⟨15, _⟩ => ⟨S1x4x64, .f32⟩
  | .local _ .vmem, ⟨16, _⟩ => ⟨S1x4096x128, .fp8e4m3⟩
  | .local _ .vmem, ⟨17, _⟩ => ⟨S1x4096x128, .fp8e4m3⟩
  | .local _ .vmem, ⟨18, _⟩ => ⟨S1x4x128, .f32⟩
  | .local _ .vmem, ⟨19, _⟩ => ⟨S1x4x128, .f32⟩
  | .local _ .vmem, ⟨20, _⟩ => ⟨S4096x128, .bf16⟩
  | .local _ .vmem, ⟨21, _⟩ => ⟨S128x4096, .fp8e4m3⟩
  | .local _ .vmem, ⟨22, _⟩ => ⟨S64x128, .f32⟩
  | .local _ .vmem, ⟨23, _⟩ => ⟨S1x128, .f32⟩
  | .local _ .vmem, ⟨24, _⟩ => ⟨S1024x128, .bf16⟩
  | .local _ .vmem, ⟨25, _⟩ => ⟨S4x1152x256, .f32⟩
  | .local _ .vmem, ⟨26, _⟩ => ⟨S4x24x256, .f32⟩
  | .local _ .vmem, ⟨27, _⟩ => ⟨S4x8x256, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32_12 : BitVec 32 := 8#32
  let v31 : BitVec 32 := Scalar.addi c0_i32_11 c8_i32_12
  let c1_i32_13 : BitVec 32 := 1#32
  ⟨c0_i32_11, v31, c1_i32_13⟩
def k0_mult1 (k0_t1 : Fin k0_t1_loop.trips) : BitVec 32 :=
  let c0_i32_11 : BitVec 32 := 0#32
  let c1_i32_13 : BitVec 32 := 1#32
  let arg21 : BitVec 32 := Scf.iv c0_i32_11 c1_i32_13 k0_t1
  let c512_i32 : BitVec 32 := 512#32
  let v88 : BitVec 32 := Scalar.muli arg21 c512_i32
  v88
def k0_off1 (k0_t1 : Fin k0_t1_loop.trips) : Fin 3 → Nat :=
  let c0_53 : Index := 0#32
  let c0_i32_11 : BitVec 32 := 0#32
  let c1_i32_13 : BitVec 32 := 1#32
  let arg21 : BitVec 32 := Scf.iv c0_i32_11 c1_i32_13 k0_t1
  let c512_i32 : BitVec 32 := 512#32
  let v88 : BitVec 32 := Scalar.muli arg21 c512_i32
  let v89 : BitVec 32 := v88
  let v90 : Index := Scalar.indexCast v89
  let c0_54 : Index := 0#32
  ![0, v90.toNat, 0]
@[reducible] def k0_t2_loop : Scf.Loop 32 :=
  let c0_i32_17 : BitVec 32 := 0#32
  let c8_i32_18 : BitVec 32 := 8#32
  let v37 : BitVec 32 := Scalar.addi c0_i32_17 c8_i32_18
  let c1_i32_19 : BitVec 32 := 1#32
  ⟨c0_i32_17, v37, c1_i32_19⟩
def k0_mult2 (k0_t2 : Fin k0_t2_loop.trips) : BitVec 32 :=
  let c0_i32_17 : BitVec 32 := 0#32
  let c1_i32_19 : BitVec 32 := 1#32
  let arg21 : BitVec 32 := Scf.iv c0_i32_17 c1_i32_19 k0_t2
  let c512_i32 : BitVec 32 := 512#32
  let v88 : BitVec 32 := Scalar.muli arg21 c512_i32
  v88
def k0_off2 (k0_t2 : Fin k0_t2_loop.trips) (c0_i32_53 : BitVec 32) : Fin 3 → Nat :=
  let c0_54 : Index := 0#32
  let c0_i32_17 : BitVec 32 := 0#32
  let c1_i32_19 : BitVec 32 := 1#32
  let arg21 : BitVec 32 := Scf.iv c0_i32_17 c1_i32_19 k0_t2
  let c512_i32 : BitVec 32 := 512#32
  let v88 : BitVec 32 := Scalar.muli arg21 c512_i32
  let v89 : BitVec 32 := v88
  let v90 : BitVec 32 := Scalar.addi v89 c0_i32_53
  let v91 : Index := Scalar.indexCast v90
  let c0_55 : Index := 0#32
  ![0, v91.toNat, 0]
def k0_mult3 (k0_t2 : Fin k0_t2_loop.trips) : BitVec 32 :=
  let c0_i32_17 : BitVec 32 := 0#32
  let c1_i32_19 : BitVec 32 := 1#32
  let arg21 : BitVec 32 := Scf.iv c0_i32_17 c1_i32_19 k0_t2
  let c8_i32_90 : BitVec 32 := 8#32
  let v197 : BitVec 32 := Scalar.muli arg21 c8_i32_90
  v197
def k0_off3 (k0_t2 : Fin k0_t2_loop.trips) : Fin 2 → Nat :=
  let c0_i32_17 : BitVec 32 := 0#32
  let c1_i32_19 : BitVec 32 := 1#32
  let arg21 : BitVec 32 := Scf.iv c0_i32_17 c1_i32_19 k0_t2
  let c8_i32_90 : BitVec 32 := 8#32
  let v197 : BitVec 32 := Scalar.muli arg21 c8_i32_90
  let v198 : BitVec 32 := v197
  let v199 : Index := Scalar.indexCast v198
  let c0_91 : Index := 0#32
  ![v199.toNat, 0]
def k0_off4 (k0_t2 : Fin k0_t2_loop.trips) (c0_i32_100 : BitVec 32) : Fin 2 → Nat :=
  let c0_i32_17 : BitVec 32 := 0#32
  let c1_i32_19 : BitVec 32 := 1#32
  let arg21 : BitVec 32 := Scf.iv c0_i32_17 c1_i32_19 k0_t2
  let c512_i32 : BitVec 32 := 512#32
  let v88 : BitVec 32 := Scalar.muli arg21 c512_i32
  let v89 : BitVec 32 := v88
  let v225 : BitVec 32 := Scalar.addi v89 c0_i32_100
  let v226 : Index := Scalar.indexCast v225
  let c0_101 : Index := 0#32
  ![v226.toNat, 0]
def k0_off5 (i : grid0.Coords) : Fin 3 → Nat :=
  let c0_24 : Index := 0#32
  let arg1 : BitVec 32 := BitVec.ofNat 32 (i 1).val
  let v47 : Index := Scalar.indexCast arg1
  let c0_25 : Index := 0#32
  ![0, v47.toNat, 0]
@[reducible] def k0_t3_loop : Scf.Loop 32 :=
  let c0_i32_27 : BitVec 32 := 0#32
  let c8_i32_28 : BitVec 32 := 8#32
  let v52 : BitVec 32 := Scalar.addi c0_i32_27 c8_i32_28
  let c1_i32_29 : BitVec 32 := 1#32
  ⟨c0_i32_27, v52, c1_i32_29⟩
def k0_mult4 (k0_t3 : Fin k0_t3_loop.trips) : BitVec 32 :=
  let c0_i32_27 : BitVec 32 := 0#32
  let c1_i32_29 : BitVec 32 := 1#32
  let arg21 : BitVec 32 := Scf.iv c0_i32_27 c1_i32_29 k0_t3
  let c512_i32 : BitVec 32 := 512#32
  let v88 : BitVec 32 := Scalar.muli arg21 c512_i32
  v88
def k0_off6 (k0_t3 : Fin k0_t3_loop.trips) : Fin 3 → Nat :=
  let c0_53 : Index := 0#32
  let c0_i32_27 : BitVec 32 := 0#32
  let c1_i32_29 : BitVec 32 := 1#32
  let arg21 : BitVec 32 := Scf.iv c0_i32_27 c1_i32_29 k0_t3
  let c512_i32 : BitVec 32 := 512#32
  let v88 : BitVec 32 := Scalar.muli arg21 c512_i32
  let v89 : BitVec 32 := v88
  let v90 : Index := Scalar.indexCast v89
  let c0_54 : Index := 0#32
  ![0, v90.toNat, 0]
@[reducible] def k0_t4_loop : Scf.Loop 32 :=
  let c1_i32_34 : BitVec 32 := 1#32
  let c255_i32 : BitVec 32 := 255#32
  let v60 : BitVec 32 := Scalar.addi c1_i32_34 c255_i32
  let c1_i32_35 : BitVec 32 := 1#32
  ⟨c1_i32_34, v60, c1_i32_35⟩
def k0_off7 (i : grid0.Coords) : Fin 3 → Nat :=
  let c0_41 : Index := 0#32
  let arg1 : BitVec 32 := BitVec.ofNat 32 (i 1).val
  let v78 : Index := Scalar.indexCast arg1
  let c0_42 : Index := 0#32
  ![0, v78.toNat, 0]
@[reducible] def k0_t5_loop : Scf.Loop 32 :=
  let c0_i32_45 : BitVec 32 := 0#32
  let c8_i32_46 : BitVec 32 := 8#32
  let v85 : BitVec 32 := Scalar.addi c0_i32_45 c8_i32_46
  let c1_i32_47 : BitVec 32 := 1#32
  ⟨c0_i32_45, v85, c1_i32_47⟩
def k0_mult5 (k0_t5 : Fin k0_t5_loop.trips) : BitVec 32 :=
  let c0_i32_45 : BitVec 32 := 0#32
  let c1_i32_47 : BitVec 32 := 1#32
  let arg21 : BitVec 32 := Scf.iv c0_i32_45 c1_i32_47 k0_t5
  let c512_i32 : BitVec 32 := 512#32
  let v88 : BitVec 32 := Scalar.muli arg21 c512_i32
  let c0_i32_53 : BitVec 32 := 0#32
  let v89 : BitVec 32 := Scalar.addi v88 c0_i32_53
  v89
def k0_off8 (k0_t5 : Fin k0_t5_loop.trips) (c0_i32_53 : BitVec 32) : Fin 3 → Nat :=
  let c0_54 : Index := 0#32
  let c0_i32_45 : BitVec 32 := 0#32
  let c1_i32_47 : BitVec 32 := 1#32
  let arg21 : BitVec 32 := Scf.iv c0_i32_45 c1_i32_47 k0_t5
  let c512_i32 : BitVec 32 := 512#32
  let v88 : BitVec 32 := Scalar.muli arg21 c512_i32
  let v89 : BitVec 32 := Scalar.addi v88 c0_i32_53
  let v90 : BitVec 32 := v89
  let v91 : Index := Scalar.indexCast v90
  let c0_55 : Index := 0#32
  ![0, v91.toNat, 0]
def k0_off9 (k0_t5 : Fin k0_t5_loop.trips) (c0_i32_53 : BitVec 32) : Fin 2 → Nat :=
  let c0_60 : Index := 0#32
  let c0_i32_45 : BitVec 32 := 0#32
  let c1_i32_47 : BitVec 32 := 1#32
  let arg21 : BitVec 32 := Scf.iv c0_i32_45 c1_i32_47 k0_t5
  let c512_i32 : BitVec 32 := 512#32
  let v88 : BitVec 32 := Scalar.muli arg21 c512_i32
  let v89 : BitVec 32 := Scalar.addi v88 c0_i32_53
  let v90 : BitVec 32 := v89
  let v109 : Index := Scalar.indexCast v90
  ![0, v109.toNat]
def k0_mult6 (k0_t5 : Fin k0_t5_loop.trips) : BitVec 32 :=
  let c0_i32_45 : BitVec 32 := 0#32
  let c1_i32_47 : BitVec 32 := 1#32
  let arg21 : BitVec 32 := Scf.iv c0_i32_45 c1_i32_47 k0_t5
  let c512_i32_61 : BitVec 32 := 512#32
  let v113 : BitVec 32 := Scalar.muli arg21 c512_i32_61
  let c128_i32 : BitVec 32 := 128#32
  let v114 : BitVec 32 := Scalar.addi v113 c128_i32
  v114
def k0_mult7 (k0_t5 : Fin k0_t5_loop.trips) : BitVec 32 :=
  let c0_i32_45 : BitVec 32 := 0#32
  let c1_i32_47 : BitVec 32 := 1#32
  let arg21 : BitVec 32 := Scf.iv c0_i32_45 c1_i32_47 k0_t5
  let c512_i32_69 : BitVec 32 := 512#32
  let v138 : BitVec 32 := Scalar.muli arg21 c512_i32_69
  let c256_i32 : BitVec 32 := 256#32
  let v139 : BitVec 32 := Scalar.addi v138 c256_i32
  v139
def k0_mult8 (k0_t5 : Fin k0_t5_loop.trips) : BitVec 32 :=
  let c0_i32_45 : BitVec 32 := 0#32
  let c1_i32_47 : BitVec 32 := 1#32
  let arg21 : BitVec 32 := Scf.iv c0_i32_45 c1_i32_47 k0_t5
  let c512_i32_77 : BitVec 32 := 512#32
  let v163 : BitVec 32 := Scalar.muli arg21 c512_i32_77
  let c384_i32 : BitVec 32 := 384#32
  let v164 : BitVec 32 := Scalar.addi v163 c384_i32
  v164
def k0_cond10 (i : grid0.Coords) : BitVec 1 :=
  let arg2 : BitVec 32 := BitVec.ofNat 32 (i 2).val
  let c8_i32 : BitVec 32 := 8#32
  let v27 : BitVec 1 := Scalar.cmpi .sge arg2 c8_i32
  let v28 : BitVec 32 := Scalar.extui v27
  let c0_i32_10 : BitVec 32 := 0#32
  let v29 : BitVec 1 := Scalar.cmpi .ne v28 c0_i32_10
  v29

def k0_mult9 (i : grid0.Coords) : BitVec 32 :=
  let arg2 : BitVec 32 := BitVec.ofNat 32 (i 2).val
  let c8_i32_11 : BitVec 32 := 8#32
  let v30 : BitVec 32 := Scalar.subi arg2 c8_i32_11
  let c128_i32 : BitVec 32 := 128#32
  let v31 : BitVec 32 := Scalar.muli v30 c128_i32
  v31
def k0_off10 (i : grid0.Coords) : Fin 2 → Nat :=
  let arg2 : BitVec 32 := BitVec.ofNat 32 (i 2).val
  let c8_i32_11 : BitVec 32 := 8#32
  let v30 : BitVec 32 := Scalar.subi arg2 c8_i32_11
  let c128_i32 : BitVec 32 := 128#32
  let v31 : BitVec 32 := Scalar.muli v30 c128_i32
  let v32 : BitVec 32 := v31
  let v398 : Index := Scalar.indexCast v32
  let c0_163 : Index := 0#32
  ![v398.toNat, 0]
def k0_off11 (i : grid0.Coords) : Fin 2 → Nat :=
  let arg2 : BitVec 32 := BitVec.ofNat 32 (i 2).val
  let c8_i32_11 : BitVec 32 := 8#32
  let v30 : BitVec 32 := Scalar.subi arg2 c8_i32_11
  let c128_i32 : BitVec 32 := 128#32
  let v31 : BitVec 32 := Scalar.muli v30 c128_i32
  let v32 : BitVec 32 := v31
  let c0_i32_165 : BitVec 32 := 0#32
  let v402 : BitVec 1 := Scalar.cmpi .sgt v32 c0_i32_165
  let v403 : BitVec 32 := Scalar.extui v402
  let c0_i32_166 : BitVec 32 := 0#32
  let v404 : BitVec 1 := Scalar.cmpi .slt v32 c0_i32_166
  let v405 : BitVec 32 := Scalar.extui v404
  let v406 : BitVec 32 := Scalar.subi v403 v405
  let c64_i32 : BitVec 32 := 64#32
  let c0_i32_167 : BitVec 32 := 0#32
  let v407 : BitVec 1 := Scalar.cmpi .sgt c64_i32 c0_i32_167
  let v408 : BitVec 32 := Scalar.extui v407
  let c0_i32_168 : BitVec 32 := 0#32
  let v409 : BitVec 1 := Scalar.cmpi .slt c64_i32 c0_i32_168
  let v410 : BitVec 32 := Scalar.extui v409
  let v411 : BitVec 32 := Scalar.subi v408 v410
  let v412 : BitVec 1 := Scalar.cmpi .ne v406 v411
  let v413 : BitVec 32 := Scalar.remsi v32 c64_i32
  let c0_i32_169 : BitVec 32 := 0#32
  let v414 : BitVec 1 := Scalar.cmpi .ne v413 c0_i32_169
  let v415 : BitVec 1 := Scalar.andi v412 v414
  let v401 : BitVec 32 := Scalar.divsi v32 c64_i32
  let c1_i32_170 : BitVec 32 := 1#32
  let v416 : BitVec 32 := Scalar.subi v401 c1_i32_170
  let v417 : BitVec 32 := Scalar.select v415 v416 v401
  let v418 : Index := Scalar.indexCast v417
  let c0_171 : Index := 0#32
  ![v418.toNat, 0]
def k0_off12 (i : grid0.Coords) : Fin 2 → Nat :=
  let c0_748 : Index := 0#32
  let arg2 : BitVec 32 := BitVec.ofNat 32 (i 2).val
  let c8_i32_11 : BitVec 32 := 8#32
  let v30 : BitVec 32 := Scalar.subi arg2 c8_i32_11
  let c128_i32 : BitVec 32 := 128#32
  let v31 : BitVec 32 := Scalar.muli v30 c128_i32
  let v32 : BitVec 32 := v31
  let v1434 : Index := Scalar.indexCast v32
  ![0, v1434.toNat]
def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg2 : BitVec 32 := BitVec.ofNat 32 (i 2).val
  let c4_i32 : BitVec 32 := 4#32
  let v15 : BitVec 1 := Scalar.cmpi .eq arg2 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg2 : BitVec 32 := BitVec.ofNat 32 (i 2).val
  let c6_i32 : BitVec 32 := 6#32
  let v21 : BitVec 1 := Scalar.cmpi .eq arg2 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_9 : BitVec 32 := 0#32
  let v26 : BitVec 1 := Scalar.cmpi .ne v25 c0_i32_9
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x4096 : Shape := ⟨3, ![8, 4096, 4096]⟩
abbrev S8x4096x512 : Shape := ⟨3, ![8, 4096, 512]⟩
abbrev S8x4096x32x128 : Shape := ⟨4, ![8, 4096, 32, 128]⟩
abbrev S_ : Shape := ⟨0, ![]⟩
abbrev S8x32x128x32x128 : Shape := ⟨5, ![8, 32, 128, 32, 128]⟩
abbrev S8x32x128x32 : Shape := ⟨4, ![8, 32, 128, 32]⟩
abbrev S8x32x32 : Shape := ⟨3, ![8, 32, 32]⟩
abbrev S8x32x1x32x1 : Shape := ⟨5, ![8, 32, 1, 32, 1]⟩
abbrev S8x4096x4x128 : Shape := ⟨4, ![8, 4096, 4, 128]⟩
abbrev S8x4x128 : Shape := ⟨3, ![8, 4, 128]⟩
abbrev S8x1x4x128 : Shape := ⟨4, ![8, 1, 4, 128]⟩
abbrev S8x64x64x4x128 : Shape := ⟨5, ![8, 64, 64, 4, 128]⟩
abbrev S8x64x64x4 : Shape := ⟨4, ![8, 64, 64, 4]⟩
abbrev S8x64x4 : Shape := ⟨3, ![8, 64, 4]⟩
abbrev S8x64x1x4x1 : Shape := ⟨5, ![8, 64, 1, 4, 1]⟩
abbrev S8x4096x32 : Shape := ⟨3, ![8, 4096, 32]⟩
abbrev S8x4096x4x8 : Shape := ⟨4, ![8, 4096, 4, 8]⟩
abbrev S8x4096x4 : Shape := ⟨3, ![8, 4096, 4]⟩
abbrev S8x4096x4x8x128 : Shape := ⟨5, ![8, 4096, 4, 8, 128]⟩
abbrev S8x4x4096x4096x8 : Shape := ⟨5, ![8, 4, 4096, 4096, 8]⟩
abbrev S8x4x8x4096x4096 : Shape := ⟨5, ![8, 4, 8, 4096, 4096]⟩
abbrev S8x4x8x4096 : Shape := ⟨4, ![8, 4, 8, 4096]⟩
abbrev S8x4x8x4096x1 : Shape := ⟨5, ![8, 4, 8, 4096, 1]⟩
abbrev S8x4x4096 : Shape := ⟨3, ![8, 4, 4096]⟩
abbrev S8x4x1x1x4096 : Shape := ⟨5, ![8, 4, 1, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x128x8x4096 : Shape := ⟨5, ![8, 4, 128, 8, 4096]⟩
abbrev S8x1x4x1x128 : Shape := ⟨5, ![8, 1, 4, 1, 128]⟩
abbrev S8x4096x4x8x1 : Shape := ⟨5, ![8, 4096, 4, 8, 1]⟩
abbrev S8x4x64 : Shape := ⟨3, ![8, 4, 64]⟩

abbrev nBuf : Space → Nat
  | .hbm => 187
  | .vmem => 2
  | .smem => 0
  | _ => 0

abbrev hbmTy0_0 (i : Nat) : BufTy := match i % 128 with
  | 0 => ⟨S8x4096x4096, .bf16⟩
  | 1 => ⟨S8x4096x512, .bf16⟩
  | 2 => ⟨S8x4096x512, .bf16⟩
  | 3 => ⟨S8x4096x4096, .f32⟩
  | 4 => ⟨S8x4096x32x128, .f32⟩
  | 5 => ⟨S_, .f32⟩
  | 6 => ⟨S8x4096x32x128, .f32⟩
  | 7 => ⟨S8x4096x32x128, .f32⟩
  | 8 => ⟨S8x32x128x32x128, .f32⟩
  | 9 => ⟨S8x32x128x32x128, .f32⟩
  | 10 => ⟨S_, .f32⟩
  | 11 => ⟨S8x32x128x32, .f32⟩
  | 12 => ⟨S_, .f32⟩
  | 13 => ⟨S8x32x32, .f32⟩
  | 14 => ⟨S_, .f32⟩
  | 15 => ⟨S8x32x32, .f32⟩
  | 16 => ⟨S8x32x32, .i1⟩
  | 17 => ⟨S_, .f32⟩
  | 18 => ⟨S8x32x32, .f32⟩
  | 19 => ⟨S8x32x32, .f32⟩
  | 20 => ⟨S_, .f32⟩
  | 21 => ⟨S_, .f32⟩
  | 22 => ⟨S8x32x32, .f32⟩
  | 23 => ⟨S8x32x32, .f32⟩
  | 24 => ⟨S8x32x1x32x1, .f32⟩
  | 25 => ⟨S8x32x128x32x128, .f32⟩
  | 26 => ⟨S8x32x128x32x128, .f32⟩
  | 27 => ⟨S8x32x128x32x128, .f32⟩
  | 28 => ⟨S_, .f32⟩
  | 29 => ⟨S_, .f32⟩
  | 30 => ⟨S_, .f32⟩
  | 31 => ⟨S8x32x128x32x128, .f32⟩
  | 32 => ⟨S8x32x128x32x128, .f32⟩
  | 33 => ⟨S_, .f32⟩
  | 34 => ⟨S8x32x128x32x128, .f32⟩
  | 35 => ⟨S8x32x128x32x128, .f32⟩
  | 36 => ⟨S8x4096x32x128, .f32⟩
  | 37 => ⟨S8x4096x512, .f32⟩
  | 38 => ⟨S8x4096x4x128, .f32⟩
  | 39 => ⟨S_, .f32⟩
  | 40 => ⟨S8x4x128, .f32⟩
  | 41 => ⟨S8x1x4x128, .f32⟩
  | 42 => ⟨S_, .f32⟩
  | 43 => ⟨S8x1x4x128, .f32⟩
  | 44 => ⟨S8x1x4x128, .f32⟩
  | 45 => ⟨S8x4096x4x128, .f32⟩
  | 46 => ⟨S8x4096x4x128, .f32⟩
  | 47 => ⟨S8x64x64x4x128, .f32⟩
  | 48 => ⟨S8x64x64x4x128, .f32⟩
  | 49 => ⟨S_, .f32⟩
  | 50 => ⟨S8x64x64x4, .f32⟩
  | 51 => ⟨S_, .f32⟩
  | 52 => ⟨S8x64x4, .f32⟩
  | 53 => ⟨S_, .f32⟩
  | 54 => ⟨S8x64x4, .f32⟩
  | 55 => ⟨S8x64x4, .i1⟩
  | 56 => ⟨S_, .f32⟩
  | 57 => ⟨S8x64x4, .f32⟩
  | 58 => ⟨S8x64x4, .f32⟩
  | 59 => ⟨S_, .f32⟩
  | 60 => ⟨S_, .f32⟩
  | 61 => ⟨S8x64x4, .f32⟩
  | 62 => ⟨S8x64x4, .f32⟩
  | 63 => ⟨S8x64x1x4x1, .f32⟩
  | 64 => ⟨S8x64x64x4x128, .f32⟩
  | 65 => ⟨S8x64x64x4x128, .f32⟩
  | 66 => ⟨S8x64x64x4x128, .f32⟩
  | 67 => ⟨S_, .f32⟩
  | 68 => ⟨S_, .f32⟩
  | 69 => ⟨S_, .f32⟩
  | 70 => ⟨S8x64x64x4x128, .f32⟩
  | 71 => ⟨S8x64x64x4x128, .f32⟩
  | 72 => ⟨S_, .f32⟩
  | 73 => ⟨S8x64x64x4x128, .f32⟩
  | 74 => ⟨S8x64x64x4x128, .f32⟩
  | 75 => ⟨S8x4096x4x128, .f32⟩
  | 76 => ⟨S8x4096x512, .f32⟩
  | 77 => ⟨S8x4096x4x128, .f32⟩
  | 78 => ⟨S8x4096x4x128, .f32⟩
  | 79 => ⟨S_, .f32⟩
  | 80 => ⟨S8x4x128, .f32⟩
  | 81 => ⟨S_, .f32⟩
  | 82 => ⟨S8x4x128, .f32⟩
  | 83 => ⟨S8x4x128, .f32⟩
  | 84 => ⟨S_, .f32⟩
  | 85 => ⟨S8x4x128, .f32⟩
  | 86 => ⟨S8x4x128, .i1⟩
  | 87 => ⟨S8x4x128, .f32⟩
  | 88 => ⟨S_, .f32⟩
  | 89 => ⟨S_, .f32⟩
  | 90 => ⟨S8x4x128, .f32⟩
  | 91 => ⟨S8x4x128, .f32⟩
  | 92 => ⟨S8x4x128, .f32⟩
  | 93 => ⟨S_, .f32⟩
  | 94 => ⟨S8x4x128, .f32⟩
  | 95 => ⟨S8x4x128, .f32⟩
  | 96 => ⟨S_, .f32⟩
  | 97 => ⟨S_, .f32⟩
  | 98 => ⟨S8x4x128, .f32⟩
  | 99 => ⟨S8x4x128, .f32⟩
  | 100 => ⟨S_, .f32⟩
  | 101 => ⟨S8x4x128, .f32⟩
  | 102 => ⟨S8x4x128, .f32⟩
  | 103 => ⟨S8x1x4x128, .f32⟩
  | 104 => ⟨S8x4096x4x128, .f32⟩
  | 105 => ⟨S8x4096x4x128, .f32⟩
  | 106 => ⟨S_, .f32⟩
  | 107 => ⟨S_, .f32⟩
  | 108 => ⟨S_, .f32⟩
  | 109 => ⟨S8x4096x4x128, .f32⟩
  | 110 => ⟨S8x4096x4x128, .f32⟩
  | 111 => ⟨S_, .f32⟩
  | 112 => ⟨S8x4096x4x128, .f32⟩
  | 113 => ⟨S8x4096x4x128, .f32⟩
  | 114 => ⟨S8x32x128x32, .f32⟩
  | 115 => ⟨S8x4096x32, .f32⟩
  | 116 => ⟨S8x4096x4x8, .f32⟩
  | 117 => ⟨S8x64x64x4, .f32⟩
  | 118 => ⟨S8x4096x4, .f32⟩
  | 119 => ⟨S8x4096x4x8x128, .f32⟩
  | 120 => ⟨S8x4x4096x4096x8, .f32⟩
  | 121 => ⟨S8x4x8x4096x4096, .f32⟩
  | 122 => ⟨S8x4x8x4096, .f32⟩
  | 123 => ⟨S8x4x8x4096x1, .f32⟩
  | 124 => ⟨S8x4x8x4096x4096, .f32⟩
  | 125 => ⟨S8x4x8x4096x4096, .f32⟩
  | 126 => ⟨S8x4x4096, .f32⟩
  | 127 => ⟨S8x4x1x1x4096, .f32⟩
  | _ => ⟨S8x4096x4096, .bf16⟩

abbrev hbmTy0_1 (i : Nat) : BufTy := match i % 128 with
  | 0 => ⟨S8x4x8x4096x4096, .f32⟩
  | 1 => ⟨S8x4x8x4096x4096, .f32⟩
  | 2 => ⟨S4096, .i32⟩
  | 3 => ⟨S4096x1, .i32⟩
  | 4 => ⟨S4096, .i32⟩
  | 5 => ⟨S1x4096, .i32⟩
  | 6 => ⟨S4096x4096, .i32⟩
  | 7 => ⟨S4096x4096, .i32⟩
  | 8 => ⟨S4096x4096, .i1⟩
  | 9 => ⟨S_, .i32⟩
  | 10 => ⟨S4096x1, .i32⟩
  | 11 => ⟨S4096x1, .i32⟩
  | 12 => ⟨S4096x4096, .i32⟩
  | 13 => ⟨S4096x4096, .i32⟩
  | 14 => ⟨S4096x4096, .i1⟩
  | 15 => ⟨S4096x4096, .i1⟩
  | 16 => ⟨S_, .f32⟩
  | 17 => ⟨S_, .f32⟩
  | 18 => ⟨S8x4x8x4096x4096, .i1⟩
  | 19 => ⟨S8x4x8x4096x4096, .f32⟩
  | 20 => ⟨S8x4x8x4096x4096, .f32⟩
  | 21 => ⟨S_, .f32⟩
  | 22 => ⟨S8x4x8x4096, .f32⟩
  | 23 => ⟨S8x4x8x4096x1, .f32⟩
  | 24 => ⟨S8x4x8x4096x4096, .f32⟩
  | 25 => ⟨S8x4x8x4096x4096, .f32⟩
  | 26 => ⟨S8x4x8x4096x4096, .f32⟩
  | 27 => ⟨S_, .f32⟩
  | 28 => ⟨S8x4x8x4096, .f32⟩
  | 29 => ⟨S_, .f32⟩
  | 30 => ⟨S8x4x8x4096x4096, .f32⟩
  | 31 => ⟨S8x4x8x4096x4096, .f32⟩
  | 32 => ⟨S_, .f32⟩
  | 33 => ⟨S8x4x8x4096x4096, .f32⟩
  | 34 => ⟨S8x4x8x4096x4096, .f32⟩
  | 35 => ⟨S8x4x128x8x4096, .f32⟩
  | 36 => ⟨S8x4096x4x8x128, .f32⟩
  | 37 => ⟨S_, .f32⟩
  | 38 => ⟨S8x4096x4x8x128, .f32⟩
  | 39 => ⟨S8x4096x4x8x128, .f32⟩
  | 40 => ⟨S8x1x4x1x128, .f32⟩
  | 41 => ⟨S8x4096x4x8x128, .f32⟩
  | 42 => ⟨S8x4096x4x8x128, .f32⟩
  | 43 => ⟨S8x4096x4x8, .f32⟩
  | 44 => ⟨S8x4096x4x8x1, .f32⟩
  | 45 => ⟨S8x4096x4x8x128, .f32⟩
  | 46 => ⟨S8x4096x4x8x128, .f32⟩
  | 47 => ⟨S8x4096x4x8x128, .bf16⟩
  | 48 => ⟨S8x4096x4096, .bf16⟩
  | 49 => ⟨S8x4096x4096, .f32⟩
  | 50 => ⟨S8x4096x4096, .i32⟩
  | 51 => ⟨S8x4096x4096, .i8⟩
  | 52 => ⟨S8x32x32, .f32⟩
  | 53 => ⟨S8x4096x512, .f32⟩
  | 54 => ⟨S8x4096x512, .i32⟩
  | 55 => ⟨S8x4096x512, .i8⟩
  | 56 => ⟨S8x4x64, .f32⟩
  | 57 => ⟨S8x4096x512, .f32⟩
  | 58 => ⟨S8x4096x512, .fp8e4m3⟩
  | _ => ⟨S8x4096x4096, .bf16⟩

abbrev hbmTy (i : Nat) : BufTy := match i / 128 with
  | 0 => hbmTy0_0 i
  | 1 => hbmTy0_1 i
  | _ => ⟨S8x4096x4096, .bf16⟩

abbrev bufTy : (tb : Table) → Fin (tcTables nBuf tb) → BufTy
  | .hbm, ⟨i, _⟩ => hbmTy i
  | .local _ .vmem, ⟨0, _⟩ => ⟨S8x4096x512, .f32⟩
  | .local _ .vmem, ⟨1, _⟩ => ⟨S8x4096x512, .fp8e4m3⟩
  | _, _ => ⟨S8x4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_cst_6 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_cst_11 : Ref sig .tc := ⟨.hbm, 53, rfl⟩
abbrev main_v31 : Ref sig .tc := ⟨.hbm, 54, rfl⟩
abbrev main_v32 : Ref sig .tc := ⟨.hbm, 55, rfl⟩
abbrev main_cst_12 : Ref sig .tc := ⟨.hbm, 56, rfl⟩
abbrev main_v33 : Ref sig .tc := ⟨.hbm, 57, rfl⟩
abbrev main_v34 : Ref sig .tc := ⟨.hbm, 58, rfl⟩
abbrev main_cst_13 : Ref sig .tc := ⟨.hbm, 59, rfl⟩
abbrev main_call3_v0 : Ref sig .tc := ⟨.hbm, 60, rfl⟩
abbrev main_call3_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_cst_15 : Ref sig .tc := ⟨.hbm, 68, rfl⟩
abbrev main_call5_v0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_16 : Ref sig .tc := ⟨.hbm, 79, rfl⟩
abbrev main_v45 : Ref sig .tc := ⟨.hbm, 80, rfl⟩
abbrev main_cst_17 : Ref sig .tc := ⟨.hbm, 81, rfl⟩
abbrev main_v46 : Ref sig .tc := ⟨.hbm, 82, rfl⟩
abbrev main_v47 : Ref sig .tc := ⟨.hbm, 83, rfl⟩
abbrev main_cst_18 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_19 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_20 : Ref sig .tc := ⟨.hbm, 93, rfl⟩
abbrev main_v55 : Ref sig .tc := ⟨.hbm, 94, rfl⟩
abbrev main_v56 : Ref sig .tc := ⟨.hbm, 95, rfl⟩
abbrev main_cst_21 : Ref sig .tc := ⟨.hbm, 96, rfl⟩
abbrev main_call6_v0 : Ref sig .tc := ⟨.hbm, 97, rfl⟩
abbrev main_call6_v1 : Ref sig .tc := ⟨.hbm, 98, rfl⟩
abbrev main_v57 : Ref sig .tc := ⟨.hbm, 99, rfl⟩
abbrev main_cst_22 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_23 : Ref sig .tc := ⟨.hbm, 106, rfl⟩
abbrev main_cst_24 : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_25 : Ref sig .tc := ⟨.hbm, 144, rfl⟩
abbrev main_call8_v0 : Ref sig .tc := ⟨.hbm, 145, rfl⟩
abbrev main_call8_v1 : Ref sig .tc := ⟨.hbm, 146, rfl⟩
abbrev main_call8_v2 : Ref sig .tc := ⟨.hbm, 147, rfl⟩
abbrev main_v93 : Ref sig .tc := ⟨.hbm, 148, rfl⟩
abbrev main_cst_26 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_27 : Ref sig .tc := ⟨.hbm, 155, rfl⟩
abbrev main_v99 : Ref sig .tc := ⟨.hbm, 156, rfl⟩
abbrev main_cst_28 : Ref sig .tc := ⟨.hbm, 157, rfl⟩
abbrev main_v100 : Ref sig .tc := ⟨.hbm, 158, rfl⟩
abbrev main_v101 : Ref sig .tc := ⟨.hbm, 159, rfl⟩
abbrev main_cst_29 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_30 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Mem.lean ====
/- Programs that only load and store rectangles of a fixed family of VMEM buffers: what such a program is
   (`Cmd`), the machine program it stands for (`Cmd.prog`), what it computes on the buffers' contents
   (`Cmd.run`), and the proof that the machine program, owning the buffers, computes exactly that
   (`Cmd.sound`). -/
module

public import Idealize.ShloMosaic.Lib.Pipeline.Frame
public import Idealize.ShloMosaic.Lib.Scf
public import Idealize.ShloMosaic.Lib.Memref
public import Idealize.ShloMosaic.Rules

@[expose] public section

noncomputable section

namespace Cert.Mem

open Idealize.ShloMosaic
open Idealize.SL Idealize.SL.RA Idealize.SL.BI Idealize.SL.Sem
open scoped Idealize.SL.BI
open Idealize.SL.BI.BIBase Idealize.SL.BI.Laws Idealize.SL.ProofMode

/-- A family of buffers: a shape and an element type for each name. -/
structure Lay (B : Type) where
  shp : B → Shape
  elt : B → EltTy

variable {B : Type} (L : Lay B) (V : EltTy → Type)

/-- A store into the rectangle `r` of buffer `b` writes exactly the rectangle: the elements are words, or the
    rectangle's rows are whole words. -/
def Exact (b : B) (r : Rect (L.shp b)) : Prop := (L.elt b).bits = 32 ∨ r.PackedRows (L.elt b).packing

/-- A program of loads from and stores into the buffers. -/
inductive Cmd (α : Type) : Type where
  | ret (a : α) : Cmd α
  | load (b : B) (r : Rect (L.shp b)) (h : 0 < r.shape.numel) (k : (r.shape.Idx → V (L.elt b)) → Cmd α) : Cmd α
  | store (b : B) (r : Rect (L.shp b)) (w : r.shape.Idx → V (L.elt b)) (h : 0 < r.shape.numel) (hx : Exact L b r) (k : Cmd α) : Cmd α

/-- The buffers' contents. -/
abbrev St := (b : B) → (L.shp b).Idx → V (L.elt b)

variable {L V}
variable {α β σ : Type}

namespace Cmd

/-- One program, then another on its result. -/
def bind : Cmd L V α → (α → Cmd L V β) → Cmd L V β
  | ret a, f => f a
  | load b r h k, f => load b r h fun x => (k x).bind f
  | store b r w h hx k, f => store b r w h hx (k.bind f)

instance : Monad (Cmd L V) where
  pure := Cmd.ret
  bind := Cmd.bind

/-- Read a rectangle of a buffer. -/
def get (b : B) (r : Rect (L.shp b)) (h : 0 < r.shape.numel) : Cmd L V (r.shape.Idx → V (L.elt b)) := load b r h ret

/-- Overwrite a rectangle of a buffer. -/
def put (b : B) (r : Rect (L.shp b)) (w : r.shape.Idx → V (L.elt b)) (h : 0 < r.shape.numel) (hx : Exact L b r) : Cmd L V PUnit :=
  store b r w h hx (ret ⟨⟩)

/-- A counted loop's trips, in order. -/
def loopFrom {n : Nat} (body : Fin n → σ → Cmd L V σ) : List (Fin n) → σ → Cmd L V σ
  | [], acc => ret acc
  | k :: ks, acc => (body k acc).bind fun acc' => loopFrom body ks acc'

/-- A counted loop. -/
def loop (n : Nat) (init : σ) (body : Fin n → σ → Cmd L V σ) : Cmd L V σ := loopFrom body (List.finRange n) init

/-! ## The machine program -/

variable {nD : Nat} {τ : Topo} {sig : RefSig} {Λ : Labels}

/-- The buffers of a machine: a whole memref for each name. -/
structure Bufs (L : Lay B) (sig : RefSig) where
  ref : (b : B) → Memref sig .tc .vmem (L.shp b) (L.elt b)
  whole : ∀ b, (ref b).IsWhole

/-- The store's evidence. -/
theorem Bufs.stores (A : Bufs L sig) (b : B) (r : Rect (L.shp b)) (h : 0 < r.shape.numel) (hx : Exact L b r) :
    ((A.ref b).access r).Stores Finset.univ :=
  hx.elim (fun he => View.stores_vmem_bits_univ h he)
    fun hp => View.stores_vmem h ((A.whole b).storeExact_slice rfl r hp) fun _ => rfl

/-- The machine program: each load and each store the machine's own. -/
def prog (A : Bufs L sig) : Cmd L V α → Prog (TpuEff nD τ sig V Λ .tc) α
  | ret a => .ret a
  | load b r h k => .op (.load (A.ref b) r.toLoadRect (View.loadsAt_vmem h)) fun x => (k x).prog A
  | store b r w h hx k => .op (.store (A.ref b) r w Finset.univ (A.stores b r h hx) (.inl rfl)) fun _ => k.prog A

theorem prog_bind (A : Bufs L sig) (p : Cmd L V α) (f : α → Cmd L V β) :
    ((p.bind f).prog A : Prog (TpuEff nD τ sig V Λ .tc) β) = p.prog A >>= fun a => (f a).prog A := by
  induction p with
  | ret a => rfl
  | load b r h k ih =>
    show Prog.op _ (fun x => ((k x).bind f).prog A) = Prog.op _ fun x => ((k x).prog A >>= fun a => (f a).prog A)
    exact congrArg _ (funext fun x => ih x)
  | store b r w h hx k ih =>
    show Prog.op _ (fun _ => (k.bind f).prog A) = Prog.op _ fun _ => (k.prog A >>= fun a => (f a).prog A)
    exact congrArg _ (funext fun _ => ih)

/-- A counted loop of the machine whose trips are these programs is this program's loop. -/
theorem prog_loop (A : Bufs L sig) (l : Scf.Loop 32) (hok : l.OK) (init : σ) (body : Fin l.trips → σ → Cmd L V σ) :
    ((loop l.trips init body).prog A : Prog (TpuEff nD τ sig V Λ .tc) σ) = Scf.Loop.for l hok init fun k acc => (body k acc).prog A := by
  show _ = Scf.for l.lb l.ub l.st hok init _
  rw [Scf.for_eq]
  unfold loop
  have (ks : List (Fin l.trips)) (acc : σ) : ((loopFrom body ks acc).prog A : Prog (TpuEff nD τ sig V Λ .tc) σ)
      = Scf.forFrom (fun k acc => (body k acc).prog A) ks acc := by
    induction ks generalizing acc with
    | nil => rfl
    | cons k ks ih =>
      rw [loopFrom, prog_bind, Scf.forFrom_cons]
      exact congrArg _ (funext fun a => ih a)
  exact this _ _

/-- A counted loop of the machine's own bounds. -/
def forL (l : Scf.Loop 32) (init : σ) (body : Fin l.trips → σ → Cmd L V σ) : Cmd L V σ := loop l.trips init body

theorem prog_forL (A : Bufs L sig) (l : Scf.Loop 32) (hok : l.OK) (init : σ) (body : Fin l.trips → σ → Cmd L V σ) :
    ((forL l init body).prog A : Prog (TpuEff nD τ sig V Λ .tc) σ) = Scf.Loop.for l hok init fun k acc => (body k acc).prog A :=
  prog_loop A l hok init body

/-! ## What it computes -/

variable [DecidableEq B]

/-- The program's result and what it leaves in the buffers. -/
def run : Cmd L V α → St L V → α × St L V
  | ret a, st => (a, st)
  | load b r _ k, st => (k fun i => st b (r.emb i)).run st
  | store b r w _ _ k, st => k.run (Function.update st b (r.overlay (st b) w))

theorem run_bind (p : Cmd L V α) (f : α → Cmd L V β) (st : St L V) : (p.bind f).run st = (f (p.run st).1).run (p.run st).2 := by
  induction p generalizing st with
  | ret a => rfl
  | load b r h k ih => exact ih _ _
  | store b r w h hx k ih => exact ih _

theorem run_bind' (p : Cmd L V α) (f : α → Cmd L V β) (st : St L V) : (p >>= f).run st = (f (p.run st).1).run (p.run st).2 :=
  run_bind p f st

theorem run_loopFrom {n : Nat} (body : Fin n → σ → Cmd L V σ) (ks : List (Fin n)) (acc : σ) (st : St L V) :
    (loopFrom body ks acc).run st = ks.foldl (fun s k => (body k s.1).run s.2) (acc, st) := by
  induction ks generalizing acc st with
  | nil => rfl
  | cons k ks ih => rw [loopFrom, run_bind, ih]; rfl

theorem run_loop (n : Nat) (init : σ) (body : Fin n → σ → Cmd L V σ) (st : St L V) :
    (loop n init body).run st = (List.finRange n).foldl (fun s k => (body k s.1).run s.2) (init, st) :=
  run_loopFrom _ _ _ _

/-! ## Soundness -/

variable {Ix : Type} [DecidableEq Ix] {Name : Type} [DecidableEq Name] {U : Type} [URA U] {Lvl : Type} [Preorder Lvl]
variable [Fintype B]

local notation "𝕄" => MT nD τ sig Ix V Name U Lvl

/-- The core owns every buffer, at contents `st`. -/
def held (c : Dev nD) (A : Bufs L sig) (st : St L V) : sProp 𝕄 :=
  bigSep Finset.univ fun b => owns (c.tc : Thread nD τ) (A.ref b) fullShare (st b)

variable {defs : Defs nD τ sig V Λ} (𝒱 : Variants) (c : Dev nD) (bd : Option 𝒱.V) (E : Set Name)

theorem read_store (A : Bufs L sig) (b : B) (r : Rect (L.shp b)) (w : r.shape.Idx → V (L.elt b)) (f) :
    (A.ref b).view.read V (((A.ref b).access r).write V f w Finset.univ) = r.overlay ((A.ref b).view.read V f) w := by
  funext j
  by_cases hj : j ∈ r.set
  · obtain ⟨i, rfl⟩ := r.exists_idx_of_mem hj
    change _ = r.overlay _ _ (r.emb i)
    rw [Rect.overlay_emb]
    exact View.read_slice_write_emb _ _ _ (Finset.mem_univ i)
  · rw [Rect.overlay_of_not_mem _ _ _ hj]
    exact View.read_slice_write_of_not_mem _ _ _ _ (by rw [Rect.map_emb_univ]; exact hj)

/-- A load, its buffer owned. -/
theorem exec_load_owned (A : Bufs L sig) (b : B) (r : Rect (L.shp b)) (h : 0 < r.shape.numel)
    (k : (r.shape.Idx → V (L.elt b)) → Prog (TpuEff nD τ sig V Λ .tc) α) (K : α → sProp 𝕄) (X : (L.shp b).Idx → V (L.elt b)) :
    iprop(owns (c.tc : Thread nD τ) (A.ref b) fullShare X
        ∗ (owns (c.tc : Thread nD τ) (A.ref b) fullShare X
          -∗ wp frame (wpE defs 𝒱 (c.tc : Thread nD τ) bd) E (k fun i => X (r.emb i)) K))
      ⊢ wp frame (wpE defs 𝒱 (c.tc : Thread nD τ) bd) E (.op (.load (A.ref b) r.toLoadRect (View.loadsAt_vmem h)) k) K := by
  iintro ⟨Hb, Hk⟩
  ihave Hb' := (show owns (c.tc : Thread nD τ) (A.ref b) fullShare X ⊢ iprop(∃ f, ⌜(A.ref b).view.read V f = X⌝ ∗ ((A.ref b).view.loc (c.tc : Thread nD τ) ↦[(A.ref b).view.set]{fullShare} f)) from .rfl) $$ Hb
  icases Hb' with ⟨%f, %hf, Hb⟩
  have hv : (A.ref b).view.readAt V r.toLoadRect f = fun i => X (r.emb i) := by rw [← hf]; rfl
  iapply (wp_load 𝒱 (c.tc : Thread nD τ) bd E (r := r.toLoadRect) (hl := View.loadsAt_vmem h) (k := k) (Q := K)
    (View.setOn_subset_set _ _)) $$ Hb
  iintro Hb
  rw [hv]
  iapply Hk
  unfold owns
  iexists f; isplitr
  · ipureintro; exact hf
  · iexact Hb

/-- A store, its buffer owned. -/
theorem exec_store_owned (A : Bufs L sig) (b : B) (r : Rect (L.shp b)) (w : r.shape.Idx → V (L.elt b))
    (hx : ((A.ref b).access r).Stores Finset.univ)
    (k : PUnit → Prog (TpuEff nD τ sig V Λ .tc) α) (K : α → sProp 𝕄) (X : (L.shp b).Idx → V (L.elt b)) :
    iprop(owns (c.tc : Thread nD τ) (A.ref b) fullShare X
        ∗ (owns (c.tc : Thread nD τ) (A.ref b) fullShare (r.overlay X w)
          -∗ wp frame (wpE defs 𝒱 (c.tc : Thread nD τ) bd) E (k ⟨⟩) K))
      ⊢ wp frame (wpE defs 𝒱 (c.tc : Thread nD τ) bd) E (.op (.store (A.ref b) r w Finset.univ hx (.inl rfl)) k) K := by
  iintro ⟨Hb, Hk⟩
  ihave Hb' := (show owns (c.tc : Thread nD τ) (A.ref b) fullShare X ⊢ iprop(∃ f, ⌜(A.ref b).view.read V f = X⌝ ∗ ((A.ref b).view.loc (c.tc : Thread nD τ) ↦[(A.ref b).view.set]{fullShare} f)) from .rfl) $$ Hb
  icases Hb' with ⟨%f, %hf, Hb⟩
  iapply (wp_store 𝒱 (c.tc : Thread nD τ) bd E (r := r) (w := w) (Mk := Finset.univ) (hx := hx) (hm := .inl rfl) (k := k) (Q := K)
    (S := (A.ref b).view.set) (by rw [View.setOn_univ]; exact (A.ref b).view.set_slice_subset r)) $$ Hb
  iintro Hb
  iapply Hk
  unfold owns
  iexists ((A.ref b).access r).write V f w Finset.univ; isplitr
  · ipureintro; rw [read_store, hf]
  · iexact Hb

/-- Owning the buffers, the machine program computes what `run` says. -/
theorem sound (A : Bufs L sig) (p : Cmd L V α) (st : St L V) (K : α → sProp 𝕄) :
    iprop(held c A st ∗ (held c A (p.run st).2 -∗ K (p.run st).1))
      ⊢ wp frame (wpE defs 𝒱 (c.tc : Thread nD τ) bd) E (p.prog A) K := by
  induction p generalizing st with
  | ret a =>
    show iprop(held c A st ∗ (held c A st -∗ K a)) ⊢ wp frame _ E (.ret a) K
    iintro ⟨H, Hk⟩
    rw [wp_ret]; imodintro
    iapply Hk; iexact H
  | load b r h k ih =>
    have hsplit : (held c A st : sProp 𝕄) = iprop(owns (c.tc : Thread nD τ) (A.ref b) fullShare (st b)
        ∗ bigSep (Finset.univ.erase b) fun b => owns (c.tc : Thread nD τ) (A.ref b) fullShare (st b)) := bigSep_univ_split b
    show iprop(held c A st ∗ (held c A ((k fun i => st b (r.emb i)).run st).2 -∗ K ((k fun i => st b (r.emb i)).run st).1))
      ⊢ wp frame (wpE defs 𝒱 (c.tc : Thread nD τ) bd) E
        (.op (.load (A.ref b) r.toLoadRect (View.loadsAt_vmem h)) fun x => (k x).prog A) K
    refine BIBase.Entails.trans ?_ (exec_load_owned 𝒱 c bd E A b r h (fun x => (k x).prog A) K (st b))
    rw [hsplit]
    iintro ⟨⟨Hb, Hr⟩, Hk⟩
    isplitl [Hb]; · iexact Hb
    iintro Hb
    iapply (ih (fun i => st b (r.emb i)) st)
    isplitl [Hb Hr]
    · iapply (Entails.of_eq hsplit.symm)
      isplitl [Hb]; · iexact Hb
      iexact Hr
    · iexact Hk
  | store b r w h hx k ih =>
    have hsplit (st : St L V) : (held c A st : sProp 𝕄) = iprop(owns (c.tc : Thread nD τ) (A.ref b) fullShare (st b)
        ∗ bigSep (Finset.univ.erase b) fun b => owns (c.tc : Thread nD τ) (A.ref b) fullShare (st b)) := bigSep_univ_split b
    have hrest : (bigSep (Finset.univ.erase b) fun b' => owns (c.tc : Thread nD τ) (A.ref b') fullShare ((Function.update st b (r.overlay (st b) w)) b') : sProp 𝕄)
        = bigSep (Finset.univ.erase b) fun b' => owns (c.tc : Thread nD τ) (A.ref b') fullShare (st b') :=
      bigSep_congr fun b' hb => by rw [Function.update_of_ne (Finset.ne_of_mem_erase hb)]
    show iprop(held c A st ∗ (held c A (k.run (Function.update st b (r.overlay (st b) w))).2 -∗ K (k.run (Function.update st b (r.overlay (st b) w))).1))
      ⊢ wp frame (wpE defs 𝒱 (c.tc : Thread nD τ) bd) E
        (.op (.store (A.ref b) r w Finset.univ (A.stores b r h hx) (.inl rfl)) fun _ => k.prog A) K
    refine BIBase.Entails.trans ?_ (exec_store_owned 𝒱 c bd E A b r w (A.stores b r h hx) (fun _ => k.prog A) K (st b))
    rw [hsplit st]
    iintro ⟨⟨Hb, Hr⟩, Hk⟩
    isplitl [Hb]; · iexact Hb
    iintro Hb
    iapply (ih (Function.update st b (r.overlay (st b) w)))
    isplitl [Hb Hr]
    · iapply (Entails.of_eq ((hsplit _).trans (by rw [Function.update_self, hrest])).symm)
      isplitl [Hb]; · iexact Hb
      iexact Hr
    · iexact Hk

end Cmd

end Cert.Mem

end
-- ==== Proof.Body.lean ====
/- The kernel's body as programs over its eighteen VMEM buffers: the values it computes, and the order in which
   it loads and stores them. The program is written once, for any number of key blocks. -/
module

public import proofs.«01_k».proof.Proof.Mem
public import Idealize.ShloMosaic.PureOps

@[expose] public section

noncomputable section

namespace Cert.Body

open Idealize.ShloMosaic
open Cert.Mem

/-- The kernel's buffers: the ten window blocks, then the eight scratch buffers. -/
inductive Buf | x | k | v | out | qc | qs | kcode | ks | vcode | vsc | kc | vt | kt | vs | q | s | c | m
  deriving DecidableEq

instance : Fintype Buf where
  elems := {.x, .k, .v, .out, .qc, .qs, .kcode, .ks, .vcode, .vsc, .kc, .vt, .kt, .vs, .q, .s, .c, .m}
  complete := by intro b; cases b <;> decide

abbrev sh1 (a : Nat) : Shape := ⟨1, ![a]⟩
abbrev sh2 (a b : Nat) : Shape := ⟨2, ![a, b]⟩
abbrev sh3 (a b c : Nat) : Shape := ⟨3, ![a, b, c]⟩

/-- The buffers' shapes and element types. -/
abbrev lay : Lay Buf where
  shp
    | .x => sh3 1 128 1024 | .k => sh3 1 4096 128 | .v => sh3 1 4096 128
    | .out => sh3 1 128 1024 | .qc => sh3 1 128 1024 | .qs => sh3 1 8 32
    | .kcode => sh3 1 4096 128 | .ks => sh3 1 4 64 | .vcode => sh3 1 4096 128 | .vsc => sh3 1 4 128
    | .kc => sh2 4096 128 | .vt => sh2 128 4096 | .kt => sh2 64 128 | .vs => sh2 1 128
    | .q => sh2 1024 128 | .s => sh3 4 1152 256 | .c => sh3 4 24 256 | .m => sh3 4 8 256
  elt
    | .x => .bf16 | .k => .bf16 | .v => .bf16
    | .out => .bf16 | .qc => .i8 | .qs => .f32
    | .kcode => .i8 | .ks => .f32 | .vcode => .fp8e4m3 | .vsc => .f32
    | .kc => .bf16 | .vt => .fp8e4m3 | .kt => .f32 | .vs => .f32
    | .q => .bf16 | .s => .f32 | .c => .f32 | .m => .f32

theorem inb2 {a b d e A B : Nat} (h0 : a + d ≤ A) (h1 : b + e ≤ B) : ∀ i, (![a, b] : Fin 2 → Nat) i + (sh2 d e).size i ≤ (sh2 A B).size i := by
  intro i; fin_cases i <;> assumption

theorem inb3 {a b c d e f A B C : Nat} (h0 : a + d ≤ A) (h1 : b + e ≤ B) (h2 : c + f ≤ C) :
    ∀ i, (![a, b, c] : Fin 3 → Nat) i + (sh3 d e f).size i ≤ (sh3 A B C).size i := by
  intro i; fin_cases i <;> assumption

theorem pos2 {d e : Nat} (h0 : 0 < d) (h1 : 0 < e) : 0 < (sh2 d e).numel :=
  Shape.numel_pos (by intro a; fin_cases a <;> assumption)

theorem pos3 {d e f : Nat} (h0 : 0 < d) (h1 : 0 < e) (h2 : 0 < f) : 0 < (sh3 d e f).numel :=
  Shape.numel_pos (by intro a; fin_cases a <;> assumption)

theorem rows2 {a b d e A B p : Nat} (inb) (h : p ∣ a) (h' : p ∣ d) :
    (Rect.unit (s := sh2 A B) ![a, b] (sh2 d e).size inb).PackedRows p := .inr ⟨le_refl 2, rfl, .inl ⟨h, h'⟩⟩

theorem rows3 {a b c d e f A B C p : Nat} (inb) (h : p ∣ b) (h' : p ∣ e) :
    (Rect.unit (s := sh3 A B C) ![a, b, c] (sh3 d e f).size inb).PackedRows p := .inr ⟨Nat.le_succ 2, rfl, .inl ⟨h, h'⟩⟩

theorem slice2 {a b d e A B : Nat} (h0 : a + d ≤ A) (h1 : b + e ≤ B) : (sh2 A B).Slices ![a, b] (sh2 d e) :=
  ⟨rfl, inb2 h0 h1⟩

/-- `f` with the value at `i` replaced. -/
def upd {α : Type} (f : Nat → α) (i : Nat) (v : α) : Nat → α := fun j => if j = i then v else f j

/-- `m` steps in order, each a program. -/
def unroll {L : Lay Buf} {V : EltTy → Type} {α : Type} : (m : Nat) → ((i : Nat) → i < m → α → Cmd L V α) → α → Cmd L V α
  | 0, _, a => .ret a
  | m + 1, f, a => (unroll m (fun i h => f i (Nat.lt_succ_of_lt h)) a).bind (f m (Nat.lt_succ_self m))

variable {F : FTy → Type} [FloatOps F]

abbrev B (α : Type) : Type := Cmd lay (Elt F) α

section Values

abbrev V11 := FVec F (sh2 1 1) .f32
abbrev Row := FVec F (sh2 1 256) .f32

/-- The columns' index within their head minus the row: nonnegative where a key comes no later than the query. -/
def diag : IVec (sh2 128 256) 32 :=
  subi (andi (iota .tc (sh2 128 256) 32 [1]) (broadcast (sh2 128 256) 127#32)) (iota .tc (sh2 128 256) 32 [0])

/-- A scale from an absolute maximum. -/
def scaleOf {s : Shape} (a : FVec F s .f32) : FVec F s .f32 :=
  select (cmpf .ogt a (broadcast s (Scalar.ofBits .f32 0x00000000#32))) (divf a (broadcast s (Scalar.ofBits .f32 0x42FE0000#32)))
    (broadcast s (Scalar.ofBits .f32 0x3F800000#32))

/-- Rounded to an integer and clipped to ±127. -/
def clip127 {s : Shape} (a : FVec F s .f32) : FVec F s .f32 :=
  minimumf (broadcast s (Scalar.ofBits .f32 0x42FE0000#32)) (maximumf (broadcast s (Scalar.ofBits .f32 0xC2FE0000#32)) (roundeven a))

/-- One head's rows of x, as a matrix. -/
def xHead (b : Vec F (sh3 1 128 128) .bf16) : FVec F (sh2 128 128) .bf16 := shapeCast (sh2 128 128) b (by decide)

/-- One head's scale. -/
def qScale (b : Vec F (sh3 1 128 128) .bf16) : V11 (F := F) :=
  scaleOf (mulf
    (shapeCast (sh2 1 1) (multiReduction .maximumf [1] (sh1 1) (shapeCast (sh2 1 128)
      (multiReduction .maximumf [0] (sh1 128)
        (extf .f32 (multiReduction .maximumf [0] (sh2 16 128) (shapeCast (sh3 8 16 128) (absf (xHead b)) (by decide)) 0xFF80#16 (by decide) (.inr rfl) rfl) (by decide))
        0xFF800000#32 (by decide) (.inl rfl) rfl) (by decide)) 0xFF800000#32 (by decide) (.inl rfl) rfl) (by decide))
    (broadcast (sh2 1 1) (Scalar.ofBits .f32 0x3DB504F3#32)))

/-- One head's codes. -/
def qCodes (b : Vec F (sh3 1 128 128) .bf16) : FVec F (sh2 128 128) .f32 :=
  clip127 (divf (mulf (extf .f32 (xHead b) (by decide)) (broadcast (sh2 128 128) (Scalar.ofBits .f32 0x3DB504F3#32)))
    (broadcastTo (sh2 128 128) (qScale b) (by decide)))

/-- The scale table with this query block's column written for the first `m` heads. -/
def qTable (j : BitVec 32) (sc : Nat → V11 (F := F)) (old : FVec F (sh2 8 32) .f32) : Nat → FVec F (sh2 8 32) .f32
  | 0 => old
  | h + 1 => select (andi (cmpi .eq (iota .tc (sh2 8 32) 32 [0]) (broadcast (sh2 8 32) (BitVec.ofNat 32 h)))
        (cmpi .eq (iota .tc (sh2 8 32) 32 [1]) (broadcast (sh2 8 32) j)))
      (broadcastTo (sh2 8 32) (shapeCast (sh2 1 1) (sc h) (by decide)) (by decide)) (qTable j sc old h)

theorem bcast11 (a b : Nat) : (sh2 1 1).Broadcasts (sh2 a b) := ⟨le_refl 2, by intro i; fin_cases i <;> exact .inl rfl⟩

/-- Keys' rows against queries' rows. -/
def dotS (n : Nat) : DotDims (sh2 (n * 128) 128) (sh2 256 128) (sh2 (n * 128) 256) where
  lhsContracting := [1]
  rhsContracting := [1]
  lhsNonContracting := [0]
  rhsNonContracting := [0]
  lhsBatch := []
  rhsBatch := []
  wf := (DotDims.transposedRhs (n * 128) 128 256).wf

/-- Values' columns against probabilities' rows. -/
def dotA (n : Nat) : DotDims (sh2 128 (n * 128)) (sh2 (n * 128) 256) (sh2 128 256) where
  lhsContracting := [1]
  rhsContracting := [0]
  lhsNonContracting := [0]
  rhsNonContracting := [1]
  lhsBatch := []
  rhsBatch := []
  wf := (DotDims.plain 128 (n * 128) 256).wf

/-- The products of the query codes with the key codes. -/
def scoreDot (n : Nat) (kw : FVec F (sh2 (n * 128) 128) .bf16) (qw : FVec F (sh2 256 128) .bf16) : FVec F (sh2 (n * 128) 256) .f32 :=
  matmul (dotS n) none kw qw (constant (sh2 (n * 128) 256) .f32 0x00000000#32)

/-- The products of the value codes with the probability codes. -/
def attendDot (n : Nat) (vw : FVec F (sh2 128 (n * 128)) .fp8e4m3) (pt : FVec F (sh2 (n * 128) 256) .fp8e4m3) : FVec F (sh2 128 256) .f32 :=
  matmul (dotA n) none vw pt (constant (sh2 128 256) .f32 0x00000000#32)

theorem cat2 (g : Nat) : Shape.Concatenates [sh2 g 128, sh2 g 128] (sh2 g 256) 1 := by
  refine ⟨le_refl 2, ?_, rfl⟩
  intro s hs
  simp only [List.mem_cons, List.not_mem_nil, or_false, or_self] at hs
  subst hs
  exact ⟨rfl, by intro b hb; fin_cases b <;> first | rfl | exact absurd rfl hb⟩

/-- Each key group's factor for the two heads of a pair. -/
def factors (log2e : F .f32) (g : Nat) (tab : FVec F (sh2 g 128) .f32) (a b : V11 (F := F)) : FVec F (sh2 g 256) .f32 :=
  concatenate (sh2 g 256) 1
    [⟨sh2 g 128, mulf tab (broadcastTo (sh2 g 128) (mulf a (broadcast (sh2 1 1) log2e)) (bcast11 _ _))⟩,
     ⟨sh2 g 128, mulf tab (broadcastTo (sh2 g 128) (mulf b (broadcast (sh2 1 1) log2e)) (bcast11 _ _))⟩] (cat2 g)

/-- 64 rows of products, times their group's factor. -/
def scaled (t : FVec F (sh2 64 256) .f32) (cr : Vec F (sh3 1 1 256) .f32) : FVec F (sh2 64 256) .f32 :=
  mulf t (broadcastTo (sh2 64 256) (shapeCast (sh2 1 256) cr (by decide)) (by decide))

/-- Where the query may see the key, in half a diagonal block. -/
def keepHalf (i : Nat) (hi : i < 2) : IVec (sh2 64 256) 1 :=
  cmpi .sge (extractStridedSlice (sh2 64 256) ![64 * i, 0] diag (slice2 (by omega) (by omega))) (broadcast (sh2 64 256) 0#32)

/-- The column maxima of 64 rows, to eight rows. -/
def max64 (t : FVec F (sh2 64 256) .f32) : FVec F (sh2 8 256) .f32 :=
  multiReduction .maximumf [0] (sh2 8 256) (shapeCast (sh3 8 8 256) t (by decide)) 0xFF800000#32 (by decide) (.inl rfl) rfl

def foldMax (f : Nat → FVec F (sh2 8 256) .f32) : Nat → FVec F (sh2 8 256) .f32
  | 0 => f 0
  | i + 1 => maximumf (foldMax f i) (f (i + 1))

def foldAdd (f : Nat → FVec F (sh2 8 256) .f32) : Nat → FVec F (sh2 8 256) .f32
  | 0 => f 0
  | i + 1 => addf (foldAdd f i) (f (i + 1))

/-- The column maximum, less the exponent of the probabilities' scale. -/
def maxRow (t : FVec F (sh2 8 256) .f32) : Row (F := F) :=
  subf (shapeCast (sh2 1 256) (multiReduction .maximumf [0] (sh1 256) t 0xFF800000#32 (by decide) (.inl rfl) rfl) (by decide))
    (broadcast (sh2 1 256) (Scalar.ofBits .f32 0x41000000#32))

/-- The exponentials of a block of scores. -/
def expBlk (mr : Row (F := F)) (t : Vec F (sh3 1 128 256) .f32) : FVec F (sh2 128 256) .f32 :=
  exp2 (subf (shapeCast (sh2 128 256) t (by decide)) (broadcastTo (sh2 128 256) mr (by decide)))

def sum128 (e : FVec F (sh2 128 256) .f32) : FVec F (sh2 8 256) .f32 :=
  multiReduction .add [0] (sh2 8 256) (shapeCast (sh3 16 8 256) e (by decide)) 0x00000000#32 (by decide) (.inl rfl) rfl

def min448 (e : FVec F (sh2 128 256) .f32) : FVec F (sh2 128 256) .f32 :=
  minimumf e (broadcast (sh2 128 256) (Scalar.ofBits .f32 0x43E00000#32))

def keepBlk : IVec (sh2 128 256) 1 := cmpi .sge diag (broadcast (sh2 128 256) 0#32)

abbrev zeroBlk : FVec F (sh2 128 256) .f32 := broadcast (sh2 128 256) (Scalar.ofBits .f32 0x00000000#32)

def to8 (e : FVec F (sh2 128 256) .f32) : FVec F (sh2 128 256) .fp8e4m3 := truncf .fp8e4m3 e (by decide)

theorem catN (n : Nat) (c : Nat → FVec F (sh2 128 256) .fp8e4m3) :
    Shape.Concatenates (((List.range (n + 2)).map fun b => (⟨sh2 128 256, c b⟩ : (s : Shape) × (s.Idx → F .fp8e4m3))).map (·.1))
      (sh2 ((n + 2) * 128) 256) 0 := by
  have hl : (((List.range (n + 2)).map fun b => (⟨sh2 128 256, c b⟩ : (s : Shape) × (s.Idx → F .fp8e4m3))).map (·.1))
      = List.replicate (n + 2) (sh2 128 256) := by
    rw [List.map_map]; exact List.eq_replicate_iff.2 ⟨by simp, by simp⟩
  rw [hl]
  refine ⟨by simp, ?_, ?_⟩
  · intro s hs
    obtain rfl := List.eq_of_mem_replicate hs
    exact ⟨rfl, by intro b hb; fin_cases b <;> first | rfl | exact absurd rfl hb⟩
  · rw [List.map_replicate, List.sum_replicate]; rfl

/-- The blocks of codes, one under another. -/
def stack : (n : Nat) → (Nat → FVec F (sh2 128 256) .fp8e4m3) → FVec F (sh2 (n * 128) 256) .fp8e4m3
  | 0, _ => fun _ => Scalar.ofBits .fp8e4m3 0#8
  | 1, c => c 0
  | n + 2, c => concatenate (sh2 ((n + 2) * 128) 256) 0 ((List.range (n + 2)).map fun b => ⟨sh2 128 256, c b⟩) (catN n c)

/-- The products divided by the sum of the probabilities. -/
def normed (o : FVec F (sh2 128 256) .f32) (l : FVec F (sh2 8 256) .f32) : FVec F (sh2 128 256) .f32 :=
  mulf o (broadcastTo (sh2 128 256) (divf (broadcast (sh2 1 256) (Scalar.ofBits .f32 0x3F800000#32))
    (shapeCast (sh2 1 256) (multiReduction .add [0] (sh1 256) l 0x00000000#32 (by decide) (.inl rfl) rfl) (by decide))) (by decide))

/-- One head of the output. -/
def outHead (o : FVec F (sh2 128 256) .f32) (i : Nat) (hi : i < 2) (vsr : FVec F (sh2 1 128) .f32) : FVec F (sh2 128 128) .bf16 :=
  truncf .bf16 (mulf (transpose (sh2 128 128) [1, 0] (extractStridedSlice (sh2 128 128) ![0, 128 * i] o (slice2 (by omega) (by omega))) (by decide))
    (broadcastTo (sh2 128 128) vsr (by decide))) (by decide)

end Values

/-! ## A query block -/

/-- Quantise one head: its codes to the output and to scratch; its scale is the result. -/
def quant (h : Nat) (hh : h < 8) : B (F := F) (V11 (F := F)) :=
  .load .x (Rect.unit (s := sh3 1 128 1024) ![0, 0, 128 * h] (sh3 1 128 128).size (inb3 (by omega) (by omega) (by omega))) (pos3 (by omega) (by omega) (by omega)) fun xb =>
  .load .qc (Rect.unit (s := sh3 1 128 1024) ![0, 0, 128 * h] (sh3 1 128 128).size (inb3 (by omega) (by omega) (by omega))) (pos3 (by omega) (by omega) (by omega)) fun _ =>
  .store .qc (Rect.unit (s := sh3 1 128 1024) ![0, 0, 128 * h] (sh3 1 128 128).size (inb3 (by omega) (by omega) (by omega)))
    (shapeCast (sh3 1 128 128) (fptosi 8 (qCodes xb)) (by decide)) (pos3 (by omega) (by omega) (by omega)) (.inr (rows3 _ (by decide) (by decide))) <|
  .load .q (Rect.unit (s := sh2 1024 128) ![128 * h, 0] (sh2 128 128).size (inb2 (by omega) (by omega))) (pos2 (by omega) (by omega)) fun _ =>
  .store .q (Rect.unit (s := sh2 1024 128) ![128 * h, 0] (sh2 128 128).size (inb2 (by omega) (by omega)))
    (shapeCast (sh2 128 128) (truncf .bf16 (qCodes xb) (by decide)) (by decide)) (pos2 (by omega) (by omega))
    (.inr (rows2 _ (Dvd.dvd.mul_right (by decide) _) (by decide))) <|
  .ret (qScale xb)

/-- Quantise the eight heads. -/
def quants : B (F := F) (Nat → V11 (F := F)) :=
  unroll 8 (fun h hh sc => (quant h hh).bind fun a => .ret (upd sc h a)) fun _ _ => Scalar.ofBits .f32 0x00000000#32

/-- Write the query block's column of the scale table. -/
def qscales (j : BitVec 32) (sc : Nat → V11 (F := F)) : B (F := F) PUnit :=
  .load .qs (Rect.unit (s := sh3 1 8 32) ![0, 0, 0] (sh3 1 8 32).size (inb3 (by omega) (by omega) (by omega))) (pos3 (by omega) (by omega) (by omega)) fun old =>
  .load .qs (Rect.unit (s := sh3 1 8 32) ![0, 0, 0] (sh3 1 8 32).size (inb3 (by omega) (by omega) (by omega))) (pos3 (by omega) (by omega) (by omega)) fun _ =>
  .store .qs (Rect.unit (s := sh3 1 8 32) ![0, 0, 0] (sh3 1 8 32).size (inb3 (by omega) (by omega) (by omega)))
    (shapeCast (sh3 1 8 32) (qTable j sc (shapeCast (sh2 8 32) old (by decide)) 8) (by decide)) (pos3 (by omega) (by omega) (by omega)) (.inl rfl) <|
  .ret ⟨⟩

/-- Read the factor row of group `g`. -/
def facRow {α : Type} (p g : Nat) (hp : p < 4) (hg : g < 24) (k : Vec F (sh3 1 1 256) .f32 → B (F := F) α) : B (F := F) α :=
  .load .c (Rect.unit (s := sh3 4 24 256) ![p, g, 0] (sh3 1 1 256).size (inb3 (by omega) (by omega) (by omega))) (pos3 (by omega) (by omega) (by omega)) k

/-- Store 64 rows of scores; their maxima are the result. -/
def putHalf (p g : Nat) (hp : p < 4) (hg : g < 18) (t : FVec F (sh2 64 256) .f32) : B (F := F) (FVec F (sh2 8 256) .f32) :=
  .load .s (Rect.unit (s := sh3 4 1152 256) ![p, 64 * g, 0] (sh3 1 64 256).size (inb3 (by omega) (by omega) (by omega))) (pos3 (by omega) (by omega) (by omega)) fun _ =>
  .store .s (Rect.unit (s := sh3 4 1152 256) ![p, 64 * g, 0] (sh3 1 64 256).size (inb3 (by omega) (by omega) (by omega)))
    (shapeCast (sh3 1 64 256) t (by decide)) (pos3 (by omega) (by omega) (by omega)) (.inl rfl) <|
  .ret (max64 t)

/-- The 64 rows of group `g` of the products. -/
def grp (n : Nat) (s : FVec F (sh2 (n * 128) 256) .f32) (g : Nat) (hg : g < 2 * n) : FVec F (sh2 64 256) .f32 :=
  extractStridedSlice (sh2 64 256) ![64 * g, 0] s (slice2 (by omega) (by omega))

/-- One group of 64 keys: a group wholly in the past. -/
def plain (n p : Nat) (hp : p < 4) (hn : n ≤ 9) (s : FVec F (sh2 (n * 128) 256) .f32) (g : Nat) (hg : g < 2 * n) : B (F := F) (FVec F (sh2 8 256) .f32) :=
  facRow p g hp (by omega) fun cr => putHalf p g hp (by omega) (scaled (grp n s g hg) cr)

/-- One group of the diagonal block, its future keys at minus infinity. -/
def masked (n p : Nat) (hp : p < 4) (hn : n ≤ 9) (s : FVec F (sh2 (n * 128) 256) .f32) (i : Nat) (hi : i < 2) (hg : 2 * (n - 1) + i < 2 * n) :
    B (F := F) (FVec F (sh2 8 256) .f32) :=
  facRow p (2 * (n - 1) + i) hp (by omega) fun cr => putHalf p (2 * (n - 1) + i) hp (by omega)
    (select (keepHalf i hi) (scaled (grp n s (2 * (n - 1) + i) hg) cr) (broadcast (sh2 64 256) (Scalar.ofBits .f32 0xFF800000#32)))

/-- One group of the diagonal block, its future keys replaced by the window's oldest block. -/
def merged (n p : Nat) (hp : p < 4) (hn : n ≤ 9) (s : FVec F (sh2 (n * 128) 256) .f32) (i : Nat) (hi : i < 2) (hg : 2 * (n - 1) + i < 2 * n) :
    B (F := F) (FVec F (sh2 8 256) .f32) :=
  facRow p (2 * (n - 1) + i) hp (by omega) fun cr => facRow p i hp (by omega) fun co => putHalf p (2 * (n - 1) + i) hp (by omega)
    (select (keepHalf i hi) (scaled (grp n s (2 * (n - 1) + i) hg) cr) (scaled (grp n s i (by omega)) co))

/-- The column maxima, to scratch. -/
def putMax (p : Nat) (hp : p < 4) (r : Row (F := F)) : B (F := F) PUnit :=
  .load .m (Rect.unit (s := sh3 4 8 256) ![p, 0, 0] (sh3 1 1 256).size (inb3 (by omega) (by omega) (by omega))) (pos3 (by omega) (by omega) (by omega)) fun _ =>
  .store .m (Rect.unit (s := sh3 4 8 256) ![p, 0, 0] (sh3 1 1 256).size (inb3 (by omega) (by omega) (by omega)))
    (shapeCast (sh3 1 1 256) r (by decide)) (pos3 (by omega) (by omega) (by omega)) (.inl rfl) <|
  .ret ⟨⟩

/-- The loads and the store before the groups. -/
def scoreHead {α : Type} (log2e : F .f32) (n k0 g0 : Nat) (hn : 0 < n) (hn' : n ≤ 9) (hk : k0 + n * 128 ≤ 4096) (hg : g0 + 2 * n ≤ 64)
    (p : Nat) (hp : p < 4) (sc : Nat → V11 (F := F)) (k : FVec F (sh2 (n * 128) 256) .f32 → B (F := F) α) : B (F := F) α :=
  .load .q (Rect.unit (s := sh2 1024 128) ![256 * p, 0] (sh2 256 128).size (inb2 (by omega) (by omega))) (pos2 (by omega) (by omega)) fun qw =>
  .load .kc (Rect.unit (s := sh2 4096 128) ![k0, 0] (sh2 (n * 128) 128).size (inb2 (by omega) (by omega))) (pos2 (by omega) (by omega)) fun kw =>
  .load .kt (Rect.unit (s := sh2 64 128) ![g0, 0] (sh2 (2 * n) 128).size (inb2 (by omega) (by omega))) (pos2 (by omega) (by omega)) fun tab =>
  .load .c (Rect.unit (s := sh3 4 24 256) ![p, 0, 0] (sh3 1 (2 * n) 256).size (inb3 (by omega) (by omega) (by omega))) (pos3 (by omega) (by omega) (by omega)) fun _ =>
  .store .c (Rect.unit (s := sh3 4 24 256) ![p, 0, 0] (sh3 1 (2 * n) 256).size (inb3 (by omega) (by omega) (by omega)))
    (shapeCast (sh3 1 (2 * n) 256) (factors log2e (2 * n) tab (sc (2 * p)) (sc (2 * p + 1))) (by simp [Shape.ShapeCasts, Shape.numel, Fin.prod_univ_succ]))
    (pos3 (by omega) (by omega) (by omega)) (.inl rfl) <|
  k (scoreDot n kw qw)

/-- The scores of a pair of heads against the first `n` blocks. -/
def scores (log2e : F .f32) (n : Nat) (hn : 0 < n) (hn' : n ≤ 8) (p : Nat) (hp : p < 4) (sc : Nat → V11 (F := F)) : B (F := F) PUnit :=
  scoreHead log2e n 0 0 hn (by omega) (by omega) (by omega) p hp sc fun s =>
    (unroll (2 * (n - 1)) (fun g hg f => (plain n p hp (by omega) s g (by omega)).bind fun a => .ret (upd f g a))
      (fun _ _ => Scalar.ofBits .f32 0x00000000#32)).bind fun f =>
    (masked n p hp (by omega) s 0 (by omega) (by omega)).bind fun a =>
    (masked n p hp (by omega) s 1 (by omega) (by omega)).bind fun b =>
    putMax p hp (maxRow (foldMax (upd (upd f (2 * (n - 1)) a) (2 * (n - 1) + 1) b) (2 * (n - 1) + 1)))

/-- The scores of a pair of heads against a full window: the oldest block shares the diagonal block's rows. -/
def scoresM (log2e : F .f32) (k0 g0 : Nat) (hk : k0 + 9 * 128 ≤ 4096) (hg : g0 + 2 * 9 ≤ 64) (p : Nat) (hp : p < 4) (sc : Nat → V11 (F := F)) :
    B (F := F) PUnit :=
  scoreHead log2e 9 k0 g0 (by omega) (by omega) hk hg p hp sc fun s =>
    (unroll 14 (fun g hg f => (plain 9 p hp (by omega) s (2 + g) (by omega)).bind fun a => .ret (upd f g a))
      (fun _ _ => Scalar.ofBits .f32 0x00000000#32)).bind fun f =>
    (merged 9 p hp (by omega) s 0 (by omega) (by omega)).bind fun a =>
    (merged 9 p hp (by omega) s 1 (by omega) (by omega)).bind fun b =>
    putMax p hp (maxRow (foldMax (upd (upd f 14 a) 15 b) 15))

/-- Read a block of scores. -/
def scoreBlk {α : Type} (p b : Nat) (hp : p < 4) (hb : b < 9) (k : Vec F (sh3 1 128 256) .f32 → B (F := F) α) : B (F := F) α :=
  .load .s (Rect.unit (s := sh3 4 1152 256) ![p, 128 * b, 0] (sh3 1 128 256).size (inb3 (by omega) (by omega) (by omega))) (pos3 (by omega) (by omega) (by omega)) k

/-- Read the maxima. -/
def maxRead {α : Type} (p : Nat) (hp : p < 4) (k : Row (F := F) → B (F := F) α) : B (F := F) α :=
  .load .m (Rect.unit (s := sh3 4 8 256) ![p, 0, 0] (sh3 1 1 256).size (inb3 (by omega) (by omega) (by omega))) (pos3 (by omega) (by omega) (by omega)) fun r =>
  k (shapeCast (sh2 1 256) (show Vec F (sh3 1 1 256) .f32 from r) (by decide))

/-- One head of the pair's output. -/
def putOut (p i : Nat) (hp : p < 4) (hi : i < 2) (o : FVec F (sh2 128 256) .f32) : B (F := F) PUnit :=
  .load .vs (Rect.unit (s := sh2 1 128) ![0, 0] (sh2 1 128).size (inb2 (by omega) (by omega))) (pos2 (by omega) (by omega)) fun vsr =>
  .load .out (Rect.unit (s := sh3 1 128 1024) ![0, 0, 128 * (2 * p + i)] (sh3 1 128 128).size (inb3 (by omega) (by omega) (by omega))) (pos3 (by omega) (by omega) (by omega)) fun _ =>
  .store .out (Rect.unit (s := sh3 1 128 1024) ![0, 0, 128 * (2 * p + i)] (sh3 1 128 128).size (inb3 (by omega) (by omega) (by omega)))
    (shapeCast (sh3 1 128 128) (outHead o i hi vsr) (by decide)) (pos3 (by omega) (by omega) (by omega)) (.inr (rows3 _ (by decide) (by decide))) <|
  .ret ⟨⟩

/-- The product with the values, and the pair's output. -/
def attendTail (n k0 : Nat) (hn : 0 < n) (hk : k0 + n * 128 ≤ 4096) (p : Nat) (hp : p < 4) (pt : FVec F (sh2 (n * 128) 256) .fp8e4m3)
    (l : FVec F (sh2 8 256) .f32) : B (F := F) PUnit :=
  .load .vt (Rect.unit (s := sh2 128 4096) ![0, k0] (sh2 128 (n * 128)).size (inb2 (by omega) (by omega))) (pos2 (by omega) (by omega)) fun vw =>
  (putOut p 0 hp (by omega) (normed (attendDot n vw pt) l)).bind fun _ =>
  putOut p 1 hp (by omega) (normed (attendDot n vw pt) l)

/-- Attention of a pair of heads over the first `n` blocks. -/
def attend (n : Nat) (hn : 0 < n) (hn' : n ≤ 8) (p : Nat) (hp : p < 4) : B (F := F) PUnit :=
  maxRead p hp fun mr =>
  (unroll n (fun b hb (f : Nat → FVec F (sh2 128 256) .f32) => scoreBlk p b hp (by omega) fun t => .ret (upd f b (expBlk mr t)))
    (fun _ _ => Scalar.ofBits .f32 0x00000000#32)).bind fun e =>
  attendTail n 0 hn (by omega) p hp (stack n fun b => to8 (min448 (e b))) (foldAdd (fun b => sum128 (e b)) (n - 1))

/-- Attention of a pair of heads over a full window. -/
def attendM (k0 : Nat) (hk : k0 + 9 * 128 ≤ 4096) (p : Nat) (hp : p < 4) : B (F := F) PUnit :=
  maxRead p hp fun mr =>
  (unroll 8 (fun b hb (f : Nat → FVec F (sh2 128 256) .f32) => scoreBlk p (1 + b) hp (by omega) fun t => .ret (upd f (1 + b) (expBlk mr t)))
    (fun _ _ => Scalar.ofBits .f32 0x00000000#32)).bind fun e =>
  attendTail 9 k0 (by omega) hk p hp
    (stack 9 fun b => to8 (if b = 0 then select keepBlk zeroBlk (min448 (e 8)) else if b = 8 then select keepBlk (min448 (e 8)) zeroBlk else min448 (e b)))
    (foldAdd (fun b => sum128 (e (1 + b))) 7)

/-- A query block whose window starts at the first key. -/
def step (log2e : F .f32) (j : BitVec 32) (n : Nat) (hn : 0 < n) (hn' : n ≤ 8) : B (F := F) PUnit :=
  quants.bind fun sc => (qscales j sc).bind fun _ =>
  (unroll 4 (fun p hp _ => scores log2e n hn hn' p hp sc) ⟨⟩).bind fun _ =>
  unroll 4 (fun p hp _ => attend n hn hn' p hp) ⟨⟩

/-- A query block with a full window. -/
def stepM (log2e : F .f32) (j : BitVec 32) (k0 g0 : Nat) (hk : k0 + 9 * 128 ≤ 4096) (hg : g0 + 2 * 9 ≤ 64) : B (F := F) PUnit :=
  quants.bind fun sc => (qscales j sc).bind fun _ =>
  (unroll 4 (fun p hp _ => scoresM log2e k0 g0 hk hg p hp sc) ⟨⟩).bind fun _ =>
  unroll 4 (fun p hp _ => attendM k0 hk p hp) ⟨⟩

/-! ## A key-value head -/

/-- Eight trips. -/
abbrev lp8 : Scf.Loop 32 := ⟨0#32, Scalar.addi 0#32 8#32, 1#32⟩

/-- The exponents 1 to 255. -/
abbrev lpE : Scf.Loop 32 := ⟨1#32, Scalar.addi 1#32 255#32, 1#32⟩

theorem lp8_ok : lp8.OK := by decide
theorem lpE_ok : lpE.OK := by decide
theorem lp8_trips : lp8.trips = 8 := by decide

/-- Where row group `c` of chunk `k` starts, as the kernel computes it. -/
def at512 (k : Nat) : Nat := (Scalar.muli (Scf.iv 0#32 1#32 k) 512#32).toNat
def atC (k : Nat) (c : BitVec 32) : Nat := (Scalar.addi (Scalar.muli (Scf.iv 0#32 1#32 k) 512#32) c).toNat
def at8 (k : Nat) : Nat := (Scalar.muli (Scf.iv 0#32 1#32 k) 8#32).toNat

theorem at512_eq (k : Fin lp8.trips) : at512 k = 512 * k.val := by
  have h : ∀ k : Fin 8, at512 k = 512 * k.val := by decide
  exact h (k.cast lp8_trips)

theorem at64_eq (k : Fin lp8.trips) (g : Nat) (hg : g < 8) : atC k (BitVec.ofNat 32 (64 * g)) = 512 * k.val + 64 * g := by
  have h : ∀ (k : Fin 8) (g : Fin 8), atC k (BitVec.ofNat 32 (64 * g.val)) = 512 * k.val + 64 * g.val := by decide
  exact h (k.cast lp8_trips) ⟨g, hg⟩

theorem at128_eq (k : Fin lp8.trips) (g : Nat) (hg : g < 4) : atC k (BitVec.ofNat 32 (128 * g)) = 512 * k.val + 128 * g := by
  have h : ∀ (k : Fin 8) (g : Fin 4), atC k (BitVec.ofNat 32 (128 * g.val)) = 512 * k.val + 128 * g.val := by decide
  exact h (k.cast lp8_trips) ⟨g, hg⟩

theorem at8_eq (k : Fin lp8.trips) : at8 k = 8 * k.val := by
  have h : ∀ k : Fin 8, at8 k = 8 * k.val := by decide
  exact h (k.cast lp8_trips)

theorem trip_lt (k : Fin lp8.trips) : k.val < 8 := lp8_trips ▸ k.isLt

theorem at512_le (k : Fin lp8.trips) : at512 k + 512 ≤ 4096 := by have := at512_eq k; have := trip_lt k; omega
theorem at64_le (k : Fin lp8.trips) (g : Nat) (hg : g < 8) : atC k (BitVec.ofNat 32 (64 * g)) + 64 ≤ 4096 := by
  have := at64_eq k g hg; have := trip_lt k; omega
theorem at128_le (k : Fin lp8.trips) (g : Nat) (hg : g < 4) : atC k (BitVec.ofNat 32 (128 * g)) + 128 ≤ 4096 := by
  have := at128_eq k g hg; have := trip_lt k; omega
theorem at8_le (k : Fin lp8.trips) : at8 k + 8 ≤ 64 := by have := at8_eq k; have := trip_lt k; omega
theorem at64_dvd (k : Fin lp8.trips) (g : Nat) (hg : g < 8) : 4 ∣ atC k (BitVec.ofNat 32 (64 * g)) := by
  have := at64_eq k g hg; omega
theorem at64_dvd' (k : Fin lp8.trips) (g : Nat) (hg : g < 8) : 2 ∣ atC k (BitVec.ofNat 32 (64 * g)) := by
  have := at64_eq k g hg; omega
theorem at128_dvd (k : Fin lp8.trips) (g : Nat) (hg : g < 4) : 4 ∣ atC k (BitVec.ofNat 32 (128 * g)) := by
  have := at128_eq k g hg; omega
theorem kv_le (kv : Nat) (h : kv < 4) : (BitVec.ofNat 32 kv).toNat + 1 ≤ 4 := by rw [BitVec.toNat_ofNat]; omega

section Values

/-- A chunk's sum over its rows, to eight rows. -/
def chunkSum (b : Vec F (sh3 1 512 128) .bf16) : FVec F (sh2 8 128) .f32 :=
  multiReduction .add [0] (sh2 8 128) (shapeCast (sh3 64 8 128) (extf .f32 (shapeCast (sh2 512 128) b (by decide) : FVec F (sh2 512 128) .bf16) (by decide)) (by decide))
    0x00000000#32 (by decide) (.inl rfl) rfl

/-- The mean over the rows. -/
def meanOf (acc : FVec F (sh2 8 128) .f32) : FVec F (sh2 1 128) .f32 :=
  mulf (shapeCast (sh2 1 128) (multiReduction .add [0] (sh1 128) acc 0x00000000#32 (by decide) (.inl rfl) rfl) (by decide))
    (broadcast (sh2 1 128) (Scalar.ofBits .f32 0x39800000#32))

/-- 64 rows less the mean. -/
def centred (mean : FVec F (sh2 1 128) .f32) (b : Vec F (sh3 1 64 128) .bf16) : FVec F (sh2 64 128) .f32 :=
  subf (extf .f32 (shapeCast (sh2 64 128) b (by decide) : FVec F (sh2 64 128) .bf16) (by decide)) (broadcastTo (sh2 64 128) mean (by decide))

/-- Their column maxima. -/
def amaxRow (kf : FVec F (sh2 64 128) .f32) : FVec F (sh2 1 128) .f32 :=
  shapeCast (sh2 1 128) (multiReduction .maximumf [0] (sh1 128)
    (multiReduction .maximumf [0] (sh2 8 128) (shapeCast (sh3 8 8 128) (absf kf) (by decide)) 0xFF800000#32 (by decide) (.inl rfl) rfl)
    0xFF800000#32 (by decide) (.inl rfl) rfl) (by decide)

theorem cat8 (c : Nat → FVec F (sh2 1 128) .f32) :
    Shape.Concatenates (((List.range 8).map fun g => (⟨sh2 1 128, c g⟩ : (s : Shape) × (s.Idx → F .f32))).map (·.1)) (sh2 8 128) 0 :=
  (by decide : Shape.Concatenates (List.replicate 8 (sh2 1 128)) (sh2 8 128) 0)

/-- The scales of eight groups, each along a row. -/
def tabOf (rows : Nat → FVec F (sh2 1 128) .f32) : FVec F (sh2 8 128) .f32 :=
  broadcastTo (sh2 8 128) (shapeCast (sh2 8 1) (scaleOf (shapeCast (sh2 8 1)
    (multiReduction .maximumf [1] (sh1 8) (concatenate (sh2 8 128) 0 ((List.range 8).map fun g => ⟨sh2 1 128, rows g⟩) (cat8 rows))
      0xFF800000#32 (by decide) (.inl rfl) rfl) (by decide))) (by decide)) (by decide)

/-- One group's codes. -/
def kCodes (kf : FVec F (sh2 64 128) .f32) (tab : FVec F (sh2 8 128) .f32) (g : Nat) (hg : g < 8) : FVec F (sh2 64 128) .f32 :=
  clip127 (divf kf (broadcastTo (sh2 64 128) (extractStridedSlice (sh2 1 128) ![g, 0] tab (slice2 (by omega) (by omega))) (by decide)))

/-- The scale table's diagonal, along a row. -/
def flat (tab : FVec F (sh2 64 128) .f32) : FVec F (sh2 1 64) .f32 :=
  extractStridedSlice (sh2 1 64) ![0, 0] (shapeCast (sh2 1 128) (multiReduction .add [0] (sh1 128)
    (select (cmpi .eq (iota .tc (sh2 64 128) 32 [0]) (iota .tc (sh2 64 128) 32 [1])) tab (broadcast (sh2 64 128) (Scalar.ofBits .f32 0x00000000#32)))
    0x00000000#32 (by decide) (.inl rfl) rfl) (by decide)) (slice2 (by omega) (by omega))

/-- A chunk's column maxima, to sixteen rows. -/
def chunkMax (b : Vec F (sh3 1 512 128) .bf16) : FVec F (sh2 16 128) .bf16 :=
  multiReduction .maximumf [0] (sh2 16 128) (shapeCast (sh3 32 16 128) (absf (shapeCast (sh2 512 128) b (by decide) : FVec F (sh2 512 128) .bf16)) (by decide))
    0xFF80#16 (by decide) (.inr rfl) rfl

/-- The channel maxima over 448. -/
def yOf (acc : FVec F (sh2 16 128) .bf16) : FVec F (sh2 1 128) .f32 :=
  mulf (shapeCast (sh2 1 128) (multiReduction .maximumf [0] (sh1 128) (extf .f32 acc (by decide)) 0xFF800000#32 (by decide) (.inl rfl) rfl) (by decide))
    (broadcast (sh2 1 128) (Scalar.ofBits .f32 0x3B124925#32))

/-- One if `y` reaches the power of two of biased exponent `e`. -/
def reaches (y : FVec F (sh2 1 128) .f32) (e : BitVec 32) : IVec (sh2 1 128) 32 :=
  select (cmpf .oge y (bitcastToFloat .f32 (shli (broadcast (sh2 1 128) e) (broadcast (sh2 1 128) 23#32))))
    (broadcast (sh2 1 128) 1#32) (broadcast (sh2 1 128) 0#32)

/-- The scale's exponent. -/
def expOf (n : IVec (sh2 1 128) 32) : IVec (sh2 1 128) 32 :=
  select (cmpi .eq n (broadcast (sh2 1 128) 0#32)) (broadcast (sh2 1 128) 0#32) (subi n (broadcast (sh2 1 128) 126#32))

def vScale (n : IVec (sh2 1 128) 32) : FVec F (sh2 1 128) .f32 :=
  bitcastToFloat .f32 (shli (addi (expOf n) (broadcast (sh2 1 128) 127#32)) (broadcast (sh2 1 128) 23#32))

def vInv (n : IVec (sh2 1 128) 32) : FVec F (sh2 1 128) .f32 :=
  bitcastToFloat .f32 (shli (subi (broadcast (sh2 1 128) 127#32) (expOf n)) (broadcast (sh2 1 128) 23#32))

/-- 128 rows of value codes. -/
def vCodes (inv : FVec F (sh2 1 128) .f32) (b : Vec F (sh3 1 128 128) .bf16) : FVec F (sh2 128 128) .fp8e4m3 :=
  truncf .fp8e4m3 (minimumf (broadcast (sh2 128 128) (Scalar.ofBits .f32 0x43E00000#32)) (maximumf (broadcast (sh2 128 128) (Scalar.ofBits .f32 0xC3E00000#32))
    (mulf (extf .f32 (xHead b) (by decide)) (broadcastTo (sh2 128 128) inv (by decide))))) (by decide)

/-- The codes, transposed. -/
def vTrans (c : FVec F (sh2 128 128) .fp8e4m3) : FVec F (sh2 128 128) .fp8e4m3 :=
  truncf .fp8e4m3 (transpose (sh2 128 128) [1, 0] (extf .bf16 c (by decide)) (by decide)) (by decide)

end Values

/-- Read 64 rows of k. -/
def kRows {α : Type} (k : Fin lp8.trips) (g : Nat) (hg : g < 8) (f : Vec F (sh3 1 64 128) .bf16 → B (F := F) α) : B (F := F) α :=
  .load .k (Rect.unit (s := sh3 1 4096 128) ![0, atC k (BitVec.ofNat 32 (64 * g)), 0] (sh3 1 64 128).size (inb3 (by omega) (at64_le k g hg) (by omega))) (pos3 (by omega) (by omega) (by omega)) f

/-- Sum the rows of k. -/
def sumStep (k : Fin lp8.trips) (acc : FVec F (sh2 8 128) .f32) : B (F := F) (FVec F (sh2 8 128) .f32) :=
    .load .k (Rect.unit (s := sh3 1 4096 128) ![0, at512 k, 0] (sh3 1 512 128).size (inb3 (by omega) (at512_le k) (by omega))) (pos3 (by omega) (by omega) (by omega)) fun b =>
    .ret (addf acc (chunkSum b))

def sumK : B (F := F) (FVec F (sh2 8 128) .f32) :=
  Cmd.forL lp8 (broadcast (sh2 8 128) (Scalar.ofBits .f32 0x00000000#32)) sumStep

/-- One group's codes, to the output and to scratch. -/
def codeK (mean : FVec F (sh2 1 128) .f32) (tab : FVec F (sh2 8 128) .f32) (k : Fin lp8.trips) (g : Nat) (hg : g < 8) : B (F := F) PUnit :=
  kRows k g hg fun b =>
  .load .kcode (Rect.unit (s := sh3 1 4096 128) ![0, atC k (BitVec.ofNat 32 (64 * g)), 0] (sh3 1 64 128).size (inb3 (by omega) (at64_le k g hg) (by omega))) (pos3 (by omega) (by omega) (by omega)) fun _ =>
  .store .kcode (Rect.unit (s := sh3 1 4096 128) ![0, atC k (BitVec.ofNat 32 (64 * g)), 0] (sh3 1 64 128).size (inb3 (by omega) (at64_le k g hg) (by omega)))
    (shapeCast (sh3 1 64 128) (fptosi 8 (kCodes (centred mean b) tab g hg)) (by decide)) (pos3 (by omega) (by omega) (by omega)) (.inr (rows3 _ (at64_dvd k g hg) (by decide))) <|
  .load .kc (Rect.unit (s := sh2 4096 128) ![atC k (BitVec.ofNat 32 (64 * g)), 0] (sh2 64 128).size (inb2 (at64_le k g hg) (by omega))) (pos2 (by omega) (by omega)) fun _ =>
  .store .kc (Rect.unit (s := sh2 4096 128) ![atC k (BitVec.ofNat 32 (64 * g)), 0] (sh2 64 128).size (inb2 (at64_le k g hg) (by omega)))
    (shapeCast (sh2 64 128) (truncf .bf16 (kCodes (centred mean b) tab g hg) (by decide)) (by decide)) (pos2 (by omega) (by omega)) (.inr (rows2 _ (at64_dvd' k g hg) (by decide))) <|
  .ret ⟨⟩

/-- A chunk's eight scales, to scratch. -/
def putTab (k : Fin lp8.trips) (tab : FVec F (sh2 8 128) .f32) : B (F := F) PUnit :=
  .load .kt (Rect.unit (s := sh2 64 128) ![at8 k, 0] (sh2 8 128).size (inb2 (at8_le k) (by omega))) (pos2 (by omega) (by omega)) fun _ =>
  .store .kt (Rect.unit (s := sh2 64 128) ![at8 k, 0] (sh2 8 128).size (inb2 (at8_le k) (by omega)))
    (shapeCast (sh2 8 128) tab (by decide)) (pos2 (by omega) (by omega)) (.inl rfl) <|
  .ret ⟨⟩

/-- The groups' absolute maxima in a chunk. -/
def amaxK (mean : FVec F (sh2 1 128) .f32) (k : Fin lp8.trips) : B (F := F) (Nat → FVec F (sh2 1 128) .f32) :=
  unroll 8 (fun g hg f => kRows k g hg fun b => .ret (upd f g (amaxRow (centred mean b)))) fun _ _ => Scalar.ofBits .f32 0x00000000#32

/-- Scales and codes of a chunk of k. -/
def chunkK (mean : FVec F (sh2 1 128) .f32) (k : Fin lp8.trips) : B (F := F) PUnit :=
  (amaxK mean k).bind fun rows => (putTab k (tabOf rows)).bind fun _ =>
  unroll 8 (fun g hg _ => codeK mean (tabOf rows) k g hg) ⟨⟩

/-- The scales, to the output. -/
def putKs (kv : Nat) (hkv : kv < 4) : B (F := F) PUnit :=
  .load .kt (Rect.unit (s := sh2 64 128) ![0, 0] (sh2 64 128).size (inb2 (by omega) (by omega))) (pos2 (by omega) (by omega)) fun tab =>
  .load .ks (Rect.unit (s := sh3 1 4 64) ![0, (BitVec.ofNat 32 kv).toNat, 0] (sh3 1 1 64).size (inb3 (by omega) (kv_le kv hkv) (by omega))) (pos3 (by omega) (by omega) (by omega)) fun _ =>
  .store .ks (Rect.unit (s := sh3 1 4 64) ![0, (BitVec.ofNat 32 kv).toNat, 0] (sh3 1 1 64).size (inb3 (by omega) (kv_le kv hkv) (by omega)))
    (shapeCast (sh3 1 1 64) (flat tab) (by decide)) (pos3 (by omega) (by omega) (by omega)) (.inl rfl) <|
  .ret ⟨⟩

/-- The channel maxima of v. -/
def maxStep (k : Fin lp8.trips) (acc : FVec F (sh2 16 128) .bf16) : B (F := F) (FVec F (sh2 16 128) .bf16) :=
    .load .v (Rect.unit (s := sh3 1 4096 128) ![0, at512 k, 0] (sh3 1 512 128).size (inb3 (by omega) (at512_le k) (by omega))) (pos3 (by omega) (by omega) (by omega)) fun b =>
    .ret (maximumf acc (chunkMax b))

def maxV : B (F := F) (FVec F (sh2 16 128) .bf16) :=
  Cmd.forL lp8 (broadcast (sh2 16 128) (Scalar.ofBits .bf16 0x0000#16)) maxStep

/-- The channels' biased exponents, counted. -/
def expV (y : FVec F (sh2 1 128) .f32) (init : IVec (sh2 1 128) 32) (lb : BitVec 32) : B (F := F) (IVec (sh2 1 128) 32) :=
  Cmd.forL lpE init fun k acc => .ret (addi acc (reaches y (Scf.iv lb 1#32 k)))

/-- The channel scales, to the output and to scratch. -/
def putVs (kv : Nat) (hkv : kv < 4) (n : IVec (sh2 1 128) 32) : B (F := F) PUnit :=
  .load .vsc (Rect.unit (s := sh3 1 4 128) ![0, (BitVec.ofNat 32 kv).toNat, 0] (sh3 1 1 128).size (inb3 (by omega) (kv_le kv hkv) (by omega))) (pos3 (by omega) (by omega) (by omega)) fun _ =>
  .store .vsc (Rect.unit (s := sh3 1 4 128) ![0, (BitVec.ofNat 32 kv).toNat, 0] (sh3 1 1 128).size (inb3 (by omega) (kv_le kv hkv) (by omega)))
    (shapeCast (sh3 1 1 128) (vScale (F := F) n) (by decide)) (pos3 (by omega) (by omega) (by omega)) (.inl rfl) <|
  .load .vs (Rect.unit (s := sh2 1 128) ![0, 0] (sh2 1 128).size (inb2 (by omega) (by omega))) (pos2 (by omega) (by omega)) fun _ =>
  .store .vs (Rect.unit (s := sh2 1 128) ![0, 0] (sh2 1 128).size (inb2 (by omega) (by omega)))
    (shapeCast (sh2 1 128) (vScale (F := F) n) (by decide)) (pos2 (by omega) (by omega)) (.inl rfl) <|
  .ret ⟨⟩

/-- 128 rows of value codes, to the output and, transposed, to scratch. -/
def codeV (inv : FVec F (sh2 1 128) .f32) (k : Fin lp8.trips) (g : Nat) (hg : g < 4) : B (F := F) PUnit :=
  .load .v (Rect.unit (s := sh3 1 4096 128) ![0, atC k (BitVec.ofNat 32 (128 * g)), 0] (sh3 1 128 128).size (inb3 (by omega) (at128_le k g hg) (by omega))) (pos3 (by omega) (by omega) (by omega)) fun b =>
  .load .vcode (Rect.unit (s := sh3 1 4096 128) ![0, atC k (BitVec.ofNat 32 (128 * g)), 0] (sh3 1 128 128).size (inb3 (by omega) (at128_le k g hg) (by omega))) (pos3 (by omega) (by omega) (by omega)) fun _ =>
  .store .vcode (Rect.unit (s := sh3 1 4096 128) ![0, atC k (BitVec.ofNat 32 (128 * g)), 0] (sh3 1 128 128).size (inb3 (by omega) (at128_le k g hg) (by omega)))
    (shapeCast (sh3 1 128 128) (vCodes inv b) (by decide)) (pos3 (by omega) (by omega) (by omega)) (.inr (rows3 _ (at128_dvd k g hg) (by decide))) <|
  .load .vt (Rect.unit (s := sh2 128 4096) ![0, atC k (BitVec.ofNat 32 (128 * g))] (sh2 128 128).size (inb2 (by omega) (at128_le k g hg))) (pos2 (by omega) (by omega)) fun _ =>
  .store .vt (Rect.unit (s := sh2 128 4096) ![0, atC k (BitVec.ofNat 32 (128 * g))] (sh2 128 128).size (inb2 (by omega) (at128_le k g hg)))
    (shapeCast (sh2 128 128) (vTrans (vCodes inv b)) (by decide)) (pos2 (by omega) (by omega)) (.inr (rows2 _ (by decide) (by decide))) <|
  .ret ⟨⟩

/-- A chunk's value codes. -/
def chunkV (inv : FVec F (sh2 1 128) .f32) (k : Fin lp8.trips) : B (F := F) PUnit := unroll 4 (fun g hg _ => codeV inv k g hg) ⟨⟩

/-- The query scales' block, cleared. -/
def zeroQs : B (F := F) PUnit :=
  .load .qs (Rect.unit (s := sh3 1 8 32) ![0, 0, 0] (sh3 1 8 32).size (inb3 (by omega) (by omega) (by omega))) (pos3 (by omega) (by omega) (by omega)) fun _ =>
  .store .qs (Rect.unit (s := sh3 1 8 32) ![0, 0, 0] (sh3 1 8 32).size (inb3 (by omega) (by omega) (by omega)))
    (broadcast (sh3 1 8 32) (Scalar.ofBits .f32 0x00000000#32)) (pos3 (by omega) (by omega) (by omega)) (.inl rfl) <|
  .ret ⟨⟩

/-- Scales and codes of k, then the channel maxima of v over 448 with where their exponents' count starts. -/
def prepK (kv : Nat) (hkv : kv < 4) : B (F := F) (Σ' (_ : FVec F (sh2 1 128) .f32) (_ : IVec (sh2 1 128) 32), BitVec 32) :=
  sumK.bind fun acc => (Cmd.forL lp8 ⟨⟩ fun k _ => chunkK (meanOf acc) k).bind fun _ => (putKs kv hkv).bind fun _ =>
  maxV.bind fun a => .ret ⟨yOf a, broadcast (sh2 1 128) 0#32, 1#32⟩

/-- Scales and codes of k and v for one key-value head. -/
def prep (kv : Nat) (hkv : kv < 4) : B (F := F) PUnit :=
  (prepK kv hkv).bind fun y => (expV y.1 y.2.1 y.2.2).bind fun n => (putVs kv hkv n).bind fun _ =>
  (Cmd.forL lp8 ⟨⟩ fun k _ => chunkV (vInv n) k).bind fun _ => zeroQs

/-! ## A grid point -/

/-- A grid point's program: the head's preparation at its first query block, then the query block. -/
def whole (log2e : F .f32) (kv j : Nat) (hkv : kv < 4) (hj : j < 32) : B (F := F) PUnit :=
  (if j = 0 then prep kv hkv else .ret ⟨⟩).bind fun _ =>
    if h : j < 8 then step log2e (BitVec.ofNat 32 j) (j + 1) (Nat.succ_pos j) h
    else stepM log2e (BitVec.ofNat 32 j) ((j - 8) * 128) ((j - 8) * 2) (by omega) (by omega)

theorem step_congr {log2e : F .f32} {j : BitVec 32} {n n' : Nat} (h : n = n') (a b c d) :
    step log2e j n a b = step log2e j n' c d := by subst h; rfl

theorem stepM_congr {log2e : F .f32} {j : BitVec 32} {k k' g g' : Nat} (h : k = k') (h' : g = g') (a b c d) :
    stepM log2e j k g a b = stepM log2e j k' g' c d := by subst h h'; rfl

end Cert.Body
-- ==== Proof.KernelBody.lean ====
/- The printed kernel function of `Kernel` is `Cert.Body.whole` over its argument buffers: the same operations in the
   same order, the branches decided by the grid point. -/
module

public import proofs.«01_k».proof.Kernel
public import proofs.«01_k».proof.Proof.Body
public import Idealize.ShloMosaic.Lib.Pipeline.Regions

@[expose] public section

noncomputable section

namespace Cert.Kernel

open Idealize.ShloMosaic Idealize.SL.Sem
open Cert.Body (prep prepK step stepM step_congr stepM_congr sumK maxV expV lp8 lpE lp8_ok lpE_ok)
open Cert.Mem (Cmd)

variable {F : FTy → Type} [FloatOps F] [Facts]

/-- The kernel function's buffers. -/
def bufs (arg3 : Memref sig .tc .vmem S1x128x1024 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x128x1024 .bf16) (harg6 : arg6.IsWhole)
    (arg7 : Memref sig .tc .vmem S1x128x1024 .i8) (harg7 : arg7.IsWhole)
    (arg8 : Memref sig .tc .vmem S1x8x32 .f32) (harg8 : arg8.IsWhole)
    (arg9 : Memref sig .tc .vmem S1x4096x128 .i8) (harg9 : arg9.IsWhole)
    (arg10 : Memref sig .tc .vmem S1x4x64 .f32) (harg10 : arg10.IsWhole)
    (arg11 : Memref sig .tc .vmem S1x4096x128 .fp8e4m3) (harg11 : arg11.IsWhole)
    (arg12 : Memref sig .tc .vmem S1x4x128 .f32) (harg12 : arg12.IsWhole)
    (arg13 : Memref sig .tc .vmem S4096x128 .bf16) (harg13 : arg13.IsWhole)
    (arg14 : Memref sig .tc .vmem S128x4096 .fp8e4m3) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1024x128 .bf16) (harg17 : arg17.IsWhole)
    (arg18 : Memref sig .tc .vmem S4x1152x256 .f32) (harg18 : arg18.IsWhole)
    (arg19 : Memref sig .tc .vmem S4x24x256 .f32) (harg19 : arg19.IsWhole)
    (arg20 : Memref sig .tc .vmem S4x8x256 .f32) (harg20 : arg20.IsWhole) : Cmd.Bufs Cert.Body.lay sig where
  ref := fun | .x => arg3 | .k => arg4 | .v => arg5 | .out => arg6 | .qc => arg7 | .qs => arg8 | .kcode => arg9 | .ks => arg10 | .vcode => arg11 | .vsc => arg12 | .kc => arg13 | .vt => arg14 | .kt => arg15 | .vs => arg16 | .q => arg17 | .s => arg18 | .c => arg19 | .m => arg20
  whole := fun | .x => harg3 | .k => harg4 | .v => harg5 | .out => harg6 | .qc => harg7 | .qs => harg8 | .kcode => harg9 | .ks => harg10 | .vcode => harg11 | .vsc => harg12 | .kc => harg13 | .vt => harg14 | .kt => harg15 | .vs => harg16 | .q => harg17 | .s => harg18 | .c => harg19 | .m => harg20

/-- The base-two logarithm of e, as the kernel has it. -/
abbrev log2e : F .f32 := Scalar.ofBits .f32 0x3FB8AA3B#32

theorem lt1 (i : grid0.Coords) : (i 1).val < 4 := (i 1).isLt
theorem lt2 (i : grid0.Coords) : (i 2).val < 32 := (i 2).isLt

/-- Where a full window starts, and its scales, as the kernel computes them. -/
def winAt (j : Nat) : Nat := (Scalar.muli (Scalar.subi (BitVec.ofNat 32 j) 8#32) 128#32).toNat

theorem cond1_iff (i : grid0.Coords) : k0_cond1 i = 1#1 ↔ (i 2).val = 0 := by
  have h : ∀ j : Fin 32, Scalar.cmpi .ne (Scalar.extui (Scalar.cmpi .eq (BitVec.ofNat 32 j.val) 0#32) : BitVec 32) 0#32 = 1#1 ↔ j.val = 0 := by decide
  exact h (i 2)

theorem cond2_iff (i : grid0.Coords) : k0_cond2 i = 1#1 ↔ (i 2).val = 0 := by
  have h : ∀ j : Fin 32, Scalar.cmpi .ne (Scalar.extui (Scalar.cmpi .eq (BitVec.ofNat 32 j.val) 0#32) : BitVec 32) 0#32 = 1#1 ↔ j.val = 0 := by decide
  exact h (i 2)

theorem cond3_iff (i : grid0.Coords) : k0_cond3 i = 1#1 ↔ (i 2).val = 1 := by
  have h : ∀ j : Fin 32, Scalar.cmpi .ne (Scalar.extui (Scalar.cmpi .eq (BitVec.ofNat 32 j.val) 1#32) : BitVec 32) 0#32 = 1#1 ↔ j.val = 1 := by decide
  exact h (i 2)

theorem cond4_iff (i : grid0.Coords) : k0_cond4 i = 1#1 ↔ (i 2).val = 2 := by
  have h : ∀ j : Fin 32, Scalar.cmpi .ne (Scalar.extui (Scalar.cmpi .eq (BitVec.ofNat 32 j.val) 2#32) : BitVec 32) 0#32 = 1#1 ↔ j.val = 2 := by decide
  exact h (i 2)

theorem cond5_iff (i : grid0.Coords) : k0_cond5 i = 1#1 ↔ (i 2).val = 3 := by
  have h : ∀ j : Fin 32, Scalar.cmpi .ne (Scalar.extui (Scalar.cmpi .eq (BitVec.ofNat 32 j.val) 3#32) : BitVec 32) 0#32 = 1#1 ↔ j.val = 3 := by decide
  exact h (i 2)

theorem cond6_iff (i : grid0.Coords) : k0_cond6 i = 1#1 ↔ (i 2).val = 4 := by
  have h : ∀ j : Fin 32, Scalar.cmpi .ne (Scalar.extui (Scalar.cmpi .eq (BitVec.ofNat 32 j.val) 4#32) : BitVec 32) 0#32 = 1#1 ↔ j.val = 4 := by decide
  exact h (i 2)

theorem cond7_iff (i : grid0.Coords) : k0_cond7 i = 1#1 ↔ (i 2).val = 5 := by
  have h : ∀ j : Fin 32, Scalar.cmpi .ne (Scalar.extui (Scalar.cmpi .eq (BitVec.ofNat 32 j.val) 5#32) : BitVec 32) 0#32 = 1#1 ↔ j.val = 5 := by decide
  exact h (i 2)

theorem cond8_iff (i : grid0.Coords) : k0_cond8 i = 1#1 ↔ (i 2).val = 6 := by
  have h : ∀ j : Fin 32, Scalar.cmpi .ne (Scalar.extui (Scalar.cmpi .eq (BitVec.ofNat 32 j.val) 6#32) : BitVec 32) 0#32 = 1#1 ↔ j.val = 6 := by decide
  exact h (i 2)

theorem cond9_iff (i : grid0.Coords) : k0_cond9 i = 1#1 ↔ (i 2).val = 7 := by
  have h : ∀ j : Fin 32, Scalar.cmpi .ne (Scalar.extui (Scalar.cmpi .eq (BitVec.ofNat 32 j.val) 7#32) : BitVec 32) 0#32 = 1#1 ↔ j.val = 7 := by decide
  exact h (i 2)

theorem cond10_iff (i : grid0.Coords) : k0_cond10 i = 1#1 ↔ 8 ≤ (i 2).val := by
  have h : ∀ j : Fin 32, Scalar.cmpi .ne (Scalar.extui (Scalar.cmpi .sge (BitVec.ofNat 32 j.val) 8#32) : BitVec 32) 0#32 = 1#1 ↔ 8 ≤ j.val := by decide
  exact h (i 2)

theorem winAt_eq (j : Fin 32) (h : 8 ≤ j.val) : winAt j.val = (j.val - 8) * 128 := by
  revert j; decide

theorem winG_eq (i : grid0.Coords) (h : 8 ≤ (i 2).val) : k0_off11 i 0 = ((i 2).val - 8) * 2 := by
  have e : ∀ j : Fin 32, 8 ≤ j.val →
      (let v32 : BitVec 32 := Scalar.muli (Scalar.subi (BitVec.ofNat 32 j.val) 8#32) 128#32
       let v406 : BitVec 32 := Scalar.subi (Scalar.extui (Scalar.cmpi .sgt v32 0#32)) (Scalar.extui (Scalar.cmpi .slt v32 0#32))
       let v411 : BitVec 32 := Scalar.subi (Scalar.extui (Scalar.cmpi .sgt 64#32 0#32)) (Scalar.extui (Scalar.cmpi .slt 64#32 0#32))
       let v415 : BitVec 1 := Scalar.andi (Scalar.cmpi .ne v406 v411) (Scalar.cmpi .ne (Scalar.remsi v32 64#32) 0#32)
       (Scalar.indexCast (Scalar.select v415 (Scalar.subi (Scalar.divsi v32 64#32) 1#32) (Scalar.divsi v32 64#32))).toNat) = (j.val - 8) * 2 := by decide
  exact e (i 2) h

theorem winK_le (i : grid0.Coords) (h : k0_cond10 i = 1#1) : winAt (i 2).val + 9 * 128 ≤ 4096 := by
  have := winAt_eq (i 2) ((cond10_iff i).1 h); have h' : (i 2).val < 32 := (i 2).isLt; omega

theorem winG_le (i : grid0.Coords) (h : k0_cond10 i = 1#1) : k0_off11 i 0 + 2 * 9 ≤ 64 := by
  have := winG_eq i ((cond10_iff i).1 h); have h' : (i 2).val < 32 := (i 2).isLt; omega

/-- A head's preparation with the machine's own loops. -/
def prepKP (A : Cmd.Bufs Cert.Body.lay sig) (kv : Nat) (hkv : kv < 4) :
    Prog (TpuEff nD τ sig (Elt F) Λ₀ .tc) (Σ' (_ : FVec F (Cert.Body.sh2 1 128) .f32) (_ : IVec (Cert.Body.sh2 1 128) 32), BitVec 32) :=
  (Scf.Loop.for lp8 lp8_ok (broadcast (Cert.Body.sh2 8 128) (Scalar.ofBits .f32 0x00000000#32)) fun k acc => (Cert.Body.sumStep k acc).prog A) >>= fun acc =>
  (Scf.Loop.for lp8 lp8_ok ⟨⟩ fun k _ => (Cert.Body.chunkK (Cert.Body.meanOf acc) k).prog A) >>= fun _ =>
  (Cert.Body.putKs kv hkv).prog A >>= fun _ =>
  (Scf.Loop.for lp8 lp8_ok (broadcast (Cert.Body.sh2 16 128) (Scalar.ofBits .bf16 0x0000#16)) fun k acc => (Cert.Body.maxStep k acc).prog A) >>= fun a =>
  .ret ⟨Cert.Body.yOf a, broadcast (Cert.Body.sh2 1 128) 0#32, 1#32⟩

def expVP (y : Σ' (_ : FVec F (Cert.Body.sh2 1 128) .f32) (_ : IVec (Cert.Body.sh2 1 128) 32), BitVec 32) :
    Prog (TpuEff nD τ sig (Elt F) Λ₀ .tc) (IVec (Cert.Body.sh2 1 128) 32) :=
  Scf.Loop.for lpE lpE_ok y.2.1 fun k acc => .ret (addi acc (Cert.Body.reaches y.1 (Scf.iv y.2.2 1#32 k)))

def chunksVP (A : Cmd.Bufs Cert.Body.lay sig) (n : IVec (Cert.Body.sh2 1 128) 32) : Prog (TpuEff nD τ sig (Elt F) Λ₀ .tc) PUnit :=
  Scf.Loop.for lp8 lp8_ok ⟨⟩ fun k _ => (Cert.Body.chunkV (F := F) (Cert.Body.vInv n) k).prog A

theorem prep_prog (A : Cmd.Bufs Cert.Body.lay sig) (kv : Nat) (hkv : kv < 4) :
    (prep (F := F) kv hkv).prog A = prepKP A kv hkv >>= fun y => expVP y >>= fun n =>
      (Cert.Body.putVs kv hkv n).prog A >>= fun _ => chunksVP A n >>= fun _ => (Cert.Body.zeroQs).prog A := by
  simp only [prep, prepK, Cmd.prog_bind, sumK, maxV, expV, Cmd.prog_forL _ _ lp8_ok, Cmd.prog_forL _ _ lpE_ok]
  rfl

/-- The printed function as its ten branches. -/
def branches (i : grid0.Coords) (A : Cmd.Bufs Cert.Body.lay sig) : Prog (TpuEff nD τ sig (Elt F) Λ₀ .tc) PUnit := do
  let x : Σ' (_ : BitVec 32), BitVec 32 ← (do
    if k0_h1 : k0_cond1 i = 1#1 then do
      let y ← prepKP A (i 1).val (lt1 i)
      let n ← expVP y
      (Cert.Body.putVs (i 1).val (lt1 i) n).prog A
      chunksVP A n
      (Cert.Body.zeroQs).prog A
    else pure ⟨⟩
    if k0_h2 : k0_cond2 i = 1#1 then (step log2e (BitVec.ofNat 32 (i 2).val) 1 (by omega) (by omega)).prog A else pure ⟨⟩
    if k0_h3 : k0_cond3 i = 1#1 then (step log2e (BitVec.ofNat 32 (i 2).val) 2 (by omega) (by omega)).prog A else pure ⟨⟩
    if k0_h4 : k0_cond4 i = 1#1 then (step log2e (BitVec.ofNat 32 (i 2).val) 3 (by omega) (by omega)).prog A else pure ⟨⟩
    if k0_h5 : k0_cond5 i = 1#1 then (step log2e (BitVec.ofNat 32 (i 2).val) 4 (by omega) (by omega)).prog A else pure ⟨⟩
    if k0_h6 : k0_cond6 i = 1#1 then (step log2e (BitVec.ofNat 32 (i 2).val) 5 (by omega) (by omega)).prog A else pure ⟨⟩
    if k0_h7 : k0_cond7 i = 1#1 then (step log2e (BitVec.ofNat 32 (i 2).val) 6 (by omega) (by omega)).prog A else pure ⟨⟩
    if k0_h8 : k0_cond8 i = 1#1 then (step log2e (BitVec.ofNat 32 (i 2).val) 7 (by omega) (by omega)).prog A else pure ⟨⟩
    if k0_h9 : k0_cond9 i = 1#1 then (step log2e (BitVec.ofNat 32 (i 2).val) 8 (by omega) (by omega)).prog A else pure ⟨⟩
    pure ⟨BitVec.ofNat 32 (i 2).val, Scalar.extui (Scalar.cmpi .sge (BitVec.ofNat 32 (i 2).val) 8#32)⟩)
  if k0_h10 : k0_cond10 i = 1#1 then
    (stepM log2e x.1 (winAt (i 2).val) (k0_off11 i 0) (winK_le i k0_h10) (winG_le i k0_h10)).prog A
  else pure ⟨⟩
  pure ⟨⟩

set_option maxRecDepth 100000 in
theorem body_branches (i : grid0.Coords) (arg3 : Memref sig .tc .vmem S1x128x1024 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x128x1024 .bf16) (harg6 : arg6.IsWhole)
    (arg7 : Memref sig .tc .vmem S1x128x1024 .i8) (harg7 : arg7.IsWhole)
    (arg8 : Memref sig .tc .vmem S1x8x32 .f32) (harg8 : arg8.IsWhole)
    (arg9 : Memref sig .tc .vmem S1x4096x128 .i8) (harg9 : arg9.IsWhole)
    (arg10 : Memref sig .tc .vmem S1x4x64 .f32) (harg10 : arg10.IsWhole)
    (arg11 : Memref sig .tc .vmem S1x4096x128 .fp8e4m3) (harg11 : arg11.IsWhole)
    (arg12 : Memref sig .tc .vmem S1x4x128 .f32) (harg12 : arg12.IsWhole)
    (arg13 : Memref sig .tc .vmem S4096x128 .bf16) (harg13 : arg13.IsWhole)
    (arg14 : Memref sig .tc .vmem S128x4096 .fp8e4m3) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1024x128 .bf16) (harg17 : arg17.IsWhole)
    (arg18 : Memref sig .tc .vmem S4x1152x256 .f32) (harg18 : arg18.IsWhole)
    (arg19 : Memref sig .tc .vmem S4x24x256 .f32) (harg19 : arg19.IsWhole)
    (arg20 : Memref sig .tc .vmem S4x8x256 .f32) (harg20 : arg20.IsWhole) :
    cc0_sage_swa_prefill (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = branches i (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  chain_rfl

theorem ret_bind {E : Type → Type _} {α β : Type} (a : α) (f : α → Prog E β) : (Prog.ret a >>= f) = f a := rfl

theorem prog_ret {α : Type} (A : Cmd.Bufs Cert.Body.lay sig) (a : α) :
    ((Cmd.ret a : Cert.Body.B (F := F) α).prog A : Prog (TpuEff nD τ sig (Elt F) Λ₀ .tc) α) = .ret a := rfl

theorem bind_ret_unit {E : Type → Type _} (p : Prog E PUnit) : (p >>= fun _ => Prog.ret PUnit.unit) = p := bind_pure p

theorem branches_whole (i : grid0.Coords) (A : Cmd.Bufs Cert.Body.lay sig) :
    branches (F := F) i A = (Cert.Body.whole log2e (i 1).val (i 2).val (lt1 i) (lt2 i)).prog A := by
  unfold branches Cert.Body.whole
  have hj : (i 2).val < 32 := (i 2).isLt
  have e : (i 2).val = 0 ∨ (i 2).val = 1 ∨ (i 2).val = 2 ∨ (i 2).val = 3 ∨ (i 2).val = 4 ∨ (i 2).val = 5 ∨ (i 2).val = 6 ∨ (i 2).val = 7 ∨ 8 ≤ (i 2).val := by omega
  rcases e with e | e | e | e | e | e | e | e | e
  · have c1 : k0_cond1 i = 1#1 := by rw [cond1_iff]; omega
    have c2 : k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 1) (by omega) _ _ (by decide) (by decide)]
    rw [if_pos e, prep_prog]
    simp only [bind_assoc]
  · have c1 : ¬ k0_cond1 i = 1#1 := by rw [cond1_iff]; omega
    have c2 : ¬ k0_cond2 i = 1#1 := by rw [cond2_iff]; omega
    have c3 : k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 2) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 3) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 4) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 5) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 6) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 7) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 8) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : k0_cond10 i = 1#1 := by rw [cond10_iff]; omega
    simp only [↓reduceDIte, c1, c2, c3, c4, c5, c6, c7, c8, c9, c10, Prog.pure_eq_ret, bind_assoc, ret_bind, bind_ret_unit]
    rw [Cmd.prog_bind, dif_neg (by omega), if_neg (by omega), prog_ret, ret_bind]
    exact congrArg _ (stepM_congr (winAt_eq (i 2) e) (winG_eq i e) _ _ _ _)

theorem body_eq (i : grid0.Coords) (arg3 : Memref sig .tc .vmem S1x128x1024 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x128x1024 .bf16) (harg6 : arg6.IsWhole)
    (arg7 : Memref sig .tc .vmem S1x128x1024 .i8) (harg7 : arg7.IsWhole)
    (arg8 : Memref sig .tc .vmem S1x8x32 .f32) (harg8 : arg8.IsWhole)
    (arg9 : Memref sig .tc .vmem S1x4096x128 .i8) (harg9 : arg9.IsWhole)
    (arg10 : Memref sig .tc .vmem S1x4x64 .f32) (harg10 : arg10.IsWhole)
    (arg11 : Memref sig .tc .vmem S1x4096x128 .fp8e4m3) (harg11 : arg11.IsWhole)
    (arg12 : Memref sig .tc .vmem S1x4x128 .f32) (harg12 : arg12.IsWhole)
    (arg13 : Memref sig .tc .vmem S4096x128 .bf16) (harg13 : arg13.IsWhole)
    (arg14 : Memref sig .tc .vmem S128x4096 .fp8e4m3) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1024x128 .bf16) (harg17 : arg17.IsWhole)
    (arg18 : Memref sig .tc .vmem S4x1152x256 .f32) (harg18 : arg18.IsWhole)
    (arg19 : Memref sig .tc .vmem S4x24x256 .f32) (harg19 : arg19.IsWhole)
    (arg20 : Memref sig .tc .vmem S4x8x256 .f32) (harg20 : arg20.IsWhole) :
    cc0_sage_swa_prefill (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      (Cert.Body.whole log2e (i 1).val (i 2).val (lt1 i) (lt2 i)).prog (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) :=
  (body_branches i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).trans (branches_whole i _)

end Cert.Kernel
-- ==== Proof.KernelRun.lean ====
/- Running `Kernel`: what its body does to the buffers at each grid point carried through the pipeline, for any relation
   that the values before and after a grid point keep. -/
module

public import proofs.«01_k».proof.Proof.KernelBody
public import proofs.«01_k».proof.Proof.Gen.Kernel.Frame
public import proofs.«01_k».proof.Proof.Gen.Kernel
public import Idealize.ShloMosaic.Lib.Pipeline.ArrRel

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Body (Buf lay whole)
open Cert.Mem (Cmd St)

variable {F : FTy → Type} [FloatOps F]

local notation "𝕄" => MT nD τ sig Unit (Elt F) ℕ (UR sig nD τ) ℕ

abbrev 𝒱₀ : Variants := Variants.none

/-- The contents of the ten window blocks. -/
abbrev Blocks (F : FTy → Type) := (w : Fin cfg0.W) → (cfg0.win w).block.Idx → Elt F (cfg0.win w).elt

/-- The body's buffers at grid point `t`. -/
def bufsAt (t : Fin cfg0.N) : Cmd.Bufs lay sig :=
  bufs ((cfg0.win 0).stage (cfg0.slots t 0)) (Gen.hstage0_0 ((cfg0.slots t 0).cast Gen.nbuf0_0)) ((cfg0.win 1).stage (cfg0.slots t 1)) (Gen.hstage0_1 ((cfg0.slots t 1).cast Gen.nbuf0_1)) ((cfg0.win 2).stage (cfg0.slots t 2)) (Gen.hstage0_2 ((cfg0.slots t 2).cast Gen.nbuf0_2)) ((cfg0.win 3).stage (cfg0.slots t 3)) (Gen.hstage0_3 ((cfg0.slots t 3).cast Gen.nbuf0_3)) ((cfg0.win 4).stage (cfg0.slots t 4)) (Gen.hstage0_4 ((cfg0.slots t 4).cast Gen.nbuf0_4)) ((cfg0.win 5).stage (cfg0.slots t 5)) (Gen.hstage0_5 ((cfg0.slots t 5).cast Gen.nbuf0_5)) ((cfg0.win 6).stage (cfg0.slots t 6)) (Gen.hstage0_6 ((cfg0.slots t 6).cast Gen.nbuf0_6)) ((cfg0.win 7).stage (cfg0.slots t 7)) (Gen.hstage0_7 ((cfg0.slots t 7).cast Gen.nbuf0_7)) ((cfg0.win 8).stage (cfg0.slots t 8)) (Gen.hstage0_8 ((cfg0.slots t 8).cast Gen.nbuf0_8)) ((cfg0.win 9).stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

/-- The contents of all buffers: the window blocks hold `Y`, the scratch buffers what `st` says. -/
def mix (Y : Blocks F) (st : St lay (Elt F)) : St lay (Elt F)
  | .x => Y 0
  | .k => Y 1
  | .v => Y 2
  | .out => Y 3
  | .qc => Y 4
  | .qs => Y 5
  | .kcode => Y 6
  | .ks => Y 7
  | .vcode => Y 8
  | .vsc => Y 9
  | .kc => st .kc
  | .vt => st .vt
  | .kt => st .kt
  | .vs => st .vs
  | .q => st .q
  | .s => st .s
  | .c => st .c
  | .m => st .m

/-- The window blocks' contents in `st`. -/
def blocks (st : St lay (Elt F)) : Blocks F := fun w => match w with
  | 0 => st .x
  | 1 => st .k
  | 2 => st .v
  | 3 => st .out
  | 4 => st .qc
  | 5 => st .qs
  | 6 => st .kcode
  | 7 => st .ks
  | 8 => st .vcode
  | 9 => st .vsc

/-- The buffers after the body has run at grid point `t`. -/
def stepAt (t : Fin cfg0.N) (Y : Blocks F) (st : St lay (Elt F)) : St lay (Elt F) :=
  (Cmd.run (whole log2e ((cfg0.grid.coords t) 1).val ((cfg0.grid.coords t) 2).val (lt1 (cfg0.grid.coords t)) (lt2 (cfg0.grid.coords t))) (mix Y st)).2

/-- The scratch buffers hold what `st` says. -/
def scratch (c : Dev nD) (st : St lay (Elt F)) : sProp 𝕄 :=
  iprop(owns (c.tc : Thread nD τ) (Memref.whole cc0_scratch0) fullShare (st .kc)
    ∗ owns (c.tc : Thread nD τ) (Memref.whole cc0_scratch1) fullShare (st .vt)
    ∗ owns (c.tc : Thread nD τ) (Memref.whole cc0_scratch2) fullShare (st .kt)
    ∗ owns (c.tc : Thread nD τ) (Memref.whole cc0_scratch3) fullShare (st .vs)
    ∗ owns (c.tc : Thread nD τ) (Memref.whole cc0_scratch4) fullShare (st .q)
    ∗ owns (c.tc : Thread nD τ) (Memref.whole cc0_scratch5) fullShare (st .s)
    ∗ owns (c.tc : Thread nD τ) (Memref.whole cc0_scratch6) fullShare (st .c)
    ∗ owns (c.tc : Thread nD τ) (Memref.whole cc0_scratch7) fullShare (st .m))

/-- Scratch contents given one by one (the window blocks anything). -/
def st8 (f0 : (lay.shp .kc).Idx → Elt F (lay.elt .kc)) (f1 : (lay.shp .vt).Idx → Elt F (lay.elt .vt)) (f2 : (lay.shp .kt).Idx → Elt F (lay.elt .kt)) (f3 : (lay.shp .vs).Idx → Elt F (lay.elt .vs)) (f4 : (lay.shp .q).Idx → Elt F (lay.elt .q)) (f5 : (lay.shp .s).Idx → Elt F (lay.elt .s)) (f6 : (lay.shp .c).Idx → Elt F (lay.elt .c)) (f7 : (lay.shp .m).Idx → Elt F (lay.elt .m)) : St lay (Elt F)
  | .kc => f0
  | .vt => f1
  | .kt => f2
  | .vs => f3
  | .q => f4
  | .s => f5
  | .c => f6
  | .m => f7
  | .x => fun _ => (Scalar.ofBits .bf16 0 : F .bf16) | .k => fun _ => (Scalar.ofBits .bf16 0 : F .bf16) | .v => fun _ => (Scalar.ofBits .bf16 0 : F .bf16) | .out => fun _ => (Scalar.ofBits .bf16 0 : F .bf16)
  | .qc => fun _ => (0#8 : BitVec 8) | .qs => fun _ => (Scalar.ofBits .f32 0 : F .f32) | .kcode => fun _ => (0#8 : BitVec 8) | .ks => fun _ => (Scalar.ofBits .f32 0 : F .f32)
  | .vcode => fun _ => (Scalar.ofBits .fp8e4m3 0 : F .fp8e4m3) | .vsc => fun _ => (Scalar.ofBits .f32 0 : F .f32)

variable (I : Fin (cfg0.N + 1) → St lay (Elt F) → Prop)
  (after : (w : Fin cfg0.W) → Fin cfg0.N → (Y X : (cfg0.win w).block.Idx → Elt F (cfg0.win w).elt) → Prop)
  (m : (ℓ : Loc nD τ sig) → Idealize.ShloMosaic.Buf (Elt F) ℓ) (ρ : Dev nD → PrngReg)

/-- The pipeline's data: scratch related by `I`, window blocks by `after`. -/
def rdat (c : Dev nD) : RDat τ (Elt F) Unit ℕ (UR sig nD τ) ℕ cfg0 c where
  A w := Gen.V m c (Pipeline.arrRef spec0 w)
  after := after
  Φ t := iprop((∃ st, ⌜I t st⌝ ∗ scratch c st) ∗ ∃ r, prngReg c r)
  q _ := fullShare
  owed _ := 0

theorem held_eq (c : Dev nD) (A : Cmd.Bufs lay sig) (st : St lay (Elt F)) :
    (Cmd.held c A st : sProp 𝕄) = iprop(owns (c.tc : Thread nD τ) (A.ref .x) fullShare (st .x)
      ∗ owns (c.tc : Thread nD τ) (A.ref .k) fullShare (st .k)
      ∗ owns (c.tc : Thread nD τ) (A.ref .v) fullShare (st .v)
      ∗ owns (c.tc : Thread nD τ) (A.ref .out) fullShare (st .out)
      ∗ owns (c.tc : Thread nD τ) (A.ref .qc) fullShare (st .qc)
      ∗ owns (c.tc : Thread nD τ) (A.ref .qs) fullShare (st .qs)
      ∗ owns (c.tc : Thread nD τ) (A.ref .kcode) fullShare (st .kcode)
      ∗ owns (c.tc : Thread nD τ) (A.ref .ks) fullShare (st .ks)
      ∗ owns (c.tc : Thread nD τ) (A.ref .vcode) fullShare (st .vcode)
      ∗ owns (c.tc : Thread nD τ) (A.ref .vsc) fullShare (st .vsc)
      ∗ owns (c.tc : Thread nD τ) (A.ref .kc) fullShare (st .kc)
      ∗ owns (c.tc : Thread nD τ) (A.ref .vt) fullShare (st .vt)
      ∗ owns (c.tc : Thread nD τ) (A.ref .kt) fullShare (st .kt)
      ∗ owns (c.tc : Thread nD τ) (A.ref .vs) fullShare (st .vs)
      ∗ owns (c.tc : Thread nD τ) (A.ref .q) fullShare (st .q)
      ∗ owns (c.tc : Thread nD τ) (A.ref .s) fullShare (st .s)
      ∗ owns (c.tc : Thread nD τ) (A.ref .c) fullShare (st .c)
      ∗ owns (c.tc : Thread nD τ) (A.ref .m) fullShare (st .m)) :=
  bigSep_univ_eq_bigSepL [Buf.x, Buf.k, Buf.v, Buf.out, Buf.qc, Buf.qs, Buf.kcode, Buf.ks, Buf.vcode, Buf.vsc, Buf.kc, Buf.vt, Buf.kt, Buf.vs, Buf.q, Buf.s, Buf.c, Buf.m] (by decide) (by decide) _

/-- The body at one grid point. -/
theorem body_at (c : Dev nD) (t : Fin cfg0.N) (Y : Blocks F)
    (hstep : ∀ st, I t.castSucc st → I t.succ (stepAt t Y st) ∧ ∀ w, after w t (Y w) (blocks (stepAt t Y st) w)) :
    iprop((rdat I after m c).Φ t.castSucc ∗ (rdat I after m c).owesAt () t.castSucc
        ∗ bigSep Finset.univ fun w => owns (c.tc : Thread nD τ) ((cfg0.win w).stage (cfg0.slots t w)) fullShare (Y w))
      ⊢ wp frame (wpE (defs₀ (F := F)) 𝒱₀ c none) Set.univ (defs₀ (F := F) .tc cfg0.body (cfg0.bodyArgs t (cfg0.slots t))) fun _ =>
          iprop((rdat I after m c).Φ t.succ ∗ (rdat I after m c).owesAt () t.succ
            ∗ bigSep Finset.univ fun w => iprop(∃ X, ⌜(rdat I after m c).after w t (Y w) X⌝ ∗ owns (c.tc : Thread nD τ) ((cfg0.win w).stage (cfg0.slots t w)) fullShare X)) := by
  have hbody : (defs₀ (F := F) .tc cfg0.body (cfg0.bodyArgs t (cfg0.slots t)))
      = (whole log2e ((cfg0.grid.coords t) 1).val ((cfg0.grid.coords t) 2).val (lt1 (cfg0.grid.coords t)) (lt2 (cfg0.grid.coords t))).prog (bufsAt t) :=
    body_eq (cfg0.grid.coords t) ((cfg0.win 0).stage (cfg0.slots t 0)) (Gen.hstage0_0 ((cfg0.slots t 0).cast Gen.nbuf0_0)) ((cfg0.win 1).stage (cfg0.slots t 1)) (Gen.hstage0_1 ((cfg0.slots t 1).cast Gen.nbuf0_1)) ((cfg0.win 2).stage (cfg0.slots t 2)) (Gen.hstage0_2 ((cfg0.slots t 2).cast Gen.nbuf0_2)) ((cfg0.win 3).stage (cfg0.slots t 3)) (Gen.hstage0_3 ((cfg0.slots t 3).cast Gen.nbuf0_3)) ((cfg0.win 4).stage (cfg0.slots t 4)) (Gen.hstage0_4 ((cfg0.slots t 4).cast Gen.nbuf0_4)) ((cfg0.win 5).stage (cfg0.slots t 5)) (Gen.hstage0_5 ((cfg0.slots t 5).cast Gen.nbuf0_5)) ((cfg0.win 6).stage (cfg0.slots t 6)) (Gen.hstage0_6 ((cfg0.slots t 6).cast Gen.nbuf0_6)) ((cfg0.win 7).stage (cfg0.slots t 7)) (Gen.hstage0_7 ((cfg0.slots t 7).cast Gen.nbuf0_7)) ((cfg0.win 8).stage (cfg0.slots t 8)) (Gen.hstage0_8 ((cfg0.slots t 8).cast Gen.nbuf0_8)) ((cfg0.win 9).stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
  rw [hbody, Gen.bigSep_W0, Gen.bigSep_W0, show (rdat I after m c).owesAt () t.succ = (rdat I after m c).owesAt () t.castSucc from rfl]
  show iprop(((∃ st, ⌜I t.castSucc st⌝ ∗ scratch c st) ∗ ∃ r, prngReg c r) ∗ (rdat I after m c).owesAt () t.castSucc
      ∗ owns (c.tc : Thread nD τ) ((cfg0.win 0).stage (cfg0.slots t 0)) fullShare (Y 0)
      ∗ owns (c.tc : Thread nD τ) ((cfg0.win 1).stage (cfg0.slots t 1)) fullShare (Y 1)
      ∗ owns (c.tc : Thread nD τ) ((cfg0.win 2).stage (cfg0.slots t 2)) fullShare (Y 2)
      ∗ owns (c.tc : Thread nD τ) ((cfg0.win 3).stage (cfg0.slots t 3)) fullShare (Y 3)
      ∗ owns (c.tc : Thread nD τ) ((cfg0.win 4).stage (cfg0.slots t 4)) fullShare (Y 4)
      ∗ owns (c.tc : Thread nD τ) ((cfg0.win 5).stage (cfg0.slots t 5)) fullShare (Y 5)
      ∗ owns (c.tc : Thread nD τ) ((cfg0.win 6).stage (cfg0.slots t 6)) fullShare (Y 6)
      ∗ owns (c.tc : Thread nD τ) ((cfg0.win 7).stage (cfg0.slots t 7)) fullShare (Y 7)
      ∗ owns (c.tc : Thread nD τ) ((cfg0.win 8).stage (cfg0.slots t 8)) fullShare (Y 8)
      ∗ owns (c.tc : Thread nD τ) ((cfg0.win 9).stage (cfg0.slots t 9)) fullShare (Y 9)) ⊢ wp frame (wpE (defs₀ (F := F)) 𝒱₀ (c.tc : Thread nD τ) none) Set.univ _ fun _ => iprop(((∃ st, ⌜I t.succ st⌝ ∗ scratch c st) ∗ ∃ r, prngReg c r) ∗ (rdat I after m c).owesAt () t.castSucc
      ∗ (∃ X, ⌜after 0 t (Y 0) X⌝ ∗ owns (c.tc : Thread nD τ) ((cfg0.win 0).stage (cfg0.slots t 0)) fullShare X)
      ∗ (∃ X, ⌜after 1 t (Y 1) X⌝ ∗ owns (c.tc : Thread nD τ) ((cfg0.win 1).stage (cfg0.slots t 1)) fullShare X)
      ∗ (∃ X, ⌜after 2 t (Y 2) X⌝ ∗ owns (c.tc : Thread nD τ) ((cfg0.win 2).stage (cfg0.slots t 2)) fullShare X)
      ∗ (∃ X, ⌜after 3 t (Y 3) X⌝ ∗ owns (c.tc : Thread nD τ) ((cfg0.win 3).stage (cfg0.slots t 3)) fullShare X)
      ∗ (∃ X, ⌜after 4 t (Y 4) X⌝ ∗ owns (c.tc : Thread nD τ) ((cfg0.win 4).stage (cfg0.slots t 4)) fullShare X)
      ∗ (∃ X, ⌜after 5 t (Y 5) X⌝ ∗ owns (c.tc : Thread nD τ) ((cfg0.win 5).stage (cfg0.slots t 5)) fullShare X)
      ∗ (∃ X, ⌜after 6 t (Y 6) X⌝ ∗ owns (c.tc : Thread nD τ) ((cfg0.win 6).stage (cfg0.slots t 6)) fullShare X)
      ∗ (∃ X, ⌜after 7 t (Y 7) X⌝ ∗ owns (c.tc : Thread nD τ) ((cfg0.win 7).stage (cfg0.slots t 7)) fullShare X)
      ∗ (∃ X, ⌜after 8 t (Y 8) X⌝ ∗ owns (c.tc : Thread nD τ) ((cfg0.win 8).stage (cfg0.slots t 8)) fullShare X)
      ∗ (∃ X, ⌜after 9 t (Y 9) X⌝ ∗ owns (c.tc : Thread nD τ) ((cfg0.win 9).stage (cfg0.slots t 9)) fullShare X))
  unfold scratch
  iintro ⟨⟨⟨%st, %hI, S0, S1, S2, S3, S4, S5, S6, S7⟩, Hr⟩, Ho, H0, H1, H2, H3, H4, H5, H6, H7, H8, H9⟩
  have h2 := hstep st hI
  iapply (Cmd.sound 𝒱₀ c none Set.univ (bufsAt t) _ (mix Y st) _)
  isplitr [Hr Ho]
  · iapply (Entails.of_eq (held_eq c (bufsAt t) (mix Y st)).symm)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    iexact S7
  iintro Hh
  ihave Hh' := (Entails.of_eq (held_eq c (bufsAt t) (stepAt t Y st))) $$ [Hh]
  · iexact Hh
  icases Hh' with ⟨H0, H1, H2, H3, H4, H5, H6, H7, H8, H9, S0, S1, S2, S3, S4, S5, S6, S7⟩
  isplitl [Hr S0 S1 S2 S3 S4 S5 S6 S7]
  · isplitr [Hr]
    · iexists (stepAt t Y st); isplitr; · ipureintro; exact h2.1
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      iexact S7
    · iexact Hr
  isplitl [Ho]
  · iexact Ho
  isplitl [H0]
  · iexists _; isplitr; · ipureintro; exact h2.2 0
    iexact H0
  isplitl [H1]
  · iexists _; isplitr; · ipureintro; exact h2.2 1
    iexact H1
  isplitl [H2]
  · iexists _; isplitr; · ipureintro; exact h2.2 2
    iexact H2
  isplitl [H3]
  · iexists _; isplitr; · ipureintro; exact h2.2 3
    iexact H3
  isplitl [H4]
  · iexists _; isplitr; · ipureintro; exact h2.2 4
    iexact H4
  isplitl [H5]
  · iexists _; isplitr; · ipureintro; exact h2.2 5
    iexact H5
  isplitl [H6]
  · iexists _; isplitr; · ipureintro; exact h2.2 6
    iexact H6
  isplitl [H7]
  · iexists _; isplitr; · ipureintro; exact h2.2 7
    iexact H7
  isplitl [H8]
  · iexists _; isplitr; · ipureintro; exact h2.2 8
    iexact H8
  iexists _; isplitr; · ipureintro; exact h2.2 9
  iexact H9

/-- Every run of the program ends with the arrays as the pipeline's data say and all semaphores zero, if the body
    keeps the relations at every grid point. -/
theorem run_main (hstep : ∀ c t Y, (∀ w, (rdat I after m c).Finds w t (Y w)) → ∀ st, I t.castSucc st →
      I t.succ (stepAt t Y st) ∧ ∀ w, after w t (Y w) (blocks (stepAt t Y st) w))
    (h0 : ∀ st, I 0 st) (Q : PUnit × MemSt nD τ sig (Elt F) → Prop)
    (hQ : ∀ r, RDat.FramePost cfg0 (rdat I after m) (Gen.V m) r ∧ r.2.sem = (fun _ => 0) → Q r) :
    θ_run defs (onTc (τ := τ) (main (F := F))) ⟨m, fun _ => 0, ρ⟩ Q := by
  refine Pipeline.RDat.θ_run_frame_track cfgs 0 Gen.launch0 defs₀ 𝒱₀ (rdat I after m) m ρ main
    (fun c t Y hY => body_at I after m c t Y (hstep c t Y hY)) ?_ (fun _ _ => rfl) (Gen.V m) (Gen.hmain m 𝒱₀)
    (fun _ _ => rfl) ?_ ?_ Q hQ
  · intro c w; unfold RDat.share; split <;> rfl
  · intro c
    unfold Pipeline.ΦA
    show iprop(Pipeline.scopedRest (Ix := Unit) (Name := ℕ) (U := UR sig nD τ) (Lvl := ℕ) (Val := Elt F) spec0 c ∗ ∃ r, prngReg c r)
      ⊢ iprop((∃ st, ⌜I 0 st⌝ ∗ scratch c st) ∗ ∃ r, prngReg c r)
    rw [Gen.scopedRest0_eq]
    unfold scratch
    iintro ⟨⟨⟨%f0, S0⟩, ⟨%f1, S1⟩, ⟨%f2, S2⟩, ⟨%f3, S3⟩, ⟨%f4, S4⟩, ⟨%f5, S5⟩, ⟨%f6, S6⟩, ⟨%f7, S7⟩⟩, Hr⟩
    isplitr [Hr]
    · iexists (st8 f0 f1 f2 f3 f4 f5 f6 f7); isplitr; · ipureintro; exact h0 _
      isplitl [S0]
      · iapply (Entails.of_eq (owns_whole (c.tc : Thread nD τ) cc0_scratch0 fullShare f0).symm); iexact S0
      isplitl [S1]
      · iapply (Entails.of_eq (owns_whole (c.tc : Thread nD τ) cc0_scratch1 fullShare f1).symm); iexact S1
      isplitl [S2]
      · iapply (Entails.of_eq (owns_whole (c.tc : Thread nD τ) cc0_scratch2 fullShare f2).symm); iexact S2
      isplitl [S3]
      · iapply (Entails.of_eq (owns_whole (c.tc : Thread nD τ) cc0_scratch3 fullShare f3).symm); iexact S3
      isplitl [S4]
      · iapply (Entails.of_eq (owns_whole (c.tc : Thread nD τ) cc0_scratch4 fullShare f4).symm); iexact S4
      isplitl [S5]
      · iapply (Entails.of_eq (owns_whole (c.tc : Thread nD τ) cc0_scratch5 fullShare f5).symm); iexact S5
      isplitl [S6]
      · iapply (Entails.of_eq (owns_whole (c.tc : Thread nD τ) cc0_scratch6 fullShare f6).symm); iexact S6
      iapply (Entails.of_eq (owns_whole (c.tc : Thread nD τ) cc0_scratch7 fullShare f7).symm); iexact S7
    · iexact Hr
  · intro c
    unfold Pipeline.ΦA
    show iprop((∃ st, ⌜I _ st⌝ ∗ scratch c st) ∗ ∃ r, prngReg c r)
      ⊢ iprop(Pipeline.scopedRest (Ix := Unit) (Name := ℕ) (U := UR sig nD τ) (Lvl := ℕ) (Val := Elt F) spec0 c ∗ ∃ r, prngReg c r)
    rw [Gen.scopedRest0_eq]
    unfold scratch
    iintro ⟨⟨%st, -, S0, S1, S2, S3, S4, S5, S6, S7⟩, Hr⟩
    isplitr [Hr]
    · isplitl [S0]
      · iexists st .kc; iapply (Entails.of_eq (owns_whole (c.tc : Thread nD τ) cc0_scratch0 fullShare (st .kc))); iexact S0
      isplitl [S1]
      · iexists st .vt; iapply (Entails.of_eq (owns_whole (c.tc : Thread nD τ) cc0_scratch1 fullShare (st .vt))); iexact S1
      isplitl [S2]
      · iexists st .kt; iapply (Entails.of_eq (owns_whole (c.tc : Thread nD τ) cc0_scratch2 fullShare (st .kt))); iexact S2
      isplitl [S3]
      · iexists st .vs; iapply (Entails.of_eq (owns_whole (c.tc : Thread nD τ) cc0_scratch3 fullShare (st .vs))); iexact S3
      isplitl [S4]
      · iexists st .q; iapply (Entails.of_eq (owns_whole (c.tc : Thread nD τ) cc0_scratch4 fullShare (st .q))); iexact S4
      isplitl [S5]
      · iexists st .s; iapply (Entails.of_eq (owns_whole (c.tc : Thread nD τ) cc0_scratch5 fullShare (st .s))); iexact S5
      isplitl [S6]
      · iexists st .c; iapply (Entails.of_eq (owns_whole (c.tc : Thread nD τ) cc0_scratch6 fullShare (st .c))); iexact S6
      iexists st .m; iapply (Entails.of_eq (owns_whole (c.tc : Thread nD τ) cc0_scratch7 fullShare (st .m))); iexact S7
    · iexact Hr

end Cert.Kernel

end
-- ==== Proof.KernelIdealBody.lean ====
/- The printed kernel function of `KernelIdeal` is `Cert.Body.whole` over its argument buffers: the same operations in the
   same order, the branches decided by the grid point. -/
module

public import proofs.«01_k».proof.KernelIdeal
public import proofs.«01_k».proof.Proof.Body
public import Idealize.ShloMosaic.Lib.Pipeline.Regions

@[expose] public section

noncomputable section

namespace Cert.KernelIdeal

open Idealize.ShloMosaic Idealize.SL.Sem
open Cert.Body (prep prepK step stepM step_congr stepM_congr sumK maxV expV lp8 lpE lp8_ok lpE_ok)
open Cert.Mem (Cmd)

variable {F : FTy → Type} [FloatOps F] [Named F] [Facts]

/-- The kernel function's buffers. -/
def bufs (arg3 : Memref sig .tc .vmem S1x128x1024 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x128x1024 .bf16) (harg6 : arg6.IsWhole)
    (arg7 : Memref sig .tc .vmem S1x128x1024 .i8) (harg7 : arg7.IsWhole)
    (arg8 : Memref sig .tc .vmem S1x8x32 .f32) (harg8 : arg8.IsWhole)
    (arg9 : Memref sig .tc .vmem S1x4096x128 .i8) (harg9 : arg9.IsWhole)
    (arg10 : Memref sig .tc .vmem S1x4x64 .f32) (harg10 : arg10.IsWhole)
    (arg11 : Memref sig .tc .vmem S1x4096x128 .fp8e4m3) (harg11 : arg11.IsWhole)
    (arg12 : Memref sig .tc .vmem S1x4x128 .f32) (harg12 : arg12.IsWhole)
    (arg13 : Memref sig .tc .vmem S4096x128 .bf16) (harg13 : arg13.IsWhole)
    (arg14 : Memref sig .tc .vmem S128x4096 .fp8e4m3) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1024x128 .bf16) (harg17 : arg17.IsWhole)
    (arg18 : Memref sig .tc .vmem S4x1152x256 .f32) (harg18 : arg18.IsWhole)
    (arg19 : Memref sig .tc .vmem S4x24x256 .f32) (harg19 : arg19.IsWhole)
    (arg20 : Memref sig .tc .vmem S4x8x256 .f32) (harg20 : arg20.IsWhole) : Cmd.Bufs Cert.Body.lay sig where
  ref := fun | .x => arg3 | .k => arg4 | .v => arg5 | .out => arg6 | .qc => arg7 | .qs => arg8 | .kcode => arg9 | .ks => arg10 | .vcode => arg11 | .vsc => arg12 | .kc => arg13 | .vt => arg14 | .kt => arg15 | .vs => arg16 | .q => arg17 | .s => arg18 | .c => arg19 | .m => arg20
  whole := fun | .x => harg3 | .k => harg4 | .v => harg5 | .out => harg6 | .qc => harg7 | .qs => harg8 | .kcode => harg9 | .ks => harg10 | .vcode => harg11 | .vsc => harg12 | .kc => harg13 | .vt => harg14 | .kt => harg15 | .vs => harg16 | .q => harg17 | .s => harg18 | .c => harg19 | .m => harg20

/-- The base-two logarithm of e, as the kernel has it. -/
abbrev log2e : F .f32 := Named.named κ "log2e" 0x3FB8AA3B#32

theorem lt1 (i : grid0.Coords) : (i 1).val < 4 := (i 1).isLt
theorem lt2 (i : grid0.Coords) : (i 2).val < 32 := (i 2).isLt

/-- Where a full window starts, and its scales, as the kernel computes them. -/
def winAt (j : Nat) : Nat := (Scalar.muli (Scalar.subi (BitVec.ofNat 32 j) 8#32) 128#32).toNat

theorem cond1_iff (i : grid0.Coords) : k0_cond1 i = 1#1 ↔ (i 2).val = 0 := by
  have h : ∀ j : Fin 32, Scalar.cmpi .ne (Scalar.extui (Scalar.cmpi .eq (BitVec.ofNat 32 j.val) 0#32) : BitVec 32) 0#32 = 1#1 ↔ j.val = 0 := by decide
  exact h (i 2)

theorem cond2_iff (i : grid0.Coords) : k0_cond2 i = 1#1 ↔ (i 2).val = 0 := by
  have h : ∀ j : Fin 32, Scalar.cmpi .ne (Scalar.extui (Scalar.cmpi .eq (BitVec.ofNat 32 j.val) 0#32) : BitVec 32) 0#32 = 1#1 ↔ j.val = 0 := by decide
  exact h (i 2)

theorem cond3_iff (i : grid0.Coords) : k0_cond3 i = 1#1 ↔ (i 2).val = 1 := by
  have h : ∀ j : Fin 32, Scalar.cmpi .ne (Scalar.extui (Scalar.cmpi .eq (BitVec.ofNat 32 j.val) 1#32) : BitVec 32) 0#32 = 1#1 ↔ j.val = 1 := by decide
  exact h (i 2)

theorem cond4_iff (i : grid0.Coords) : k0_cond4 i = 1#1 ↔ (i 2).val = 2 := by
  have h : ∀ j : Fin 32, Scalar.cmpi .ne (Scalar.extui (Scalar.cmpi .eq (BitVec.ofNat 32 j.val) 2#32) : BitVec 32) 0#32 = 1#1 ↔ j.val = 2 := by decide
  exact h (i 2)

theorem cond5_iff (i : grid0.Coords) : k0_cond5 i = 1#1 ↔ (i 2).val = 3 := by
  have h : ∀ j : Fin 32, Scalar.cmpi .ne (Scalar.extui (Scalar.cmpi .eq (BitVec.ofNat 32 j.val) 3#32) : BitVec 32) 0#32 = 1#1 ↔ j.val = 3 := by decide
  exact h (i 2)

theorem cond6_iff (i : grid0.Coords) : k0_cond6 i = 1#1 ↔ (i 2).val = 4 := by
  have h : ∀ j : Fin 32, Scalar.cmpi .ne (Scalar.extui (Scalar.cmpi .eq (BitVec.ofNat 32 j.val) 4#32) : BitVec 32) 0#32 = 1#1 ↔ j.val = 4 := by decide
  exact h (i 2)

theorem cond7_iff (i : grid0.Coords) : k0_cond7 i = 1#1 ↔ (i 2).val = 5 := by
  have h : ∀ j : Fin 32, Scalar.cmpi .ne (Scalar.extui (Scalar.cmpi .eq (BitVec.ofNat 32 j.val) 5#32) : BitVec 32) 0#32 = 1#1 ↔ j.val = 5 := by decide
  exact h (i 2)

theorem cond8_iff (i : grid0.Coords) : k0_cond8 i = 1#1 ↔ (i 2).val = 6 := by
  have h : ∀ j : Fin 32, Scalar.cmpi .ne (Scalar.extui (Scalar.cmpi .eq (BitVec.ofNat 32 j.val) 6#32) : BitVec 32) 0#32 = 1#1 ↔ j.val = 6 := by decide
  exact h (i 2)

theorem cond9_iff (i : grid0.Coords) : k0_cond9 i = 1#1 ↔ (i 2).val = 7 := by
  have h : ∀ j : Fin 32, Scalar.cmpi .ne (Scalar.extui (Scalar.cmpi .eq (BitVec.ofNat 32 j.val) 7#32) : BitVec 32) 0#32 = 1#1 ↔ j.val = 7 := by decide
  exact h (i 2)

theorem cond10_iff (i : grid0.Coords) : k0_cond10 i = 1#1 ↔ 8 ≤ (i 2).val := by
  have h : ∀ j : Fin 32, Scalar.cmpi .ne (Scalar.extui (Scalar.cmpi .sge (BitVec.ofNat 32 j.val) 8#32) : BitVec 32) 0#32 = 1#1 ↔ 8 ≤ j.val := by decide
  exact h (i 2)

theorem winAt_eq (j : Fin 32) (h : 8 ≤ j.val) : winAt j.val = (j.val - 8) * 128 := by
  revert j; decide

theorem winG_eq (i : grid0.Coords) (h : 8 ≤ (i 2).val) : k0_off11 i 0 = ((i 2).val - 8) * 2 := by
  have e : ∀ j : Fin 32, 8 ≤ j.val →
      (let v32 : BitVec 32 := Scalar.muli (Scalar.subi (BitVec.ofNat 32 j.val) 8#32) 128#32
       let v406 : BitVec 32 := Scalar.subi (Scalar.extui (Scalar.cmpi .sgt v32 0#32)) (Scalar.extui (Scalar.cmpi .slt v32 0#32))
       let v411 : BitVec 32 := Scalar.subi (Scalar.extui (Scalar.cmpi .sgt 64#32 0#32)) (Scalar.extui (Scalar.cmpi .slt 64#32 0#32))
       let v415 : BitVec 1 := Scalar.andi (Scalar.cmpi .ne v406 v411) (Scalar.cmpi .ne (Scalar.remsi v32 64#32) 0#32)
       (Scalar.indexCast (Scalar.select v415 (Scalar.subi (Scalar.divsi v32 64#32) 1#32) (Scalar.divsi v32 64#32))).toNat) = (j.val - 8) * 2 := by decide
  exact e (i 2) h

theorem winK_le (i : grid0.Coords) (h : k0_cond10 i = 1#1) : winAt (i 2).val + 9 * 128 ≤ 4096 := by
  have := winAt_eq (i 2) ((cond10_iff i).1 h); have h' : (i 2).val < 32 := (i 2).isLt; omega

theorem winG_le (i : grid0.Coords) (h : k0_cond10 i = 1#1) : k0_off11 i 0 + 2 * 9 ≤ 64 := by
  have := winG_eq i ((cond10_iff i).1 h); have h' : (i 2).val < 32 := (i 2).isLt; omega

/-- A head's preparation with the machine's own loops. -/
def prepKP (A : Cmd.Bufs Cert.Body.lay sig) (kv : Nat) (hkv : kv < 4) :
    Prog (TpuEff nD τ sig (Elt F) Λ₀ .tc) (Σ' (_ : FVec F (Cert.Body.sh2 1 128) .f32) (_ : IVec (Cert.Body.sh2 1 128) 32), BitVec 32) :=
  (Scf.Loop.for lp8 lp8_ok (broadcast (Cert.Body.sh2 8 128) (Scalar.ofBits .f32 0x00000000#32)) fun k acc => (Cert.Body.sumStep k acc).prog A) >>= fun acc =>
  (Scf.Loop.for lp8 lp8_ok ⟨⟩ fun k _ => (Cert.Body.chunkK (Cert.Body.meanOf acc) k).prog A) >>= fun _ =>
  (Cert.Body.putKs kv hkv).prog A >>= fun _ =>
  (Scf.Loop.for lp8 lp8_ok (broadcast (Cert.Body.sh2 16 128) (Scalar.ofBits .bf16 0x0000#16)) fun k acc => (Cert.Body.maxStep k acc).prog A) >>= fun a =>
  .ret ⟨Cert.Body.yOf a, broadcast (Cert.Body.sh2 1 128) 0#32, 1#32⟩

def expVP (y : Σ' (_ : FVec F (Cert.Body.sh2 1 128) .f32) (_ : IVec (Cert.Body.sh2 1 128) 32), BitVec 32) :
    Prog (TpuEff nD τ sig (Elt F) Λ₀ .tc) (IVec (Cert.Body.sh2 1 128) 32) :=
  Scf.Loop.for lpE lpE_ok y.2.1 fun k acc => .ret (addi acc (Cert.Body.reaches y.1 (Scf.iv y.2.2 1#32 k)))

def chunksVP (A : Cmd.Bufs Cert.Body.lay sig) (n : IVec (Cert.Body.sh2 1 128) 32) : Prog (TpuEff nD τ sig (Elt F) Λ₀ .tc) PUnit :=
  Scf.Loop.for lp8 lp8_ok ⟨⟩ fun k _ => (Cert.Body.chunkV (F := F) (Cert.Body.vInv n) k).prog A

theorem prep_prog (A : Cmd.Bufs Cert.Body.lay sig) (kv : Nat) (hkv : kv < 4) :
    (prep (F := F) kv hkv).prog A = prepKP A kv hkv >>= fun y => expVP y >>= fun n =>
      (Cert.Body.putVs kv hkv n).prog A >>= fun _ => chunksVP A n >>= fun _ => (Cert.Body.zeroQs).prog A := by
  simp only [prep, prepK, Cmd.prog_bind, sumK, maxV, expV, Cmd.prog_forL _ _ lp8_ok, Cmd.prog_forL _ _ lpE_ok]
  rfl

/-- The printed function as its ten branches. -/
def branches (i : grid0.Coords) (A : Cmd.Bufs Cert.Body.lay sig) : Prog (TpuEff nD τ sig (Elt F) Λ₀ .tc) PUnit := do
  let x : Σ' (_ : BitVec 32), BitVec 32 ← (do
    if k0_h1 : k0_cond1 i = 1#1 then do
      let y ← prepKP A (i 1).val (lt1 i)
      let n ← expVP y
      (Cert.Body.putVs (i 1).val (lt1 i) n).prog A
      chunksVP A n
      (Cert.Body.zeroQs).prog A
    else pure ⟨⟩
    if k0_h2 : k0_cond2 i = 1#1 then (step log2e (BitVec.ofNat 32 (i 2).val) 1 (by omega) (by omega)).prog A else pure ⟨⟩
    if k0_h3 : k0_cond3 i = 1#1 then (step log2e (BitVec.ofNat 32 (i 2).val) 2 (by omega) (by omega)).prog A else pure ⟨⟩
    if k0_h4 : k0_cond4 i = 1#1 then (step log2e (BitVec.ofNat 32 (i 2).val) 3 (by omega) (by omega)).prog A else pure ⟨⟩
    if k0_h5 : k0_cond5 i = 1#1 then (step log2e (BitVec.ofNat 32 (i 2).val) 4 (by omega) (by omega)).prog A else pure ⟨⟩
    if k0_h6 : k0_cond6 i = 1#1 then (step log2e (BitVec.ofNat 32 (i 2).val) 5 (by omega) (by omega)).prog A else pure ⟨⟩
    if k0_h7 : k0_cond7 i = 1#1 then (step log2e (BitVec.ofNat 32 (i 2).val) 6 (by omega) (by omega)).prog A else pure ⟨⟩
    if k0_h8 : k0_cond8 i = 1#1 then (step log2e (BitVec.ofNat 32 (i 2).val) 7 (by omega) (by omega)).prog A else pure ⟨⟩
    if k0_h9 : k0_cond9 i = 1#1 then (step log2e (BitVec.ofNat 32 (i 2).val) 8 (by omega) (by omega)).prog A else pure ⟨⟩
    pure ⟨BitVec.ofNat 32 (i 2).val, Scalar.extui (Scalar.cmpi .sge (BitVec.ofNat 32 (i 2).val) 8#32)⟩)
  if k0_h10 : k0_cond10 i = 1#1 then
    (stepM log2e x.1 (winAt (i 2).val) (k0_off11 i 0) (winK_le i k0_h10) (winG_le i k0_h10)).prog A
  else pure ⟨⟩
  pure ⟨⟩

set_option maxRecDepth 100000 in
theorem body_branches (i : grid0.Coords) (arg3 : Memref sig .tc .vmem S1x128x1024 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x128x1024 .bf16) (harg6 : arg6.IsWhole)
    (arg7 : Memref sig .tc .vmem S1x128x1024 .i8) (harg7 : arg7.IsWhole)
    (arg8 : Memref sig .tc .vmem S1x8x32 .f32) (harg8 : arg8.IsWhole)
    (arg9 : Memref sig .tc .vmem S1x4096x128 .i8) (harg9 : arg9.IsWhole)
    (arg10 : Memref sig .tc .vmem S1x4x64 .f32) (harg10 : arg10.IsWhole)
    (arg11 : Memref sig .tc .vmem S1x4096x128 .fp8e4m3) (harg11 : arg11.IsWhole)
    (arg12 : Memref sig .tc .vmem S1x4x128 .f32) (harg12 : arg12.IsWhole)
    (arg13 : Memref sig .tc .vmem S4096x128 .bf16) (harg13 : arg13.IsWhole)
    (arg14 : Memref sig .tc .vmem S128x4096 .fp8e4m3) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1024x128 .bf16) (harg17 : arg17.IsWhole)
    (arg18 : Memref sig .tc .vmem S4x1152x256 .f32) (harg18 : arg18.IsWhole)
    (arg19 : Memref sig .tc .vmem S4x24x256 .f32) (harg19 : arg19.IsWhole)
    (arg20 : Memref sig .tc .vmem S4x8x256 .f32) (harg20 : arg20.IsWhole) :
    cc0_sage_swa_prefill (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = branches i (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  chain_rfl

theorem ret_bind {E : Type → Type _} {α β : Type} (a : α) (f : α → Prog E β) : (Prog.ret a >>= f) = f a := rfl

theorem prog_ret {α : Type} (A : Cmd.Bufs Cert.Body.lay sig) (a : α) :
    ((Cmd.ret a : Cert.Body.B (F := F) α).prog A : Prog (TpuEff nD τ sig (Elt F) Λ₀ .tc) α) = .ret a := rfl

theorem bind_ret_unit {E : Type → Type _} (p : Prog E PUnit) : (p >>= fun _ => Prog.ret PUnit.unit) = p := bind_pure p

theorem branches_whole (i : grid0.Coords) (A : Cmd.Bufs Cert.Body.lay sig) :
    branches (F := F) i A = (Cert.Body.whole log2e (i 1).val (i 2).val (lt1 i) (lt2 i)).prog A := by
  unfold branches Cert.Body.whole
  have hj : (i 2).val < 32 := (i 2).isLt
  have e : (i 2).val = 0 ∨ (i 2).val = 1 ∨ (i 2).val = 2 ∨ (i 2).val = 3 ∨ (i 2).val = 4 ∨ (i 2).val = 5 ∨ (i 2).val = 6 ∨ (i 2).val = 7 ∨ 8 ≤ (i 2).val := by omega
  rcases e with e | e | e | e | e | e | e | e | e
  · have c1 : k0_cond1 i = 1#1 := by rw [cond1_iff]; omega
    have c2 : k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 1) (by omega) _ _ (by decide) (by decide)]
    rw [if_pos e, prep_prog]
    simp only [bind_assoc]
  · have c1 : ¬ k0_cond1 i = 1#1 := by rw [cond1_iff]; omega
    have c2 : ¬ k0_cond2 i = 1#1 := by rw [cond2_iff]; omega
    have c3 : k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 2) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 3) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 4) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 5) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : k0_cond7 i = 1#1 := by rw [cond7_iff]; omega
    have c8 : ¬ k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 6) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : k0_cond8 i = 1#1 := by rw [cond8_iff]; omega
    have c9 : ¬ k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 7) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : k0_cond9 i = 1#1 := by rw [cond9_iff]; omega
    have c10 : ¬ k0_cond10 i = 1#1 := by rw [cond10_iff]; omega
    simp only [↓reduceDIte, c1, c2, c3, c4, c5, c6, c7, c8, c9, c10, Prog.pure_eq_ret, bind_assoc, ret_bind, bind_ret_unit]
    have h8 : (i 2).val < 8 := by omega
    rw [Cmd.prog_bind, dif_pos h8, step_congr (n := (i 2).val + 1) (n' := 8) (by omega) _ _ (by decide) (by decide)]
    rw [if_neg (by omega), prog_ret, ret_bind]
  · have c1 : ¬ k0_cond1 i = 1#1 := by rw [cond1_iff]; omega
    have c2 : ¬ k0_cond2 i = 1#1 := by rw [cond2_iff]; omega
    have c3 : ¬ k0_cond3 i = 1#1 := by rw [cond3_iff]; omega
    have c4 : ¬ k0_cond4 i = 1#1 := by rw [cond4_iff]; omega
    have c5 : ¬ k0_cond5 i = 1#1 := by rw [cond5_iff]; omega
    have c6 : ¬ k0_cond6 i = 1#1 := by rw [cond6_iff]; omega
    have c7 : ¬ k0_cond7 i = 1#1 := by rw [cond7_iff]; omega
    have c8 : ¬ k0_cond8 i = 1#1 := by rw [cond8_iff]; omega
    have c9 : ¬ k0_cond9 i = 1#1 := by rw [cond9_iff]; omega
    have c10 : k0_cond10 i = 1#1 := by rw [cond10_iff]; omega
    simp only [↓reduceDIte, c1, c2, c3, c4, c5, c6, c7, c8, c9, c10, Prog.pure_eq_ret, bind_assoc, ret_bind, bind_ret_unit]
    rw [Cmd.prog_bind, dif_neg (by omega), if_neg (by omega), prog_ret, ret_bind]
    exact congrArg _ (stepM_congr (winAt_eq (i 2) e) (winG_eq i e) _ _ _ _)

theorem body_eq (i : grid0.Coords) (arg3 : Memref sig .tc .vmem S1x128x1024 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x128x1024 .bf16) (harg6 : arg6.IsWhole)
    (arg7 : Memref sig .tc .vmem S1x128x1024 .i8) (harg7 : arg7.IsWhole)
    (arg8 : Memref sig .tc .vmem S1x8x32 .f32) (harg8 : arg8.IsWhole)
    (arg9 : Memref sig .tc .vmem S1x4096x128 .i8) (harg9 : arg9.IsWhole)
    (arg10 : Memref sig .tc .vmem S1x4x64 .f32) (harg10 : arg10.IsWhole)
    (arg11 : Memref sig .tc .vmem S1x4096x128 .fp8e4m3) (harg11 : arg11.IsWhole)
    (arg12 : Memref sig .tc .vmem S1x4x128 .f32) (harg12 : arg12.IsWhole)
    (arg13 : Memref sig .tc .vmem S4096x128 .bf16) (harg13 : arg13.IsWhole)
    (arg14 : Memref sig .tc .vmem S128x4096 .fp8e4m3) (harg14 : arg14.IsWhole)
    (arg15 : Memref sig .tc .vmem S64x128 .f32) (harg15 : arg15.IsWhole)
    (arg16 : Memref sig .tc .vmem S1x128 .f32) (harg16 : arg16.IsWhole)
    (arg17 : Memref sig .tc .vmem S1024x128 .bf16) (harg17 : arg17.IsWhole)
    (arg18 : Memref sig .tc .vmem S4x1152x256 .f32) (harg18 : arg18.IsWhole)
    (arg19 : Memref sig .tc .vmem S4x24x256 .f32) (harg19 : arg19.IsWhole)
    (arg20 : Memref sig .tc .vmem S4x8x256 .f32) (harg20 : arg20.IsWhole) :
    cc0_sage_swa_prefill (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      (Cert.Body.whole log2e (i 1).val (i 2).val (lt1 i) (lt2 i)).prog (bufs arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) :=
  (body_branches i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20).trans (branches_whole i _)

end Cert.KernelIdeal
-- ==== Proof.KernelIdealRun.lean ====
/- Running `KernelIdeal`: what its body does to the buffers at each grid point carried through the pipeline, for any relation
   that the values before and after a grid point keep. -/
module

public import proofs.«01_k».proof.Proof.KernelIdealBody
public import proofs.«01_k».proof.Proof.Gen.KernelIdeal.Frame
public import proofs.«01_k».proof.Proof.Gen.KernelIdeal
public import Idealize.ShloMosaic.Lib.Pipeline.ArrRel

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Body (Buf lay whole)
open Cert.Mem (Cmd St)

variable {F : FTy → Type} [FloatOps F] [Named F]

local notation "𝕄" => MT nD τ sig Unit (Elt F) ℕ (UR sig nD τ) ℕ

abbrev 𝒱₀ : Variants := Variants.none

/-- The contents of the ten window blocks. -/
abbrev Blocks (F : FTy → Type) := (w : Fin cfg0.W) → (cfg0.win w).block.Idx → Elt F (cfg0.win w).elt

/-- The body's buffers at grid point `t`. -/
def bufsAt (t : Fin cfg0.N) : Cmd.Bufs lay sig :=
  bufs ((cfg0.win 0).stage (cfg0.slots t 0)) (Gen.hstage0_0 ((cfg0.slots t 0).cast Gen.nbuf0_0)) ((cfg0.win 1).stage (cfg0.slots t 1)) (Gen.hstage0_1 ((cfg0.slots t 1).cast Gen.nbuf0_1)) ((cfg0.win 2).stage (cfg0.slots t 2)) (Gen.hstage0_2 ((cfg0.slots t 2).cast Gen.nbuf0_2)) ((cfg0.win 3).stage (cfg0.slots t 3)) (Gen.hstage0_3 ((cfg0.slots t 3).cast Gen.nbuf0_3)) ((cfg0.win 4).stage (cfg0.slots t 4)) (Gen.hstage0_4 ((cfg0.slots t 4).cast Gen.nbuf0_4)) ((cfg0.win 5).stage (cfg0.slots t 5)) (Gen.hstage0_5 ((cfg0.slots t 5).cast Gen.nbuf0_5)) ((cfg0.win 6).stage (cfg0.slots t 6)) (Gen.hstage0_6 ((cfg0.slots t 6).cast Gen.nbuf0_6)) ((cfg0.win 7).stage (cfg0.slots t 7)) (Gen.hstage0_7 ((cfg0.slots t 7).cast Gen.nbuf0_7)) ((cfg0.win 8).stage (cfg0.slots t 8)) (Gen.hstage0_8 ((cfg0.slots t 8).cast Gen.nbuf0_8)) ((cfg0.win 9).stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

/-- The contents of all buffers: the window blocks hold `Y`, the scratch buffers what `st` says. -/
def mix (Y : Blocks F) (st : St lay (Elt F)) : St lay (Elt F)
  | .x => Y 0
  | .k => Y 1
  | .v => Y 2
  | .out => Y 3
  | .qc => Y 4
  | .qs => Y 5
  | .kcode => Y 6
  | .ks => Y 7
  | .vcode => Y 8
  | .vsc => Y 9
  | .kc => st .kc
  | .vt => st .vt
  | .kt => st .kt
  | .vs => st .vs
  | .q => st .q
  | .s => st .s
  | .c => st .c
  | .m => st .m

/-- The window blocks' contents in `st`. -/
def blocks (st : St lay (Elt F)) : Blocks F := fun w => match w with
  | 0 => st .x
  | 1 => st .k
  | 2 => st .v
  | 3 => st .out
  | 4 => st .qc
  | 5 => st .qs
  | 6 => st .kcode
  | 7 => st .ks
  | 8 => st .vcode
  | 9 => st .vsc

/-- The buffers after the body has run at grid point `t`. -/
def stepAt (t : Fin cfg0.N) (Y : Blocks F) (st : St lay (Elt F)) : St lay (Elt F) :=
  (Cmd.run (whole log2e ((cfg0.grid.coords t) 1).val ((cfg0.grid.coords t) 2).val (lt1 (cfg0.grid.coords t)) (lt2 (cfg0.grid.coords t))) (mix Y st)).2

/-- The scratch buffers hold what `st` says. -/
def scratch (c : Dev nD) (st : St lay (Elt F)) : sProp 𝕄 :=
  iprop(owns (c.tc : Thread nD τ) (Memref.whole cc0_scratch0) fullShare (st .kc)
    ∗ owns (c.tc : Thread nD τ) (Memref.whole cc0_scratch1) fullShare (st .vt)
    ∗ owns (c.tc : Thread nD τ) (Memref.whole cc0_scratch2) fullShare (st .kt)
    ∗ owns (c.tc : Thread nD τ) (Memref.whole cc0_scratch3) fullShare (st .vs)
    ∗ owns (c.tc : Thread nD τ) (Memref.whole cc0_scratch4) fullShare (st .q)
    ∗ owns (c.tc : Thread nD τ) (Memref.whole cc0_scratch5) fullShare (st .s)
    ∗ owns (c.tc : Thread nD τ) (Memref.whole cc0_scratch6) fullShare (st .c)
    ∗ owns (c.tc : Thread nD τ) (Memref.whole cc0_scratch7) fullShare (st .m))

/-- Scratch contents given one by one (the window blocks anything). -/
def st8 (f0 : (lay.shp .kc).Idx → Elt F (lay.elt .kc)) (f1 : (lay.shp .vt).Idx → Elt F (lay.elt .vt)) (f2 : (lay.shp .kt).Idx → Elt F (lay.elt .kt)) (f3 : (lay.shp .vs).Idx → Elt F (lay.elt .vs)) (f4 : (lay.shp .q).Idx → Elt F (lay.elt .q)) (f5 : (lay.shp .s).Idx → Elt F (lay.elt .s)) (f6 : (lay.shp .c).Idx → Elt F (lay.elt .c)) (f7 : (lay.shp .m).Idx → Elt F (lay.elt .m)) : St lay (Elt F)
  | .kc => f0
  | .vt => f1
  | .kt => f2
  | .vs => f3
  | .q => f4
  | .s => f5
  | .c => f6
  | .m => f7
  | .x => fun _ => (Scalar.ofBits .bf16 0 : F .bf16) | .k => fun _ => (Scalar.ofBits .bf16 0 : F .bf16) | .v => fun _ => (Scalar.ofBits .bf16 0 : F .bf16) | .out => fun _ => (Scalar.ofBits .bf16 0 : F .bf16)
  | .qc => fun _ => (0#8 : BitVec 8) | .qs => fun _ => (Scalar.ofBits .f32 0 : F .f32) | .kcode => fun _ => (0#8 : BitVec 8) | .ks => fun _ => (Scalar.ofBits .f32 0 : F .f32)
  | .vcode => fun _ => (Scalar.ofBits .fp8e4m3 0 : F .fp8e4m3) | .vsc => fun _ => (Scalar.ofBits .f32 0 : F .f32)

variable (I : Fin (cfg0.N + 1) → St lay (Elt F) → Prop)
  (after : (w : Fin cfg0.W) → Fin cfg0.N → (Y X : (cfg0.win w).block.Idx → Elt F (cfg0.win w).elt) → Prop)
  (m : (ℓ : Loc nD τ sig) → Idealize.ShloMosaic.Buf (Elt F) ℓ) (ρ : Dev nD → PrngReg)

/-- The pipeline's data: scratch related by `I`, window blocks by `after`. -/
def rdat (c : Dev nD) : RDat τ (Elt F) Unit ℕ (UR sig nD τ) ℕ cfg0 c where
  A w := Gen.V m c (Pipeline.arrRef spec0 w)
  after := after
  Φ t := iprop((∃ st, ⌜I t st⌝ ∗ scratch c st) ∗ ∃ r, prngReg c r)
  q _ := fullShare
  owed _ := 0

theorem held_eq (c : Dev nD) (A : Cmd.Bufs lay sig) (st : St lay (Elt F)) :
    (Cmd.held c A st : sProp 𝕄) = iprop(owns (c.tc : Thread nD τ) (A.ref .x) fullShare (st .x)
      ∗ owns (c.tc : Thread nD τ) (A.ref .k) fullShare (st .k)
      ∗ owns (c.tc : Thread nD τ) (A.ref .v) fullShare (st .v)
      ∗ owns (c.tc : Thread nD τ) (A.ref .out) fullShare (st .out)
      ∗ owns (c.tc : Thread nD τ) (A.ref .qc) fullShare (st .qc)
      ∗ owns (c.tc : Thread nD τ) (A.ref .qs) fullShare (st .qs)
      ∗ owns (c.tc : Thread nD τ) (A.ref .kcode) fullShare (st .kcode)
      ∗ owns (c.tc : Thread nD τ) (A.ref .ks) fullShare (st .ks)
      ∗ owns (c.tc : Thread nD τ) (A.ref .vcode) fullShare (st .vcode)
      ∗ owns (c.tc : Thread nD τ) (A.ref .vsc) fullShare (st .vsc)
      ∗ owns (c.tc : Thread nD τ) (A.ref .kc) fullShare (st .kc)
      ∗ owns (c.tc : Thread nD τ) (A.ref .vt) fullShare (st .vt)
      ∗ owns (c.tc : Thread nD τ) (A.ref .kt) fullShare (st .kt)
      ∗ owns (c.tc : Thread nD τ) (A.ref .vs) fullShare (st .vs)
      ∗ owns (c.tc : Thread nD τ) (A.ref .q) fullShare (st .q)
      ∗ owns (c.tc : Thread nD τ) (A.ref .s) fullShare (st .s)
      ∗ owns (c.tc : Thread nD τ) (A.ref .c) fullShare (st .c)
      ∗ owns (c.tc : Thread nD τ) (A.ref .m) fullShare (st .m)) :=
  bigSep_univ_eq_bigSepL [Buf.x, Buf.k, Buf.v, Buf.out, Buf.qc, Buf.qs, Buf.kcode, Buf.ks, Buf.vcode, Buf.vsc, Buf.kc, Buf.vt, Buf.kt, Buf.vs, Buf.q, Buf.s, Buf.c, Buf.m] (by decide) (by decide) _

/-- The body at one grid point. -/
theorem body_at (c : Dev nD) (t : Fin cfg0.N) (Y : Blocks F)
    (hstep : ∀ st, I t.castSucc st → I t.succ (stepAt t Y st) ∧ ∀ w, after w t (Y w) (blocks (stepAt t Y st) w)) :
    iprop((rdat I after m c).Φ t.castSucc ∗ (rdat I after m c).owesAt () t.castSucc
        ∗ bigSep Finset.univ fun w => owns (c.tc : Thread nD τ) ((cfg0.win w).stage (cfg0.slots t w)) fullShare (Y w))
      ⊢ wp frame (wpE (defs₀ (F := F)) 𝒱₀ c none) Set.univ (defs₀ (F := F) .tc cfg0.body (cfg0.bodyArgs t (cfg0.slots t))) fun _ =>
          iprop((rdat I after m c).Φ t.succ ∗ (rdat I after m c).owesAt () t.succ
            ∗ bigSep Finset.univ fun w => iprop(∃ X, ⌜(rdat I after m c).after w t (Y w) X⌝ ∗ owns (c.tc : Thread nD τ) ((cfg0.win w).stage (cfg0.slots t w)) fullShare X)) := by
  have hbody : (defs₀ (F := F) .tc cfg0.body (cfg0.bodyArgs t (cfg0.slots t)))
      = (whole log2e ((cfg0.grid.coords t) 1).val ((cfg0.grid.coords t) 2).val (lt1 (cfg0.grid.coords t)) (lt2 (cfg0.grid.coords t))).prog (bufsAt t) :=
    body_eq (cfg0.grid.coords t) ((cfg0.win 0).stage (cfg0.slots t 0)) (Gen.hstage0_0 ((cfg0.slots t 0).cast Gen.nbuf0_0)) ((cfg0.win 1).stage (cfg0.slots t 1)) (Gen.hstage0_1 ((cfg0.slots t 1).cast Gen.nbuf0_1)) ((cfg0.win 2).stage (cfg0.slots t 2)) (Gen.hstage0_2 ((cfg0.slots t 2).cast Gen.nbuf0_2)) ((cfg0.win 3).stage (cfg0.slots t 3)) (Gen.hstage0_3 ((cfg0.slots t 3).cast Gen.nbuf0_3)) ((cfg0.win 4).stage (cfg0.slots t 4)) (Gen.hstage0_4 ((cfg0.slots t 4).cast Gen.nbuf0_4)) ((cfg0.win 5).stage (cfg0.slots t 5)) (Gen.hstage0_5 ((cfg0.slots t 5).cast Gen.nbuf0_5)) ((cfg0.win 6).stage (cfg0.slots t 6)) (Gen.hstage0_6 ((cfg0.slots t 6).cast Gen.nbuf0_6)) ((cfg0.win 7).stage (cfg0.slots t 7)) (Gen.hstage0_7 ((cfg0.slots t 7).cast Gen.nbuf0_7)) ((cfg0.win 8).stage (cfg0.slots t 8)) (Gen.hstage0_8 ((cfg0.slots t 8).cast Gen.nbuf0_8)) ((cfg0.win 9).stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
  rw [hbody, Gen.bigSep_W0, Gen.bigSep_W0, show (rdat I after m c).owesAt () t.succ = (rdat I after m c).owesAt () t.castSucc from rfl]
  show iprop(((∃ st, ⌜I t.castSucc st⌝ ∗ scratch c st) ∗ ∃ r, prngReg c r) ∗ (rdat I after m c).owesAt () t.castSucc
      ∗ owns (c.tc : Thread nD τ) ((cfg0.win 0).stage (cfg0.slots t 0)) fullShare (Y 0)
      ∗ owns (c.tc : Thread nD τ) ((cfg0.win 1).stage (cfg0.slots t 1)) fullShare (Y 1)
      ∗ owns (c.tc : Thread nD τ) ((cfg0.win 2).stage (cfg0.slots t 2)) fullShare (Y 2)
      ∗ owns (c.tc : Thread nD τ) ((cfg0.win 3).stage (cfg0.slots t 3)) fullShare (Y 3)
      ∗ owns (c.tc : Thread nD τ) ((cfg0.win 4).stage (cfg0.slots t 4)) fullShare (Y 4)
      ∗ owns (c.tc : Thread nD τ) ((cfg0.win 5).stage (cfg0.slots t 5)) fullShare (Y 5)
      ∗ owns (c.tc : Thread nD τ) ((cfg0.win 6).stage (cfg0.slots t 6)) fullShare (Y 6)
      ∗ owns (c.tc : Thread nD τ) ((cfg0.win 7).stage (cfg0.slots t 7)) fullShare (Y 7)
      ∗ owns (c.tc : Thread nD τ) ((cfg0.win 8).stage (cfg0.slots t 8)) fullShare (Y 8)
      ∗ owns (c.tc : Thread nD τ) ((cfg0.win 9).stage (cfg0.slots t 9)) fullShare (Y 9)) ⊢ wp frame (wpE (defs₀ (F := F)) 𝒱₀ (c.tc : Thread nD τ) none) Set.univ _ fun _ => iprop(((∃ st, ⌜I t.succ st⌝ ∗ scratch c st) ∗ ∃ r, prngReg c r) ∗ (rdat I after m c).owesAt () t.castSucc
      ∗ (∃ X, ⌜after 0 t (Y 0) X⌝ ∗ owns (c.tc : Thread nD τ) ((cfg0.win 0).stage (cfg0.slots t 0)) fullShare X)
      ∗ (∃ X, ⌜after 1 t (Y 1) X⌝ ∗ owns (c.tc : Thread nD τ) ((cfg0.win 1).stage (cfg0.slots t 1)) fullShare X)
      ∗ (∃ X, ⌜after 2 t (Y 2) X⌝ ∗ owns (c.tc : Thread nD τ) ((cfg0.win 2).stage (cfg0.slots t 2)) fullShare X)
      ∗ (∃ X, ⌜after 3 t (Y 3) X⌝ ∗ owns (c.tc : Thread nD τ) ((cfg0.win 3).stage (cfg0.slots t 3)) fullShare X)
      ∗ (∃ X, ⌜after 4 t (Y 4) X⌝ ∗ owns (c.tc : Thread nD τ) ((cfg0.win 4).stage (cfg0.slots t 4)) fullShare X)
      ∗ (∃ X, ⌜after 5 t (Y 5) X⌝ ∗ owns (c.tc : Thread nD τ) ((cfg0.win 5).stage (cfg0.slots t 5)) fullShare X)
      ∗ (∃ X, ⌜after 6 t (Y 6) X⌝ ∗ owns (c.tc : Thread nD τ) ((cfg0.win 6).stage (cfg0.slots t 6)) fullShare X)
      ∗ (∃ X, ⌜after 7 t (Y 7) X⌝ ∗ owns (c.tc : Thread nD τ) ((cfg0.win 7).stage (cfg0.slots t 7)) fullShare X)
      ∗ (∃ X, ⌜after 8 t (Y 8) X⌝ ∗ owns (c.tc : Thread nD τ) ((cfg0.win 8).stage (cfg0.slots t 8)) fullShare X)
      ∗ (∃ X, ⌜after 9 t (Y 9) X⌝ ∗ owns (c.tc : Thread nD τ) ((cfg0.win 9).stage (cfg0.slots t 9)) fullShare X))
  unfold scratch
  iintro ⟨⟨⟨%st, %hI, S0, S1, S2, S3, S4, S5, S6, S7⟩, Hr⟩, Ho, H0, H1, H2, H3, H4, H5, H6, H7, H8, H9⟩
  have h2 := hstep st hI
  iapply (Cmd.sound 𝒱₀ c none Set.univ (bufsAt t) _ (mix Y st) _)
  isplitr [Hr Ho]
  · iapply (Entails.of_eq (held_eq c (bufsAt t) (mix Y st)).symm)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    iexact S7
  iintro Hh
  ihave Hh' := (Entails.of_eq (held_eq c (bufsAt t) (stepAt t Y st))) $$ [Hh]
  · iexact Hh
  icases Hh' with ⟨H0, H1, H2, H3, H4, H5, H6, H7, H8, H9, S0, S1, S2, S3, S4, S5, S6, S7⟩
  isplitl [Hr S0 S1 S2 S3 S4 S5 S6 S7]
  · isplitr [Hr]
    · iexists (stepAt t Y st); isplitr; · ipureintro; exact h2.1
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      iexact S7
    · iexact Hr
  isplitl [Ho]
  · iexact Ho
  isplitl [H0]
  · iexists _; isplitr; · ipureintro; exact h2.2 0
    iexact H0
  isplitl [H1]
  · iexists _; isplitr; · ipureintro; exact h2.2 1
    iexact H1
  isplitl [H2]
  · iexists _; isplitr; · ipureintro; exact h2.2 2
    iexact H2
  isplitl [H3]
  · iexists _; isplitr; · ipureintro; exact h2.2 3
    iexact H3
  isplitl [H4]
  · iexists _; isplitr; · ipureintro; exact h2.2 4
    iexact H4
  isplitl [H5]
  · iexists _; isplitr; · ipureintro; exact h2.2 5
    iexact H5
  isplitl [H6]
  · iexists _; isplitr; · ipureintro; exact h2.2 6
    iexact H6
  isplitl [H7]
  · iexists _; isplitr; · ipureintro; exact h2.2 7
    iexact H7
  isplitl [H8]
  · iexists _; isplitr; · ipureintro; exact h2.2 8
    iexact H8
  iexists _; isplitr; · ipureintro; exact h2.2 9
  iexact H9

/-- Every run of the program ends with the arrays as the pipeline's data say and all semaphores zero, if the body
    keeps the relations at every grid point. -/
theorem run_main (hstep : ∀ c t Y, (∀ w, (rdat I after m c).Finds w t (Y w)) → ∀ st, I t.castSucc st →
      I t.succ (stepAt t Y st) ∧ ∀ w, after w t (Y w) (blocks (stepAt t Y st) w))
    (h0 : ∀ st, I 0 st) (Q : PUnit × MemSt nD τ sig (Elt F) → Prop)
    (hQ : ∀ r, RDat.FramePost cfg0 (rdat I after m) (Gen.V m) r ∧ r.2.sem = (fun _ => 0) → Q r) :
    θ_run defs (onTc (τ := τ) (main (F := F))) ⟨m, fun _ => 0, ρ⟩ Q := by
  refine Pipeline.RDat.θ_run_frame_track cfgs 0 Gen.launch0 defs₀ 𝒱₀ (rdat I after m) m ρ main
    (fun c t Y hY => body_at I after m c t Y (hstep c t Y hY)) ?_ (fun _ _ => rfl) (Gen.V m) (Gen.hmain m 𝒱₀)
    (fun _ _ => rfl) ?_ ?_ Q hQ
  · intro c w; unfold RDat.share; split <;> rfl
  · intro c
    unfold Pipeline.ΦA
    show iprop(Pipeline.scopedRest (Ix := Unit) (Name := ℕ) (U := UR sig nD τ) (Lvl := ℕ) (Val := Elt F) spec0 c ∗ ∃ r, prngReg c r)
      ⊢ iprop((∃ st, ⌜I 0 st⌝ ∗ scratch c st) ∗ ∃ r, prngReg c r)
    rw [Gen.scopedRest0_eq]
    unfold scratch
    iintro ⟨⟨⟨%f0, S0⟩, ⟨%f1, S1⟩, ⟨%f2, S2⟩, ⟨%f3, S3⟩, ⟨%f4, S4⟩, ⟨%f5, S5⟩, ⟨%f6, S6⟩, ⟨%f7, S7⟩⟩, Hr⟩
    isplitr [Hr]
    · iexists (st8 f0 f1 f2 f3 f4 f5 f6 f7); isplitr; · ipureintro; exact h0 _
      isplitl [S0]
      · iapply (Entails.of_eq (owns_whole (c.tc : Thread nD τ) cc0_scratch0 fullShare f0).symm); iexact S0
      isplitl [S1]
      · iapply (Entails.of_eq (owns_whole (c.tc : Thread nD τ) cc0_scratch1 fullShare f1).symm); iexact S1
      isplitl [S2]
      · iapply (Entails.of_eq (owns_whole (c.tc : Thread nD τ) cc0_scratch2 fullShare f2).symm); iexact S2
      isplitl [S3]
      · iapply (Entails.of_eq (owns_whole (c.tc : Thread nD τ) cc0_scratch3 fullShare f3).symm); iexact S3
      isplitl [S4]
      · iapply (Entails.of_eq (owns_whole (c.tc : Thread nD τ) cc0_scratch4 fullShare f4).symm); iexact S4
      isplitl [S5]
      · iapply (Entails.of_eq (owns_whole (c.tc : Thread nD τ) cc0_scratch5 fullShare f5).symm); iexact S5
      isplitl [S6]
      · iapply (Entails.of_eq (owns_whole (c.tc : Thread nD τ) cc0_scratch6 fullShare f6).symm); iexact S6
      iapply (Entails.of_eq (owns_whole (c.tc : Thread nD τ) cc0_scratch7 fullShare f7).symm); iexact S7
    · iexact Hr
  · intro c
    unfold Pipeline.ΦA
    show iprop((∃ st, ⌜I _ st⌝ ∗ scratch c st) ∗ ∃ r, prngReg c r)
      ⊢ iprop(Pipeline.scopedRest (Ix := Unit) (Name := ℕ) (U := UR sig nD τ) (Lvl := ℕ) (Val := Elt F) spec0 c ∗ ∃ r, prngReg c r)
    rw [Gen.scopedRest0_eq]
    unfold scratch
    iintro ⟨⟨%st, -, S0, S1, S2, S3, S4, S5, S6, S7⟩, Hr⟩
    isplitr [Hr]
    · isplitl [S0]
      · iexists st .kc; iapply (Entails.of_eq (owns_whole (c.tc : Thread nD τ) cc0_scratch0 fullShare (st .kc))); iexact S0
      isplitl [S1]
      · iexists st .vt; iapply (Entails.of_eq (owns_whole (c.tc : Thread nD τ) cc0_scratch1 fullShare (st .vt))); iexact S1
      isplitl [S2]
      · iexists st .kt; iapply (Entails.of_eq (owns_whole (c.tc : Thread nD τ) cc0_scratch2 fullShare (st .kt))); iexact S2
      isplitl [S3]
      · iexists st .vs; iapply (Entails.of_eq (owns_whole (c.tc : Thread nD τ) cc0_scratch3 fullShare (st .vs))); iexact S3
      isplitl [S4]
      · iexists st .q; iapply (Entails.of_eq (owns_whole (c.tc : Thread nD τ) cc0_scratch4 fullShare (st .q))); iexact S4
      isplitl [S5]
      · iexists st .s; iapply (Entails.of_eq (owns_whole (c.tc : Thread nD τ) cc0_scratch5 fullShare (st .s))); iexact S5
      isplitl [S6]
      · iexists st .c; iapply (Entails.of_eq (owns_whole (c.tc : Thread nD τ) cc0_scratch6 fullShare (st .c))); iexact S6
      iexists st .m; iapply (Entails.of_eq (owns_whole (c.tc : Thread nD τ) cc0_scratch7 fullShare (st .m))); iexact S7
    · iexact Hr

end Cert.KernelIdeal

end
-- ==== Proof.Frames.lean ====
/- The frame claims: each program terminates, leaves its arguments as they were, and ends with all semaphores zero. -/
module

public import proofs.«01_k».proof.Defs
public import proofs.«01_k».proof.Proof.KernelRun
public import proofs.«01_k».proof.Proof.KernelIdealRun
public import proofs.«01_k».proof.Proof.Gen.ReferenceIdeal.Frame

@[expose] public section

noncomputable section

namespace Cert.Proof

open Idealize.ShloMosaic Idealize.SL.Sem

theorem frame_kernel : Cert.quiescent_Kernel (hKernel := Cert.Kernel.Gen.facts) := fun m g _ =>
  Cert.Kernel.run_main (fun _ _ => True) (fun _ _ _ _ => True) m g (fun _ _ _ _ _ _ => ⟨trivial, fun _ => trivial⟩) (fun _ => trivial) _
    fun _ h => ⟨fun c => ⟨h.1.arr_in c 0 rfl, h.1.arr_in c 1 rfl, h.1.arr_in c 2 rfl⟩, h.2⟩

theorem frame_kernelIdeal : Cert.quiescent_KernelIdeal (hKernelIdeal := Cert.KernelIdeal.Gen.facts) := fun m g _ =>
  Cert.KernelIdeal.run_main (fun _ _ => True) (fun _ _ _ _ => True) m g (fun _ _ _ _ _ _ => ⟨trivial, fun _ => trivial⟩) (fun _ => trivial) _
    fun _ h => ⟨fun c => ⟨h.1.arr_in c 0 rfl, h.1.arr_in c 1 rfl, h.1.arr_in c 2 rfl⟩, h.2⟩

theorem frame_reference : Cert.quiescent_ReferenceIdeal (hReferenceIdeal := Cert.ReferenceIdeal.Gen.facts) := fun m g _ => Cert.ReferenceIdeal.Gen.frame m g

/-- The ideal program is the kernel over the extended reals, its factor log2(e) read as that number. -/
theorem preserves : Cert.preserves_Kernel_KernelIdeal := IdealRules.named_const.statement _ _ _ _ _ rfl

end Cert.Proof

end
-- ==== Proof.Val.lean ====
/- The kernel's values at an index, over the reals. -/
module

public import proofs.«01_k».proof.Proof.Body
public import Idealize.ShloMosaic.PureOps.Ideal
public import Idealize.ShloMosaic.Lib.Pointwise
public import Idealize.ShloMosaic.Lib.IdealHost
public import Idealize.ShloMosaic.Lib.Pointwise.IndexVar
public import Idealize.ShloMosaic.Lib.Pipeline.Value
public import Idealize.ShloMosaic.Lib.StableHlo.Run

@[expose] public section

noncomputable section

namespace Cert.Body

open Idealize.ShloMosaic

/-- The least of the extended reals, as the kernel writes it. -/
abbrev botC : Ideal .f32 := Ideal.ofBits .f32 0xFF800000#32

/-- A scale from a largest size. -/
def scl (a : EReal) : EReal := if 0 < a then Ideal.div a (Ideal.ofBits .f32 0x42FE0000#32) else 1

/-- An eight bit code. -/
def cod (x s : EReal) : EReal :=
  min (Ideal.ofBits .f32 0x42FE0000#32) (max (Ideal.ofBits .f32 0xC2FE0000#32) (Ideal.liftRound Ideal.roundHalfEven (Ideal.div x s)))

theorem qScale_at (b : Vec Ideal (sh3 1 128 128) .bf16) : qScale b (ix2 0 0)
    = scl (Finset.fold max botC (fun d : Fin 128 => Finset.fold max botC (fun r : Fin 16 => Finset.fold max (Ideal.ofBits .bf16 0xFF80#16)
        (fun x : Fin 8 => FloatOps.absf (F := Ideal) (φ := .bf16) (b (ix3 0 ⟨x.val * 16 + r.val, by omega⟩ d))) Finset.univ) Finset.univ) Finset.univ * Ideal.ofBits .f32 0x3DB504F3#32) := by
  pointwise [qScale, scaleOf, xHead, scl]

theorem qCodes_at (b : Vec Ideal (sh3 1 128 128) .bf16) (r d : Fin 128) : qCodes b (ix2 r d)
    = cod (b (ix3 0 r d) * Ideal.ofBits .f32 0x3DB504F3#32) (qScale b (ix2 0 0)) := by
  pointwise [qCodes, clip127, xHead, cod]

theorem chunkSum_at (b : Vec Ideal (sh3 1 512 128) .bf16) (r : Fin 8) (d : Fin 128) : chunkSum b (ix2 r d)
    = ∑ x : Fin 64, b (ix3 0 ⟨x.val * 8 + r.val, by omega⟩ d) := by pointwise [chunkSum]

theorem meanOf_at (a : FVec Ideal (sh2 8 128) .f32) (d : Fin 128) : meanOf a (ix2 0 d)
    = (∑ x : Fin 8, a (ix2 x d)) * Ideal.ofBits .f32 0x39800000#32 := by pointwise [meanOf]

theorem centred_at (a : FVec Ideal (sh2 1 128) .f32) (b : Vec Ideal (sh3 1 64 128) .bf16) (r : Fin 64) (d : Fin 128) : centred a b (ix2 r d)
    = b (ix3 0 r d) - a (ix2 0 d) := by pointwise [centred]

theorem amaxRow_at (a : FVec Ideal (sh2 64 128) .f32) (d : Fin 128) : amaxRow a (ix2 0 d)
    = Finset.fold max botC (fun r : Fin 8 => Finset.fold max botC (fun x : Fin 8 => FloatOps.absf (F := Ideal) (φ := .f32) (a (ix2 ⟨x.val * 8 + r.val, by omega⟩ d))) Finset.univ) Finset.univ := by
  pointwise [amaxRow]

theorem rows8_at (rows : Nat → FVec Ideal (sh2 1 128) .f32) (g : Fin 8) (d : Fin 128) :
    concatenate (sh2 8 128) 0 ((List.range 8).map fun g => ⟨sh2 1 128, rows g⟩) (cat8 rows) (ix2 g d) = rows g.val (ix2 0 d) := by
  refine Eq.trans (congrFun (StableHlo.concatenate_congr (sh2 8 128) 0 (ys := List.ofFn fun n : Fin 8 => (⟨sh2 1 128, rows n.val⟩ : (s : Shape) × (s.Idx → Ideal .f32))) rfl (cat8 rows) (cat8 rows)) _) ?_
  refine concatenate_ofFn_apply (t := sh2 8 128) (s₁ := sh2 1 128) 0 (fun n : Fin 8 => rows n.val) _ rfl 1 rfl (ix2 g d) g (by simp) (ix2 0 d) ?_ ?_
  · simp [Nat.mod_one]
  · intro b hb; fin_cases b
    · exact absurd rfl hb
    · rfl

theorem tabOf_at (rows : Nat → FVec Ideal (sh2 1 128) .f32) (g : Fin 8) (d : Fin 128) : tabOf rows (ix2 g d)
    = scl (Finset.fold max botC (fun x : Fin 128 => rows g.val (ix2 0 x)) Finset.univ) := by
  have h : concatenate (sh2 8 128) 0 ((List.range 8).map fun g => ⟨sh2 1 128, rows g⟩) (cat8 rows) = fun i => rows (i 0).val (ix2 0 (i 1)) :=
    funext fun i => by rw [eq_ix2 i]; exact rows8_at rows _ _
  unfold tabOf
  rw [h]
  pointwise [scaleOf, scl]

theorem kCodes_at (a : FVec Ideal (sh2 64 128) .f32) (t : FVec Ideal (sh2 8 128) .f32) (g : Nat) (hg : g < 8) (r : Fin 64) (d : Fin 128) :
    kCodes a t g hg (ix2 r d) = cod (a (ix2 r d)) (t (ix2 ⟨g, hg⟩ d)) := by
  pointwise [kCodes, clip127, cod]

theorem chunkMax_at (b : Vec Ideal (sh3 1 512 128) .bf16) (r : Fin 16) (d : Fin 128) : chunkMax b (ix2 r d)
    = Finset.fold max (Ideal.ofBits .bf16 0xFF80#16) (fun x : Fin 32 => FloatOps.absf (F := Ideal) (φ := .bf16) (b (ix3 0 ⟨x.val * 16 + r.val, by omega⟩ d))) Finset.univ := by
  pointwise [chunkMax]

theorem yOf_at (a : FVec Ideal (sh2 16 128) .bf16) (d : Fin 128) : yOf a (ix2 0 d)
    = Finset.fold max botC (fun x : Fin 16 => a (ix2 x d)) Finset.univ * Ideal.ofBits .f32 0x3B124925#32 := by pointwise [yOf]

theorem reaches_at (y : FVec Ideal (sh2 1 128) .f32) (e : BitVec 32) (d : Fin 128) : reaches y e (ix2 0 d)
    = if Ideal.ofBits .f32 (IntOp.shli .vector e 23#32) ≤ y (ix2 0 d) then 1#32 else 0#32 := by pointwise [reaches]

/-- A channel's exponent from its count. -/
def expo (n : BitVec 32) : BitVec 32 := Scalar.select (IntOp.cmpi .eq n 0#32) 0#32 (IntOp.subi n 126#32)

theorem vScale_at (n : IVec (sh2 1 128) 32) (d : Fin 128) : vScale (F := Ideal) n (ix2 0 d)
    = Ideal.ofBits .f32 (IntOp.shli .vector (IntOp.addi (expo (n (ix2 0 d))) 127#32) 23#32) := by pointwise [vScale, expOf, expo]

theorem vInv_at (n : IVec (sh2 1 128) 32) (d : Fin 128) : vInv (F := Ideal) n (ix2 0 d)
    = Ideal.ofBits .f32 (IntOp.shli .vector (IntOp.subi 127#32 (expo (n (ix2 0 d)))) 23#32) := by pointwise [vInv, expOf, expo]

theorem vTrans_at (a : FVec Ideal (sh2 1 128) .f32) (b : Vec Ideal (sh3 1 128 128) .bf16) (d r : Fin 128) : vTrans (vCodes a b) (ix2 d r)
    = min (Ideal.ofBits .f32 0x43E00000#32) (max (Ideal.ofBits .f32 0xC3E00000#32) (b (ix3 0 r d) * a (ix2 0 d))) := by
  pointwise [vTrans, vCodes, xHead]

theorem factors_at (l : Ideal .f32) (g : Nat) (tab : FVec Ideal (sh2 g 128) .f32) (a b : V11 (F := Ideal)) (r : Fin g) (c : Fin 256) :
    factors l g tab a b (ix2 r c) = if h : c.val < 128 then tab (ix2 r ⟨c.val, h⟩) * (a (ix2 0 0) * l) else tab (ix2 r ⟨c.val - 128, by omega⟩) * (b (ix2 0 0) * l) := by
  pointwise [factors]

theorem scaled_at (t : FVec Ideal (sh2 64 256) .f32) (cr : Vec Ideal (sh3 1 1 256) .f32) (r : Fin 64) (c : Fin 256) :
    scaled t cr (ix2 r c) = t (ix2 r c) * cr (ix3 0 0 c) := by pointwise [scaled]

theorem keepHalf_at (i : Nat) (hi : i < 2) (r : Fin 64) (c : Fin 256) : keepHalf i hi (ix2 r c)
    = IntOp.cmpi .sge (IntOp.subi (IntOp.andi (BitVec.ofNat 32 c.val) 127#32) (BitVec.ofNat 32 (64 * i + r.val))) 0#32 := by
  interval_cases i <;> pointwise [keepHalf, diag]

theorem keepBlk_at (r : Fin 128) (c : Fin 256) : keepBlk (ix2 r c)
    = IntOp.cmpi .sge (IntOp.subi (IntOp.andi (BitVec.ofNat 32 c.val) 127#32) (BitVec.ofNat 32 r.val)) 0#32 := by
  pointwise [keepBlk, diag]

theorem max64_at (t : FVec Ideal (sh2 64 256) .f32) (r : Fin 8) (c : Fin 256) : max64 t (ix2 r c)
    = Finset.fold max botC (fun x : Fin 8 => t (ix2 ⟨x.val * 8 + r.val, by omega⟩ c)) Finset.univ := by pointwise [max64]

theorem maxRow_at (t : FVec Ideal (sh2 8 256) .f32) (c : Fin 256) : maxRow t (ix2 0 c)
    = Finset.fold max botC (fun x : Fin 8 => t (ix2 x c)) Finset.univ - Ideal.ofBits .f32 0x41000000#32 := by pointwise [maxRow]

theorem expBlk_at (m : Row (F := Ideal)) (t : Vec Ideal (sh3 1 128 256) .f32) (r : Fin 128) (c : Fin 256) : expBlk m t (ix2 r c)
    = FloatOps.exp2 (F := Ideal) (φ := .f32) (t (ix3 0 r c) - m (ix2 0 c)) := by pointwise [expBlk]

theorem sum128_at (t : FVec Ideal (sh2 128 256) .f32) (r : Fin 8) (c : Fin 256) : sum128 t (ix2 r c)
    = ∑ x : Fin 16, t (ix2 ⟨x.val * 8 + r.val, by omega⟩ c) := by pointwise [sum128]

theorem min448_at (t : FVec Ideal (sh2 128 256) .f32) (i : (sh2 128 256).Idx) : min448 t i = min (t i) (Ideal.ofBits .f32 0x43E00000#32) := rfl

theorem normed_at (o : FVec Ideal (sh2 128 256) .f32) (l : FVec Ideal (sh2 8 256) .f32) (r : Fin 128) (c : Fin 256) : normed o l (ix2 r c)
    = o (ix2 r c) * Ideal.div 1 (∑ x : Fin 8, l (ix2 x c)) := by pointwise [normed]

theorem outHead_at (o : FVec Ideal (sh2 128 256) .f32) (i : Nat) (hi : i < 2) (v : FVec Ideal (sh2 1 128) .f32) (r d : Fin 128) : outHead o i hi v (ix2 r d)
    = o (ix2 d ⟨128 * i + r.val, by omega⟩) * v (ix2 0 d) := by interval_cases i <;> pointwise [outHead]

theorem grp_at (n : Nat) (s : FVec Ideal (sh2 (n * 128) 256) .f32) (g : Nat) (hg : g < 2 * n) (r : Fin 64) (c : Fin 256) : grp n s g hg (ix2 r c)
    = s (ix2 ⟨64 * g + r.val, by omega⟩ c) := by
  pointwise [grp]

theorem stack_at (n : Nat) (hn : 0 < n) (c : Nat → FVec Ideal (sh2 128 256) .fp8e4m3) (x : Fin (n * 128)) (y : Fin 256) :
    stack n c (ix2 x y) = c (x.val / 128) (ix2 ⟨x.val % 128, by omega⟩ y) := by
  match n, hn with
  | 1, _ =>
    have h : x.val / 128 = 0 := by omega
    rw [h]
    show c 0 _ = _
    congr 1
    funext a; apply Fin.ext; fin_cases a
    · show x.val = x.val % 128; omega
    · rfl
  | n + 2, _ =>
    have e : ((List.range (n + 2)).map fun b => (⟨sh2 128 256, c b⟩ : (s : Shape) × (s.Idx → Ideal .fp8e4m3)))
        = List.ofFn fun k : Fin (n + 2) => ⟨sh2 128 256, c k.val⟩ := by
      rw [List.ofFn_eq_map, ← List.map_coe_finRange_eq_range, List.map_map]; rfl
    refine Eq.trans (congrFun (StableHlo.concatenate_congr (sh2 ((n + 2) * 128) 256) 0 e (catN n c) (e ▸ catN n c)) _) ?_
    refine concatenate_ofFn_apply (t := sh2 ((n + 2) * 128) 256) (s₁ := sh2 128 256) 0 (fun k : Fin (n + 2) => c k.val) _ rfl 128 rfl (ix2 x y) ⟨x.val / 128, by omega⟩ rfl (ix2 ⟨x.val % 128, by omega⟩ y) rfl ?_
    intro b hb; fin_cases b
    · exact absurd rfl hb
    · rfl

set_option maxHeartbeats 1000000 in
theorem scoreDot_at (n : Nat) (hn : 0 < n) (hn' : n ≤ 9) (kw : FVec Ideal (sh2 (n * 128) 128) .bf16) (qw : FVec Ideal (sh2 256 128) .bf16) (x : Fin (n * 128)) (c : Fin 256) :
    scoreDot n kw qw (ix2 x c) = ∑ d : Fin 128, kw (ix2 x d) * qw (ix2 c d) := by
  interval_cases n <;> pointwise [scoreDot, dotS]

set_option maxHeartbeats 1000000 in
theorem attendDot_at (n : Nat) (hn : 0 < n) (hn' : n ≤ 9) (vw : FVec Ideal (sh2 128 (n * 128)) .fp8e4m3) (pt : FVec Ideal (sh2 (n * 128) 256) .fp8e4m3) (d : Fin 128) (c : Fin 256) :
    attendDot n vw pt (ix2 d c) = ∑ x : Fin (n * 128), vw (ix2 d x) * pt (ix2 x c) := by
  interval_cases n <;> pointwise [attendDot, dotA]

theorem foldMax_at (f : Nat → FVec Ideal (sh2 8 256) .f32) (m : Nat) (i) (y : EReal) : foldMax f m i ≤ y ↔ ∀ k ≤ m, f k i ≤ y := by
  induction m with
  | zero => simp [foldMax]
  | succ m ih =>
    show max (foldMax f m i) (f (m + 1) i) ≤ y ↔ _
    rw [max_le_iff, ih]
    constructor
    · rintro ⟨h, h'⟩ k hk
      rcases Nat.lt_or_ge m k with h1 | h1
      · obtain rfl : k = m + 1 := by omega
        exact h'
      · exact h k h1
    · exact fun h => ⟨fun k hk => h k (by omega), h _ le_rfl⟩

theorem foldAdd_at (f : Nat → FVec Ideal (sh2 8 256) .f32) (m : Nat) (i) : foldAdd f m i = ∑ k ∈ Finset.range (m + 1), f k i := by
  induction m with
  | zero => simp [foldAdd]
  | succ m ih =>
    show foldAdd f m i + f (m + 1) i = _
    rw [ih, Finset.sum_range_succ _ (m + 1)]

end Cert.Body
-- ==== Proof.Sem.lean ====
/- Programs over the buffers: what a load reads and a store leaves, index by index, and how runs of steps and loops
   compose. -/
module

public import proofs.«01_k».proof.Proof.Val

@[expose] public section

noncomputable section

namespace Cert.Body

open Idealize.ShloMosaic
open Cert.Mem

/-- An array's value at a pair of naturals. -/
def at2 {A B : Nat} (f : (sh2 A B).Idx → EReal) (i j : Nat) : EReal := if h : i < A ∧ j < B then f (ix2 ⟨i, h.1⟩ ⟨j, h.2⟩) else 0

/-- An array's value at a triple of naturals. -/
def at3 {A B C : Nat} (f : (sh3 A B C).Idx → EReal) (i j k : Nat) : EReal :=
  if h : i < A ∧ j < B ∧ k < C then f (ix3 ⟨i, h.1⟩ ⟨j, h.2.1⟩ ⟨k, h.2.2⟩) else 0

theorem at2_of {A B : Nat} (f : (sh2 A B).Idx → EReal) {i j : Nat} (hi : i < A) (hj : j < B) : at2 f i j = f (ix2 ⟨i, hi⟩ ⟨j, hj⟩) :=
  dif_pos ⟨hi, hj⟩

theorem at3_of {A B C : Nat} (f : (sh3 A B C).Idx → EReal) {i j k : Nat} (hi : i < A) (hj : j < B) (hk : k < C) :
    at3 f i j k = f (ix3 ⟨i, hi⟩ ⟨j, hj⟩ ⟨k, hk⟩) := dif_pos ⟨hi, hj, hk⟩

theorem of_at2 {A B : Nat} (f : (sh2 A B).Idx → EReal) (i : Fin A) (j : Fin B) : f (ix2 i j) = at2 f i j := (at2_of f i.2 j.2).symm

theorem of_at3 {A B C : Nat} (f : (sh3 A B C).Idx → EReal) (i : Fin A) (j : Fin B) (k : Fin C) : f (ix3 i j k) = at3 f i j k :=
  (at3_of f i.2 j.2 k.2).symm

theorem ld2 {a b d e A B : Nat} (inb) (f : (sh2 A B).Idx → EReal) {i j : Nat} (hi : i < d) (hj : j < e) :
    at2 (A := d) (B := e) (fun x => f ((Rect.unit (s := sh2 A B) ![a, b] (sh2 d e).size inb).emb x)) i j = at2 f (a + i) (b + j) := by
  have h0 : a + d ≤ A := inb 0
  have h1 : b + e ≤ B := inb 1
  rw [at2_of _ hi hj, at2_of _ (by omega) (by omega)]
  congr 1
  funext x; apply Fin.ext
  rw [Rect.emb_apply]
  fin_cases x <;> simp [Rect.unit]

theorem ld3 {a b c d e g A B C : Nat} (inb) (f : (sh3 A B C).Idx → EReal) {i j k : Nat} (hi : i < d) (hj : j < e) (hk : k < g) :
    at3 (A := d) (B := e) (C := g) (fun x => f ((Rect.unit (s := sh3 A B C) ![a, b, c] (sh3 d e g).size inb).emb x)) i j k = at3 f (a + i) (b + j) (c + k) := by
  have h0 : a + d ≤ A := inb 0
  have h1 : b + e ≤ B := inb 1
  have h2 : c + g ≤ C := inb 2
  rw [at3_of _ hi hj hk, at3_of _ (by omega) (by omega) (by omega)]
  congr 1
  funext x; apply Fin.ext
  rw [Rect.emb_apply]
  fin_cases x <;> simp [Rect.unit]

theorem ld2f {a b d e A B : Nat} (inb) (f : (sh2 A B).Idx → EReal) (i : Fin d) (j : Fin e) :
    f ((Rect.unit (s := sh2 A B) ![a, b] (sh2 d e).size inb).emb (ix2 i j)) = at2 f (a + i) (b + j) := by
  rw [← ld2 inb f i.2 j.2, at2_of _ i.2 j.2]

theorem ld3f {a b c d e g A B C : Nat} (inb) (f : (sh3 A B C).Idx → EReal) (i : Fin d) (j : Fin e) (k : Fin g) :
    f ((Rect.unit (s := sh3 A B C) ![a, b, c] (sh3 d e g).size inb).emb (ix3 i j k)) = at3 f (a + i) (b + j) (c + k) := by
  rw [← ld3 inb f i.2 j.2 k.2, at3_of _ i.2 j.2 k.2]

theorem ov2 {a b d e A B : Nat} (inb) (f : (sh2 A B).Idx → EReal) (w : (sh2 d e).Idx → EReal) (i j : Nat) :
    at2 (A := A) (B := B) ((Rect.unit (s := sh2 A B) ![a, b] (sh2 d e).size inb).overlay f w) i j
      = if a ≤ i ∧ i < a + d ∧ b ≤ j ∧ j < b + e then at2 w (i - a) (j - b) else at2 f i j := by
  have h0 : a + d ≤ A := inb 0
  have h1 : b + e ≤ B := inb 1
  split_ifs with h
  · rw [at2_of _ (by omega) (by omega), at2_of _ (by omega : i - a < d) (by omega : j - b < e)]
    refine Eq.trans (congrArg _ ?_) (Rect.overlay_emb (Rect.unit (s := sh2 A B) ![a, b] (sh2 d e).size inb) f w (ix2 (⟨i - a, by omega⟩ : Fin d) (⟨j - b, by omega⟩ : Fin e)))
    funext x; apply Fin.ext
    rw [Rect.emb_apply]
    fin_cases x <;> simp [Rect.unit] <;> omega
  · by_cases hb : i < A ∧ j < B
    · rw [at2_of _ hb.1 hb.2, at2_of _ hb.1 hb.2]
      refine Rect.overlay_of_not_mem _ _ _ fun hm => h ?_
      replace hm := (LoadRect.mem_set _).1 hm
      obtain ⟨u, hu, hu'⟩ := hm 0
      obtain ⟨v, hv, hv'⟩ := hm 1
      simp [Rect.unit] at hu hu' hv hv'
      omega
    · unfold at2; rw [dif_neg hb, dif_neg hb]

theorem ov3 {a b c d e g A B C : Nat} (inb) (f : (sh3 A B C).Idx → EReal) (w : (sh3 d e g).Idx → EReal) (i j k : Nat) :
    at3 (A := A) (B := B) (C := C) ((Rect.unit (s := sh3 A B C) ![a, b, c] (sh3 d e g).size inb).overlay f w) i j k
      = if (a ≤ i ∧ i < a + d) ∧ (b ≤ j ∧ j < b + e) ∧ c ≤ k ∧ k < c + g then at3 w (i - a) (j - b) (k - c) else at3 f i j k := by
  have h0 : a + d ≤ A := inb 0
  have h1 : b + e ≤ B := inb 1
  have h2 : c + g ≤ C := inb 2
  split_ifs with h
  · rw [at3_of _ (by omega) (by omega) (by omega), at3_of _ (by omega : i - a < d) (by omega : j - b < e) (by omega : k - c < g)]
    refine Eq.trans (congrArg _ ?_) (Rect.overlay_emb (Rect.unit (s := sh3 A B C) ![a, b, c] (sh3 d e g).size inb) f w (ix3 (⟨i - a, by omega⟩ : Fin d) (⟨j - b, by omega⟩ : Fin e) (⟨k - c, by omega⟩ : Fin g)))
    funext x; apply Fin.ext
    rw [Rect.emb_apply]
    fin_cases x <;> simp [Rect.unit] <;> omega
  · by_cases hb : i < A ∧ j < B ∧ k < C
    · rw [at3_of _ hb.1 hb.2.1 hb.2.2, at3_of _ hb.1 hb.2.1 hb.2.2]
      refine Rect.overlay_of_not_mem _ _ _ fun hm => h ?_
      replace hm := (LoadRect.mem_set _).1 hm
      obtain ⟨u, hu, hu'⟩ := hm 0
      obtain ⟨v, hv, hv'⟩ := hm 1
      obtain ⟨w, hw, hw'⟩ := hm 2
      simp [Rect.unit] at hu hu' hv hv' hw hw'
      omega
    · unfold at3; rw [dif_neg hb, dif_neg hb]

theorem ov2r {a d e A B : Nat} (inb) (f : (sh2 A B).Idx → EReal) (w : (sh2 d e).Idx → EReal) (i j : Nat) :
    at2 (A := A) (B := B) ((Rect.unit (s := sh2 A B) ![a, 0] (sh2 d e).size inb).overlay f w) i j
      = if a ≤ i ∧ i < a + d ∧ j < e then at2 w (i - a) j else at2 f i j := by
  rw [ov2]; congr 1; simp

theorem ov3r {a b e g A B C : Nat} (inb) (f : (sh3 A B C).Idx → EReal) (w : (sh3 1 e g).Idx → EReal) (i j k : Nat) :
    at3 (A := A) (B := B) (C := C) ((Rect.unit (s := sh3 A B C) ![a, b, 0] (sh3 1 e g).size inb).overlay f w) i j k
      = if i = a ∧ b ≤ j ∧ j < b + e ∧ k < g then at3 w 0 (j - b) k else at3 f i j k := by
  rw [ov3]
  by_cases h : i = a ∧ b ≤ j ∧ j < b + e ∧ k < g
  · rw [if_pos h, if_pos (by omega)]; congr 1; omega
  · rw [if_neg h, if_neg (by omega)]

theorem ov3c {c e g A B C : Nat} (inb) (f : (sh3 A B C).Idx → EReal) (w : (sh3 1 e g).Idx → EReal) (i j k : Nat) :
    at3 (A := A) (B := B) (C := C) ((Rect.unit (s := sh3 A B C) ![0, 0, c] (sh3 1 e g).size inb).overlay f w) i j k
      = if i = 0 ∧ j < e ∧ c ≤ k ∧ k < c + g then at3 w 0 j (k - c) else at3 f i j k := by
  rw [ov3]
  by_cases h : i = 0 ∧ j < e ∧ c ≤ k ∧ k < c + g
  · rw [if_pos h, if_pos (by omega)]; congr 1; omega
  · rw [if_neg h, if_neg (by omega)]

/-- The buffers' contents over the reals. -/
abbrev S := St lay (Elt Ideal)

abbrev C (α : Type) := Cmd lay (Elt Ideal) α

/-- The contents agree outside the listed buffers. -/
def Same (W : List Buf) (s s' : S) : Prop := ∀ b, b ∉ W → s' b = s b

theorem Same.refl (W : List Buf) (s : S) : Same W s s := fun _ _ => rfl
theorem Same.trans {W : List Buf} {a b c : S} (h : Same W a b) (h' : Same W b c) : Same W a c := fun x hx => (h' x hx).trans (h x hx)
theorem Same.mono {W W' : List Buf} {a b : S} (h : Same W a b) (hw : W ⊆ W') : Same W' a b := fun x hx => h x fun h' => hx (hw h')
theorem Same.store {W : List Buf} (s : S) (b : Buf) (hb : b ∈ W) (x) : Same W s (Function.update s b x) := fun y hy =>
  Function.update_of_ne (fun e => hy (by rw [e]; exact hb)) _ _

/-- A program's post-condition. -/
def Post {α : Type} (p : C α) (s : S) (Q : α → S → Prop) : Prop := Q (p.run s).1 (p.run s).2

theorem Post.bind {α β : Type} {p : C α} {f : α → C β} {s : S} {Q : β → S → Prop} (h : Post p s fun a s' => Post (f a) s' Q) : Post (p.bind f) s Q := by
  unfold Post at *; rw [Cmd.run_bind]; exact h

theorem Post.mono {α : Type} {p : C α} {s : S} {Q Q' : α → S → Prop} (h : Post p s Q) (hq : ∀ a s', Q a s' → Q' a s') : Post p s Q' := hq _ _ h

theorem Post.and {α : Type} {p : C α} {s : S} {Q Q' : α → S → Prop} (h : Post p s Q) (h' : Post p s Q') : Post p s fun a s' => Q a s' ∧ Q' a s' := ⟨h, h'⟩

theorem Post.ret {α : Type} {a : α} {s : S} {Q : α → S → Prop} (h : Q a s) : Post (.ret a) s Q := h

theorem Post.load {α : Type} {b : Buf} {r : Rect (lay.shp b)} {hp} {k : (r.shape.Idx → Elt Ideal (lay.elt b)) → C α} {s : S} {Q : α → S → Prop}
    (h : Post (k fun i => s b (r.emb i)) s Q) : Post (.load b r hp k) s Q := h

theorem Post.loadx {α : Type} {b : Buf} {r : Rect (lay.shp b)} {hp} {k : (r.shape.Idx → Elt Ideal (lay.elt b)) → C α} {s : S} {Q : α → S → Prop}
    (h : ∀ x, (∀ i, x i = s b (r.emb i)) → Post (k x) s Q) : Post (.load b r hp k) s Q := h _ fun _ => rfl

theorem Post.store {α : Type} {b : Buf} {r : Rect (lay.shp b)} {w : r.shape.Idx → Elt Ideal (lay.elt b)} {hp hx} {k : C α} {s : S} {Q : α → S → Prop}
    (h : ∀ s', Same [b] s s' → s' b = r.overlay (s b) w → Post k s' Q) : Post (.store b r w hp hx k) s Q :=
  h _ (Same.store s b (by simp) _) (Function.update_self ..)

/-- Steps in order keep an invariant. -/
theorem Post.unroll {α : Type} (I : Nat → α → S → Prop) (m : Nat) (f : (i : Nat) → i < m → α → C α) (a : α) (s : S) (h0 : I 0 a s)
    (hs : ∀ i hi a s, I i a s → Post (f i hi a) s (I (i + 1))) : Post (unroll m f a) s (I m) := by
  induction m with
  | zero => exact h0
  | succ m ih =>
    exact Post.bind (Post.mono (ih (fun i h => f i (Nat.lt_succ_of_lt h)) fun i hi => hs i _) fun a s' hI => hs m _ a s' hI)

/-- A loop's trips keep an invariant. -/
theorem Post.loop {σ : Type} (I : Nat → σ → S → Prop) (n : Nat) (init : σ) (body : Fin n → σ → C σ) (s : S) (h0 : I 0 init s)
    (hs : ∀ (i : Fin n) a s, I i.val a s → Post (body i a) s (I (i.val + 1))) : Post (Cmd.loop n init body) s (I n) := by
  have : ∀ (m : Nat) (hm : m ≤ n) (acc : σ) (s : S), I (n - m) acc s → Post (Cmd.loopFrom body ((List.finRange n).drop (n - m)) acc) s (I n) := by
    intro m
    induction m with
    | zero =>
      intro _ acc s h
      rw [Nat.sub_zero, List.drop_eq_nil_of_le (by simp)]
      exact h
    | succ m ih =>
      intro hm acc s h
      have hlt : n - (m + 1) < (List.finRange n).length := by simp; omega
      rw [List.drop_eq_getElem_cons hlt]
      refine Post.bind (Post.mono (hs _ acc s (by simpa using h)) fun a s' h' => ?_)
      have e : n - (m + 1) + 1 = n - m := by omega
      rw [e]
      refine ih (by omega) a s' ?_
      simpa [e] using h'
  have h := this n le_rfl init s (by simpa using h0)
  rw [Nat.sub_self, List.drop_zero] at h
  exact h

theorem Post.forL {σ : Type} (I : Nat → σ → S → Prop) (l : Scf.Loop 32) (init : σ) (body : Fin l.trips → σ → C σ) (s : S) (h0 : I 0 init s)
    (hs : ∀ (i : Fin l.trips) a s, I i.val a s → Post (body i a) s (I (i.val + 1))) : Post (Cmd.forL l init body) s (I l.trips) :=
  Post.loop I _ init body s h0 hs

end Cert.Body
-- ==== Proof.Code8.lean ====
/- Arrays of eight bit codes, and tables written a column or a row at a time, index by index. -/
module

public import proofs.«01_k».proof.Proof.Sem

@[expose] public section

noncomputable section

namespace Cert.Body

open Idealize.ShloMosaic
open Cert.Mem

/-- An array of codes at a triple of naturals. -/
def b3 {A B C : Nat} (f : (sh3 A B C).Idx → BitVec 8) (i j k : Nat) : BitVec 8 :=
  if h : i < A ∧ j < B ∧ k < C then f (ix3 ⟨i, h.1⟩ ⟨j, h.2.1⟩ ⟨k, h.2.2⟩) else 0

theorem b3_of {A B C : Nat} (f : (sh3 A B C).Idx → BitVec 8) {i j k : Nat} (hi : i < A) (hj : j < B) (hk : k < C) :
    b3 f i j k = f (ix3 ⟨i, hi⟩ ⟨j, hj⟩ ⟨k, hk⟩) := dif_pos ⟨hi, hj, hk⟩

/-- A block of codes written into an array, from row `b` and column `c`. -/
theorem ovb {b c e g B C : Nat} (inb) (f : (sh3 1 B C).Idx → BitVec 8) (w : (sh3 1 e g).Idx → BitVec 8) (j k : Nat) :
    b3 (A := 1) (B := B) (C := C) ((Rect.unit (s := sh3 1 B C) ![0, b, c] (sh3 1 e g).size inb).overlay f w) 0 j k
      = if (b ≤ j ∧ j < b + e) ∧ c ≤ k ∧ k < c + g then b3 w 0 (j - b) (k - c) else b3 f 0 j k := by
  have h1 : b + e ≤ B := inb 1
  have h2 : c + g ≤ C := inb 2
  split_ifs with h
  · rw [b3_of _ (by omega) (by omega) (by omega), b3_of _ (by omega : 0 < 1) (by omega : j - b < e) (by omega : k - c < g)]
    refine Eq.trans (congrArg _ ?_) (Rect.overlay_emb (Rect.unit (s := sh3 1 B C) ![0, b, c] (sh3 1 e g).size inb) f w (ix3 (⟨0, by omega⟩ : Fin 1) (⟨j - b, by omega⟩ : Fin e) (⟨k - c, by omega⟩ : Fin g)))
    funext x; apply Fin.ext
    rw [Rect.emb_apply]
    fin_cases x <;> simp [Rect.unit] <;> omega
  · by_cases hb : 0 < 1 ∧ j < B ∧ k < C
    · rw [b3_of _ hb.1 hb.2.1 hb.2.2, b3_of _ hb.1 hb.2.1 hb.2.2]
      refine Rect.overlay_of_not_mem _ _ _ fun hm => h ?_
      replace hm := (LoadRect.mem_set _).1 hm
      obtain ⟨v, hv, hv'⟩ := hm 1
      obtain ⟨w, hw, hw'⟩ := hm 2
      simp [Rect.unit] at hv hv' hw hw'
      omega
    · unfold b3; rw [dif_neg hb, dif_neg hb]

theorem castb {a b : Nat} (t : (sh2 a b).Idx → BitVec 8) (h) {r c : Nat} (hr : r < a) (hc : c < b) : b3 (shapeCast (sh3 1 a b) t h) 0 r c = t (ix2 ⟨r, hr⟩ ⟨c, hc⟩) := by
  rw [b3_of _ (by omega) hr hc]
  refine (shapeCast_addUnit_apply (n := 2) ![a, b] t h _).trans (congrArg t (funext fun x => ?_))
  fin_cases x <;> rfl

/-- The eight bit integer nearest a real toward zero. -/
abbrev code8 (x : EReal) : BitVec 8 := Ideal.fptosi 8 x

/-- The scale table's entries: the new column of the first heads, the old ones elsewhere. -/
theorem qTable_at (j : BitVec 32) (sc : Nat → V11 (F := Ideal)) (old : FVec Ideal (sh2 8 32) .f32) (m : Nat) (hm : m ≤ 8) (h : Fin 8) (c : Fin 32) :
    qTable j sc old m (ix2 h c) = if h.val < m ∧ BitVec.ofNat 32 c.val = j then sc h.val (ix2 0 0) else old (ix2 h c) := by
  induction m with
  | zero => rw [if_neg (by omega)]; rfl
  | succ m ih =>
    have e : qTable j sc old (m + 1) (ix2 h c) = Scalar.select (IntOp.andi (IntOp.cmpi .eq (BitVec.ofNat 32 h.val) (BitVec.ofNat 32 m)) (IntOp.cmpi .eq (BitVec.ofNat 32 c.val) j))
        (sc m (ix2 0 0)) (qTable j sc old m (ix2 h c)) := by
      generalize hq : qTable j sc old m = Q
      rw [qTable, hq]
      pointwise []
    rw [e, ih (by omega)]
    have e2 : (BitVec.ofNat 32 h.val = BitVec.ofNat 32 m) ↔ h.val = m := by
      constructor
      · intro e
        have := congrArg BitVec.toNat e
        simp only [BitVec.toNat_ofNat] at this
        omega
      · intro e; rw [e]
    have e3 : ∀ a b : BitVec 32, IntOp.cmpi .eq a b = if a = b then 1#1 else 0#1 := fun a b => by
      by_cases h : a = b
      · rw [if_pos h, IntOp.cmpi, beq_iff_eq.2 h]; rfl
      · rw [if_neg h, IntOp.cmpi, beq_eq_false_iff_ne.2 h]; rfl
    rw [e3, e3]
    by_cases h1 : h.val = m
    · by_cases h2 : BitVec.ofNat 32 c.val = j
      · rw [if_pos (e2.2 h1), if_pos h2, if_pos (⟨by omega, h2⟩ : h.val < m + 1 ∧ _), h1]; rfl
      · rw [if_pos (e2.2 h1), if_neg h2, if_neg (fun h3 => h2 h3.2 : ¬ (h.val < m ∧ _)), if_neg (fun h3 => h2 h3.2 : ¬ (h.val < m + 1 ∧ _))]; rfl
    · rw [if_neg fun h3 => h1 (e2.1 h3)]
      have e4 : (h.val < m ∧ BitVec.ofNat 32 c.val = j) = (h.val < m + 1 ∧ BitVec.ofNat 32 c.val = j) := by
        refine propext ⟨fun h3 => ⟨by omega, h3.2⟩, fun h3 => ⟨by omega, h3.2⟩⟩
      simp only [e4]
      by_cases h2 : BitVec.ofNat 32 c.val = j
      · rw [if_pos h2]; rfl
      · rw [if_neg h2]; rfl

/-- The diagonal of a table whose rows are constant. -/
theorem flat_at (tab : FVec Ideal (sh2 64 128) .f32) (g : Fin 64) : flat tab (ix2 0 g) = tab (ix2 g ⟨g.val, by omega⟩) := by
  have e : flat tab (ix2 0 g) = ∑ x : Fin 64, Scalar.select (IntOp.cmpi .eq (BitVec.ofNat 32 x.val) (BitVec.ofNat 32 g.val)) (tab (ix2 x ⟨g.val, by omega⟩)) (Ideal.ofBits .f32 0x00000000#32) := by
    pointwise [flat]
  rw [e, Finset.sum_eq_single g]
  · simp [IntOp.cmpi, Scalar.select]
  · intro x _ hx
    have : ¬ BitVec.ofNat 32 x.val = BitVec.ofNat 32 g.val := fun e => hx (Fin.ext (by
      have := congrArg BitVec.toNat e
      simp only [BitVec.toNat_ofNat] at this
      omega))
    rw [IntOp.cmpi, beq_eq_false_iff_ne.2 this]
    exact (show _ = Ideal.ofBits .f32 0x00000000#32 from rfl).trans (by simp [Ideal.ofBits, Ideal.ieee])
  · intro h; exact absurd (Finset.mem_univ _) h

end Cert.Body
-- ==== Proof.SemStep.lean ====
/- A query block's program: its codes and its scores, index by index. -/
module

public import proofs.«01_k».proof.Proof.Code8

@[expose] public section

set_option maxRecDepth 16384

noncomputable section

namespace Cert.Body

open Idealize.ShloMosaic
open Cert.Mem

theorem cast23 {a b : Nat} (t : (sh2 a b).Idx → EReal) (h) (r c : Nat) : at3 (shapeCast (sh3 1 a b) t h) 0 r c = at2 t r c := by
  unfold at3 at2
  by_cases hb : r < a ∧ c < b
  · rw [dif_pos ⟨by omega, hb⟩, dif_pos hb]
    refine (shapeCast_addUnit_apply (n := 2) ![a, b] t h _).trans (congrArg t (funext fun x => ?_))
    fin_cases x <;> rfl
  · rw [dif_neg (fun h => hb h.2), dif_neg hb]

theorem botC_eq : botC = ⊥ := by simp [botC, Ideal.ofBits, Ideal.ieee]

/-- The factor of the queries. -/
abbrev cq : EReal := Ideal.ofBits .f32 0x3DB504F3#32

/-- The largest size among one head's queries. -/
def qAm (X : (sh3 1 128 1024).Idx → EReal) (h : Nat) : EReal :=
  Finset.fold max botC (fun d : Fin 128 => Finset.fold max botC (fun r : Fin 16 => Finset.fold max (Ideal.ofBits .bf16 0xFF80#16)
    (fun x : Fin 8 => FloatOps.absf (F := Ideal) (φ := .bf16) (at3 X 0 (x.val * 16 + r.val) (128 * h + d.val))) Finset.univ) Finset.univ) Finset.univ

/-- One head's scale. -/
def qSc (X : (sh3 1 128 1024).Idx → EReal) (h : Nat) : EReal := scl (qAm X h * cq)

/-- One head's codes. -/
def qCd (X : (sh3 1 128 1024).Idx → EReal) (h r d : Nat) : EReal := cod (at3 X 0 r (128 * h + d) * cq) (qSc X h)

theorem quant_post (h : Nat) (hh : h < 8) (s : S) : Post (quant h hh) s fun a s' =>
    Same [.q, .qc] s s' ∧ (∀ i j, at2 (s' .q) i j = if 128 * h ≤ i ∧ i < 128 * h + 128 ∧ j < 128 then qCd (s .x) h (i - 128 * h) j else at2 (s .q) i j)
      ∧ a (ix2 0 0) = qSc (s .x) h
      ∧ ∀ j k, b3 (s' .qc) 0 j k = if j < 128 ∧ 128 * h ≤ k ∧ k < 128 * h + 128 then code8 (qCd (s .x) h j (k - 128 * h)) else b3 (s .qc) 0 j k := by
  unfold quant
  refine Post.loadx fun xb hxb => ?_
  have hx : ∀ r d : Fin 128, xb (ix3 0 r d) = at3 (s .x) 0 r (128 * h + d) := by
    intro r d
    refine (hxb _).trans ?_
    refine (ld3f _ _ _ _ _).trans ?_
    congr 1 <;> simp
  have e : qScale xb (ix2 0 0) = qSc (s .x) h := by
    rw [qScale_at]
    unfold qSc qAm
    simp only [hx]
  have ec : ∀ r d : Fin 128, qCodes xb (ix2 r d) = qCd (s .x) h r d := fun r d => by
    rw [qCodes_at, e, hx]; rfl
  refine Post.load (Post.store fun s1 h1 g1 => Post.load (Post.store fun s2 h2 g2 => Post.ret ⟨?_, fun i j => ?_, e, fun i j => ?_⟩))
  · exact (h1.mono (by simp)).trans (h2.mono (by simp))
  rotate_left
  · rw [h2 .qc (by decide), g1]
    refine (ovb _ _ _ i j).trans ?_
    by_cases hc : i < 128 ∧ 128 * h ≤ j ∧ j < 128 * h + 128
    · rw [if_pos hc, if_pos (by omega)]
      refine (castb _ _ (by omega : i - 0 < 128) (by omega : j - 128 * h < 128)).trans ?_
      exact congrArg code8 (ec _ _)
    · rw [if_neg hc, if_neg (by omega)]
  rw [g2, h1 .q (by decide)]
  refine (ov2r _ _ _ i j).trans ?_
  by_cases hc : 128 * h ≤ i ∧ i < 128 * h + 128 ∧ j < 128
  · rw [if_pos hc, if_pos hc]
    refine (congrArg (fun f => at2 f (i - 128 * h) j) (shapeCast_self _ _)).trans ?_
    refine (at2_of _ (by omega) (by omega)).trans ?_
    refine (qCodes_at _ _ _).trans ?_
    rw [e, hx]
    rfl
  · rw [if_neg hc, if_neg hc]

theorem quants_post (s : S) : Post (quants (F := Ideal)) s fun (sc : Nat → V11 (F := Ideal)) s' => Same [.q, .qc] s s'
    ∧ (∀ h < 8, ∀ r < 128, ∀ d < 128, at2 (s' .q) (128 * h + r) d = qCd (s .x) h r d) ∧ (∀ h < 8, sc h (ix2 0 0) = qSc (s .x) h)
    ∧ ∀ h < 8, ∀ r < 128, ∀ d < 128, b3 (s' .qc) 0 r (128 * h + d) = code8 (qCd (s .x) h r d) := by
  refine Post.unroll (fun m (sc : Nat → V11 (F := Ideal)) s' => Same [.q, .qc] s s'
    ∧ (∀ h < m, ∀ r < 128, ∀ d < 128, at2 (s' .q) (128 * h + r) d = qCd (s .x) h r d) ∧ (∀ h < m, sc h (ix2 0 0) = qSc (s .x) h)
    ∧ ∀ h < m, ∀ r < 128, ∀ d < 128, b3 (s' .qc) 0 r (128 * h + d) = code8 (qCd (s .x) h r d)) 8 _ _ s
    ⟨Same.refl _ _, by intro h hh; omega, by intro h hh; omega, by intro h hh; omega⟩ ?_
  rintro i hi sc s1 ⟨h1, h2, h3, h4⟩
  refine Post.bind (Post.mono (quant_post i hi s1) ?_)
  rintro a s2 ⟨g1, g2, g3, g4⟩
  have hx : s1 .x = s .x := h1 .x (by decide)
  refine Post.ret ⟨h1.trans g1, fun h hh r hr d hd => ?_, fun h hh => ?_, fun h hh r hr d hd => ?_⟩
  · rw [g2, hx]
    by_cases e : h = i
    · subst e
      rw [if_pos (by omega)]; congr 1; omega
    · rw [if_neg (by omega)]
      exact h2 h (by omega) r hr d hd
  · unfold upd
    by_cases e : h = i
    · subst e
      rw [if_pos rfl, g3, hx]
    · rw [if_neg e]
      exact h3 h (by omega)
  · rw [g4, hx]
    by_cases e : h = i
    · subst e
      rw [if_pos (by omega)]; congr 2; omega
    · rw [if_neg (by omega)]
      exact h4 h (by omega) r hr d hd

theorem qscales_post (j : BitVec 32) (sc : Nat → V11 (F := Ideal)) (s : S) : Post (qscales j sc) s fun _ s' => Same [.qs] s s'
    ∧ ∀ h < 8, ∀ c < 32, at3 (s' .qs) 0 h c = if BitVec.ofNat 32 c = j then sc h (ix2 0 0) else at3 (s .qs) 0 h c := by
  refine Post.loadx fun old ho => Post.load (Post.store fun s1 h1 g1 => Post.ret ⟨h1, fun h hh c hc => ?_⟩)
  rw [g1]
  refine (ov3r _ _ _ 0 h c).trans ?_
  rw [if_pos (by omega)]
  refine (cast23 _ _ _ _).trans ?_
  refine (at2_of _ (by omega) hc).trans ?_
  refine (qTable_at j sc _ 8 le_rfl ⟨h - 0, by omega⟩ ⟨c, hc⟩).trans ?_
  have e : (⟨h - 0, by omega⟩ : Fin 8) = ⟨h, hh⟩ := rfl
  by_cases h2 : BitVec.ofNat 32 c = j
  · rw [if_pos h2, if_pos ⟨by simp only; omega, h2⟩]; rfl
  · rw [if_neg h2, if_neg (fun h3 => h2 h3.2)]
    refine Eq.trans ?_ (ld3f (a := 0) (b := 0) (c := 0) (d := 1) (e := 8) (g := 32) (inb3 (by omega) (by omega) (by omega)) (s .qs) 0 ⟨h, hh⟩ ⟨c, hc⟩ |>.trans (by simp))
    refine Eq.trans ?_ (ho _)
    rw [e]
    generalize old = o
    pointwise []

/-! ## Scores -/

/-- The rows of scores of pair `p` stored so far, `g` groups from group `o`, with their maxima. -/
def Inv (Z : Nat → Nat → EReal) (p o : Nat) (s1 : S) (g : Nat) (f : Nat → FVec Ideal (sh2 8 256) .f32) (s' : S) : Prop :=
  Same [.s] s1 s' ∧ (∀ i y c, i ≠ p → at3 (s' .s) i y c = at3 (s1 .s) i y c)
    ∧ (∀ y c, 64 * o ≤ y → y < 64 * (o + g) → c < 256 → at3 (s' .s) p y c = Z y c)
    ∧ ∀ k < g, ∀ (c : Fin 256) (v : EReal), (∀ r : Fin 8, f k (ix2 r c) ≤ v) ↔ ∀ y, 64 * (o + k) ≤ y → y < 64 * (o + k) + 64 → Z y c ≤ v

theorem max64_le (t : FVec Ideal (sh2 64 256) .f32) (c : Fin 256) (v : EReal) :
    (∀ r : Fin 8, max64 t (ix2 r c) ≤ v) ↔ ∀ y < 64, at2 t y c ≤ v := by
  constructor
  · intro h y hy
    have := h ⟨y % 8, by omega⟩
    rw [max64_at, Finset.fold_max_le] at this
    have := this.2 ⟨y / 8, by omega⟩ (Finset.mem_univ _)
    rw [of_at2 t] at this
    simpa [show y / 8 * 8 + y % 8 = y by omega] using this
  · intro h r
    rw [max64_at, Finset.fold_max_le]
    refine ⟨by rw [botC_eq]; exact bot_le, fun x _ => ?_⟩
    rw [of_at2 t]
    exact h _ (by simp only; omega)

theorem half_post (Z : Nat → Nat → EReal) (p o G : Nat) (hp : p < 4) (hG : G < 18) (s1 : S) (g : Nat) (f : Nat → FVec Ideal (sh2 8 256) .f32) (s : S)
    (hI : Inv Z p o s1 g f s) (e : o + g = G) (t : FVec Ideal (sh2 64 256) .f32) (ht : ∀ r < 64, ∀ c < 256, at2 t r c = Z (64 * G + r) c) :
    Post (putHalf p G hp hG t) s fun a s' => Inv Z p o s1 (g + 1) (upd f g a) s' := by
  obtain ⟨h1, h2, h3, h4⟩ := hI
  subst e
  refine Post.load (Post.store fun s2 e2 g2 => Post.ret ?_)
  have key : ∀ i y c, at3 (s2 .s) i y c
      = if i = p ∧ 64 * (o + g) ≤ y ∧ y < 64 * (o + g) + 64 ∧ c < 256 then at2 t (y - 64 * (o + g)) c else at3 (s .s) i y c := by
    intro i y c
    rw [g2]
    refine (ov3r _ _ _ i y c).trans ?_
    congr 1
    exact cast23 t _ _ _
  refine ⟨h1.trans e2, fun i y c hi => ?_, fun y c hy hy' hc => ?_, fun k hk c v => ?_⟩
  · rw [key, if_neg (by omega)]; exact h2 i y c hi
  · rw [key]
    split_ifs with h
    · rw [ht _ (by omega) _ hc]; congr 1; omega
    · exact h3 y c hy (by omega) hc
  · unfold upd
    by_cases e : k = g
    · subst e
      rw [if_pos rfl, max64_le]
      constructor
      · intro h y hy hy'
        have := h (y - 64 * (o + k)) (by omega)
        rw [ht _ (by omega) _ c.2] at this
        simpa [show 64 * (o + k) + (y - 64 * (o + k)) = y by omega] using this
      · intro h y hy
        rw [ht _ (by omega) _ c.2]
        exact h _ (by omega) (by omega)
    · rw [if_neg e]
      exact h4 k (by omega) c v

/-- The rows of scores `lo` to `hi` of pair `p`, and their maxima less eight. -/
def Scored (Z : Nat → Nat → EReal) (p lo hi : Nat) (s : S) : Prop :=
  (∀ y c, lo ≤ y → y < hi → c < 256 → at3 (s .s) p y c = Z y c)
    ∧ ∀ c < 256, ∃ M, at3 (s .m) p 0 c = M - Ideal.ofBits .f32 0x41000000#32 ∧ ∀ v, M ≤ v ↔ ∀ y, lo ≤ y → y < hi → Z y c ≤ v

/-- The other pairs' rows are as before. -/
def Others (p : Nat) (s s' : S) : Prop :=
  ∀ i, i ≠ p → (∀ y c, at3 (s' .s) i y c = at3 (s .s) i y c) ∧ ∀ y c, at3 (s' .m) i y c = at3 (s .m) i y c

theorem putMax_post (Z : Nat → Nat → EReal) (p o m : Nat) (hp : p < 4) (s1 : S) (f : Nat → FVec Ideal (sh2 8 256) .f32) (s : S) (hI : Inv Z p o s1 (m + 1) f s) :
    Post (putMax p hp (maxRow (foldMax f m))) s fun _ s' => Same [.s, .m] s1 s' ∧ Others p s1 s' ∧ Scored Z p (64 * o) (64 * (o + (m + 1))) s' := by
  obtain ⟨h1, h2, h3, h4⟩ := hI
  refine Post.load (Post.store fun s2 e2 g2 => Post.ret ?_)
  have key : ∀ i y c, at3 (s2 .m) i y c = if i = p ∧ 0 ≤ y ∧ y < 0 + 1 ∧ c < 256 then at2 (maxRow (foldMax f m)) (y - 0) c else at3 (s .m) i y c := by
    intro i y c
    rw [g2]
    refine (ov3r _ _ _ i y c).trans ?_
    congr 1
    exact cast23 (maxRow (foldMax f m)) _ _ _
  have hs : s2 .s = s .s := e2 .s (by decide)
  have hm : s .m = s1 .m := h1 .m (by decide)
  refine ⟨(h1.mono (by simp)).trans (e2.mono (by simp)), fun i hi => ⟨fun y c => ?_, fun y c => ?_⟩, fun y c hy hy' hc => ?_, fun c hc => ?_⟩
  · rw [hs]; exact h2 i y c hi
  · rw [key, if_neg (by omega), hm]
  · rw [hs]; exact h3 y c hy hy' hc
  · refine ⟨Finset.fold max botC (fun x : Fin 8 => foldMax f m (ix2 x ⟨c, hc⟩)) Finset.univ, ?_, ?_⟩
    · rw [key, if_pos (by omega)]
      refine (at2_of _ (by omega) hc).trans ?_
      exact maxRow_at _ _
    · intro v
      rw [Finset.fold_max_le]
      simp only [foldMax_at]
      constructor
      · rintro ⟨-, h⟩ y hy hy'
        refine ((h4 (y / 64 - o) (by omega) ⟨c, hc⟩ v).1 fun r => h r (Finset.mem_univ _) _ (by omega)) y ?_ ?_ <;> omega
      · refine fun h => ⟨by rw [botC_eq]; exact bot_le, fun x _ k hk => ?_⟩
        exact (h4 k (by omega) ⟨c, hc⟩ v).2 (fun y hy hy' => h y (by omega) (by omega)) x

end Cert.Body
-- ==== Proof.SemScore.lean ====
/- A query block's scores, index by index: the blocks before it, its own block with the future keys left out, and
   in a full window the oldest block in their place. -/
module

public import proofs.«01_k».proof.Proof.SemStep

@[expose] public section

set_option maxRecDepth 16384

noncomputable section

namespace Cert.Body

open Idealize.ShloMosaic
open Cert.Mem

/-- A group's factor. -/
def fac (KT : (sh2 64 128).Idx → EReal) (σ : Nat → EReal) (l : EReal) (p g c : Nat) : EReal := at2 KT g (c % 128) * (σ (2 * p + c / 128) * l)

/-- A product of codes. -/
def dotc (KC : (sh2 4096 128).Idx → EReal) (Q : (sh2 1024 128).Idx → EReal) (p t c : Nat) : EReal :=
  ∑ d : Fin 128, at2 KC t d * at2 Q (256 * p + c) d

/-- A score. -/
def U (KC : (sh2 4096 128).Idx → EReal) (Q : (sh2 1024 128).Idx → EReal) (KT : (sh2 64 128).Idx → EReal) (σ : Nat → EReal) (l : EReal) (p t c : Nat) : EReal :=
  dotc KC Q p t c * fac KT σ l p (t / 64) c

theorem keepHalf_iff (i : Nat) (hi : i < 2) (r : Fin 64) (c : Fin 256) (a b : EReal) :
    Scalar.select (keepHalf i hi (ix2 r c)) a b = if 64 * i + r.val ≤ c.val % 128 then a else b := by
  have h : ∀ (x : Fin 128) (c : Fin 256), (IntOp.cmpi .sge (IntOp.subi (IntOp.andi (BitVec.ofNat 32 c.val) 127#32) (BitVec.ofNat 32 x.val)) 0#32 = 1)
      ↔ x.val ≤ c.val % 128 := by decide +kernel
  rw [keepHalf_at, Scalar.select]
  have := h ⟨64 * i + r.val, by omega⟩ c
  simp only at this
  by_cases h' : 64 * i + r.val ≤ c.val % 128
  · rw [if_pos h', if_pos (this.2 h')]
  · rw [if_neg h', if_neg (fun e => h' (this.1 e))]

theorem keepBlk_iff (r : Fin 128) (c : Fin 256) (a b : EReal) :
    Scalar.select (keepBlk (ix2 r c)) a b = if r.val ≤ c.val % 128 then a else b := by
  have h : ∀ (x : Fin 128) (c : Fin 256), (IntOp.cmpi .sge (IntOp.subi (IntOp.andi (BitVec.ofNat 32 c.val) 127#32) (BitVec.ofNat 32 x.val)) 0#32 = 1)
      ↔ x.val ≤ c.val % 128 := by decide +kernel
  rw [keepBlk_at, Scalar.select]
  have := h r c
  by_cases h' : r.val ≤ c.val % 128
  · rw [if_pos h', if_pos (this.2 h')]
  · rw [if_neg h', if_neg (fun e => h' (this.1 e))]

theorem scoreHead_post {α : Type} (l : Ideal .f32) (n k0 g0 : Nat) (hn : 0 < n) (hn' : n ≤ 9) (hk : k0 + n * 128 ≤ 4096) (hg : g0 + 2 * n ≤ 64)
    (p : Nat) (hp : p < 4) (sc : Nat → V11 (F := Ideal)) (σ : Nat → EReal) (hσ : ∀ h < 8, sc h (ix2 0 0) = σ h)
    (k : FVec Ideal (sh2 (n * 128) 256) .f32 → B (F := Ideal) α) (s : S) (Q : α → S → Prop)
    (h : ∀ sp s', Same [.c] s s' → (∀ x < n * 128, ∀ c < 256, at2 (A := n * 128) (B := 256) sp x c = dotc (s .kc) (s .q) p (k0 + x) c)
      → (∀ g < 2 * n, ∀ c < 256, at3 (s' .c) p g c = fac (s .kt) σ l p (g0 + g) c) → Post (k sp) s' Q) :
    Post (scoreHead l n k0 g0 hn hn' hk hg p hp sc k) s Q := by
  unfold scoreHead
  refine Post.loadx fun qw hq => Post.loadx fun kw hkw => Post.loadx fun tab htab => Post.load (Post.store fun s1 h1 g1 => h _ s1 h1 ?_ ?_)
  · intro x hx c hc
    refine (at2_of _ hx hc).trans ?_
    refine (scoreDot_at n hn hn' _ _ _ _).trans ?_
    unfold dotc
    refine Finset.sum_congr rfl fun d _ => ?_
    refine congrArg₂ (· * ·) ((hkw _).trans ((ld2f _ _ _ _).trans ?_)) ((hq _).trans ((ld2f _ _ _ _).trans ?_))
    · simp
    · simp
  · intro g hg' c hc
    rw [g1]
    refine (ov3r _ _ _ p g c).trans ?_
    rw [if_pos (by omega)]
    refine (cast23 _ _ _ _).trans ?_
    refine (at2_of _ (by omega) hc).trans ?_
    refine (factors_at _ _ _ _ _ _ _).trans ?_
    unfold fac
    by_cases hlt : c < 128
    · rw [dif_pos hlt, hσ _ (by omega)]
      refine congrArg₂ (· * ·) ((htab _).trans ((ld2f _ _ _ _).trans ?_)) ?_
      · simp [Nat.mod_eq_of_lt hlt]
      · rw [show c / 128 = 0 by omega]
        rfl
    · rw [dif_neg hlt, hσ _ (by omega)]
      refine congrArg₂ (· * ·) ((htab _).trans ((ld2f _ _ _ _).trans ?_)) ?_
      · simp [show c % 128 = c - 128 by omega]
      · rw [show c / 128 = 1 by omega]

theorem scaled_n (n : Nat) (sp : FVec Ideal (sh2 (n * 128) 256) .f32) (g : Nat) (hg : g < 2 * n) (cr : Vec Ideal (sh3 1 1 256) .f32) (r c : Nat) (hr : r < 64) (hc : c < 256) :
    scaled (grp n sp g hg) cr (ix2 ⟨r, hr⟩ ⟨c, hc⟩) = at2 (A := n * 128) (B := 256) sp (64 * g + r) c * cr (ix3 0 0 ⟨c, hc⟩) := by
  rw [scaled_at, grp_at, of_at2 (A := n * 128) (B := 256) sp]

section Groups
variable (Z : Nat → Nat → EReal) (n k0 g0 : Nat) (p : Nat) (hp : p < 4) (hn : n ≤ 9) (sp : FVec Ideal (sh2 (n * 128) 256) .f32) (s1 : S)
  (KC : (sh2 4096 128).Idx → EReal) (Q : (sh2 1024 128).Idx → EReal) (KT : (sh2 64 128).Idx → EReal) (σ : Nat → EReal) (l : EReal)
  (e0 : k0 = 64 * g0)
  (hsp : ∀ x < n * 128, ∀ c < 256, at2 (A := n * 128) (B := 256) sp x c = dotc KC Q p (k0 + x) c)
  (hc1 : ∀ g < 2 * n, ∀ c < 256, at3 (s1 .c) p g c = fac KT σ l p (g0 + g) c)
include e0 hsp hc1

theorem row_val (G : Nat) (hG : G < 2 * n) (s : S) (h : Same [.s] s1 s) (cr : Vec Ideal (sh3 1 1 256) .f32)
    (hcr : ∀ c : Fin 256, cr (ix3 0 0 c) = at3 (s .c) p G c) (r c : Nat) (hr : r < 64) (hc : c < 256) :
    scaled (grp n sp G hG) cr (ix2 ⟨r, hr⟩ ⟨c, hc⟩) = U KC Q KT σ l p (k0 + (64 * G + r)) c := by
  rw [scaled_n, hcr, h .c (by decide), hc1 G hG c hc, hsp _ (by omega) _ hc]
  unfold U
  rw [show (k0 + (64 * G + r)) / 64 = g0 + G by omega]

theorem plain_post (o g G : Nat) (hG : G < 2 * n) (f : Nat → FVec Ideal (sh2 8 256) .f32) (s : S) (hI : Inv Z p o s1 g f s) (e : o + g = G)
    (hZ : ∀ r < 64, ∀ c < 256, Z (64 * G + r) c = U KC Q KT σ l p (k0 + (64 * G + r)) c) :
    Post (plain n p hp hn sp G hG) s fun a s' => Inv Z p o s1 (g + 1) (upd f g a) s' := by
  unfold plain facRow
  refine Post.loadx fun cr hcr => half_post Z p o G hp (by omega) s1 g f s hI e _ fun r hr c hc => ?_
  rw [hZ r hr c hc]
  refine (at2_of _ hr hc).trans ?_
  exact row_val n k0 g0 p sp s1 KC Q KT σ l e0 hsp hc1 G hG s hI.1 cr (fun c => (hcr _).trans ((ld3f _ _ _ _ _).trans (by simp))) r c hr hc

theorem masked_post (o g : Nat) (i : Nat) (hi : i < 2) (hn0 : 0 < n) (f : Nat → FVec Ideal (sh2 8 256) .f32) (s : S) (hI : Inv Z p o s1 g f s)
    (e : o + g = 2 * (n - 1) + i)
    (hZ : ∀ r < 64, ∀ c < 256, Z (64 * (2 * (n - 1) + i) + r) c = if 64 * i + r ≤ c % 128 then U KC Q KT σ l p (k0 + (64 * (2 * (n - 1) + i) + r)) c else ⊥) :
    Post (masked n p hp hn sp i hi (by omega)) s fun a s' => Inv Z p o s1 (g + 1) (upd f g a) s' := by
  unfold masked facRow
  refine Post.loadx fun cr hcr => half_post Z p o _ hp (by omega) s1 g f s hI e _ fun r hr c hc => ?_
  rw [hZ r hr c hc]
  refine (at2_of _ hr hc).trans ?_
  refine (keepHalf_iff i hi ⟨r, hr⟩ ⟨c, hc⟩ _ _).trans ?_
  rw [row_val n k0 g0 p sp s1 KC Q KT σ l e0 hsp hc1 _ (by omega) s hI.1 cr (fun c => (hcr _).trans ((ld3f _ _ _ _ _).trans (by simp))) r c hr hc]
  exact congrArg (fun z => if 64 * i + r ≤ c % 128 then _ else z) botC_eq

theorem merged_post (o g : Nat) (i : Nat) (hi : i < 2) (hn0 : 0 < n) (f : Nat → FVec Ideal (sh2 8 256) .f32) (s : S) (hI : Inv Z p o s1 g f s)
    (e : o + g = 2 * (n - 1) + i)
    (hZ : ∀ r < 64, ∀ c < 256, Z (64 * (2 * (n - 1) + i) + r) c = if 64 * i + r ≤ c % 128 then U KC Q KT σ l p (k0 + (64 * (2 * (n - 1) + i) + r)) c
      else U KC Q KT σ l p (k0 + (64 * i + r)) c) :
    Post (merged n p hp hn sp i hi (by omega)) s fun a s' => Inv Z p o s1 (g + 1) (upd f g a) s' := by
  unfold merged facRow
  refine Post.loadx fun cr hcr => Post.loadx fun co hco => half_post Z p o _ hp (by omega) s1 g f s hI e _ fun r hr c hc => ?_
  rw [hZ r hr c hc]
  refine (at2_of _ hr hc).trans ?_
  refine (keepHalf_iff i hi ⟨r, hr⟩ ⟨c, hc⟩ _ _).trans ?_
  rw [row_val n k0 g0 p sp s1 KC Q KT σ l e0 hsp hc1 _ (by omega) s hI.1 cr (fun c => (hcr _).trans ((ld3f _ _ _ _ _).trans (by simp))) r c hr hc,
    row_val n k0 g0 p sp s1 KC Q KT σ l e0 hsp hc1 _ (by omega) s hI.1 co (fun c => (hco _).trans ((ld3f _ _ _ _ _).trans (by simp))) r c hr hc]

end Groups

/-- The rows of scores against the first `n` blocks. -/
def Z1 (KC : (sh2 4096 128).Idx → EReal) (Q : (sh2 1024 128).Idx → EReal) (KT : (sh2 64 128).Idx → EReal) (σ : Nat → EReal) (l : EReal) (n p y c : Nat) : EReal :=
  if y ≤ 128 * (n - 1) + c % 128 then U KC Q KT σ l p y c else ⊥

/-- The rows of scores against a full window. -/
def Z2 (KC : (sh2 4096 128).Idx → EReal) (Q : (sh2 1024 128).Idx → EReal) (KT : (sh2 64 128).Idx → EReal) (σ : Nat → EReal) (l : EReal) (k0 p y c : Nat) : EReal :=
  if y ≤ 1024 + c % 128 then U KC Q KT σ l p (k0 + y) c else U KC Q KT σ l p (k0 + (y - 1024)) c

theorem scores_post (l : Ideal .f32) (n : Nat) (hn : 0 < n) (hn' : n ≤ 8) (p : Nat) (hp : p < 4) (sc : Nat → V11 (F := Ideal)) (σ : Nat → EReal)
    (hσ : ∀ h < 8, sc h (ix2 0 0) = σ h) (s : S) :
    Post (scores l n hn hn' p hp sc) s fun _ s' => Same [.c, .s, .m] s s' ∧ Others p s s' ∧ Scored (Z1 (s .kc) (s .q) (s .kt) σ l n p) p 0 (n * 128) s' := by
  unfold scores
  refine scoreHead_post l n 0 0 hn (by omega) (by omega) (by omega) p hp sc σ hσ _ s _ fun sp s1 h1 hsp hc1 => ?_
  have hZ : ∀ y c, y ≤ 128 * (n - 1) + c % 128 → Z1 (s .kc) (s .q) (s .kt) σ l n p y c = U (s .kc) (s .q) (s .kt) σ l p (0 + y) c := fun y c h => by
    unfold Z1; rw [if_pos h, Nat.zero_add]
  refine Post.bind (Post.mono (Post.unroll (fun g f s' => Inv (Z1 (s .kc) (s .q) (s .kt) σ l n p) p 0 s1 g f s') _ _ _ s1
    ⟨Same.refl _ _, fun _ _ _ _ => rfl, by intros; omega, by intros; omega⟩ fun g hg f s2 hI => ?_) fun f s2 hI => ?_)
  · exact Post.bind (Post.mono (plain_post _ n 0 0 p hp (by omega) sp s1 _ _ _ σ l rfl hsp hc1 0 g g (by omega) f s2 hI (by omega)
      fun r hr c hc => hZ _ _ (by omega)) fun a s3 h => Post.ret h)
  · refine Post.bind (Post.mono (masked_post _ n 0 0 p hp (by omega) sp s1 _ _ _ σ l rfl hsp hc1 0 _ 0 (by omega) hn f s2 hI (by omega) ?_) fun a s3 hI3 => ?_)
    · intro r hr c hc
      unfold Z1
      by_cases h : 64 * 0 + r ≤ c % 128
      · rw [if_pos h, if_pos (by omega), Nat.zero_add]
      · rw [if_neg h, if_neg (by omega)]
    refine Post.bind (Post.mono (masked_post _ n 0 0 p hp (by omega) sp s1 _ _ _ σ l rfl hsp hc1 0 _ 1 (by omega) hn _ s3 hI3 (by omega) ?_) fun b s4 hI4 => ?_)
    · intro r hr c hc
      unfold Z1
      by_cases h : 64 * 1 + r ≤ c % 128
      · rw [if_pos h, if_pos (by omega), Nat.zero_add]
      · rw [if_neg h, if_neg (by omega)]
    refine Post.mono (putMax_post _ p 0 _ hp s1 _ s4 hI4) ?_
    rintro _ s5 ⟨a1, a2, a3⟩
    have es : s1 .s = s .s := h1 .s (by decide)
    have em : s1 .m = s .m := h1 .m (by decide)
    refine ⟨(h1.mono (by simp)).trans (a1.mono (by simp)), fun i hi => ?_, ?_⟩
    · rw [← es, ← em]; exact a2 i hi
    · convert a3 using 1
      omega

theorem scoresM_post (l : Ideal .f32) (k0 g0 : Nat) (hk : k0 + 9 * 128 ≤ 4096) (hg : g0 + 2 * 9 ≤ 64) (e0 : k0 = 64 * g0) (p : Nat) (hp : p < 4)
    (sc : Nat → V11 (F := Ideal)) (σ : Nat → EReal) (hσ : ∀ h < 8, sc h (ix2 0 0) = σ h) (s : S) :
    Post (scoresM l k0 g0 hk hg p hp sc) s fun _ s' => Same [.c, .s, .m] s s' ∧ Others p s s' ∧ Scored (Z2 (s .kc) (s .q) (s .kt) σ l k0 p) p 128 1152 s' := by
  unfold scoresM
  refine scoreHead_post l 9 k0 g0 (by omega) (by omega) hk hg p hp sc σ hσ _ s _ fun sp s1 h1 hsp hc1 => ?_
  refine Post.bind (Post.mono (Post.unroll (fun g f s' => Inv (Z2 (s .kc) (s .q) (s .kt) σ l k0 p) p 2 s1 g f s') _ _ _ s1
    ⟨Same.refl _ _, fun _ _ _ _ => rfl, by intros; omega, by intros; omega⟩ fun g hg f s2 hI => ?_) fun f s2 hI => ?_)
  · exact Post.bind (Post.mono (plain_post _ 9 k0 g0 p hp (by omega) sp s1 _ _ _ σ l e0 hsp hc1 2 g (2 + g) (by omega) f s2 hI (by omega)
      fun r hr c hc => by unfold Z2; rw [if_pos (by omega)]) fun a s3 h => Post.ret h)
  · refine Post.bind (Post.mono (merged_post _ 9 k0 g0 p hp (by omega) sp s1 _ _ _ σ l e0 hsp hc1 2 _ 0 (by omega) (by omega) f s2 hI (by omega) ?_) fun a s3 hI3 => ?_)
    · intro r hr c hc
      unfold Z2
      by_cases h : 64 * 0 + r ≤ c % 128
      · rw [if_pos h, if_pos (by omega)]
      · rw [if_neg h, if_neg (by omega), show k0 + (64 * (2 * (9 - 1) + 0) + r - 1024) = k0 + (64 * 0 + r) by omega]
    refine Post.bind (Post.mono (merged_post _ 9 k0 g0 p hp (by omega) sp s1 _ _ _ σ l e0 hsp hc1 2 _ 1 (by omega) (by omega) _ s3 hI3 (by omega) ?_) fun b s4 hI4 => ?_)
    · intro r hr c hc
      unfold Z2
      by_cases h : 64 * 1 + r ≤ c % 128
      · rw [if_pos h, if_pos (by omega)]
      · rw [if_neg h, if_neg (by omega), show k0 + (64 * (2 * (9 - 1) + 1) + r - 1024) = k0 + (64 * 1 + r) by omega]
    refine Post.mono (putMax_post _ p 2 _ hp s1 _ s4 hI4) ?_
    rintro _ s5 ⟨a1, a2, a3⟩
    have es : s1 .s = s .s := h1 .s (by decide)
    have em : s1 .m = s .m := h1 .m (by decide)
    refine ⟨(h1.mono (by simp)).trans (a1.mono (by simp)), fun i hi => ?_, a3⟩
    rw [← es, ← em]; exact a2 i hi

end Cert.Body
-- ==== Proof.SemAttn.lean ====
/- A query block's attention, index by index: the probabilities from the stored scores, their sum, and the product
   with the values. -/
module

public import proofs.«01_k».proof.Proof.SemScore

@[expose] public section

set_option maxRecDepth 16384

noncomputable section

namespace Cert.Body

open Idealize.ShloMosaic
open Cert.Mem

/-- A probability before its cap. -/
def ex (S : (sh3 4 1152 256).Idx → EReal) (M : (sh3 4 8 256).Idx → EReal) (p y c : Nat) : EReal :=
  FloatOps.exp2 (F := Ideal) (φ := .f32) (at3 S p y c - at3 M p 0 c)

abbrev c448 : EReal := Ideal.ofBits .f32 0x43E00000#32

/-- One value of the output, from the window's probabilities and their sum. -/
def outv (VT : (sh2 128 4096).Idx → EReal) (VS : (sh2 1 128).Idx → EReal) (m k0 d : Nat) (P : Nat → EReal) (L : EReal) : EReal :=
  (∑ x : Fin m, at2 VT d (k0 + x) * P x) * Ideal.div 1 L * at2 VS 0 d

/-- The pair's output columns. -/
def Outed (W : Nat → Nat → Nat → EReal) (p : Nat) (s s' : S) : Prop :=
  Same [.out] s s' ∧ (∀ r < 128, ∀ i < 2, ∀ d < 128, at3 (s' .out) 0 r (128 * (2 * p + i) + d) = W d i r)
    ∧ ∀ r k, ¬ (256 * p ≤ k ∧ k < 256 * p + 256) → at3 (s' .out) 0 r k = at3 (s .out) 0 r k

theorem putOut_post (p i : Nat) (hp : p < 4) (hi : i < 2) (o : FVec Ideal (sh2 128 256) .f32) (s : S) : Post (putOut p i hp hi o) s fun _ s' =>
    Same [.out] s s' ∧ ∀ r k, at3 (s' .out) 0 r k = if r < 128 ∧ 128 * (2 * p + i) ≤ k ∧ k < 128 * (2 * p + i) + 128 then
      at2 o (k - 128 * (2 * p + i)) (128 * i + r) * at2 (s .vs) 0 (k - 128 * (2 * p + i)) else at3 (s .out) 0 r k := by
  unfold putOut
  refine Post.loadx fun vsr hv => Post.load (Post.store fun s1 h1 g1 => Post.ret ⟨h1, fun r k => ?_⟩)
  rw [g1]
  refine (ov3c _ _ _ 0 r k).trans ?_
  by_cases h : r < 128 ∧ 128 * (2 * p + i) ≤ k ∧ k < 128 * (2 * p + i) + 128
  · rw [if_pos h, if_pos ⟨rfl, h⟩]
    refine (cast23 _ _ _ _).trans ?_
    refine (at2_of _ (by omega) (by omega)).trans ?_
    refine (outHead_at _ _ _ _ _ _).trans ?_
    refine congrArg₂ (· * ·) (of_at2 _ _ _) ((hv _).trans ((ld2f _ _ _ _).trans ?_))
    simp
  · rw [if_neg h, if_neg (fun e => h e.2)]

theorem attendTail_post (n k0 : Nat) (hn : 0 < n) (hn' : n ≤ 9) (hk : k0 + n * 128 ≤ 4096) (p : Nat) (hp : p < 4) (pt : FVec Ideal (sh2 (n * 128) 256) .fp8e4m3)
    (l : FVec Ideal (sh2 8 256) .f32) (s : S) (P : Nat → Nat → EReal) (L : Nat → EReal)
    (hP : ∀ x < n * 128, ∀ c < 256, at2 (A := n * 128) (B := 256) pt x c = P x c) (hL : ∀ c : Fin 256, ∑ x : Fin 8, l (ix2 x c) = L c) :
    Post (attendTail n k0 hn hk p hp pt l) s fun _ s' =>
      Outed (fun d i r => outv (s .vt) (s .vs) (n * 128) k0 d (fun x => P x (128 * i + r)) (L (128 * i + r))) p s s' := by
  unfold attendTail
  refine Post.loadx fun vw hv => ?_
  have key : ∀ d < 128, ∀ c < 256, at2 (normed (attendDot n vw pt) l) d c
      = (∑ x : Fin (n * 128), at2 (s .vt) d (k0 + x) * P x c) * Ideal.div 1 (L c) := by
    intro d hd c hc
    refine (at2_of _ hd hc).trans ?_
    refine (normed_at _ _ _ _).trans ?_
    rw [hL]
    refine congrArg (· * _) ((attendDot_at n hn hn' _ _ _ _).trans (Finset.sum_congr rfl fun x _ => ?_))
    refine congrArg₂ (· * ·) ((hv _).trans ((ld2f _ _ _ _).trans ?_)) ((of_at2 (A := n * 128) (B := 256) pt _ _).trans (hP _ x.2 _ hc))
    simp
  refine Post.bind (Post.mono (putOut_post p 0 hp (by omega) _ s) fun _ s1 h1 => Post.mono (putOut_post p 1 hp (by omega) _ s1) fun _ s2 h2 => ?_)
  obtain ⟨a1, b1⟩ := h1
  obtain ⟨a2, b2⟩ := h2
  refine ⟨a1.trans a2, fun r hr i hi d hd => ?_, fun r k hk' => ?_⟩
  · have vs1 : s1 .vs = s .vs := a1 .vs (by decide)
    rw [b2, b1, vs1]
    unfold outv
    interval_cases i
    · rw [if_neg (by omega), if_pos (by omega), show 128 * (2 * p + 0) + d - 128 * (2 * p + 0) = d by omega, key d hd _ (by omega)]
    · rw [if_pos (by omega), show 128 * (2 * p + 1) + d - 128 * (2 * p + 1) = d by omega, key d hd _ (by omega)]
  · rw [b2, b1, if_neg (by omega), if_neg (by omega)]

theorem scoreBlk_post (p b : Nat) (hp : p < 4) (hb : b < 9) (mr : Row (F := Ideal)) (s : S) (hm : ∀ c : Fin 256, mr (ix2 0 c) = at3 (s .m) p 0 c)
    (f : Nat → FVec Ideal (sh2 128 256) .f32) : Post (scoreBlk p b hp hb fun t => .ret (upd f b (expBlk mr t))) s fun g s' =>
      s' = s ∧ (∀ r c, g b (ix2 r c) = ex (s .s) (s .m) p (128 * b + r.val) c.val) ∧ ∀ k, k ≠ b → g k = f k := by
  unfold scoreBlk
  refine Post.loadx fun t ht => Post.ret ⟨rfl, fun r c => ?_, fun k hk => ?_⟩
  · unfold upd
    rw [if_pos rfl, expBlk_at, hm]
    unfold ex
    refine congrArg (fun z => FloatOps.exp2 (F := Ideal) (φ := .f32) (z - _)) ((ht _).trans ((ld3f _ _ _ _ _).trans ?_))
    simp
  · unfold upd; rw [if_neg hk]

/-- A block row's sum, row by row. -/
theorem sum_rows (m : Nat) (f : Nat → EReal) : ∑ x : Fin 8, ∑ k ∈ Finset.range m, ∑ y : Fin 16, f (128 * k + (y.val * 8 + x.val)) = ∑ x ∈ Finset.range (m * 128), f x := by
  have h16 : ∀ (b : Nat), ∑ x : Fin 8, ∑ y : Fin 16, f (b + (y.val * 8 + x.val)) = ∑ x ∈ Finset.range 128, f (b + x) := by
    intro b
    rw [Finset.sum_comm, Finset.sum_range (n := 128)]
    rw [← (finProdFinEquiv (m := 16) (n := 8)).sum_comp, Fintype.sum_prod_type]
    refine Finset.sum_congr rfl fun y _ => Finset.sum_congr rfl fun x _ => ?_
    congr 2
    simp [finProdFinEquiv]; omega
  rw [Finset.sum_comm]
  simp only [h16]
  induction m with
  | zero => simp
  | succ m ih =>
    rw [Finset.sum_range_succ, ih, show (m + 1) * 128 = m * 128 + 128 by ring, Finset.sum_range_add]
    congr 1
    refine Finset.sum_congr rfl fun x _ => ?_
    congr 1; omega

theorem attend_post (n : Nat) (hn : 0 < n) (hn' : n ≤ 8) (p : Nat) (hp : p < 4) (s : S) : Post (attend n hn hn' p hp) s fun _ s' =>
    Outed (fun d i r => outv (s .vt) (s .vs) (n * 128) 0 d (fun x => min (ex (s .s) (s .m) p x (128 * i + r)) c448)
      (∑ x ∈ Finset.range (n * 128), ex (s .s) (s .m) p x (128 * i + r))) p s s' := by
  unfold attend maxRead
  refine Post.loadx fun mr0 hm0 => ?_
  have hm : ∀ c : Fin 256, shapeCast (sh2 1 256) (show Vec Ideal (sh3 1 1 256) .f32 from mr0) (by decide) (ix2 0 c) = at3 (s .m) p 0 c := by
    intro c
    refine Eq.trans (b := mr0 (ix3 0 0 c)) ?_ ((hm0 _).trans ((ld3f _ _ _ _ _).trans (by simp)))
    pointwise
  generalize shapeCast (sh2 1 256) (show Vec Ideal (sh3 1 1 256) .f32 from mr0) _ = mr at hm ⊢
  refine Post.bind (Post.mono (Post.unroll (fun b (f : Nat → FVec Ideal (sh2 128 256) .f32) s' => s' = s ∧ ∀ k < b, ∀ r c, f k (ix2 r c) = ex (s .s) (s .m) p (128 * k + r.val) c.val)
    n _ _ s ⟨rfl, by intros; omega⟩ ?_) ?_)
  · rintro b hb f s' ⟨rfl, hI⟩
    refine Post.mono (scoreBlk_post p b hp (by omega) mr s' hm f) ?_
    rintro g s2 ⟨rfl, g1, g2⟩
    refine ⟨rfl, fun k hk r c => ?_⟩
    by_cases e : k = b
    · subst e; exact g1 r c
    · rw [g2 k e]; exact hI k (by omega) r c
  · rintro e s' ⟨rfl, he⟩
    refine attendTail_post n 0 hn (by omega) (by omega) p hp _ _ s' (fun x c => min (ex (s' .s) (s' .m) p x c) c448)
      (fun c => ∑ x ∈ Finset.range (n * 128), ex (s' .s) (s' .m) p x c) ?_ ?_
    · intro x hx c hc
      refine (at2_of (A := n * 128) (B := 256) _ hx hc).trans ?_
      refine (stack_at n hn _ _ _).trans ?_
      refine congrArg (fun z => min z c448) ((he _ (by omega) _ _).trans ?_)
      rw [show 128 * (x / 128) + x % 128 = x by omega]
    · intro c
      refine Eq.trans ?_ (sum_rows n fun x => ex (s' .s) (s' .m) p x c)
      refine Finset.sum_congr rfl fun x _ => ?_
      rw [foldAdd_at, show n - 1 + 1 = n by omega]
      refine Finset.sum_congr rfl fun k hk => ?_
      rw [Finset.mem_range] at hk
      rw [sum128_at]
      refine Finset.sum_congr rfl fun y _ => ?_
      exact he k hk _ _

/-- The probabilities of a full window, row by row. -/
def P2 (S : (sh3 4 1152 256).Idx → EReal) (M : (sh3 4 8 256).Idx → EReal) (p x c : Nat) : EReal :=
  if x < 128 then (if x ≤ c % 128 then 0 else min (ex S M p (1024 + x) c) c448)
  else if x < 1024 then min (ex S M p x c) c448
  else if x - 1024 ≤ c % 128 then min (ex S M p x c) c448 else 0

theorem zeroF : (Ideal.ofBits .f32 0x00000000#32 : EReal) = 0 := by simp [Ideal.ofBits, Ideal.ieee]

theorem attendM_post (k0 : Nat) (hk : k0 + 9 * 128 ≤ 4096) (p : Nat) (hp : p < 4) (s : S) : Post (attendM k0 hk p hp) s fun _ s' =>
    Outed (fun d i r => outv (s .vt) (s .vs) (9 * 128) k0 d (fun x => P2 (s .s) (s .m) p x (128 * i + r))
      (∑ x ∈ Finset.range 1024, ex (s .s) (s .m) p (128 + x) (128 * i + r))) p s s' := by
  unfold attendM maxRead
  refine Post.loadx fun mr0 hm0 => ?_
  have hm : ∀ c : Fin 256, shapeCast (sh2 1 256) (show Vec Ideal (sh3 1 1 256) .f32 from mr0) (by decide) (ix2 0 c) = at3 (s .m) p 0 c := by
    intro c
    refine Eq.trans (b := mr0 (ix3 0 0 c)) ?_ ((hm0 _).trans ((ld3f _ _ _ _ _).trans (by simp)))
    pointwise
  generalize shapeCast (sh2 1 256) (show Vec Ideal (sh3 1 1 256) .f32 from mr0) _ = mr at hm ⊢
  refine Post.bind (Post.mono (Post.unroll (fun b (f : Nat → FVec Ideal (sh2 128 256) .f32) s' => s' = s ∧ ∀ k, 1 ≤ k → k < 1 + b → ∀ r c, f k (ix2 r c) = ex (s .s) (s .m) p (128 * k + r.val) c.val)
    8 _ _ s ⟨rfl, by intros; omega⟩ ?_) ?_)
  · rintro b hb f s' ⟨rfl, hI⟩
    refine Post.mono (scoreBlk_post p (1 + b) hp (by omega) mr s' hm f) ?_
    rintro g s2 ⟨rfl, g1, g2⟩
    refine ⟨rfl, fun k hk0 hk r c => ?_⟩
    by_cases e : k = 1 + b
    · subst e; exact g1 r c
    · rw [g2 k e]; exact hI k hk0 (by omega) r c
  · rintro e s' ⟨rfl, he⟩
    refine attendTail_post 9 k0 (by omega) (by omega) hk p hp _ _ s' (fun x c => P2 (s' .s) (s' .m) p x c)
      (fun c => ∑ x ∈ Finset.range 1024, ex (s' .s) (s' .m) p (128 + x) c) ?_ ?_
    · intro x hx c hc
      refine (at2_of (A := 9 * 128) (B := 256) _ hx hc).trans ?_
      refine (stack_at 9 (by omega) _ _ _).trans ?_
      unfold P2
      show (if x / 128 = 0 then select keepBlk zeroBlk (min448 (e 8)) else if x / 128 = 8 then select keepBlk (min448 (e 8)) zeroBlk else min448 (e (x / 128))) (ix2 ⟨x % 128, by omega⟩ ⟨c, hc⟩) = _
      by_cases h0 : x < 128
      · rw [if_pos (by omega), if_pos h0]
        refine (keepBlk_iff _ _ _ _).trans ?_
        have hx' : x % 128 = x := Nat.mod_eq_of_lt h0
        simp only [hx']
        refine congrArg₂ (fun a b => if x ≤ c % 128 then a else b) zeroF (congrArg (fun z => min z c448) ((he 8 (by omega) (by omega) _ _).trans ?_))
        simp [hx']
      · rw [if_neg (by omega), if_neg h0]
        by_cases h1 : x < 1024
        · rw [if_neg (by omega), if_pos h1]
          refine congrArg (fun z => min z c448) ((he _ (by omega) (by omega) _ _).trans ?_)
          rw [show 128 * (x / 128) + x % 128 = x by omega]
        · rw [if_pos (by omega), if_neg h1]
          refine (keepBlk_iff _ _ _ _).trans ?_
          have hx' : x % 128 = x - 1024 := by omega
          simp only [hx']
          refine congrArg₂ (fun a b => if x - 1024 ≤ c % 128 then a else b) (congrArg (fun z => min z c448) ((he 8 (by omega) (by omega) _ _).trans ?_)) zeroF
          simp only [hx']
          rw [show 128 * 8 + (x - 1024) = x by omega]
    · intro c
      refine Eq.trans ?_ (sum_rows 8 fun x => ex (s' .s) (s' .m) p (128 + x) c)
      refine Finset.sum_congr rfl fun x _ => ?_
      rw [foldAdd_at]
      refine Finset.sum_congr rfl fun k hk => ?_
      rw [Finset.mem_range] at hk
      rw [sum128_at]
      refine Finset.sum_congr rfl fun y _ => ?_
      refine (he (1 + k) (by omega) (by omega) _ _).trans ?_
      simp only
      rw [show 128 * (1 + k) + (y.val * 8 + x.val) = 128 + (128 * k + (y.val * 8 + x.val)) by omega]

end Cert.Body
-- ==== Proof.SemWhole.lean ====
/- A query block's program as a whole: each value of the output from the scores in the window of its query. -/
module

public import proofs.«01_k».proof.Proof.SemAttn

@[expose] public section

set_option maxRecDepth 16384

noncomputable section

namespace Cert.Body

open Idealize.ShloMosaic
open Cert.Mem

theorem pairs_scored (prog : (p : Nat) → p < 4 → C PUnit) (Z : Nat → Nat → Nat → EReal) (lo hi : Nat) (s1 : S)
    (h : ∀ p hp s, Same [.c, .s, .m] s1 s → Post (prog p hp) s fun _ s' => Same [.c, .s, .m] s s' ∧ Others p s s' ∧ Scored (Z p) p lo hi s') :
    Post (unroll 4 (fun p hp _ => prog p hp) ⟨⟩) s1 fun _ s' => Same [.c, .s, .m] s1 s' ∧ ∀ p < 4, Scored (Z p) p lo hi s' := by
  refine Post.unroll (fun m _ s' => Same [.c, .s, .m] s1 s' ∧ ∀ p < m, Scored (Z p) p lo hi s') 4 _ _ s1 ⟨Same.refl _ _, by intros; omega⟩ ?_
  rintro p hp _ s ⟨h1, h2⟩
  refine Post.mono (h p hp s h1) ?_
  rintro _ s' ⟨a, b, c⟩
  refine ⟨h1.trans a, fun p' hp' => ?_⟩
  by_cases e : p' = p
  · subst e; exact c
  · obtain ⟨u, v⟩ := h2 p' (by omega)
    obtain ⟨b1, b2⟩ := b p' e
    refine ⟨fun y c hy hy' hc => (b1 y c).trans (u y c hy hy' hc), fun c hc => ?_⟩
    rw [b2]
    exact v c hc

theorem pairs_outed (prog : (p : Nat) → p < 4 → C PUnit) (W : Nat → Nat → Nat → Nat → EReal) (s1 : S)
    (h : ∀ p hp s, Same [.out] s1 s → Post (prog p hp) s fun _ s' => Outed (W p) p s s') :
    Post (unroll 4 (fun p hp _ => prog p hp) ⟨⟩) s1 fun _ s' => Same [.out] s1 s'
      ∧ ∀ p < 4, ∀ r < 128, ∀ i < 2, ∀ d < 128, at3 (s' .out) 0 r (128 * (2 * p + i) + d) = W p d i r := by
  refine Post.unroll (fun m _ s' => Same [.out] s1 s' ∧ ∀ p < m, ∀ r < 128, ∀ i < 2, ∀ d < 128, at3 (s' .out) 0 r (128 * (2 * p + i) + d) = W p d i r)
    4 _ _ s1 ⟨Same.refl _ _, by intros; omega⟩ ?_
  rintro p hp _ s ⟨h1, h2⟩
  refine Post.mono (h p hp s h1) ?_
  rintro _ s' ⟨a, b, c⟩
  refine ⟨h1.trans a, fun p' hp' r hr i hi d hd => ?_⟩
  by_cases e : p' = p
  · subst e; exact b r hr i hi d hd
  · rw [c r _ (by omega)]
    exact h2 p' (by omega) r hr i hi d hd

/-- The keys in the window of query `q`. -/
def win (q : Nat) : Finset Nat := (Finset.range 4096).filter fun t => t ≤ q ∧ q < t + 1024

theorem mem_win (q t : Nat) : t ∈ win q ↔ t < 4096 ∧ t ≤ q ∧ q < t + 1024 := by simp [win]

/-- A score of the window, from the queries and the key codes. -/
def sco (X : (sh3 1 128 1024).Idx → EReal) (KC : (sh2 4096 128).Idx → EReal) (KT : (sh2 64 128).Idx → EReal) (l : EReal) (h r t : Nat) : EReal :=
  (∑ d : Fin 128, at2 KC t d * qCd X h r d) * (at2 KT (t / 64) r * (qSc X h * l))

/-- A probability of the window, its largest score at `M`. -/
def pr (M s : EReal) : EReal := FloatOps.exp2 (F := Ideal) (φ := .f32) (s - (M - Ideal.ofBits .f32 0x41000000#32))

/-- `o` is the attention of a query over its window. -/
def KO (sc vt : Nat → EReal) (vs : EReal) (q : Nat) (o : EReal) : Prop :=
  ∃ M, (∀ v, M ≤ v ↔ ∀ t ∈ win q, sc t ≤ v)
    ∧ o = (∑ t ∈ win q, vt t * min (pr M (sc t)) c448) * Ideal.div 1 (∑ t ∈ win q, pr M (sc t)) * vs

theorem pr_bot (M : EReal) : pr M ⊥ = 0 := by
  unfold pr
  rw [sub_eq_add_neg, EReal.bot_add]
  rfl

theorem min_zero : min (0 : EReal) c448 = 0 := by
  refine min_eq_left ?_
  simp [c448, Ideal.ofBits, Ideal.ieee, -EReal.coe_mul]

theorem comb {A A' B B' : EReal} (v : EReal) (h1 : A = A') (h2 : B = B') : A * Ideal.div 1 B * v = A' * Ideal.div 1 B' * v := by rw [h1, h2]

theorem KO_first (sc vt : Nat → EReal) (vs : EReal) (j r : Nat) (hj : j < 8) (hr : r < 128) (M : EReal)
    (hM : ∀ v, M ≤ v ↔ ∀ y, 0 ≤ y → y < (j + 1) * 128 → (if y ≤ 128 * j + r then sc y else ⊥) ≤ v) :
    KO sc vt vs (128 * j + r) ((∑ x : Fin ((j + 1) * 128), vt (0 + x) * min (pr M (if x.val ≤ 128 * j + r then sc x else ⊥)) c448)
      * Ideal.div 1 (∑ x ∈ Finset.range ((j + 1) * 128), pr M (if x ≤ 128 * j + r then sc x else ⊥)) * vs) := by
  have hs : ∀ f : Nat → EReal, (∑ x ∈ Finset.range ((j + 1) * 128), if x ≤ 128 * j + r then f x else 0) = ∑ t ∈ win (128 * j + r), f t := by
    intro f
    rw [← Finset.sum_filter]
    refine Finset.sum_congr ?_ fun _ _ => rfl
    ext t; simp only [Finset.mem_filter, Finset.mem_range, mem_win]; omega
  refine ⟨M, fun v => (hM v).trans ?_, ?_⟩
  · constructor
    · intro h t ht
      rw [mem_win] at ht
      have := h t (by omega) (by omega)
      rwa [if_pos (by omega)] at this
    · intro h y _ hy
      split_ifs with h'
      · exact h y (by rw [mem_win]; omega)
      · exact bot_le
  · rw [← hs, ← hs, ← Finset.sum_range (f := fun x => vt (0 + x) * min (pr M (if x ≤ 128 * j + r then sc x else ⊥)) c448)]
    refine comb _ ?_ ?_
    · refine Finset.sum_congr rfl fun x _ => ?_
      split_ifs
      · rw [Nat.zero_add]
      · rw [pr_bot, min_zero, mul_zero]
    · refine Finset.sum_congr rfl fun x _ => ?_
      split_ifs
      · rfl
      · exact pr_bot _

theorem KO_full (sc vt : Nat → EReal) (vs : EReal) (k0 r : Nat) (hk : k0 + 1152 ≤ 4096) (hr : r < 128) (M : EReal)
    (hM : ∀ v, M ≤ v ↔ ∀ y, 128 ≤ y → y < 1152 → sc (if y ≤ 1024 + r then k0 + y else k0 + (y - 1024)) ≤ v)
    (P : Nat → EReal) (hP : ∀ x < 1152, P x = if x ≤ r ∨ 1024 + r < x then 0 else min (pr M (sc (k0 + x))) c448) :
    KO sc vt vs (k0 + 1024 + r) ((∑ x : Fin (9 * 128), vt (k0 + x) * P x)
      * Ideal.div 1 (∑ x ∈ Finset.range 1024, pr M (sc (if 128 + x ≤ 1024 + r then k0 + (128 + x) else k0 + (128 + x - 1024)))) * vs) := by
  refine ⟨M, fun v => (hM v).trans ?_, ?_⟩
  · constructor
    · intro h t ht
      rw [mem_win] at ht
      by_cases h' : k0 + 128 ≤ t
      · have := h (t - k0) (by omega) (by omega)
        rwa [if_pos (by omega), show k0 + (t - k0) = t by omega] at this
      · have := h (t + 1024 - k0) (by omega) (by omega)
        rwa [if_neg (by omega), show k0 + (t + 1024 - k0 - 1024) = t by omega] at this
    · intro h y hy hy'
      refine h _ ?_
      rw [mem_win]; split_ifs <;> omega
  · refine comb _ ?_ ?_
    · rw [← Finset.sum_range (f := fun x => vt (k0 + x) * P x)]
      rw [← Finset.sum_filter_add_sum_filter_not _ (fun x => x ≤ r ∨ 1024 + r < x)]
      rw [Finset.sum_eq_zero (s := Finset.filter _ _), zero_add]
      · refine Finset.sum_nbij' (fun x => k0 + x) (fun t => t - k0) ?_ ?_ ?_ ?_ ?_
        · intro x hx; simp only [Finset.mem_filter, Finset.mem_range, mem_win] at hx ⊢; omega
        · intro x hx; simp only [Finset.mem_filter, Finset.mem_range, mem_win] at hx ⊢; omega
        · intro x hx; simp
        · intro x hx; simp only [mem_win] at hx; omega
        · intro x hx
          simp only [Finset.mem_filter, Finset.mem_range] at hx
          rw [hP x (by omega), if_neg hx.2]
      · intro x hx
        simp only [Finset.mem_filter, Finset.mem_range] at hx
        rw [hP x (by omega), if_pos hx.2, mul_zero]
    · refine Finset.sum_nbij' (fun x => if 128 + x ≤ 1024 + r then k0 + (128 + x) else k0 + (128 + x - 1024))
        (fun t => if k0 + 128 ≤ t then t - k0 - 128 else t + 1024 - k0 - 128) ?_ ?_ ?_ ?_ ?_
      · intro x hx; simp only [Finset.mem_range, mem_win] at hx ⊢; split_ifs <;> omega
      · intro x hx; simp only [Finset.mem_range, mem_win] at hx ⊢; split_ifs <;> omega
      · intro x hx; simp only [Finset.mem_range] at hx; split_ifs <;> omega
      · intro x hx; simp only [mem_win] at hx; split_ifs <;> omega
      · intro x hx; rfl

section
variable (s s1 : S) (hq : ∀ h < 8, ∀ r < 128, ∀ d < 128, at2 (s1 .q) (128 * h + r) d = qCd (s .x) h r d)
  (hk : s1 .kc = s .kc) (ht : s1 .kt = s .kt) (l : EReal)
include hq hk ht

theorem U_eq (p i r t : Nat) (hp : p < 4) (hi : i < 2) (hr : r < 128) :
    U (s1 .kc) (s1 .q) (s1 .kt) (qSc (s .x)) l p t (128 * i + r) = sco (s .x) (s .kc) (s .kt) l (2 * p + i) r t := by
  unfold U dotc fac sco
  rw [hk, ht, show (128 * i + r) % 128 = r by omega, show 2 * p + (128 * i + r) / 128 = 2 * p + i by omega]
  congr 1
  refine Finset.sum_congr rfl fun d _ => ?_
  rw [← hq _ (by omega) _ hr _ d.2]
  congr 2; omega

end

/-- What a query block leaves in the output. -/
def StepPost (l : EReal) (j : Nat) (s s' : S) : Prop :=
  Same [.q, .qc, .qs, .c, .s, .m, .out] s s' ∧ ∀ h < 8, ∀ r < 128, ∀ d < 128,
    KO (sco (s .x) (s .kc) (s .kt) l h r) (fun t => at2 (s .vt) d t) (at2 (s .vs) 0 d) (128 * j + r) (at3 (s' .out) 0 r (128 * h + d))

/-- What a query block leaves of its codes and scales. -/
def CodePost (j : BitVec 32) (s s' : S) : Prop :=
  (∀ h < 8, ∀ r < 128, ∀ d < 128, b3 (s' .qc) 0 r (128 * h + d) = code8 (qCd (s .x) h r d))
    ∧ ∀ h < 8, ∀ c < 32, at3 (s' .qs) 0 h c = if BitVec.ofNat 32 c = j then qSc (s .x) h else at3 (s .qs) 0 h c

theorem step_post (l : Ideal .f32) (jb : BitVec 32) (j : Nat) (hj : j < 8) (hn : 0 < j + 1) (s : S) : Post (step l jb (j + 1) hn hj) s fun _ s' => StepPost l j s s' ∧ CodePost jb s s' := by
  unfold step
  refine Post.bind (Post.mono (quants_post s) ?_)
  rintro sc s1 ⟨a1, a2, a3, a4⟩
  refine Post.bind (Post.mono (qscales_post jb sc s1) ?_)
  rintro _ s2 ⟨b1, b2⟩
  refine Post.bind (Post.mono (pairs_scored _ (fun p => Z1 (s2 .kc) (s2 .q) (s2 .kt) (qSc (s .x)) l (j + 1) p) 0 ((j + 1) * 128) s2 fun p hp s3 h3 => ?_) ?_)
  · have := scores_post l (j + 1) hn hj p hp sc (qSc (s .x)) a3 s3
    rwa [h3 .kc (by decide), h3 .q (by decide), h3 .kt (by decide)] at this
  rintro _ s3 ⟨c1, c2⟩
  refine Post.mono (pairs_outed _ (fun p d i r => outv (s3 .vt) (s3 .vs) ((j + 1) * 128) 0 d (fun x => min (ex (s3 .s) (s3 .m) p x (128 * i + r)) c448)
      (∑ x ∈ Finset.range ((j + 1) * 128), ex (s3 .s) (s3 .m) p x (128 * i + r))) s3 fun p hp s4 h4 => ?_) ?_
  · have := attend_post (j + 1) hn hj p hp s4
    rwa [h4 .s (by decide), h4 .m (by decide), h4 .vt (by decide), h4 .vs (by decide)] at this
  rintro _ s4 ⟨d1, d2⟩
  refine ⟨⟨(a1.mono (by simp)).trans ((b1.mono (by simp)).trans ((c1.mono (by simp)).trans (d1.mono (by simp)))), fun h hh r hr d hd => ?_⟩, fun h hh r hr d hd => ?_, fun h hh c hc => ?_⟩
  rotate_left
  · rw [d1 .qc (by decide), c1 .qc (by decide), b1 .qc (by decide)]
    exact a4 h hh r hr d hd
  · rw [d1 .qs (by decide), c1 .qs (by decide), b2 h hh c hc, a3 h hh, a1 .qs (by decide)]
  have hU := U_eq s s2 (by rw [b1 .q (by decide)]; exact a2) ((b1 .kc (by decide)).trans (a1 .kc (by decide))) ((b1 .kt (by decide)).trans (a1 .kt (by decide))) l
    (h / 2) (h % 2) r
  have hvt : s3 .vt = s .vt := (c1 .vt (by decide)).trans ((b1 .vt (by decide)).trans (a1 .vt (by decide)))
  have hvs : s3 .vs = s .vs := (c1 .vs (by decide)).trans ((b1 .vs (by decide)).trans (a1 .vs (by decide)))
  have hc : (128 * (h % 2) + r) % 128 = r := by omega
  have he : 2 * (h / 2) + h % 2 = h := by omega
  rw [he] at hU
  have ho := d2 (h / 2) (by omega) r hr (h % 2) (by omega) d hd
  rw [he] at ho
  obtain ⟨e1, e2⟩ := c2 (h / 2) (by omega)
  obtain ⟨M, f1, f2⟩ := e2 (128 * (h % 2) + r) (by omega)
  have hZ : ∀ y, Z1 (s2 .kc) (s2 .q) (s2 .kt) (qSc (s .x)) l (j + 1) (h / 2) y (128 * (h % 2) + r)
      = if y ≤ 128 * j + r then sco (s .x) (s .kc) (s .kt) l h r y else ⊥ := by
    intro y
    unfold Z1
    rw [hc, hU y (by omega) (by omega) hr, Nat.add_sub_cancel]
  have hex : ∀ x < (j + 1) * 128, ex (s3 .s) (s3 .m) (h / 2) x (128 * (h % 2) + r) = pr M (if x ≤ 128 * j + r then sco (s .x) (s .kc) (s .kt) l h r x else ⊥) := by
    intro x hx
    unfold ex pr
    rw [f1, e1 x _ (by omega) hx (by omega), hZ]
  rw [ho]
  unfold outv
  rw [hvt, hvs]
  have := KO_first (sco (s .x) (s .kc) (s .kt) l h r) (fun t => at2 (s .vt) d t) (at2 (s .vs) 0 d) j r hj hr M fun v => (f2 v).trans (by simp only [hZ])
  refine (congrArg (KO _ _ _ _) (comb _ ?_ ?_)).mpr this
  · refine Finset.sum_congr rfl fun x _ => ?_
    exact congrArg (fun z => at2 (s .vt) d (0 + x.val) * min z c448) (hex x x.2)
  · refine Finset.sum_congr rfl fun x hx => ?_
    rw [hex x (Finset.mem_range.1 hx)]

theorem stepM_post (l : Ideal .f32) (jb : BitVec 32) (j : Nat) (hj : 8 ≤ j) (hj' : j < 32) (hk hg) (s : S) :
    Post (stepM l jb ((j - 8) * 128) ((j - 8) * 2) hk hg) s fun _ s' => StepPost l j s s' ∧ CodePost jb s s' := by
  unfold stepM
  refine Post.bind (Post.mono (quants_post s) ?_)
  rintro sc s1 ⟨a1, a2, a3, a4⟩
  refine Post.bind (Post.mono (qscales_post jb sc s1) ?_)
  rintro _ s2 ⟨b1, b2⟩
  refine Post.bind (Post.mono (pairs_scored _ (fun p => Z2 (s2 .kc) (s2 .q) (s2 .kt) (qSc (s .x)) l ((j - 8) * 128) p) 128 1152 s2 fun p hp s3 h3 => ?_) ?_)
  · have := scoresM_post l _ _ hk hg (by omega) p hp sc (qSc (s .x)) a3 s3
    rwa [h3 .kc (by decide), h3 .q (by decide), h3 .kt (by decide)] at this
  rintro _ s3 ⟨c1, c2⟩
  refine Post.mono (pairs_outed _ (fun p d i r => outv (s3 .vt) (s3 .vs) (9 * 128) ((j - 8) * 128) d (fun x => P2 (s3 .s) (s3 .m) p x (128 * i + r))
      (∑ x ∈ Finset.range 1024, ex (s3 .s) (s3 .m) p (128 + x) (128 * i + r))) s3 fun p hp s4 h4 => ?_) ?_
  · have := attendM_post _ hk p hp s4
    rwa [h4 .s (by decide), h4 .m (by decide), h4 .vt (by decide), h4 .vs (by decide)] at this
  rintro _ s4 ⟨d1, d2⟩
  refine ⟨⟨(a1.mono (by simp)).trans ((b1.mono (by simp)).trans ((c1.mono (by simp)).trans (d1.mono (by simp)))), fun h hh r hr d hd => ?_⟩, fun h hh r hr d hd => ?_, fun h hh c hc => ?_⟩
  rotate_left
  · rw [d1 .qc (by decide), c1 .qc (by decide), b1 .qc (by decide)]
    exact a4 h hh r hr d hd
  · rw [d1 .qs (by decide), c1 .qs (by decide), b2 h hh c hc, a3 h hh, a1 .qs (by decide)]
  have hU := U_eq s s2 (by rw [b1 .q (by decide)]; exact a2) ((b1 .kc (by decide)).trans (a1 .kc (by decide))) ((b1 .kt (by decide)).trans (a1 .kt (by decide))) l
    (h / 2) (h % 2) r
  have hvt : s3 .vt = s .vt := (c1 .vt (by decide)).trans ((b1 .vt (by decide)).trans (a1 .vt (by decide)))
  have hvs : s3 .vs = s .vs := (c1 .vs (by decide)).trans ((b1 .vs (by decide)).trans (a1 .vs (by decide)))
  have hc : (128 * (h % 2) + r) % 128 = r := by omega
  have he : 2 * (h / 2) + h % 2 = h := by omega
  rw [he] at hU
  have ho := d2 (h / 2) (by omega) r hr (h % 2) (by omega) d hd
  rw [he] at ho
  obtain ⟨e1, e2⟩ := c2 (h / 2) (by omega)
  obtain ⟨M, f1, f2⟩ := e2 (128 * (h % 2) + r) (by omega)
  have hZ : ∀ y, Z2 (s2 .kc) (s2 .q) (s2 .kt) (qSc (s .x)) l ((j - 8) * 128) (h / 2) y (128 * (h % 2) + r)
      = sco (s .x) (s .kc) (s .kt) l h r (if y ≤ 1024 + r then (j - 8) * 128 + y else (j - 8) * 128 + (y - 1024)) := by
    intro y
    unfold Z2
    rw [hc]
    split_ifs
    · rw [hU _ (by omega) (by omega) hr]
    · rw [hU _ (by omega) (by omega) hr]
  have hex : ∀ x, 128 ≤ x → x < 1152 → ex (s3 .s) (s3 .m) (h / 2) x (128 * (h % 2) + r)
      = pr M (sco (s .x) (s .kc) (s .kt) l h r (if x ≤ 1024 + r then (j - 8) * 128 + x else (j - 8) * 128 + (x - 1024))) := by
    intro x hx hx'
    unfold ex pr
    rw [f1, e1 x _ (by omega) hx' (by omega), hZ]
  rw [ho]
  unfold outv
  rw [hvt, hvs]
  have := KO_full (sco (s .x) (s .kc) (s .kt) l h r) (fun t => at2 (s .vt) d t) (at2 (s .vs) 0 d) ((j - 8) * 128) r (by omega) hr M (fun v => (f2 v).trans (by simp only [hZ]))
    (fun x => P2 (s3 .s) (s3 .m) (h / 2) x (128 * (h % 2) + r)) ?_
  · rw [show (j - 8) * 128 + 1024 + r = 128 * j + r by omega] at this
    refine (congrArg (KO _ _ _ _) (comb _ rfl ?_)).mpr this
    refine Finset.sum_congr rfl fun x hx => ?_
    rw [hex _ (by omega) (by have := Finset.mem_range.1 hx; omega)]
  · intro x hx
    unfold P2
    rw [hc]
    split_ifs <;> first | omega | rfl | skip
    · rw [hex _ (by omega) (by omega), if_neg (by omega), show (j - 8) * 128 + (1024 + x - 1024) = (j - 8) * 128 + x by omega]
    · rw [hex _ (by omega) (by omega), if_pos (by omega)]
    · rw [hex _ (by omega) (by omega), if_pos (by omega)]

end Cert.Body
-- ==== Proof.SemPrep.lean ====
/- A key-value head's preparation, index by index: the mean, the scales and the codes of the keys, the channel scales
   and the codes of the values. -/
module

public import proofs.«01_k».proof.Proof.SemStep

@[expose] public section

set_option maxRecDepth 16384

noncomputable section

namespace Cert.Body

open Idealize.ShloMosaic
open Cert.Mem

/-- The mean of a key channel. -/
def kMn (K : (sh3 1 4096 128).Idx → EReal) (d : Nat) : EReal := (∑ t ∈ Finset.range 4096, at3 K 0 t d) * Ideal.ofBits .f32 0x39800000#32

/-- A key less the mean. -/
def kCen (K : (sh3 1 4096 128).Idx → EReal) (t d : Nat) : EReal := at3 K 0 t d - kMn K d

/-- A key group's scale. -/
def kSc (K : (sh3 1 4096 128).Idx → EReal) (g : Nat) : EReal :=
  scl (Finset.fold max botC (fun d : Fin 128 => Finset.fold max botC (fun r : Fin 8 => Finset.fold max botC
    (fun x : Fin 8 => FloatOps.absf (F := Ideal) (φ := .f32) (kCen K (64 * g + (x.val * 8 + r.val)) d)) Finset.univ) Finset.univ) Finset.univ)

theorem sum_rows64 (m : Nat) (f : Nat → EReal) : ∑ x : Fin 8, ∑ k ∈ Finset.range m, ∑ y : Fin 64, f (512 * k + (y.val * 8 + x.val)) = ∑ x ∈ Finset.range (m * 512), f x := by
  have h16 : ∀ (b : Nat), ∑ x : Fin 8, ∑ y : Fin 64, f (b + (y.val * 8 + x.val)) = ∑ x ∈ Finset.range 512, f (b + x) := by
    intro b
    rw [Finset.sum_comm, Finset.sum_range (n := 512)]
    rw [← (finProdFinEquiv (m := 64) (n := 8)).sum_comp, Fintype.sum_prod_type]
    refine Finset.sum_congr rfl fun y _ => Finset.sum_congr rfl fun x _ => ?_
    congr 2
    simp [finProdFinEquiv]; omega
  rw [Finset.sum_comm]
  simp only [h16]
  induction m with
  | zero => simp
  | succ m ih =>
    rw [Finset.sum_range_succ, ih, show (m + 1) * 512 = m * 512 + 512 by ring, Finset.sum_range_add]
    congr 1
    refine Finset.sum_congr rfl fun x _ => ?_
    congr 1; omega

theorem zero32 : (Ideal.ofBits .f32 0x00000000#32 : EReal) = 0 := by simp [Ideal.ofBits, Ideal.ieee]
theorem zero16 : (Ideal.ofBits .bf16 0x0000#16 : EReal) = 0 := by simp [Ideal.ofBits, Ideal.ieee]
theorem bot16 : (Ideal.ofBits .bf16 0xFF80#16 : EReal) = ⊥ := by simp [Ideal.ofBits, Ideal.ieee]
theorem bot32 : (Ideal.ofBits .f32 0xFF800000#32 : EReal) = ⊥ := by simp [Ideal.ofBits, Ideal.ieee]

theorem sumK_post (s : S) : Post (sumK (F := Ideal)) s fun acc s' => s' = s ∧ ∀ d : Fin 128, meanOf acc (ix2 0 d) = kMn (s .k) d := by
  unfold sumK
  refine Post.mono (Post.forL (fun m (acc : FVec Ideal (sh2 8 128) .f32) s' => s' = s ∧ ∀ (r : Fin 8) (d : Fin 128),
    acc (ix2 r d) = ∑ k ∈ Finset.range m, ∑ x : Fin 64, at3 (s .k) 0 (512 * k + (x.val * 8 + r.val)) d) lp8 _ _ s ⟨rfl, fun r d => ?_⟩ ?_) ?_
  · rw [Finset.range_zero, Finset.sum_empty]; exact zero32
  · rintro k acc s' ⟨rfl, h⟩
    unfold sumStep
    refine Post.loadx fun b hb => Post.ret ⟨rfl, fun r d => ?_⟩
    rw [Finset.sum_range_succ]
    refine congrArg₂ (· + ·) (h r d) ((chunkSum_at _ _ _).trans (Finset.sum_congr rfl fun x _ => ?_))
    refine (hb _).trans ((ld3f _ _ _ _ _).trans ?_)
    rw [at512_eq]; simp
  · rintro acc s' ⟨rfl, h⟩
    refine ⟨rfl, fun d => ?_⟩
    rw [lp8_trips] at h
    rw [meanOf_at]
    unfold kMn
    congr 1
    simp only [h]
    exact sum_rows64 8 fun t => at3 (s' .k) 0 t d

section Chunk
variable (mean : FVec Ideal (sh2 1 128) .f32) (K : (sh3 1 4096 128).Idx → EReal) (hm : ∀ d : Fin 128, mean (ix2 0 d) = kMn K d) (k : Fin lp8.trips)
include hm

theorem cen_val (g : Nat) (hg : g < 8) (s : S) (hK : s .k = K) (b : Vec Ideal (sh3 1 64 128) .bf16)
    (hb : ∀ i, b i = s .k ((Rect.unit (s := sh3 1 4096 128) ![0, atC k (BitVec.ofNat 32 (64 * g)), 0] (sh3 1 64 128).size (inb3 (by omega) (at64_le k g hg) (by omega))).emb i))
    (r : Fin 64) (d : Fin 128) : centred mean b (ix2 r d) = kCen K (512 * k.val + 64 * g + r.val) d := by
  rw [centred_at, hm]
  unfold kCen
  congr 1
  refine (hb _).trans ((ld3f _ _ _ _ _).trans ?_)
  rw [at64_eq k g hg, hK]; simp

theorem amaxK_post (s : S) (hK : s .k = K) : Post (amaxK mean k) s fun rows s' => s' = s ∧ ∀ (g : Fin 8) (d : Fin 128), tabOf rows (ix2 g d) = kSc K (8 * k.val + g.val) := by
  unfold amaxK
  refine Post.mono (Post.unroll (fun m (rows : Nat → FVec Ideal (sh2 1 128) .f32) s' => s' = s ∧ ∀ g < m, ∀ d : Fin 128, rows g (ix2 0 d)
    = Finset.fold max botC (fun r : Fin 8 => Finset.fold max botC
    (fun x : Fin 8 => FloatOps.absf (F := Ideal) (φ := .f32) (kCen K (64 * (8 * k.val + g) + (x.val * 8 + r.val)) d)) Finset.univ) Finset.univ)
    8 _ _ s ⟨rfl, by intros; omega⟩ ?_) ?_
  · rintro g hg rows s' ⟨rfl, h⟩
    unfold kRows
    refine Post.loadx fun b hb => Post.ret ⟨rfl, fun g' hg' d => ?_⟩
    unfold upd
    by_cases e : g' = g
    · subst e
      rw [if_pos rfl, amaxRow_at]
      congr 1; funext r; congr 1; funext x
      rw [cen_val mean K hm k g' hg s' hK b hb]
      congr 2
      show 512 * k.val + 64 * g' + (x.val * 8 + r.val) = _
      omega
    · rw [if_neg e]
      exact h g' (by omega) d
  · rintro rows s' ⟨rfl, h⟩
    refine ⟨rfl, fun g d => ?_⟩
    rw [tabOf_at]
    unfold kSc
    congr 2; funext x
    exact h g.val g.2 x

theorem codeK_post (tab : FVec Ideal (sh2 8 128) .f32) (ht : ∀ (g : Fin 8) (d : Fin 128), tab (ix2 g d) = kSc K (8 * k.val + g.val)) (g : Nat) (hg : g < 8) (s : S) (hK : s .k = K) :
    Post (codeK mean tab k g hg) s fun _ s' => Same [.kcode, .kc] s s' ∧ (∀ t d, d < 128 → at2 (s' .kc) t d
      = if 512 * k.val + 64 * g ≤ t ∧ t < 512 * k.val + 64 * g + 64 then cod (kCen K t d) (kSc K (t / 64)) else at2 (s .kc) t d)
    ∧ ∀ t d, d < 128 → b3 (s' .kcode) 0 t d
      = if 512 * k.val + 64 * g ≤ t ∧ t < 512 * k.val + 64 * g + 64 then code8 (cod (kCen K t d) (kSc K (t / 64))) else b3 (s .kcode) 0 t d := by
  unfold codeK kRows
  have e := at64_eq k g hg
  refine Post.loadx fun b hb => Post.load (Post.store fun s1 h1 g1 => Post.load (Post.store fun s2 h2 g2 => Post.ret
    ⟨(h1.mono (by simp)).trans (h2.mono (by simp)), fun t d hd => ?_, fun t d hd => ?_⟩))
  rotate_left
  · rw [h2 .kcode (by decide), g1]
    refine (ovb _ _ _ t d).trans ?_
    by_cases h : 512 * k.val + 64 * g ≤ t ∧ t < 512 * k.val + 64 * g + 64
    · rw [if_pos h, if_pos (by omega)]
      refine (castb _ _ (by omega : t - atC k (BitVec.ofNat 32 (64 * g)) < 64) (by omega : d - 0 < 128)).trans ?_
      refine congrArg code8 ?_
      refine (kCodes_at _ _ _ hg _ _).trans ?_
      rw [cen_val mean K hm k g hg s hK b hb, ht]
      have e1 : 512 * k.val + 64 * g + (t - atC k (BitVec.ofNat 32 (64 * g))) = t := by omega
      have e2 : 8 * k.val + g = t / 64 := by omega
      simp only [e1, e2, Nat.sub_zero]
    · rw [if_neg h, if_neg (by omega)]
  rw [g2, h1 .kc (by decide)]
  refine (ov2r _ _ _ t d).trans ?_
  by_cases h : 512 * k.val + 64 * g ≤ t ∧ t < 512 * k.val + 64 * g + 64
  · rw [if_pos h, if_pos (by omega)]
    refine (congrArg (fun f => at2 f _ d) (shapeCast_self _ _)).trans ?_
    refine (at2_of _ (by omega) hd).trans ?_
    refine (kCodes_at _ _ _ hg _ _).trans ?_
    rw [cen_val mean K hm k g hg s hK b hb, ht]
    have e1 : 512 * k.val + 64 * g + (t - atC k (BitVec.ofNat 32 (64 * g))) = t := by omega
    have e2 : 8 * k.val + g = t / 64 := by omega
    simp only [e1, e2]
  · rw [if_neg h, if_neg (by omega)]

theorem putTab_post (tab : FVec Ideal (sh2 8 128) .f32) (ht : ∀ (g : Fin 8) (d : Fin 128), tab (ix2 g d) = kSc K (8 * k.val + g.val)) (s : S) :
    Post (putTab k tab) s fun _ s' => Same [.kt] s s' ∧ ∀ g d, d < 128 → at2 (s' .kt) g d
      = if 8 * k.val ≤ g ∧ g < 8 * k.val + 8 then kSc K g else at2 (s .kt) g d := by
  unfold putTab
  refine Post.load (Post.store fun s1 h1 g1 => Post.ret ⟨h1, fun g d hd => ?_⟩)
  rw [g1]
  refine (ov2r _ _ _ g d).trans ?_
  have e := at8_eq k
  by_cases h : 8 * k.val ≤ g ∧ g < 8 * k.val + 8
  · rw [if_pos h, if_pos (by omega)]
    refine (congrArg (fun f => at2 f _ d) (shapeCast_self _ _)).trans ?_
    refine (at2_of _ (by omega) hd).trans ?_
    rw [ht]
    congr 1
    simp only; omega
  · rw [if_neg h, if_neg (by omega)]

theorem chunkK_post (s : S) (hK : s .k = K) : Post (chunkK mean k) s fun _ s' => Same [.kt, .kcode, .kc] s s'
    ∧ (∀ g d, d < 128 → at2 (s' .kt) g d = if 8 * k.val ≤ g ∧ g < 8 * k.val + 8 then kSc K g else at2 (s .kt) g d)
    ∧ (∀ t d, d < 128 → at2 (s' .kc) t d = if 512 * k.val ≤ t ∧ t < 512 * k.val + 512 then cod (kCen K t d) (kSc K (t / 64)) else at2 (s .kc) t d)
    ∧ ∀ t d, d < 128 → b3 (s' .kcode) 0 t d = if 512 * k.val ≤ t ∧ t < 512 * k.val + 512 then code8 (cod (kCen K t d) (kSc K (t / 64))) else b3 (s .kcode) 0 t d := by
  unfold chunkK
  refine Post.bind (Post.mono (amaxK_post mean K hm k s hK) ?_)
  rintro rows s0 ⟨rfl, ht⟩
  refine Post.bind (Post.mono (putTab_post mean K hm k _ ht s0) ?_)
  rintro _ s1 ⟨a1, a2⟩
  refine Post.mono (Post.unroll (fun m _ s' => Same [.kcode, .kc] s1 s' ∧ (∀ t d, d < 128 → at2 (s' .kc) t d
    = if 512 * k.val ≤ t ∧ t < 512 * k.val + 64 * m then cod (kCen K t d) (kSc K (t / 64)) else at2 (s1 .kc) t d)
    ∧ ∀ t d, d < 128 → b3 (s' .kcode) 0 t d
    = if 512 * k.val ≤ t ∧ t < 512 * k.val + 64 * m then code8 (cod (kCen K t d) (kSc K (t / 64))) else b3 (s1 .kcode) 0 t d) 8 _ _ s1 ⟨Same.refl _ _, fun t d _ => ?_, fun t d _ => ?_⟩ ?_) ?_
  · rw [if_neg (by omega)]
  · rw [if_neg (by omega)]
  · rintro g hg _ s' ⟨b1, b2, b3'⟩
    refine Post.mono (codeK_post mean K hm k _ ht g hg s' ?_) ?_
    · rw [b1 .k (by decide), a1 .k (by decide), hK]
    · rintro _ s2 ⟨c1, c2, c3⟩
      refine ⟨b1.trans c1, fun t d hd => ?_, fun t d hd => ?_⟩
      · rw [c2 t d hd, b2 t d hd]
        split_ifs <;> first | rfl | omega
      · rw [c3 t d hd, b3' t d hd]
        split_ifs <;> first | rfl | omega
  · rintro _ s' ⟨b1, b2, b3'⟩
    refine ⟨(a1.mono (by simp)).trans (b1.mono (by simp)), fun g d hd => ?_, fun t d hd => ?_, fun t d hd => ?_⟩
    · rw [b1 .kt (by decide)]; exact a2 g d hd
    · rw [b2 t d hd, a1 .kc (by decide)]
    · rw [b3' t d hd, a1 .kcode (by decide)]

end Chunk

/-! ## Values -/

/-- The power of two of biased exponent `e`. -/
def pw (e : Nat) : EReal := Ideal.ofBits .f32 (IntOp.shli .vector (BitVec.ofNat 32 e) 23#32)

abbrev cInv : EReal := Ideal.ofBits .f32 0x3B124925#32

/-- `A` is the largest size in value channel `d`, or zero. -/
def IsAm (V : (sh3 1 4096 128).Idx → EReal) (d : Nat) (A : EReal) : Prop :=
  ∀ v, A ≤ v ↔ 0 ≤ v ∧ ∀ t < 4096, FloatOps.absf (F := Ideal) (φ := .bf16) (at3 V 0 t d) ≤ v

theorem maxV_post (s : S) : Post (maxV (F := Ideal)) s fun acc s' => s' = s ∧ ∀ d : Fin 128, ∃ A, IsAm (s .v) d A ∧ yOf acc (ix2 0 d) = A * cInv := by
  unfold maxV
  refine Post.mono (Post.forL (fun m (acc : FVec Ideal (sh2 16 128) .bf16) s' => s' = s ∧ ∀ (r : Fin 16) (d : Fin 128) (v : EReal),
    acc (ix2 r d) ≤ v ↔ 0 ≤ v ∧ ∀ t < 512 * m, t % 16 = r.val → FloatOps.absf (F := Ideal) (φ := .bf16) (at3 (s .v) 0 t d) ≤ v) lp8 _ _ s ⟨rfl, fun r d v => ?_⟩ ?_) ?_
  · have : (broadcast (sh2 16 128) (Scalar.ofBits (F := Ideal) .bf16 0x0000#16)) (ix2 r d) = (0 : EReal) := zero16
    rw [this]
    exact ⟨fun h => ⟨h, by intros; omega⟩, fun h => h.1⟩
  · rintro k acc s' ⟨rfl, h⟩
    unfold maxStep
    refine Post.loadx fun b hb => Post.ret ⟨rfl, fun r d v => ?_⟩
    have e : ∀ x : Fin 32, b (ix3 0 ⟨x.val * 16 + r.val, by omega⟩ d) = at3 (s' .v) 0 (512 * k.val + (x.val * 16 + r.val)) d := fun x =>
      (hb _).trans ((ld3f _ _ _ _ _).trans (by rw [at512_eq]; simp))
    show max (acc (ix2 r d)) (chunkMax b (ix2 r d)) ≤ v ↔ _
    rw [max_le_iff, h, chunkMax_at, Finset.fold_max_le]
    simp only [e]
    constructor
    · rintro ⟨⟨h0, h1⟩, -, h2⟩
      refine ⟨h0, fun t ht hr => ?_⟩
      by_cases hlt : t < 512 * k.val
      · exact h1 t hlt hr
      · have := h2 ⟨(t - 512 * k.val) / 16, by omega⟩ (Finset.mem_univ _)
        simp only at this
        rwa [show 512 * k.val + ((t - 512 * k.val) / 16 * 16 + r.val) = t by omega] at this
    · rintro ⟨h0, h1⟩
      refine ⟨⟨h0, fun t ht hr => h1 t (by omega) hr⟩, by rw [bot16]; exact bot_le, fun x _ => h1 _ (by omega) (by omega)⟩
  · rintro acc s' ⟨rfl, h⟩
    rw [lp8_trips] at h
    refine ⟨rfl, fun d => ⟨_, ?_, yOf_at _ _⟩⟩
    intro v
    rw [Finset.fold_max_le]
    constructor
    · rintro ⟨-, h1⟩
      refine ⟨((h 0 d v).1 (h1 0 (Finset.mem_univ _))).1, fun t ht => ?_⟩
      exact ((h ⟨t % 16, by omega⟩ d v).1 (h1 _ (Finset.mem_univ _))).2 t (by omega) rfl
    · rintro ⟨h0, h1⟩
      exact ⟨by rw [botC, bot32]; exact bot_le, fun r _ => (h r d v).2 ⟨h0, fun t ht _ => h1 t (by omega)⟩⟩

/-- How many of the powers of two `y` reaches. -/
def cnt (m : Nat) (y : EReal) : Nat := ((Finset.range m).filter fun k => pw (1 + k) ≤ y).card

theorem lpE_trips : lpE.trips = 255 := by decide

theorem expV_post (y : FVec Ideal (sh2 1 128) .f32) (s : S) : Post (expV y (broadcast (sh2 1 128) 0#32) 1#32) s fun n s' =>
    s' = s ∧ ∀ d : Fin 128, n (ix2 0 d) = BitVec.ofNat 32 (cnt 255 (y (ix2 0 d))) := by
  unfold expV
  refine Post.mono (Post.forL (fun m (n : IVec (sh2 1 128) 32) s' => s' = s ∧ ∀ d : Fin 128, n (ix2 0 d) = BitVec.ofNat 32 (cnt m (y (ix2 0 d)))) lpE _ _ s ⟨rfl, fun d => ?_⟩ ?_) ?_
  · rfl
  · rintro k n s' ⟨rfl, h⟩
    refine Post.ret ⟨rfl, fun d => ?_⟩
    show IntOp.addi (n (ix2 0 d)) (reaches y (Scf.iv 1#32 1#32 k.val) (ix2 0 d)) = _
    have hk : Scf.iv 1#32 1#32 k.val = BitVec.ofNat 32 (1 + k.val) := by
      have : ∀ k : Fin 255, Scf.iv 1#32 1#32 k.val = BitVec.ofNat 32 (1 + k.val) := by decide
      exact this (k.cast lpE_trips)
    rw [reaches_at, h, hk]
    unfold cnt
    rw [Finset.range_add_one, Finset.filter_insert]
    show BitVec.ofNat 32 _ + (if pw (1 + k.val) ≤ y (ix2 0 d) then 1#32 else 0#32) = _
    split_ifs with hle
    · rw [Finset.card_insert_of_notMem (by simp), BitVec.ofNat_add]
    · simp
  · rintro n s' ⟨rfl, h⟩
    exact ⟨rfl, fun d => by rw [h, lpE_trips]⟩

/-- The scale and the inverse scale of a channel's count. -/
def scN (n : BitVec 32) : EReal := Ideal.ofBits .f32 (IntOp.shli .vector (IntOp.addi (expo n) 127#32) 23#32)
def invN (n : BitVec 32) : EReal := Ideal.ofBits .f32 (IntOp.shli .vector (IntOp.subi 127#32 (expo n)) 23#32)

theorem putVs_post (kv : Nat) (hkv : kv < 4) (n : IVec (sh2 1 128) 32) (s : S) : Post (putVs (F := Ideal) kv hkv n) s fun _ s' => Same [.vsc, .vs] s s'
    ∧ (∀ d : Fin 128, at2 (s' .vs) 0 d = scN (n (ix2 0 d)))
    ∧ ∀ h, ∀ d : Fin 128, at3 (s' .vsc) 0 h d = if h = kv then scN (n (ix2 0 d)) else at3 (s .vsc) 0 h d := by
  unfold putVs
  refine Post.load (Post.store fun s1 h1 g1 => Post.load (Post.store fun s2 h2 g2 => Post.ret ⟨(h1.mono (by simp)).trans (h2.mono (by simp)), fun d => ?_, fun h d => ?_⟩))
  · rw [g2]
    refine (ov2r _ _ _ 0 d.val).trans ?_
    rw [if_pos (by omega)]
    refine (congrArg (fun f => at2 f _ d.val) (shapeCast_self _ _)).trans ?_
    refine (at2_of _ (by omega) d.2).trans ?_
    exact vScale_at _ _
  · have hk : (BitVec.ofNat 32 kv).toNat = kv := by rw [BitVec.toNat_ofNat]; omega
    rw [h2 .vsc (by decide), g1]
    refine (ov3r _ _ _ 0 h d.val).trans ?_
    rw [hk]
    by_cases e : h = kv
    · subst e
      rw [if_pos rfl, if_pos (by omega), Nat.sub_self]
      refine (cast23 _ _ _ _).trans ?_
      refine (at2_of _ (by omega) d.2).trans ?_
      exact vScale_at _ _
    · rw [if_neg e, if_neg (by omega)]

theorem putKs_post (kv : Nat) (hkv : kv < 4) (s : S) : Post (putKs (F := Ideal) kv hkv) s fun _ s' => Same [.ks] s s'
    ∧ ∀ h, ∀ g : Fin 64, at3 (s' .ks) 0 h g = if h = kv then at2 (s .kt) g g else at3 (s .ks) 0 h g := by
  unfold putKs
  refine Post.loadx fun tab ht => Post.load (Post.store fun s1 h1 g1 => Post.ret ⟨h1, fun h g => ?_⟩)
  have hk : (BitVec.ofNat 32 kv).toNat = kv := by rw [BitVec.toNat_ofNat]; omega
  rw [g1]
  refine (ov3r _ _ _ 0 h g.val).trans ?_
  rw [hk]
  by_cases e : h = kv
  · subst e
    rw [if_pos rfl, if_pos (by omega), Nat.sub_self]
    refine (cast23 _ _ _ _).trans ?_
    refine (at2_of _ (by omega) g.2).trans ?_
    refine (flat_at _ _).trans ((ht _).trans ((ld2f _ _ _ _).trans ?_))
    simp only [Nat.zero_add]
  · rw [if_neg e, if_neg (by omega)]

/-- A value's code. -/
def vcd (x inv : EReal) : EReal := min (Ideal.ofBits .f32 0x43E00000#32) (max (Ideal.ofBits .f32 0xC3E00000#32) (x * inv))

/-- The value codes of a chunk, in place. -/
theorem vCodes_at (inv : FVec Ideal (sh2 1 128) .f32) (b : FVec Ideal (sh3 1 128 128) .bf16) (r d : Fin 128) :
    vCodes inv b (ix2 r d) = vcd (b (ix3 0 r d)) (inv (ix2 0 d)) := by
  unfold vcd
  pointwise [vCodes, xHead]

theorem codeV_post (inv : FVec Ideal (sh2 1 128) .f32) (k : Fin lp8.trips) (g : Nat) (hg : g < 4) (s : S) : Post (codeV inv k g hg) s fun _ s' =>
    Same [.vcode, .vt] s s' ∧ (∀ (d : Fin 128) t, at2 (s' .vt) d t
      = if 512 * k.val + 128 * g ≤ t ∧ t < 512 * k.val + 128 * g + 128 then vcd (at3 (s .v) 0 t d) (inv (ix2 0 d)) else at2 (s .vt) d t)
    ∧ ∀ (d : Fin 128) t, at3 (s' .vcode) 0 t d
      = if 512 * k.val + 128 * g ≤ t ∧ t < 512 * k.val + 128 * g + 128 then vcd (at3 (s .v) 0 t d) (inv (ix2 0 d)) else at3 (s .vcode) 0 t d := by
  unfold codeV
  refine Post.loadx fun b hb => Post.load (Post.store fun s1 h1 g1 => Post.load (Post.store fun s2 h2 g2 => Post.ret
    ⟨(h1.mono (by simp)).trans (h2.mono (by simp)), fun d t => ?_, fun d t => ?_⟩))
  · rw [g2, h1 .vt (by decide)]
    refine (ov2 _ _ _ d.val t).trans ?_
    have e := at128_eq k g hg
    by_cases h : 512 * k.val + 128 * g ≤ t ∧ t < 512 * k.val + 128 * g + 128
    · rw [if_pos h, if_pos (by omega)]
      refine (congrArg (fun f => at2 f (d.val - 0) _) (shapeCast_self _ _)).trans ?_
      refine (at2_of _ (by omega) (by omega)).trans ?_
      refine (vTrans_at _ _ _ _).trans ?_
      unfold vcd
      have e2 : b (ix3 0 ⟨t - atC k (BitVec.ofNat 32 (128 * g)), by omega⟩ d) = at3 (s .v) 0 t d := by
        refine (hb _).trans ((ld3f _ _ _ _ _).trans ?_)
        simp only [Nat.zero_add, Fin.val_zero]
        congr 1; omega
      exact congrArg (fun z => min (Ideal.ofBits .f32 0x43E00000#32) (max (Ideal.ofBits .f32 0xC3E00000#32) (z * inv (ix2 0 d)))) e2
    · rw [if_neg h, if_neg (by omega)]
  · rw [h2 .vcode (by decide), g1]
    refine (ov3r _ _ _ 0 t d.val).trans ?_
    have e := at128_eq k g hg
    by_cases h : 512 * k.val + 128 * g ≤ t ∧ t < 512 * k.val + 128 * g + 128
    · rw [if_pos h, if_pos (by omega)]
      refine (cast23 _ _ _ _).trans ?_
      refine (at2_of _ (by omega) d.2).trans ?_
      refine (vCodes_at _ _ _ _).trans ?_
      refine congrArg (fun z => vcd z (inv (ix2 0 d))) ?_
      refine (hb _).trans ((ld3f _ _ _ _ _).trans ?_)
      simp only [Nat.zero_add, Fin.val_zero]
      congr 1; omega
    · rw [if_neg h, if_neg (by omega)]

theorem chunkV_post (inv : FVec Ideal (sh2 1 128) .f32) (k : Fin lp8.trips) (s : S) : Post (chunkV inv k) s fun _ s' =>
    Same [.vcode, .vt] s s' ∧ (∀ (d : Fin 128) t, at2 (s' .vt) d t
      = if 512 * k.val ≤ t ∧ t < 512 * k.val + 512 then vcd (at3 (s .v) 0 t d) (inv (ix2 0 d)) else at2 (s .vt) d t)
    ∧ ∀ (d : Fin 128) t, at3 (s' .vcode) 0 t d
      = if 512 * k.val ≤ t ∧ t < 512 * k.val + 512 then vcd (at3 (s .v) 0 t d) (inv (ix2 0 d)) else at3 (s .vcode) 0 t d := by
  unfold chunkV
  refine Post.unroll (fun m _ s' => Same [.vcode, .vt] s s' ∧ (∀ (d : Fin 128) t, at2 (s' .vt) d t
      = if 512 * k.val ≤ t ∧ t < 512 * k.val + 128 * m then vcd (at3 (s .v) 0 t d) (inv (ix2 0 d)) else at2 (s .vt) d t)
    ∧ ∀ (d : Fin 128) t, at3 (s' .vcode) 0 t d
      = if 512 * k.val ≤ t ∧ t < 512 * k.val + 128 * m then vcd (at3 (s .v) 0 t d) (inv (ix2 0 d)) else at3 (s .vcode) 0 t d) 4 _ _ s ⟨Same.refl _ _, fun d t => ?_, fun d t => ?_⟩ ?_
  · rw [if_neg (by omega)]
  · rw [if_neg (by omega)]
  · rintro g hg _ s' ⟨b1, b2, b3⟩
    refine Post.mono (codeV_post inv k g hg s') ?_
    rintro _ s2 ⟨c1, c2, c3⟩
    refine ⟨b1.trans c1, fun d t => ?_, fun d t => ?_⟩
    · rw [c2, b2, b1 .v (by decide)]
      split_ifs <;> first | rfl | omega
    · rw [c3, b3, b1 .v (by decide)]
      split_ifs <;> first | rfl | omega

/-- What a head's preparation writes to the results: the codes of keys and values, and row `kv` of
    the scales of keys and values. -/
def Wrote (kv : Nat) (K V : (sh3 1 4096 128).Idx → EReal) (s s' : S) : Prop :=
  (∀ t < 4096, ∀ d < 128, b3 (s' .kcode) 0 t d = code8 (cod (kCen K t d) (kSc K (t / 64))))
    ∧ (∀ h, ∀ g < 64, at3 (s' .ks) 0 h g = if h = kv then kSc K g else at3 (s .ks) 0 h g)
    ∧ (∀ d : Fin 128, ∃ A, IsAm V d A ∧ ∀ t < 4096, at3 (s' .vcode) 0 t d = vcd (at3 V 0 t d) (invN (BitVec.ofNat 32 (cnt 255 (A * cInv)))))
    ∧ ∀ h, ∀ d : Fin 128, (h ≠ kv → at3 (s' .vsc) 0 h d = at3 (s .vsc) 0 h d)
      ∧ (h = kv → ∃ A, IsAm V d A ∧ at3 (s' .vsc) 0 h d = scN (BitVec.ofNat 32 (cnt 255 (A * cInv))))

/-- What a head's preparation leaves. -/
def Prepared (K V : (sh3 1 4096 128).Idx → EReal) (s : S) : Prop :=
  (∀ g < 64, ∀ d < 128, at2 (s .kt) g d = kSc K g) ∧ (∀ t < 4096, ∀ d < 128, at2 (s .kc) t d = cod (kCen K t d) (kSc K (t / 64)))
    ∧ ∀ d : Fin 128, ∃ A, IsAm V d A ∧ at2 (s .vs) 0 d = scN (BitVec.ofNat 32 (cnt 255 (A * cInv)))
      ∧ ∀ t < 4096, at2 (s .vt) d t = vcd (at3 V 0 t d) (invN (BitVec.ofNat 32 (cnt 255 (A * cInv))))

theorem prep_post (kv : Nat) (hkv : kv < 4) (s : S) : Post (prep (F := Ideal) kv hkv) s fun _ s' =>
    Same [.kt, .kcode, .kc, .ks, .vsc, .vs, .vcode, .vt, .qs] s s' ∧ Prepared (s .k) (s .v) s' ∧ Wrote kv (s .k) (s .v) s s' := by
  unfold prep prepK
  refine Post.bind (Post.bind (Post.mono (sumK_post s) ?_))
  rintro acc s0 ⟨rfl, hm⟩
  refine Post.bind (Post.mono (Post.forL (fun m _ s' => Same [.kt, .kcode, .kc] s0 s' ∧ (∀ g d, d < 128 → g < 8 * m → at2 (s' .kt) g d = kSc (s0 .k) g)
    ∧ (∀ t d, d < 128 → t < 512 * m → at2 (s' .kc) t d = cod (kCen (s0 .k) t d) (kSc (s0 .k) (t / 64)))
    ∧ ∀ t d, d < 128 → t < 512 * m → b3 (s' .kcode) 0 t d = code8 (cod (kCen (s0 .k) t d) (kSc (s0 .k) (t / 64)))) lp8 _ _ s0
    ⟨Same.refl _ _, by intros; omega, by intros; omega, by intros; omega⟩ ?_) ?_)
  · rintro k _ s1 ⟨a1, a2, a3, a4⟩
    refine Post.mono (chunkK_post (meanOf acc) (s0 .k) hm k s1 (a1 .k (by decide))) ?_
    rintro _ s2 ⟨b1, b2, b3, b4⟩
    refine ⟨a1.trans b1, fun g d hd hg => ?_, fun t d hd ht => ?_, fun t d hd ht => ?_⟩
    · rw [b2 g d hd]
      split_ifs
      · rfl
      · exact a2 g d hd (by omega)
    · rw [b3 t d hd]
      split_ifs
      · rfl
      · exact a3 t d hd (by omega)
    · rw [b4 t d hd]
      split_ifs
      · rfl
      · exact a4 t d hd (by omega)
  rintro _ s1 ⟨a1, a2, a3, a4⟩
  rw [lp8_trips] at a2 a3 a4
  refine Post.bind (Post.mono (putKs_post kv hkv s1) ?_)
  rintro _ s2 ⟨b1, b2⟩
  refine Post.bind (Post.mono (maxV_post s2) ?_)
  rintro a _ ⟨rfl, hy⟩
  refine Post.ret (Post.bind (Post.mono (expV_post (yOf a) _) ?_))
  rintro n s2 ⟨rfl, hn⟩
  refine Post.bind (Post.mono (putVs_post kv hkv n s2) ?_)
  rintro _ s3 ⟨c1, c2, c3⟩
  refine Post.bind (Post.mono (Post.forL (fun m _ s' => Same [.vcode, .vt] s3 s' ∧ (∀ (d : Fin 128) t, t < 512 * m → at2 (s' .vt) d t
    = vcd (at3 (s3 .v) 0 t d) (vInv (F := Ideal) n (ix2 0 d))) ∧ ∀ (d : Fin 128) t, t < 512 * m → at3 (s' .vcode) 0 t d
    = vcd (at3 (s3 .v) 0 t d) (vInv (F := Ideal) n (ix2 0 d))) lp8 _ _ s3 ⟨Same.refl _ _, by intros; omega, by intros; omega⟩ ?_) ?_)
  · rintro k _ s4 ⟨d1, d2, d3⟩
    refine Post.mono (chunkV_post _ k s4) ?_
    rintro _ s5 ⟨e1, e2, e3⟩
    refine ⟨d1.trans e1, fun d t ht => ?_, fun d t ht => ?_⟩
    · rw [e2, d1 .v (by decide)]
      split_ifs
      · rfl
      · exact d2 d t (by omega)
    · rw [e3, d1 .v (by decide)]
      split_ifs
      · rfl
      · exact d3 d t (by omega)
  rintro _ s4 ⟨d1, d2, d3⟩
  rw [lp8_trips] at d2 d3
  refine Post.load (Post.store fun s5 e1 _ => Post.ret ?_)
  have hv : s3 .v = s0 .v := by rw [c1 .v (by decide), b1 .v (by decide), a1 .v (by decide)]
  refine ⟨(a1.mono (by simp)).trans ((b1.mono (by simp)).trans ((c1.mono (by simp)).trans ((d1.mono (by simp)).trans (e1.mono (by simp))))), ⟨fun g hg d hd => ?_, fun t ht d hd => ?_, fun d => ?_⟩, fun t ht d hd => ?_, fun h g hg => ?_, fun d => ?_, fun h d => ⟨fun hne => ?_, fun he => ?_⟩⟩
  · rw [e1 .kt (by decide), d1 .kt (by decide), c1 .kt (by decide), b1 .kt (by decide)]
    exact a2 g d hd (by omega)
  · rw [e1 .kc (by decide), d1 .kc (by decide), c1 .kc (by decide), b1 .kc (by decide)]
    exact a3 t d hd (by omega)
  · obtain ⟨A, hA, hA'⟩ := hy d
    rw [b1 .v (by decide), a1 .v (by decide)] at hA
    refine ⟨A, hA, ?_, fun t ht => ?_⟩
    · rw [e1 .vs (by decide), d1 .vs (by decide), c2, hn, hA']
    · rw [e1 .vt (by decide), d2 d t (by omega), hv, vInv_at, hn, hA']
      rfl
  · rw [e1 .kcode (by decide), d1 .kcode (by decide), c1 .kcode (by decide), b1 .kcode (by decide)]
    exact a4 t d hd (by omega)
  · rw [e1 .ks (by decide), d1 .ks (by decide), c1 .ks (by decide)]
    have := b2 h ⟨g, hg⟩
    simp only at this
    rw [this, a2 g g (by omega) (by omega), a1 .ks (by decide)]
  · obtain ⟨A, hA, hA'⟩ := hy d
    rw [b1 .v (by decide), a1 .v (by decide)] at hA
    refine ⟨A, hA, fun t ht => ?_⟩
    rw [e1 .vcode (by decide), d3 d t (by omega), hv, vInv_at, hn, hA']
    rfl
  · rw [e1 .vsc (by decide), d1 .vsc (by decide), c3, if_neg hne, b1 .vsc (by decide), a1 .vsc (by decide)]
  · obtain ⟨A, hA, hA'⟩ := hy d
    rw [b1 .v (by decide), a1 .v (by decide)] at hA
    refine ⟨A, hA, ?_⟩
    rw [e1 .vsc (by decide), d1 .vsc (by decide), c3, if_pos he, hn, hA']

end Cert.Body
-- ==== Proof.Math.lean ====
/- Windowed attention over the reals: the softmax of real scores does not depend on the number subtracted from them,
   and a scale by a positive number put on the values and taken off the product cancels. -/
module

public import proofs.«01_k».proof.Proof.SemWhole
public import proofs.«01_k».proof.Proof.SemPrep

@[expose] public section

noncomputable section

namespace Cert.Body

open Idealize.ShloMosaic

theorem c448_eq : c448 = ((448 : ℝ) : EReal) := by simp [c448, Ideal.ofBits, Ideal.ieee, -EReal.coe_mul]; norm_num
theorem cm448_eq : (Ideal.ofBits .f32 0xC3E00000#32 : EReal) = ((-448 : ℝ) : EReal) := by
  simp [Ideal.ofBits, Ideal.ieee, -EReal.coe_mul, -EReal.coe_neg]; norm_num
theorem c8_eq : (Ideal.ofBits .f32 0x41000000#32 : EReal) = ((8 : ℝ) : EReal) := by simp [Ideal.ofBits, Ideal.ieee, -EReal.coe_mul]; norm_num
theorem c256_eq : (Ideal.ofBits .f32 0x43800000#32 : EReal) = ((256 : ℝ) : EReal) := by simp [Ideal.ofBits, Ideal.ieee, -EReal.coe_mul]; norm_num
theorem c256i_eq : (Ideal.ofBits .f32 0x3B800000#32 : EReal) = ((256⁻¹ : ℝ) : EReal) := by
  simp [Ideal.ofBits, Ideal.ieee, -EReal.coe_mul, -EReal.coe_inv]; norm_num

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem clip_coe (x : ℝ) (h : |x| ≤ 448) : min (Ideal.ofBits .f32 0x43E00000#32) (max (Ideal.ofBits .f32 0xC3E00000#32) (x : EReal)) = x := by
  have h1 : (Ideal.ofBits .f32 0x43E00000#32 : EReal) = ((448 : ℝ) : EReal) := c448_eq
  rw [cm448_eq, h1]
  have := abs_le.1 h
  rw [max_eq_right (by exact_mod_cast this.1), min_eq_right (by exact_mod_cast this.2)]

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The softmax of the window's scores, applied to the values. -/
def nf (s v : Nat → ℝ) (q : Nat) : ℝ := (∑ t ∈ win q, Real.exp (s t) * v t) / ∑ t ∈ win q, Real.exp (s t)

theorem win_ne {q : Nat} (hq : q < 4096) : (win q).Nonempty := ⟨q, by rw [mem_win]; omega⟩

theorem nf_scaled (s v : Nat → ℝ) (q : Nat) (hq : q < 4096) (κ σ ρ : ℝ) (hκ : κ ≠ 0) (hσ : σ ≠ 0) (hρ : ρ ≠ 0) :
    (∑ t ∈ win q, (v t / σ) * (κ * Real.exp (s t) * ρ)) * ρ⁻¹ * σ / (∑ t ∈ win q, κ * Real.exp (s t)) = nf s v q := by
  have hpos : (∑ t ∈ win q, Real.exp (s t)) ≠ 0 := (Finset.sum_pos (fun t _ => Real.exp_pos _) (win_ne hq)).ne'
  have e1 : ∑ t ∈ win q, (v t / σ) * (κ * Real.exp (s t) * ρ) = κ * ρ / σ * ∑ t ∈ win q, Real.exp (s t) * v t := by
    rw [Finset.mul_sum]; refine Finset.sum_congr rfl fun t _ => ?_; ring
  rw [e1, ← Finset.mul_sum]
  unfold nf
  field_simp

theorem KO_eq (s v : Nat → ℝ) (σ : ℝ) (hσ : 0 < σ) (q : Nat) (hq : q < 4096) (hv : ∀ t < 4096, |v t| ≤ 448 * σ) (sc vt : Nat → EReal)
    (hsc : ∀ t ∈ win q, sc t = ((s t * (Real.log 2)⁻¹ : ℝ) : EReal)) (hvt : ∀ t ∈ win q, vt t = vcd (v t) ((σ⁻¹ : ℝ) : EReal)) (o : EReal) (h : KO sc vt σ q o) :
    o = (nf s v q : EReal) := by
  obtain ⟨M, hM, ho⟩ := h
  obtain ⟨t0, ht0, hm⟩ := (win q).exists_mem_eq_sup' (win_ne hq) fun t => s t * (Real.log 2)⁻¹
  have hle : ∀ t ∈ win q, s t * (Real.log 2)⁻¹ ≤ (win q).sup' (win_ne hq) fun t => s t * (Real.log 2)⁻¹ := fun t ht =>
    Finset.le_sup' (fun t => s t * (Real.log 2)⁻¹) ht
  generalize ((win q).sup' (win_ne hq) fun t => s t * (Real.log 2)⁻¹) = m at hm hle
  have hMm : M = (m : EReal) := by
    refine le_antisymm ((hM _).2 fun t ht => ?_) ?_
    · rw [hsc t ht]; exact_mod_cast hle t ht
    · rw [hm, ← hsc t0 ht0]; exact (hM M).1 le_rfl t0 ht0
  have hlog : Real.log 2 ≠ 0 := (Real.log_pos (by norm_num)).ne'
  have hpr : ∀ t ∈ win q, pr M (sc t) = (((2 : ℝ) ^ (8 - m) * Real.exp (s t) : ℝ) : EReal) ∧ (2 : ℝ) ^ (8 - m) * Real.exp (s t) ≤ 448 := by
    intro t ht
    have e : (2 : ℝ) ^ (s t * (Real.log 2)⁻¹ - (m - 8)) = (2 : ℝ) ^ (8 - m) * Real.exp (s t) := by
      rw [show s t * (Real.log 2)⁻¹ - (m - 8) = (8 - m) + s t * (Real.log 2)⁻¹ by ring, Real.rpow_add (by norm_num)]
      congr 1
      rw [Real.rpow_def_of_pos (by norm_num)]
      congr 1
      field_simp
    refine ⟨?_, ?_⟩
    · unfold pr
      rw [hMm, hsc t ht, c8_eq, ← EReal.coe_sub, ← EReal.coe_sub, ← e]
      rfl
    · rw [← e]
      have := hle t ht
      calc (2 : ℝ) ^ (s t * (Real.log 2)⁻¹ - (m - 8)) ≤ (2 : ℝ) ^ (8 : ℝ) := Real.rpow_le_rpow_of_exponent_le (by norm_num) (by linarith)
        _ ≤ 448 := by norm_num
  have hκ : (2 : ℝ) ^ (8 - m) ≠ 0 := (Real.rpow_pos_of_pos (by norm_num) _).ne'
  have e1 : (∑ t ∈ win q, vt t * min (pr M (sc t)) c448) = ((∑ t ∈ win q, (v t / σ) * ((2 : ℝ) ^ (8 - m) * Real.exp (s t) * 1) : ℝ) : EReal) := by
    rw [coe_sum']
    refine Finset.sum_congr rfl fun t ht => ?_
    rw [(hpr t ht).1, c448_eq, min_eq_left (by exact_mod_cast (hpr t ht).2), hvt t ht]
    unfold vcd
    rw [← EReal.coe_mul, clip_coe _ ?_, ← EReal.coe_mul, mul_one, div_eq_mul_inv]
    rw [← div_eq_mul_inv, abs_div, abs_of_pos hσ, div_le_iff₀ hσ]
    exact hv t ((mem_win _ _).1 ht).1
  have e2 : (∑ t ∈ win q, pr M (sc t)) = ((∑ t ∈ win q, (2 : ℝ) ^ (8 - m) * Real.exp (s t) : ℝ) : EReal) := by
    rw [coe_sum']
    exact Finset.sum_congr rfl fun t ht => (hpr t ht).1
  have hne : (∑ t ∈ win q, (2 : ℝ) ^ (8 - m) * Real.exp (s t)) ≠ 0 :=
    (Finset.sum_pos (fun t _ => mul_pos (Real.rpow_pos_of_pos (by norm_num) _) (Real.exp_pos _)) (win_ne hq)).ne'
  rw [ho, e1, e2, ← EReal.coe_one, div_coe _ _ hne, ← EReal.coe_mul, ← EReal.coe_mul, ← nf_scaled s v q hq ((2 : ℝ) ^ (8 - m)) σ 1 hκ hσ.ne' one_ne_zero]
  congr 1
  ring

theorem ref_eq (s v : Nat → ℝ) (σ : ℝ) (hσ : 0 < σ) (q : Nat) (hq : q < 4096) (hv : ∀ t < 4096, |v t| ≤ 448 * σ) (mk vc : Fin 4096 → EReal)
    (hmk : ∀ t, mk t = if t.val ∈ win q then (s t : EReal) else ⊥)
    (hvc : ∀ t, vc t = min (Ideal.ofBits .f32 0x43E00000#32) (max (Ideal.ofBits .f32 0xC3E00000#32) (Ideal.div (v t : EReal) (σ : EReal)))) :
    Ideal.div ((∑ t, vc t * min (Ideal.exp (mk t - Finset.fold max (Ideal.ofBits .f32 0xFF800000#32) mk Finset.univ) * Ideal.ofBits .f32 0x43800000#32) (Ideal.ofBits .f32 0x43E00000#32))
      * Ideal.ofBits .f32 0x3B800000#32 * (σ : EReal)) (∑ t, Ideal.exp (mk t - Finset.fold max (Ideal.ofBits .f32 0xFF800000#32) mk Finset.univ)) = (nf s v q : EReal) := by
  obtain ⟨t0, ht0, hm⟩ := (win q).exists_mem_eq_sup' (win_ne hq) s
  have hle : ∀ t ∈ win q, s t ≤ (win q).sup' (win_ne hq) s := fun t ht => Finset.le_sup' s ht
  generalize (win q).sup' (win_ne hq) s = m at hm hle
  have hlt : ∀ t ∈ win q, t < 4096 := fun t ht => ((mem_win _ _).1 ht).1
  have hM : Finset.fold max (Ideal.ofBits .f32 0xFF800000#32) mk Finset.univ = (m : EReal) := by
    refine le_antisymm ?_ ?_
    · rw [Finset.fold_max_le]
      refine ⟨by rw [bot32]; exact bot_le, fun t _ => ?_⟩
      rw [hmk]
      split_ifs with h
      · exact_mod_cast hle _ h
      · exact bot_le
    · rw [Finset.le_fold_max]
      refine Or.inr ⟨⟨t0, hlt t0 ht0⟩, Finset.mem_univ _, ?_⟩
      rw [hmk, if_pos ht0, hm]
  rw [hM]
  have hex : ∀ t : Fin 4096, Ideal.exp (mk t - (m : EReal)) = if t.val ∈ win q then ((Real.exp (-m) * Real.exp (s t) : ℝ) : EReal) else 0 := by
    intro t
    rw [hmk]
    split_ifs
    · rw [← EReal.coe_sub, Ideal.exp_coe, ← Real.exp_add]
      congr 2; ring
    · rw [sub_eq_add_neg, EReal.bot_add]; rfl
  have hs : ∀ f : Nat → EReal, (∑ t : Fin 4096, if t.val ∈ win q then f t else 0) = ∑ t ∈ win q, f t := by
    intro f
    rw [← Finset.sum_range (f := fun t => if t ∈ win q then f t else 0), ← Finset.sum_filter]
    refine Finset.sum_congr ?_ fun _ _ => rfl
    ext t; simp only [Finset.mem_filter, Finset.mem_range]
    exact ⟨fun h => h.2, fun h => ⟨hlt t h, h⟩⟩
  have e1 : (∑ t, vc t * min (Ideal.exp (mk t - (m : EReal)) * Ideal.ofBits .f32 0x43800000#32) (Ideal.ofBits .f32 0x43E00000#32))
      = ((∑ t ∈ win q, (v t / σ) * (Real.exp (-m) * Real.exp (s t) * 256) : ℝ) : EReal) := by
    rw [coe_sum', ← hs]
    refine Finset.sum_congr rfl fun t _ => ?_
    rw [hex]
    have h448 : (Ideal.ofBits .f32 0x43E00000#32 : EReal) = ((448 : ℝ) : EReal) := c448_eq
    split_ifs with h
    · rw [hvc, div_coe _ _ hσ.ne', clip_coe, c256_eq, h448, ← EReal.coe_mul, min_eq_left, ← EReal.coe_mul]
      · have h1 : Real.exp (-m) * Real.exp (s t) ≤ 1 := by
          rw [← Real.exp_add]
          have := hle _ h
          exact Real.exp_le_one_iff.2 (by linarith)
        exact_mod_cast (by linarith : Real.exp (-m) * Real.exp (s t) * 256 ≤ 448)
      · rw [abs_div, abs_of_pos hσ, div_le_iff₀ hσ]
        exact hv t t.2
    · rw [zero_mul, h448, min_eq_left (by exact_mod_cast (by norm_num : (0 : ℝ) ≤ 448)), mul_zero]
  have e2 : (∑ t, Ideal.exp (mk t - (m : EReal))) = ((∑ t ∈ win q, Real.exp (-m) * Real.exp (s t) : ℝ) : EReal) := by
    rw [coe_sum', ← hs]
    exact Finset.sum_congr rfl fun t _ => hex t
  have hne : (∑ t ∈ win q, Real.exp (-m) * Real.exp (s t)) ≠ 0 :=
    (Finset.sum_pos (fun t _ => mul_pos (Real.exp_pos _) (Real.exp_pos _)) (win_ne hq)).ne'
  rw [e1, e2, c256i_eq, ← EReal.coe_mul, ← EReal.coe_mul, div_coe _ _ hne, nf_scaled s v q hq _ σ 256 (Real.exp_pos _).ne' hσ.ne' (by norm_num)]

end Cert.Body
-- ==== Proof.Scale.lean ====
/- The value scale: counting the powers of two below a number finds its exponent, and the scale made of it covers the values. -/
module

public import proofs.«01_k».proof.Proof.Math

@[expose] public section

noncomputable section

namespace Cert.Body

open Idealize.ShloMosaic

theorem pw_fields : ∀ e : Fin 256, (BitVec.extractLsb' 31 1 (IntOp.shli .vector (BitVec.ofNat 32 e.val) 23#32) = 0#1)
    ∧ (BitVec.extractLsb' 23 8 (IntOp.shli .vector (BitVec.ofNat 32 e.val) 23#32)).toNat = e.val
    ∧ (BitVec.extractLsb' 0 23 (IntOp.shli .vector (BitVec.ofNat 32 e.val) 23#32)).toNat = 0 := by decide +kernel

theorem pw_eq (e : Nat) (h1 : 1 ≤ e) (h2 : e ≤ 254) : pw e = (((2 : ℝ) ^ ((e : Int) - 127) : ℝ) : EReal) := by
  obtain ⟨ha, hb, hc⟩ := pw_fields ⟨e, by omega⟩
  change Ideal.ieee 8 23 (IntOp.shli .vector (BitVec.ofNat 32 e) 23#32) = _
  simp only at ha hb hc
  unfold Ideal.ieee
  simp only [Nat.reduceAdd, ha, hb, hc]
  rw [if_neg (by omega), if_neg (by omega)]
  refine congrArg (fun r : ℝ => (r : EReal)) ?_
  have : (2 : ℝ) ^ ((e : Int) - 127) = (2 : ℝ) ^ (23 : Int) * (2 : ℝ) ^ ((e : Int) - 127 - 23) := by
    rw [← zpow_add₀ (by norm_num), show (23 : Int) + ((e : Int) - 127 - 23) = (e : Int) - 127 by ring]
  have hf : (0#1 == 1#1) = false := rfl
  rw [this, hf]
  simp only [Bool.false_eq_true, if_false, one_mul, Nat.add_zero, Nat.reduceSub]
  have e1 : (2 : ℝ) ^ (23 : Int) = ((2 ^ 23 : Nat) : ℝ) := by norm_num
  have e2 : ((e : Int) - 127 - 23) = (e : Int) - (2 ^ 7 - 1) - (23 : Nat) := by norm_num
  rw [e1, e2]

theorem pw_top : pw 255 = ⊤ := by
  obtain ⟨ha, hb, hc⟩ := pw_fields ⟨255, by omega⟩
  change Ideal.ieee 8 23 (IntOp.shli .vector (BitVec.ofNat 32 255) 23#32) = _
  simp only at ha hb hc
  unfold Ideal.ieee
  simp only [Nat.reduceAdd, ha, hb, hc]
  rw [if_pos (by norm_num)]
  simp

theorem pw_mono {a b : Nat} (h1 : 1 ≤ a) (hab : a ≤ b) (hb : b ≤ 255) : pw a ≤ pw b := by
  by_cases h : b = 255
  · rw [h, pw_top]; exact le_top
  · rw [pw_eq a h1 (by omega), pw_eq b (by omega) (by omega)]
    exact EReal.coe_le_coe_iff.2 (zpow_le_zpow_right₀ (by norm_num : (1 : ℝ) ≤ 2) (by omega))

theorem card_down (F : Finset Nat) (hF : ∀ a b, a ≤ b → b ∈ F → a ∈ F) (k : Nat) : k ∈ F ↔ k < F.card := by
  constructor
  · intro h
    have : Finset.range (k + 1) ⊆ F := fun a ha => hF a k (by simpa [Nat.lt_succ_iff] using ha) h
    simpa using Finset.card_le_card this
  · intro h
    by_contra hk
    have : F ⊆ Finset.range k := fun a ha => by
      rw [Finset.mem_range]; by_contra hc; exact hk (hF k a (by omega) ha)
    have := Finset.card_le_card this
    rw [Finset.card_range] at this
    omega

theorem cnt_iff (y : EReal) (k : Nat) (hk : k < 255) : pw (1 + k) ≤ y ↔ k < cnt 255 y := by
  unfold cnt
  rw [← card_down _ ?_ k]
  · simp [hk]
  · intro a b hab hb
    simp only [Finset.mem_filter, Finset.mem_range] at hb ⊢
    exact ⟨by omega, (pw_mono (by omega) (by omega) (by omega)).trans hb.2⟩

theorem scN_word : ∀ N : Fin 250, 1 ≤ N.val → IntOp.addi (expo (BitVec.ofNat 32 N.val)) 127#32 = BitVec.ofNat 32 (N.val + 1)
    ∧ IntOp.subi 127#32 (expo (BitVec.ofNat 32 N.val)) = BitVec.ofNat 32 (253 - N.val) := by decide +kernel

theorem scN_eq (N : Nat) (h1 : 1 ≤ N) (h2 : N < 250) : scN (BitVec.ofNat 32 N) = pw (N + 1) ∧ invN (BitVec.ofNat 32 N) = pw (253 - N) := by
  obtain ⟨a, b⟩ := scN_word ⟨N, h2⟩ h1
  exact ⟨congrArg (fun z => Ideal.ofBits .f32 (IntOp.shli .vector z 23#32)) a, congrArg (fun z => Ideal.ofBits .f32 (IntOp.shli .vector z 23#32)) b⟩

theorem scN_zero : scN (BitVec.ofNat 32 0) = ((1 : ℝ) : EReal) ∧ invN (BitVec.ofNat 32 0) = ((1 : ℝ) : EReal) := by
  have h : pw 127 = ((1 : ℝ) : EReal) := by rw [pw_eq 127 (by norm_num) (by norm_num)]; norm_num
  have a : IntOp.addi (expo (BitVec.ofNat 32 0)) 127#32 = BitVec.ofNat 32 127 := by decide +kernel
  have b : IntOp.subi 127#32 (expo (BitVec.ofNat 32 0)) = BitVec.ofNat 32 127 := by decide +kernel
  exact ⟨(congrArg (fun z => Ideal.ofBits .f32 (IntOp.shli .vector z 23#32)) a).trans h, (congrArg (fun z => Ideal.ofBits .f32 (IntOp.shli .vector z 23#32)) b).trans h⟩

def cI : ℝ := 9586981 * 2 ^ (-32 : Int)
theorem cInv_eq : cInv = (cI : EReal) := by
  simp [cInv, cI, Ideal.ofBits, Ideal.ieee, -EReal.coe_mul]
theorem cI_ge : 1 ≤ cI * 448 := by unfold cI; norm_num
theorem cI_le : cI ≤ 1 / 256 := by unfold cI; norm_num

/-- The kernel's scale of one value column, and its inverse. -/
theorem kscale (v : Nat → ℝ) (A : EReal) (hA : ∀ z : EReal, A ≤ z ↔ 0 ≤ z ∧ ∀ t < 4096, ((|v t| : ℝ) : EReal) ≤ z) (hB : ∀ t < 4096, |v t| ≤ 2 ^ (128 : Nat)) :
    ∃ σ : ℝ, 0 < σ ∧ scN (BitVec.ofNat 32 (cnt 255 (A * cInv))) = (σ : EReal) ∧ invN (BitVec.ofNat 32 (cnt 255 (A * cInv))) = ((σ⁻¹ : ℝ) : EReal)
      ∧ ∀ t < 4096, |v t| ≤ 448 * σ := by
  obtain ⟨h0, hle⟩ := (hA A).1 le_rfl
  have hup : A ≤ (((2 : ℝ) ^ (128 : Nat) : ℝ) : EReal) := (hA _).2 ⟨by exact_mod_cast (by positivity : (0 : ℝ) ≤ 2 ^ 128), fun t ht => by exact_mod_cast hB t ht⟩
  lift A to ℝ using ⟨fun h => by rw [h] at hup; exact absurd hup (not_le.2 (EReal.coe_lt_top _)), fun h => by rw [h] at h0; exact absurd h0 (by simp)⟩
  have h0' : (0 : ℝ) ≤ A := by exact_mod_cast h0
  have hup' : A ≤ (2 : ℝ) ^ (128 : Nat) := by exact_mod_cast hup
  rw [cInv_eq, ← EReal.coe_mul]
  have hcov : ∀ σ : ℝ, A * cI ≤ σ → ∀ t < 4096, |v t| ≤ 448 * σ := by
    intro σ hσ t ht
    have : |v t| ≤ A := by exact_mod_cast hle t ht
    nlinarith [cI_ge]
  have hN : cnt 255 ((A * cI : ℝ) : EReal) < 249 := by
    by_contra hc
    have := (cnt_iff ((A * cI : ℝ) : EReal) 248 (by norm_num)).2 (by omega)
    rw [pw_eq _ (by norm_num) (by norm_num)] at this
    have : (2 : ℝ) ^ (((1 + 248 : Nat) : Int) - 127) ≤ A * cI := by exact_mod_cast this
    have h3 : A * cI ≤ 2 ^ 128 * (1 / 256) := mul_le_mul hup' cI_le (by unfold cI; positivity) (by positivity)
    norm_num at this h3
    linarith
  have hlt : ¬ pw (1 + cnt 255 ((A * cI : ℝ) : EReal)) ≤ ((A * cI : ℝ) : EReal) := fun h => by
    have := (cnt_iff ((A * cI : ℝ) : EReal) _ (by omega)).1 h
    omega
  generalize cnt 255 ((A * cI : ℝ) : EReal) = N at hN hlt ⊢
  rw [pw_eq _ (by omega) (by omega)] at hlt
  have hlt' : A * cI < (2 : ℝ) ^ (((1 + N : Nat) : Int) - 127) := by
    have := not_le.1 hlt
    exact_mod_cast this
  by_cases hz : N = 0
  · subst hz
    refine ⟨1, one_pos, scN_zero.1, by rw [scN_zero.2]; norm_num, hcov 1 ?_⟩
    refine hlt'.le.trans ?_
    norm_num
  · refine ⟨(2 : ℝ) ^ (((1 + N : Nat) : Int) - 127), by positivity, ?_, ?_, hcov _ hlt'.le⟩
    · rw [(scN_eq N (by omega) (by omega)).1, pw_eq _ (by omega) (by omega), Nat.add_comm]
    · rw [(scN_eq N (by omega) (by omega)).2, pw_eq _ (by omega) (by omega), ← zpow_neg]
      congr 2
      omega

/-- The reference's scale of one value column. -/
theorem rscale (v : Nat → ℝ) (a : ℝ) (h0 : 0 ≤ a) (hle : ∀ t < 4096, |v t| ≤ a) :
    ∃ σ : ℝ, 0 < σ ∧ Ideal.pow (Ideal.ofBits .f32 0x40000000#32)
        (if ((a * cI : ℝ) : EReal) < Ideal.ofBits .f32 0x00800000#32 then 0
          else Ideal.liftRound Int.floor (Ideal.div (Ideal.log ((a * cI : ℝ) : EReal)) (Ideal.log (Ideal.ofBits .f32 0x40000000#32))) + 1) = (σ : EReal)
      ∧ ∀ t < 4096, |v t| ≤ 448 * σ := by
  have h2 : (Ideal.ofBits .f32 0x40000000#32 : EReal) = ((2 : ℝ) : EReal) := by simp [Ideal.ofBits, Ideal.ieee, -EReal.coe_mul]; norm_num
  have h1 : (1 : EReal) = ((1 : ℝ) : EReal) := EReal.coe_one.symm
  have hmin : (Ideal.ofBits .f32 0x00800000#32 : EReal) = (((2 : ℝ) ^ (-126 : Int) : ℝ) : EReal) := by simp [Ideal.ofBits, Ideal.ieee, -EReal.coe_mul]; norm_num
  have hcov : ∀ σ : ℝ, a * cI ≤ σ → ∀ t < 4096, |v t| ≤ 448 * σ := by
    intro σ hσ t ht
    have := hle t ht
    nlinarith [cI_ge]
  rw [h2, hmin, h1]
  split_ifs with h
  · have h' : a * cI < (2 : ℝ) ^ (-126 : Int) := by exact_mod_cast h
    refine ⟨1, one_pos, ?_, hcov 1 (h'.le.trans (by norm_num))⟩
    rw [← EReal.coe_zero]
    show ((Real.rpow 2 0 : ℝ) : EReal) = _
    rw [Real.rpow_eq_pow, Real.rpow_zero]
  · have h' : (2 : ℝ) ^ (-126 : Int) ≤ a * cI := by
      have := not_lt.1 h
      exact_mod_cast this
    have hy : 0 < a * cI := lt_of_lt_of_le (by positivity) h'
    have hl : Real.log 2 ≠ 0 := (Real.log_pos (by norm_num)).ne'
    rw [Ideal.log_coe, Ideal.log_coe, if_neg (not_le.2 hy), if_neg (by norm_num), div_coe _ _ hl, Ideal.liftRound_coe, ← EReal.coe_add]
    refine ⟨(2 : ℝ) ^ ((⌊Real.log (a * cI) / Real.log 2⌋ : ℝ) + 1), Real.rpow_pos_of_pos (by norm_num) _, rfl, hcov _ ?_⟩
    have := Int.lt_floor_add_one (Real.log (a * cI) / Real.log 2)
    calc a * cI = (2 : ℝ) ^ (Real.log (a * cI) / Real.log 2) := by
          rw [Real.rpow_def_of_pos (by norm_num), mul_div_cancel₀ _ hl, Real.exp_log hy]
      _ ≤ _ := Real.rpow_le_rpow_of_exponent_le (by norm_num) this.le

end Cert.Body
-- ==== Proof.RefRun.lean ====
/- What the reference's host operations leave in its result buffers, and in the array that its last step, a kernel of one
   point, turns into float8: each buffer's composed term of the arguments, window of operations by window. -/
module

public import proofs.«01_k».proof.Proof.Gen.ReferenceIdeal.Frame
public import Idealize.ShloMosaic.Lib.StableHlo.Run

@[expose] public section

set_option Elab.async false

noncomputable section

namespace Cert.ReferenceIdeal.Entry

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 183 (window `main_part0`). -/
abbrev ops_part0_0 : List (HloOp τ sig (Elt F)) :=
  [ unary main_arg0 main_v0 ((extf .f32 · bitsLt_bf16_f32) : (⟨S8x4096x4096, .bf16⟩ : BufTy).Contents (Elt F) → (⟨S8x4096x4096, .f32⟩ : BufTy).Contents (Elt F)),
    reshape main_v0 main_v1 (rfl : (.f32 : EltTy) = .f32) shapeCasts_S8x4096x4096_S8x4096x32x128,
    nullary main_cst (constant S_ .f32 0x3DB504F3#32),
    unary main_cst main_v2 (broadcastInDim S8x4096x32x128 ![] bcast_S_S8x4096x32x128 : (⟨S_, .f32⟩ : BufTy).Contents (Elt F) → (⟨S8x4096x32x128, .f32⟩ : BufTy).Contents (Elt F)),
    binary main_v1 main_v2 main_v3 (mulf : (⟨S8x4096x32x128, .f32⟩ : BufTy).Contents (Elt F) → (⟨S8x4096x32x128, .f32⟩ : BufTy).Contents (Elt F) → (⟨S8x4096x32x128, .f32⟩ : BufTy).Contents (Elt F)),
    reshape main_v3 main_v4 (rfl : (.f32 : EltTy) = .f32) shapeCasts_S8x4096x32x128_S8x32x128x32x128,
    unary main_v4 main_v5 (Host.absf : (⟨S8x32x128x32x128, .f32⟩ : BufTy).Contents (Elt F) → (⟨S8x32x128x32x128, .f32⟩ : BufTy).Contents (Elt F)),
    nullary main_cst_0 (constant S_ .f32 0xFF800000#32),
    binary main_v5 main_cst_0 main_v6 ((fun x v => Host.reduce FloatOps.maximumf x v reducesTo_S8x32x128x32x128_S8x32x128x32_d4 h_S_) : (⟨S8x32x128x32x128, .f32⟩ : BufTy).Contents (Elt F) → (⟨S_, .f32⟩ : BufTy).Contents (Elt F) → (⟨S8x32x128x32, .f32⟩ : BufTy).Contents (Elt F)),
    nullary main_cst_1 (constant S_ .f32 0xFF800000#32),
    binary main_v6 main_cst_1 main_v7 ((fun x v => Host.reduce FloatOps.maximumf x v reducesTo_S8x32x128x32_S8x32x32_d2 h_S_) : (⟨S8x32x128x32, .f32⟩ : BufTy).Contents (Elt F) → (⟨S_, .f32⟩ : BufTy).Contents (Elt F) → (⟨S8x32x32, .f32⟩ : BufTy).Contents (Elt F)),
    nullary main_cst_2 (constant S_ .f32 0x00000000#32),
    unary main_cst_2 main_v8 (broadcastInDim S8x32x32 ![] bcast_S_S8x32x32 : (⟨S_, .f32⟩ : BufTy).Contents (Elt F) → (⟨S8x32x32, .f32⟩ : BufTy).Contents (Elt F)),
    binary main_v7 main_v8 main_v9 (cmpf .ogt : (⟨S8x32x32, .f32⟩ : BufTy).Contents (Elt F) → (⟨S8x32x32, .f32⟩ : BufTy).Contents (Elt F) → (⟨S8x32x32, .i1⟩ : BufTy).Contents (Elt F)),
    nullary main_cst_3 (constant S_ .f32 0x42FE0000#32),
    unary main_cst_3 main_v10 (broadcastInDim S8x32x32 ![] bcast_S_S8x32x32 : (⟨S_, .f32⟩ : BufTy).Contents (Elt F) → (⟨S8x32x32, .f32⟩ : BufTy).Contents (Elt F)),
    binary main_v7 main_v10 main_v11 (Host.divf : (⟨S8x32x32, .f32⟩ : BufTy).Contents (Elt F) → (⟨S8x32x32, .f32⟩ : BufTy).Contents (Elt F) → (⟨S8x32x32, .f32⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S8x32x32, .f32⟩) main_call0_v1) (broadcastInDim S8x32x32 ![] bcast_S_S8x32x32),
    TRef.ternary (TRef.of (T := ⟨S8x32x32, .i1⟩) main_v9) (TRef.of (T := ⟨S8x32x32, .f32⟩) main_v11) (TRef.of (T := ⟨S8x32x32, .f32⟩) main_call0_v1) (TRef.of (T := ⟨S8x32x32, .f32⟩) main_v12) select,
    unary main_v12 main_v13 (broadcastInDim S8x32x1x32x1 ![0, 1, 3] bcast_S8x32x32_S8x32x1x32x1_0_1_3 : (⟨S8x32x32, .f32⟩ : BufTy).Contents (Elt F) → (⟨S8x32x1x32x1, .f32⟩ : BufTy).Contents (Elt F)),
    unary main_v13 main_v14 (broadcastInDim S8x32x128x32x128 ![0, 1, 2, 3, 4] bcast_S8x32x1x32x1_S8x32x128x32x128_0_1_2_3_4 : (⟨S8x32x1x32x1, .f32⟩ : BufTy).Contents (Elt F) → (⟨S8x32x128x32x128, .f32⟩ : BufTy).Contents (Elt F)),
    binary main_v4 main_v14 main_v15 (Host.divf : (⟨S8x32x128x32x128, .f32⟩ : BufTy).Contents (Elt F) → (⟨S8x32x128x32x128, .f32⟩ : BufTy).Contents (Elt F) → (⟨S8x32x128x32x128, .f32⟩ : BufTy).Contents (Elt F)),
    TRef.unary (TRef.of (T := ⟨S8x32x128x32x128, .f32⟩) main_v15) (TRef.of (T := ⟨S8x32x128x32x128, .f32⟩) main_v16) Host.roundeven,
    nullary main_cst_5 (constant S_ .f32 0xC2FE0000#32),
    nullary main_cst_6 (constant S_ .f32 0x42FE0000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8x32x128x32x128, .f32⟩) main_call2_v1) (broadcastInDim S8x32x128x32x128 ![] bcast_S_S8x32x128x32x128),
    TRef.binary (TRef.of (T := ⟨S8x32x128x32x128, .f32⟩) main_call2_v1) (TRef.of (T := ⟨S8x32x128x32x128, .f32⟩) main_v16) (TRef.of (T := ⟨S8x32x128x32x128, .f32⟩) main_call2_v2) maximumf ]

/-- @main's operations 31 … 60 of 183 (window `main_part0`). -/
abbrev ops_part0_1 : List (HloOp τ sig (Elt F)) :=
  [ TRef.unary (TRef.of (T := ⟨S_, .f32⟩) main_cst_6) (TRef.of (T := ⟨S_, .f32⟩) main_call2_v3) id,
    TRef.unary (TRef.of (T := ⟨S_, .f32⟩) main_call2_v3) (TRef.of (T := ⟨S8x32x128x32x128, .f32⟩) main_call2_v4) (broadcastInDim S8x32x128x32x128 ![] bcast_S_S8x32x128x32x128),
    TRef.binary (TRef.of (T := ⟨S8x32x128x32x128, .f32⟩) main_call2_v4) (TRef.of (T := ⟨S8x32x128x32x128, .f32⟩) main_call2_v2) (TRef.of (T := ⟨S8x32x128x32x128, .f32⟩) main_v17) minimumf,
    reshape main_v17 main_v18 (rfl : (.f32 : EltTy) = .f32) shapeCasts_S8x32x128x32x128_S8x4096x32x128,
    unary main_arg1 main_v19 ((extf .f32 · bitsLt_bf16_f32) : (⟨S8x4096x512, .bf16⟩ : BufTy).Contents (Elt F) → (⟨S8x4096x512, .f32⟩ : BufTy).Contents (Elt F)),
    reshape main_v19 main_v20 (rfl : (.f32 : EltTy) = .f32) shapeCasts_S8x4096x512_S8x4096x4x128,
    nullary main_cst_7 (constant S_ .f32 0x00000000#32),
    binary main_v20 main_cst_7 main_v21 ((fun x v => Host.reduceAdd x v reducesTo_S8x4096x4x128_S8x4x128_d1 h_S_) : (⟨S8x4096x4x128, .f32⟩ : BufTy).Contents (Elt F) → (⟨S_, .f32⟩ : BufTy).Contents (Elt F) → (⟨S8x4x128, .f32⟩ : BufTy).Contents (Elt F)),
    unary main_v21 main_v22 (broadcastInDim S8x1x4x128 ![0, 2, 3] bcast_S8x4x128_S8x1x4x128_0_2_3 : (⟨S8x4x128, .f32⟩ : BufTy).Contents (Elt F) → (⟨S8x1x4x128, .f32⟩ : BufTy).Contents (Elt F)),
    nullary main_cst_8 (constant S_ .f32 0x45800000#32),
    unary main_cst_8 main_v23 (broadcastInDim S8x1x4x128 ![] bcast_S_S8x1x4x128 : (⟨S_, .f32⟩ : BufTy).Contents (Elt F) → (⟨S8x1x4x128, .f32⟩ : BufTy).Contents (Elt F)),
    binary main_v22 main_v23 main_v24 (Host.divf : (⟨S8x1x4x128, .f32⟩ : BufTy).Contents (Elt F) → (⟨S8x1x4x128, .f32⟩ : BufTy).Contents (Elt F) → (⟨S8x1x4x128, .f32⟩ : BufTy).Contents (Elt F)),
    unary main_v24 main_v25 (broadcastInDim S8x4096x4x128 ![0, 1, 2, 3] bcast_S8x1x4x128_S8x4096x4x128_0_1_2_3 : (⟨S8x1x4x128, .f32⟩ : BufTy).Contents (Elt F) → (⟨S8x4096x4x128, .f32⟩ : BufTy).Contents (Elt F)),
    binary main_v20 main_v25 main_v26 (subf : (⟨S8x4096x4x128, .f32⟩ : BufTy).Contents (Elt F) → (⟨S8x4096x4x128, .f32⟩ : BufTy).Contents (Elt F) → (⟨S8x4096x4x128, .f32⟩ : BufTy).Contents (Elt F)),
    reshape main_v26 main_v27 (rfl : (.f32 : EltTy) = .f32) shapeCasts_S8x4096x4x128_S8x64x64x4x128,
    unary main_v27 main_v28 (Host.absf : (⟨S8x64x64x4x128, .f32⟩ : BufTy).Contents (Elt F) → (⟨S8x64x64x4x128, .f32⟩ : BufTy).Contents (Elt F)),
    nullary main_cst_9 (constant S_ .f32 0xFF800000#32),
    binary main_v28 main_cst_9 main_v29 ((fun x v => Host.reduce FloatOps.maximumf x v reducesTo_S8x64x64x4x128_S8x64x64x4_d4 h_S_) : (⟨S8x64x64x4x128, .f32⟩ : BufTy).Contents (Elt F) → (⟨S_, .f32⟩ : BufTy).Contents (Elt F) → (⟨S8x64x64x4, .f32⟩ : BufTy).Contents (Elt F)),
    nullary main_cst_10 (constant S_ .f32 0xFF800000#32),
    binary main_v29 main_cst_10 main_v30 ((fun x v => Host.reduce FloatOps.maximumf x v reducesTo_S8x64x64x4_S8x64x4_d2 h_S_) : (⟨S8x64x64x4, .f32⟩ : BufTy).Contents (Elt F) → (⟨S_, .f32⟩ : BufTy).Contents (Elt F) → (⟨S8x64x4, .f32⟩ : BufTy).Contents (Elt F)),
    nullary main_cst_11 (constant S_ .f32 0x00000000#32),
    unary main_cst_11 main_v31 (broadcastInDim S8x64x4 ![] bcast_S_S8x64x4 : (⟨S_, .f32⟩ : BufTy).Contents (Elt F) → (⟨S8x64x4, .f32⟩ : BufTy).Contents (Elt F)),
    binary main_v30 main_v31 main_v32 (cmpf .ogt : (⟨S8x64x4, .f32⟩ : BufTy).Contents (Elt F) → (⟨S8x64x4, .f32⟩ : BufTy).Contents (Elt F) → (⟨S8x64x4, .i1⟩ : BufTy).Contents (Elt F)),
    nullary main_cst_12 (constant S_ .f32 0x42FE0000#32),
    unary main_cst_12 main_v33 (broadcastInDim S8x64x4 ![] bcast_S_S8x64x4 : (⟨S_, .f32⟩ : BufTy).Contents (Elt F) → (⟨S8x64x4, .f32⟩ : BufTy).Contents (Elt F)),
    binary main_v30 main_v33 main_v34 (Host.divf : (⟨S8x64x4, .f32⟩ : BufTy).Contents (Elt F) → (⟨S8x64x4, .f32⟩ : BufTy).Contents (Elt F) → (⟨S8x64x4, .f32⟩ : BufTy).Contents (Elt F)),
    nullary main_cst_13 (constant S_ .f32 0x3F800000#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S8x64x4, .f32⟩) main_call3_v1) (broadcastInDim S8x64x4 ![] bcast_S_S8x64x4),
    TRef.ternary (TRef.of (T := ⟨S8x64x4, .i1⟩) main_v32) (TRef.of (T := ⟨S8x64x4, .f32⟩) main_v34) (TRef.of (T := ⟨S8x64x4, .f32⟩) main_call3_v1) (TRef.of (T := ⟨S8x64x4, .f32⟩) main_v35) select ]

/-- @main's operations 61 … 74 of 183 (window `main_part0`). -/
abbrev ops_part0_2 : List (HloOp τ sig (Elt F)) :=
  [ unary main_v35 main_v36 (broadcastInDim S8x64x1x4x1 ![0, 1, 3] bcast_S8x64x4_S8x64x1x4x1_0_1_3 : (⟨S8x64x4, .f32⟩ : BufTy).Contents (Elt F) → (⟨S8x64x1x4x1, .f32⟩ : BufTy).Contents (Elt F)),
    unary main_v36 main_v37 (broadcastInDim S8x64x64x4x128 ![0, 1, 2, 3, 4] bcast_S8x64x1x4x1_S8x64x64x4x128_0_1_2_3_4 : (⟨S8x64x1x4x1, .f32⟩ : BufTy).Contents (Elt F) → (⟨S8x64x64x4x128, .f32⟩ : BufTy).Contents (Elt F)),
    binary main_v27 main_v37 main_v38 (Host.divf : (⟨S8x64x64x4x128, .f32⟩ : BufTy).Contents (Elt F) → (⟨S8x64x64x4x128, .f32⟩ : BufTy).Contents (Elt F) → (⟨S8x64x64x4x128, .f32⟩ : BufTy).Contents (Elt F)),
    TRef.unary (TRef.of (T := ⟨S8x64x64x4x128, .f32⟩) main_v38) (TRef.of (T := ⟨S8x64x64x4x128, .f32⟩) main_v39) Host.roundeven,
    nullary main_cst_14 (constant S_ .f32 0xC2FE0000#32),
    nullary main_cst_15 (constant S_ .f32 0x42FE0000#32),
    TRef.unary (TRef.of (T := ⟨S_, .f32⟩) main_cst_14) (TRef.of (T := ⟨S_, .f32⟩) main_call5_v0) id,
    TRef.unary (TRef.of (T := ⟨S_, .f32⟩) main_call5_v0) (TRef.of (T := ⟨S8x64x64x4x128, .f32⟩) main_call5_v1) (broadcastInDim S8x64x64x4x128 ![] bcast_S_S8x64x64x4x128),
    TRef.binary (TRef.of (T := ⟨S8x64x64x4x128, .f32⟩) main_call5_v1) (TRef.of (T := ⟨S8x64x64x4x128, .f32⟩) main_v39) (TRef.of (T := ⟨S8x64x64x4x128, .f32⟩) main_call5_v2) maximumf,
    TRef.unary (TRef.of (T := ⟨S_, .f32⟩) main_cst_15) (TRef.of (T := ⟨S_, .f32⟩) main_call5_v3) id,
    TRef.unary (TRef.of (T := ⟨S_, .f32⟩) main_call5_v3) (TRef.of (T := ⟨S8x64x64x4x128, .f32⟩) main_call5_v4) (broadcastInDim S8x64x64x4x128 ![] bcast_S_S8x64x64x4x128),
    TRef.binary (TRef.of (T := ⟨S8x64x64x4x128, .f32⟩) main_call5_v4) (TRef.of (T := ⟨S8x64x64x4x128, .f32⟩) main_call5_v2) (TRef.of (T := ⟨S8x64x64x4x128, .f32⟩) main_v40) minimumf,
    reshape main_v40 main_v41 (rfl : (.f32 : EltTy) = .f32) shapeCasts_S8x64x64x4x128_S8x4096x4x128,
    unary main_arg2 main_v42 ((extf .f32 · bitsLt_bf16_f32) : (⟨S8x4096x512, .bf16⟩ : BufTy).Contents (Elt F) → (⟨S8x4096x512, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 75 … 104 of 183 (window `main_part1`). -/
abbrev ops_part1_0 : List (HloOp τ sig (Elt F)) :=
  [ reshape main_v42 main_v43 (rfl : (.f32 : EltTy) = .f32) shapeCasts_S8x4096x512_S8x4096x4x128,
    unary main_v43 main_v44 (Host.absf : (⟨S8x4096x4x128, .f32⟩ : BufTy).Contents (Elt F) → (⟨S8x4096x4x128, .f32⟩ : BufTy).Contents (Elt F)),
    nullary main_cst_16 (constant S_ .f32 0xFF800000#32),
    binary main_v44 main_cst_16 main_v45 ((fun x v => Host.reduce FloatOps.maximumf x v reducesTo_S8x4096x4x128_S8x4x128_d1 h_S_) : (⟨S8x4096x4x128, .f32⟩ : BufTy).Contents (Elt F) → (⟨S_, .f32⟩ : BufTy).Contents (Elt F) → (⟨S8x4x128, .f32⟩ : BufTy).Contents (Elt F)),
    nullary main_cst_17 (constant S_ .f32 0x3B124925#32),
    unary main_cst_17 main_v46 (broadcastInDim S8x4x128 ![] bcast_S_S8x4x128 : (⟨S_, .f32⟩ : BufTy).Contents (Elt F) → (⟨S8x4x128, .f32⟩ : BufTy).Contents (Elt F)),
    binary main_v45 main_v46 main_v47 (mulf : (⟨S8x4x128, .f32⟩ : BufTy).Contents (Elt F) → (⟨S8x4x128, .f32⟩ : BufTy).Contents (Elt F) → (⟨S8x4x128, .f32⟩ : BufTy).Contents (Elt F)),
    nullary main_cst_18 (constant S_ .f32 0x00800000#32),
    unary main_cst_18 main_v48 (broadcastInDim S8x4x128 ![] bcast_S_S8x4x128 : (⟨S_, .f32⟩ : BufTy).Contents (Elt F) → (⟨S8x4x128, .f32⟩ : BufTy).Contents (Elt F)),
    binary main_v47 main_v48 main_v49 (cmpf .olt : (⟨S8x4x128, .f32⟩ : BufTy).Contents (Elt F) → (⟨S8x4x128, .f32⟩ : BufTy).Contents (Elt F) → (⟨S8x4x128, .i1⟩ : BufTy).Contents (Elt F)),
    unary main_v47 main_v50 (Host.log : (⟨S8x4x128, .f32⟩ : BufTy).Contents (Elt F) → (⟨S8x4x128, .f32⟩ : BufTy).Contents (Elt F)),
    nullary main_cst_19 (constant S_ .f32 0x40000000#32),
    unary main_cst_19 main_v51 (Host.log : (⟨S_, .f32⟩ : BufTy).Contents (Elt F) → (⟨S_, .f32⟩ : BufTy).Contents (Elt F)),
    unary main_v51 main_v52 (broadcastInDim S8x4x128 ![] bcast_S_S8x4x128 : (⟨S_, .f32⟩ : BufTy).Contents (Elt F) → (⟨S8x4x128, .f32⟩ : BufTy).Contents (Elt F)),
    binary main_v50 main_v52 main_v53 (Host.divf : (⟨S8x4x128, .f32⟩ : BufTy).Contents (Elt F) → (⟨S8x4x128, .f32⟩ : BufTy).Contents (Elt F) → (⟨S8x4x128, .f32⟩ : BufTy).Contents (Elt F)),
    unary main_v53 main_v54 (Host.floor : (⟨S8x4x128, .f32⟩ : BufTy).Contents (Elt F) → (⟨S8x4x128, .f32⟩ : BufTy).Contents (Elt F)),
    nullary main_cst_20 (constant S_ .f32 0x3F800000#32),
    unary main_cst_20 main_v55 (broadcastInDim S8x4x128 ![] bcast_S_S8x4x128 : (⟨S_, .f32⟩ : BufTy).Contents (Elt F) → (⟨S8x4x128, .f32⟩ : BufTy).Contents (Elt F)),
    binary main_v54 main_v55 main_v56 (addf : (⟨S8x4x128, .f32⟩ : BufTy).Contents (Elt F) → (⟨S8x4x128, .f32⟩ : BufTy).Contents (Elt F) → (⟨S8x4x128, .f32⟩ : BufTy).Contents (Elt F)),
    nullary main_cst_21 (constant S_ .f32 0x00000000#32),
    TRef.unary (TRef.of (T := ⟨S_, .f32⟩) main_cst_21) (TRef.of (T := ⟨S_, .f32⟩) main_call6_v0) id,
    TRef.unary (TRef.of (T := ⟨S_, .f32⟩) main_call6_v0) (TRef.of (T := ⟨S8x4x128, .f32⟩) main_call6_v1) (broadcastInDim S8x4x128 ![] bcast_S_S8x4x128),
    TRef.ternary (TRef.of (T := ⟨S8x4x128, .i1⟩) main_v49) (TRef.of (T := ⟨S8x4x128, .f32⟩) main_call6_v1) (TRef.of (T := ⟨S8x4x128, .f32⟩) main_v56) (TRef.of (T := ⟨S8x4x128, .f32⟩) main_v57) select,
    nullary main_cst_22 (constant S_ .f32 0x40000000#32),
    unary main_cst_22 main_v58 (broadcastInDim S8x4x128 ![] bcast_S_S8x4x128 : (⟨S_, .f32⟩ : BufTy).Contents (Elt F) → (⟨S8x4x128, .f32⟩ : BufTy).Contents (Elt F)),
    binary main_v58 main_v57 main_v59 (Host.powf : (⟨S8x4x128, .f32⟩ : BufTy).Contents (Elt F) → (⟨S8x4x128, .f32⟩ : BufTy).Contents (Elt F) → (⟨S8x4x128, .f32⟩ : BufTy).Contents (Elt F)),
    unary main_v59 main_v60 (broadcastInDim S8x1x4x128 ![0, 2, 3] bcast_S8x4x128_S8x1x4x128_0_2_3 : (⟨S8x4x128, .f32⟩ : BufTy).Contents (Elt F) → (⟨S8x1x4x128, .f32⟩ : BufTy).Contents (Elt F)),
    unary main_v60 main_v61 (broadcastInDim S8x4096x4x128 ![0, 1, 2, 3] bcast_S8x1x4x128_S8x4096x4x128_0_1_2_3 : (⟨S8x1x4x128, .f32⟩ : BufTy).Contents (Elt F) → (⟨S8x4096x4x128, .f32⟩ : BufTy).Contents (Elt F)),
    binary main_v43 main_v61 main_v62 (Host.divf : (⟨S8x4096x4x128, .f32⟩ : BufTy).Contents (Elt F) → (⟨S8x4096x4x128, .f32⟩ : BufTy).Contents (Elt F) → (⟨S8x4096x4x128, .f32⟩ : BufTy).Contents (Elt F)),
    nullary main_cst_23 (constant S_ .f32 0xC3E00000#32) ]

/-- @main's operations 105 … 134 of 183 (window `main_part1`). -/
abbrev ops_part1_1 : List (HloOp τ sig (Elt F)) :=
  [ nullary main_cst_24 (constant S_ .f32 0x43E00000#32),
    TRef.unary (TRef.of (T := ⟨S_, .f32⟩) main_cst_23) (TRef.of (T := ⟨S_, .f32⟩) main_call7_v0) id,
    TRef.unary (TRef.of (T := ⟨S_, .f32⟩) main_call7_v0) (TRef.of (T := ⟨S8x4096x4x128, .f32⟩) main_call7_v1) (broadcastInDim S8x4096x4x128 ![] bcast_S_S8x4096x4x128),
    TRef.binary (TRef.of (T := ⟨S8x4096x4x128, .f32⟩) main_call7_v1) (TRef.of (T := ⟨S8x4096x4x128, .f32⟩) main_v62) (TRef.of (T := ⟨S8x4096x4x128, .f32⟩) main_call7_v2) maximumf,
    TRef.unary (TRef.of (T := ⟨S_, .f32⟩) main_cst_24) (TRef.of (T := ⟨S_, .f32⟩) main_call7_v3) id,
    TRef.unary (TRef.of (T := ⟨S_, .f32⟩) main_call7_v3) (TRef.of (T := ⟨S8x4096x4x128, .f32⟩) main_call7_v4) (broadcastInDim S8x4096x4x128 ![] bcast_S_S8x4096x4x128),
    TRef.binary (TRef.of (T := ⟨S8x4096x4x128, .f32⟩) main_call7_v4) (TRef.of (T := ⟨S8x4096x4x128, .f32⟩) main_call7_v2) (TRef.of (T := ⟨S8x4096x4x128, .f32⟩) main_v63) minimumf,
    unary main_v12 main_v64 (broadcastInDim S8x32x128x32 ![0, 1, 3] bcast_S8x32x32_S8x32x128x32_0_1_3 : (⟨S8x32x32, .f32⟩ : BufTy).Contents (Elt F) → (⟨S8x32x128x32, .f32⟩ : BufTy).Contents (Elt F)),
    reshape main_v64 main_v65 (rfl : (.f32 : EltTy) = .f32) shapeCasts_S8x32x128x32_S8x4096x32,
    reshape main_v65 main_v66 (rfl : (.f32 : EltTy) = .f32) shapeCasts_S8x4096x32_S8x4096x4x8,
    unary main_v35 main_v67 (broadcastInDim S8x64x64x4 ![0, 1, 3] bcast_S8x64x4_S8x64x64x4_0_1_3 : (⟨S8x64x4, .f32⟩ : BufTy).Contents (Elt F) → (⟨S8x64x64x4, .f32⟩ : BufTy).Contents (Elt F)),
    reshape main_v67 main_v68 (rfl : (.f32 : EltTy) = .f32) shapeCasts_S8x64x64x4_S8x4096x4,
    reshape main_v18 main_v69 (rfl : (.f32 : EltTy) = .f32) shapeCasts_S8x4096x32x128_S8x4096x4x8x128,
    binary main_v41 main_v69 main_v70 ((fun l r => Host.dotGeneral dot_S8x4096x4x128_S8x4096x4x8x128_S8x4x4096x4096x8_3_4_1_13_02_02 none l r) : (⟨S8x4096x4x128, .f32⟩ : BufTy).Contents (Elt F) → (⟨S8x4096x4x8x128, .f32⟩ : BufTy).Contents (Elt F) → (⟨S8x4x4096x4096x8, .f32⟩ : BufTy).Contents (Elt F)),
    unary main_v70 main_v71 ((transpose S8x4x8x4096x4096 [0, 1, 4, 3, 2] · transposes_S8x4x4096x4096x8_S8x4x8x4096x4096_0_1_4_3_2) : (⟨S8x4x4096x4096x8, .f32⟩ : BufTy).Contents (Elt F) → (⟨S8x4x8x4096x4096, .f32⟩ : BufTy).Contents (Elt F)),
    unary main_v66 main_v72 ((transpose S8x4x8x4096 [0, 2, 3, 1] · transposes_S8x4096x4x8_S8x4x8x4096_0_2_3_1) : (⟨S8x4096x4x8, .f32⟩ : BufTy).Contents (Elt F) → (⟨S8x4x8x4096, .f32⟩ : BufTy).Contents (Elt F)),
    unary main_v72 main_v73 (broadcastInDim S8x4x8x4096x1 ![0, 1, 2, 3] bcast_S8x4x8x4096_S8x4x8x4096x1_0_1_2_3 : (⟨S8x4x8x4096, .f32⟩ : BufTy).Contents (Elt F) → (⟨S8x4x8x4096x1, .f32⟩ : BufTy).Contents (Elt F)),
    unary main_v73 main_v74 (broadcastInDim S8x4x8x4096x4096 ![0, 1, 2, 3, 4] bcast_S8x4x8x4096x1_S8x4x8x4096x4096_0_1_2_3_4 : (⟨S8x4x8x4096x1, .f32⟩ : BufTy).Contents (Elt F) → (⟨S8x4x8x4096x4096, .f32⟩ : BufTy).Contents (Elt F)),
    binary main_v71 main_v74 main_v75 (mulf : (⟨S8x4x8x4096x4096, .f32⟩ : BufTy).Contents (Elt F) → (⟨S8x4x8x4096x4096, .f32⟩ : BufTy).Contents (Elt F) → (⟨S8x4x8x4096x4096, .f32⟩ : BufTy).Contents (Elt F)),
    unary main_v68 main_v76 ((transpose S8x4x4096 [0, 2, 1] · transposes_S8x4096x4_S8x4x4096_0_2_1) : (⟨S8x4096x4, .f32⟩ : BufTy).Contents (Elt F) → (⟨S8x4x4096, .f32⟩ : BufTy).Contents (Elt F)),
    unary main_v76 main_v77 (broadcastInDim S8x4x1x1x4096 ![0, 1, 4] bcast_S8x4x4096_S8x4x1x1x4096_0_1_4 : (⟨S8x4x4096, .f32⟩ : BufTy).Contents (Elt F) → (⟨S8x4x1x1x4096, .f32⟩ : BufTy).Contents (Elt F)),
    unary main_v77 main_v78 (broadcastInDim S8x4x8x4096x4096 ![0, 1, 2, 3, 4] bcast_S8x4x1x1x4096_S8x4x8x4096x4096_0_1_2_3_4 : (⟨S8x4x1x1x4096, .f32⟩ : BufTy).Contents (Elt F) → (⟨S8x4x8x4096x4096, .f32⟩ : BufTy).Contents (Elt F)),
    binary main_v75 main_v78 main_v79 (mulf : (⟨S8x4x8x4096x4096, .f32⟩ : BufTy).Contents (Elt F) → (⟨S8x4x8x4096x4096, .f32⟩ : BufTy).Contents (Elt F) → (⟨S8x4x8x4096x4096, .f32⟩ : BufTy).Contents (Elt F)),
    nullary main_v80 (iotaInDim S4096 32 0),
    unary main_v80 main_v81 (broadcastInDim S4096x1 ![0] bcast_S4096_S4096x1_0 : (⟨S4096, .i32⟩ : BufTy).Contents (Elt F) → (⟨S4096x1, .i32⟩ : BufTy).Contents (Elt F)),
    nullary main_v82 (iotaInDim S4096 32 0),
    unary main_v82 main_v83 (broadcastInDim S1x4096 ![1] bcast_S4096_S1x4096_1 : (⟨S4096, .i32⟩ : BufTy).Contents (Elt F) → (⟨S1x4096, .i32⟩ : BufTy).Contents (Elt F)),
    unary main_v83 main_v84 (broadcastInDim S4096x4096 ![0, 1] bcast_S1x4096_S4096x4096_0_1 : (⟨S1x4096, .i32⟩ : BufTy).Contents (Elt F) → (⟨S4096x4096, .i32⟩ : BufTy).Contents (Elt F)),
    unary main_v81 main_v85 (broadcastInDim S4096x4096 ![0, 1] bcast_S4096x1_S4096x4096_0_1 : (⟨S4096x1, .i32⟩ : BufTy).Contents (Elt F) → (⟨S4096x4096, .i32⟩ : BufTy).Contents (Elt F)),
    binary main_v84 main_v85 main_v86 (cmpi .sle : (⟨S4096x4096, .i32⟩ : BufTy).Contents (Elt F) → (⟨S4096x4096, .i32⟩ : BufTy).Contents (Elt F) → (⟨S4096x4096, .i1⟩ : BufTy).Contents (Elt F)) ]

/-- @main's operations 135 … 141 of 183 (window `main_part1`). -/
abbrev ops_part1_2 : List (HloOp τ sig (Elt F)) :=
  [ nullary main_c (constantI S_ 32 1024#32),
    unary main_c main_v87 (broadcastInDim S4096x1 ![] bcast_S_S4096x1 : (⟨S_, .i32⟩ : BufTy).Contents (Elt F) → (⟨S4096x1, .i32⟩ : BufTy).Contents (Elt F)),
    binary main_v81 main_v87 main_v88 (subi : (⟨S4096x1, .i32⟩ : BufTy).Contents (Elt F) → (⟨S4096x1, .i32⟩ : BufTy).Contents (Elt F) → (⟨S4096x1, .i32⟩ : BufTy).Contents (Elt F)),
    unary main_v83 main_v89 (broadcastInDim S4096x4096 ![0, 1] bcast_S1x4096_S4096x4096_0_1 : (⟨S1x4096, .i32⟩ : BufTy).Contents (Elt F) → (⟨S4096x4096, .i32⟩ : BufTy).Contents (Elt F)),
    unary main_v88 main_v90 (broadcastInDim S4096x4096 ![0, 1] bcast_S4096x1_S4096x4096_0_1 : (⟨S4096x1, .i32⟩ : BufTy).Contents (Elt F) → (⟨S4096x4096, .i32⟩ : BufTy).Contents (Elt F)),
    binary main_v89 main_v90 main_v91 (cmpi .sgt : (⟨S4096x4096, .i32⟩ : BufTy).Contents (Elt F) → (⟨S4096x4096, .i32⟩ : BufTy).Contents (Elt F) → (⟨S4096x4096, .i1⟩ : BufTy).Contents (Elt F)),
    binary main_v86 main_v91 main_v92 (andi : (⟨S4096x4096, .i1⟩ : BufTy).Contents (Elt F) → (⟨S4096x4096, .i1⟩ : BufTy).Contents (Elt F) → (⟨S4096x4096, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 142 … 183 of 183 (window `main_part2`). -/
abbrev ops_part2 : List (HloOp τ sig (Elt F)) :=
  [ nullary main_cst_25 (constant S_ .f32 0xFF800000#32),
    TRef.unary (TRef.of (T := ⟨S_, .f32⟩) main_cst_25) (TRef.of (T := ⟨S_, .f32⟩) main_call8_v0) id,
    TRef.unary (TRef.of (T := ⟨S4096x4096, .i1⟩) main_v92) (TRef.of (T := ⟨S8x4x8x4096x4096, .i1⟩) main_call8_v1) (broadcastInDim S8x4x8x4096x4096 ![3, 4] bcast_S4096x4096_S8x4x8x4096x4096_3_4),
    TRef.unary (TRef.of (T := ⟨S_, .f32⟩) main_call8_v0) (TRef.of (T := ⟨S8x4x8x4096x4096, .f32⟩) main_call8_v2) (broadcastInDim S8x4x8x4096x4096 ![] bcast_S_S8x4x8x4096x4096),
    TRef.ternary (TRef.of (T := ⟨S8x4x8x4096x4096, .i1⟩) main_call8_v1) (TRef.of (T := ⟨S8x4x8x4096x4096, .f32⟩) main_v79) (TRef.of (T := ⟨S8x4x8x4096x4096, .f32⟩) main_call8_v2) (TRef.of (T := ⟨S8x4x8x4096x4096, .f32⟩) main_v93) select,
    nullary main_cst_26 (constant S_ .f32 0xFF800000#32),
    binary main_v93 main_cst_26 main_v94 ((fun x v => Host.reduce FloatOps.maximumf x v reducesTo_S8x4x8x4096x4096_S8x4x8x4096_d4 h_S_) : (⟨S8x4x8x4096x4096, .f32⟩ : BufTy).Contents (Elt F) → (⟨S_, .f32⟩ : BufTy).Contents (Elt F) → (⟨S8x4x8x4096, .f32⟩ : BufTy).Contents (Elt F)),
    unary main_v94 main_v95 (broadcastInDim S8x4x8x4096x1 ![0, 1, 2, 3] bcast_S8x4x8x4096_S8x4x8x4096x1_0_1_2_3 : (⟨S8x4x8x4096, .f32⟩ : BufTy).Contents (Elt F) → (⟨S8x4x8x4096x1, .f32⟩ : BufTy).Contents (Elt F)),
    unary main_v95 main_v96 (broadcastInDim S8x4x8x4096x4096 ![0, 1, 2, 3, 4] bcast_S8x4x8x4096x1_S8x4x8x4096x4096_0_1_2_3_4 : (⟨S8x4x8x4096x1, .f32⟩ : BufTy).Contents (Elt F) → (⟨S8x4x8x4096x4096, .f32⟩ : BufTy).Contents (Elt F)),
    binary main_v93 main_v96 main_v97 (subf : (⟨S8x4x8x4096x4096, .f32⟩ : BufTy).Contents (Elt F) → (⟨S8x4x8x4096x4096, .f32⟩ : BufTy).Contents (Elt F) → (⟨S8x4x8x4096x4096, .f32⟩ : BufTy).Contents (Elt F)),
    unary main_v97 main_v98 (Host.exp : (⟨S8x4x8x4096x4096, .f32⟩ : BufTy).Contents (Elt F) → (⟨S8x4x8x4096x4096, .f32⟩ : BufTy).Contents (Elt F)),
    nullary main_cst_27 (constant S_ .f32 0x00000000#32),
    binary main_v98 main_cst_27 main_v99 ((fun x v => Host.reduceAdd x v reducesTo_S8x4x8x4096x4096_S8x4x8x4096_d4 h_S_) : (⟨S8x4x8x4096x4096, .f32⟩ : BufTy).Contents (Elt F) → (⟨S_, .f32⟩ : BufTy).Contents (Elt F) → (⟨S8x4x8x4096, .f32⟩ : BufTy).Contents (Elt F)),
    nullary main_cst_28 (constant S_ .f32 0x43800000#32),
    unary main_cst_28 main_v100 (broadcastInDim S8x4x8x4096x4096 ![] bcast_S_S8x4x8x4096x4096 : (⟨S_, .f32⟩ : BufTy).Contents (Elt F) → (⟨S8x4x8x4096x4096, .f32⟩ : BufTy).Contents (Elt F)),
    binary main_v98 main_v100 main_v101 (mulf : (⟨S8x4x8x4096x4096, .f32⟩ : BufTy).Contents (Elt F) → (⟨S8x4x8x4096x4096, .f32⟩ : BufTy).Contents (Elt F) → (⟨S8x4x8x4096x4096, .f32⟩ : BufTy).Contents (Elt F)),
    nullary main_cst_29 (constant S_ .f32 0x43E00000#32),
    unary main_cst_29 main_v102 (broadcastInDim S8x4x8x4096x4096 ![] bcast_S_S8x4x8x4096x4096 : (⟨S_, .f32⟩ : BufTy).Contents (Elt F) → (⟨S8x4x8x4096x4096, .f32⟩ : BufTy).Contents (Elt F)),
    binary main_v101 main_v102 main_v103 (minimumf : (⟨S8x4x8x4096x4096, .f32⟩ : BufTy).Contents (Elt F) → (⟨S8x4x8x4096x4096, .f32⟩ : BufTy).Contents (Elt F) → (⟨S8x4x8x4096x4096, .f32⟩ : BufTy).Contents (Elt F)),
    binary main_v63 main_v103 main_v104 ((fun l r => Host.dotGeneral dot_S8x4096x4x128_S8x4x8x4096x4096_S8x4x128x8x4096_1_4_3_23_02_01 none l r) : (⟨S8x4096x4x128, .f32⟩ : BufTy).Contents (Elt F) → (⟨S8x4x8x4096x4096, .f32⟩ : BufTy).Contents (Elt F) → (⟨S8x4x128x8x4096, .f32⟩ : BufTy).Contents (Elt F)),
    unary main_v104 main_v105 ((transpose S8x4096x4x8x128 [0, 4, 1, 3, 2] · transposes_S8x4x128x8x4096_S8x4096x4x8x128_0_4_1_3_2) : (⟨S8x4x128x8x4096, .f32⟩ : BufTy).Contents (Elt F) → (⟨S8x4096x4x8x128, .f32⟩ : BufTy).Contents (Elt F)),
    nullary main_cst_30 (constant S_ .f32 0x3B800000#32),
    unary main_cst_30 main_v106 (broadcastInDim S8x4096x4x8x128 ![] bcast_S_S8x4096x4x8x128 : (⟨S_, .f32⟩ : BufTy).Contents (Elt F) → (⟨S8x4096x4x8x128, .f32⟩ : BufTy).Contents (Elt F)),
    binary main_v105 main_v106 main_v107 (mulf : (⟨S8x4096x4x8x128, .f32⟩ : BufTy).Contents (Elt F) → (⟨S8x4096x4x8x128, .f32⟩ : BufTy).Contents (Elt F) → (⟨S8x4096x4x8x128, .f32⟩ : BufTy).Contents (Elt F)),
    unary main_v59 main_v108 (broadcastInDim S8x1x4x1x128 ![0, 2, 4] bcast_S8x4x128_S8x1x4x1x128_0_2_4 : (⟨S8x4x128, .f32⟩ : BufTy).Contents (Elt F) → (⟨S8x1x4x1x128, .f32⟩ : BufTy).Contents (Elt F)),
    unary main_v108 main_v109 (broadcastInDim S8x4096x4x8x128 ![0, 1, 2, 3, 4] bcast_S8x1x4x1x128_S8x4096x4x8x128_0_1_2_3_4 : (⟨S8x1x4x1x128, .f32⟩ : BufTy).Contents (Elt F) → (⟨S8x4096x4x8x128, .f32⟩ : BufTy).Contents (Elt F)),
    binary main_v107 main_v109 main_v110 (mulf : (⟨S8x4096x4x8x128, .f32⟩ : BufTy).Contents (Elt F) → (⟨S8x4096x4x8x128, .f32⟩ : BufTy).Contents (Elt F) → (⟨S8x4096x4x8x128, .f32⟩ : BufTy).Contents (Elt F)),
    unary main_v99 main_v111 ((transpose S8x4096x4x8 [0, 3, 1, 2] · transposes_S8x4x8x4096_S8x4096x4x8_0_3_1_2) : (⟨S8x4x8x4096, .f32⟩ : BufTy).Contents (Elt F) → (⟨S8x4096x4x8, .f32⟩ : BufTy).Contents (Elt F)),
    unary main_v111 main_v112 (broadcastInDim S8x4096x4x8x1 ![0, 1, 2, 3] bcast_S8x4096x4x8_S8x4096x4x8x1_0_1_2_3 : (⟨S8x4096x4x8, .f32⟩ : BufTy).Contents (Elt F) → (⟨S8x4096x4x8x1, .f32⟩ : BufTy).Contents (Elt F)),
    unary main_v112 main_v113 (broadcastInDim S8x4096x4x8x128 ![0, 1, 2, 3, 4] bcast_S8x4096x4x8x1_S8x4096x4x8x128_0_1_2_3_4 : (⟨S8x4096x4x8x1, .f32⟩ : BufTy).Contents (Elt F) → (⟨S8x4096x4x8x128, .f32⟩ : BufTy).Contents (Elt F)),
    binary main_v110 main_v113 main_v114 (Host.divf : (⟨S8x4096x4x8x128, .f32⟩ : BufTy).Contents (Elt F) → (⟨S8x4096x4x8x128, .f32⟩ : BufTy).Contents (Elt F) → (⟨S8x4096x4x8x128, .f32⟩ : BufTy).Contents (Elt F)),
    unary main_v114 main_v115 ((truncf .bf16 · bitsLt_bf16_f32) : (⟨S8x4096x4x8x128, .f32⟩ : BufTy).Contents (Elt F) → (⟨S8x4096x4x8x128, .bf16⟩ : BufTy).Contents (Elt F)),
    reshape main_v115 main_v116 (rfl : (.bf16 : EltTy) = .bf16) shapeCasts_S8x4096x4x8x128_S8x4096x4096,
    reshape main_v18 main_v117 (rfl : (.f32 : EltTy) = .f32) shapeCasts_S8x4096x32x128_S8x4096x4096,
    unary main_v117 main_v118 (fptosi 32 : (⟨S8x4096x4096, .f32⟩ : BufTy).Contents (Elt F) → (⟨S8x4096x4096, .i32⟩ : BufTy).Contents (Elt F)),
    unary main_v118 main_v119 ((trunci 8 · natLt_8_32) : (⟨S8x4096x4096, .i32⟩ : BufTy).Contents (Elt F) → (⟨S8x4096x4096, .i8⟩ : BufTy).Contents (Elt F)),
    unary main_v12 main_v120 ((transpose S8x32x32 [0, 2, 1] · transposes_S8x32x32_S8x32x32_0_2_1) : (⟨S8x32x32, .f32⟩ : BufTy).Contents (Elt F) → (⟨S8x32x32, .f32⟩ : BufTy).Contents (Elt F)),
    reshape main_v41 main_v121 (rfl : (.f32 : EltTy) = .f32) shapeCasts_S8x4096x4x128_S8x4096x512,
    unary main_v121 main_v122 (fptosi 32 : (⟨S8x4096x512, .f32⟩ : BufTy).Contents (Elt F) → (⟨S8x4096x512, .i32⟩ : BufTy).Contents (Elt F)),
    unary main_v122 main_v123 ((trunci 8 · natLt_8_32) : (⟨S8x4096x512, .i32⟩ : BufTy).Contents (Elt F) → (⟨S8x4096x512, .i8⟩ : BufTy).Contents (Elt F)),
    unary main_v35 main_v124 ((transpose S8x4x64 [0, 2, 1] · transposes_S8x64x4_S8x4x64_0_2_1) : (⟨S8x64x4, .f32⟩ : BufTy).Contents (Elt F) → (⟨S8x4x64, .f32⟩ : BufTy).Contents (Elt F)),
    reshape main_v63 main_v125 (rfl : (.f32 : EltTy) = .f32) shapeCasts_S8x4096x4x128_S8x4096x512 ]

/-- @main's 183 operations, in order (a called function's operations stand in its call's place, spelt `TRef.…`). -/
abbrev ops : List (HloOp τ sig (Elt F)) :=
  ops_part0 ++ (ops_part1 ++ (ops_part2))

set_option maxRecDepth 8192 in
/-- `main_v4`'s composed term of the arguments (named: it is used 2 times). -/
def res_main_v4 (V0 : Valuation τ sig (Elt F)) : (Proc.devRef .tc main_v4 : DevRef τ sig).ty.Contents (Elt F) :=
  shapeCast _ (mulf (shapeCast _ (extf .f32 (V0 (Proc.devRef .tc main_arg0)) bitsLt_bf16_f32) shapeCasts_S8x4096x4096_S8x4096x32x128) (broadcastInDim S8x4096x32x128 ![] bcast_S_S8x4096x32x128 (constant S_ .f32 0x3DB504F3#32))) shapeCasts_S8x4096x32x128_S8x32x128x32x128

set_option maxRecDepth 8192 in
/-- `main_v7`'s composed term of the arguments (named: it is used 2 times). -/
def res_main_v7 (V0 : Valuation τ sig (Elt F)) : (Proc.devRef .tc main_v7 : DevRef τ sig).ty.Contents (Elt F) :=
  Host.reduce FloatOps.maximumf (Host.reduce FloatOps.maximumf (Host.absf (res_main_v4 V0)) (constant S_ .f32 0xFF800000#32) reducesTo_S8x32x128x32x128_S8x32x128x32_d4 h_S_) (constant S_ .f32 0xFF800000#32) reducesTo_S8x32x128x32_S8x32x32_d2 h_S_

set_option maxRecDepth 8192 in
/-- `main_v12`'s composed term of the arguments (named: it is used 3 times). -/
def res_main_v12 (V0 : Valuation τ sig (Elt F)) : (Proc.devRef .tc main_v12 : DevRef τ sig).ty.Contents (Elt F) :=
  select (cmpf .ogt (res_main_v7 V0) (broadcastInDim S8x32x32 ![] bcast_S_S8x32x32 (constant S_ .f32 0x00000000#32))) (Host.divf (res_main_v7 V0) (broadcastInDim S8x32x32 ![] bcast_S_S8x32x32 (constant S_ .f32 0x42FE0000#32))) (broadcastInDim S8x32x32 ![] bcast_S_S8x32x32 (id (constant S_ .f32 0x3F800000#32)))

set_option maxRecDepth 8192 in
/-- `main_v18`'s composed term of the arguments (named: it is used 2 times). -/
def res_main_v18 (V0 : Valuation τ sig (Elt F)) : (Proc.devRef .tc main_v18 : DevRef τ sig).ty.Contents (Elt F) :=
  shapeCast _ (minimumf (broadcastInDim S8x32x128x32x128 ![] bcast_S_S8x32x128x32x128 (id (constant S_ .f32 0x42FE0000#32))) (maximumf (broadcastInDim S8x32x128x32x128 ![] bcast_S_S8x32x128x32x128 (id (constant S_ .f32 0xC2FE0000#32))) (Host.roundeven (Host.divf (res_main_v4 V0) (broadcastInDim S8x32x128x32x128 ![0, 1, 2, 3, 4] bcast_S8x32x1x32x1_S8x32x128x32x128_0_1_2_3_4 (broadcastInDim S8x32x1x32x1 ![0, 1, 3] bcast_S8x32x32_S8x32x1x32x1_0_1_3 (res_main_v12 V0))))))) shapeCasts_S8x32x128x32x128_S8x4096x32x128

set_option maxRecDepth 8192 in
/-- `main_v20`'s composed term of the arguments (named: it is used 2 times). -/
def res_main_v20 (V0 : Valuation τ sig (Elt F)) : (Proc.devRef .tc main_v20 : DevRef τ sig).ty.Contents (Elt F) :=
  shapeCast _ (extf .f32 (V0 (Proc.devRef .tc main_arg1)) bitsLt_bf16_f32) shapeCasts_S8x4096x512_S8x4096x4x128

set_option maxRecDepth 8192 in
/-- `main_v27`'s composed term of the arguments (named: it is used 2 times). -/
def res_main_v27 (V0 : Valuation τ sig (Elt F)) : (Proc.devRef .tc main_v27 : DevRef τ sig).ty.Contents (Elt F) :=
  shapeCast _ (subf (res_main_v20 V0) (broadcastInDim S8x4096x4x128 ![0, 1, 2, 3] bcast_S8x1x4x128_S8x4096x4x128_0_1_2_3 (Host.divf (broadcastInDim S8x1x4x128 ![0, 2, 3] bcast_S8x4x128_S8x1x4x128_0_2_3 (Host.reduceAdd (res_main_v20 V0) (constant S_ .f32 0x00000000#32) reducesTo_S8x4096x4x128_S8x4x128_d1 h_S_)) (broadcastInDim S8x1x4x128 ![] bcast_S_S8x1x4x128 (constant S_ .f32 0x45800000#32))))) shapeCasts_S8x4096x4x128_S8x64x64x4x128

set_option maxRecDepth 8192 in
/-- `main_v30`'s composed term of the arguments (named: it is used 2 times). -/
def res_main_v30 (V0 : Valuation τ sig (Elt F)) : (Proc.devRef .tc main_v30 : DevRef τ sig).ty.Contents (Elt F) :=
  Host.reduce FloatOps.maximumf (Host.reduce FloatOps.maximumf (Host.absf (res_main_v27 V0)) (constant S_ .f32 0xFF800000#32) reducesTo_S8x64x64x4x128_S8x64x64x4_d4 h_S_) (constant S_ .f32 0xFF800000#32) reducesTo_S8x64x64x4_S8x64x4_d2 h_S_

set_option maxRecDepth 8192 in
/-- `main_v35`'s composed term of the arguments (named: it is used 3 times). -/
def res_main_v35 (V0 : Valuation τ sig (Elt F)) : (Proc.devRef .tc main_v35 : DevRef τ sig).ty.Contents (Elt F) :=
  select (cmpf .ogt (res_main_v30 V0) (broadcastInDim S8x64x4 ![] bcast_S_S8x64x4 (constant S_ .f32 0x00000000#32))) (Host.divf (res_main_v30 V0) (broadcastInDim S8x64x4 ![] bcast_S_S8x64x4 (constant S_ .f32 0x42FE0000#32))) (broadcastInDim S8x64x4 ![] bcast_S_S8x64x4 (id (constant S_ .f32 0x3F800000#32)))

set_option maxRecDepth 8192 in
/-- `main_v41`'s composed term of the arguments (named: it is used 2 times). -/
def res_main_v41 (V0 : Valuation τ sig (Elt F)) : (Proc.devRef .tc main_v41 : DevRef τ sig).ty.Contents (Elt F) :=
  shapeCast _ (minimumf (broadcastInDim S8x64x64x4x128 ![] bcast_S_S8x64x64x4x128 (id (constant S_ .f32 0x42FE0000#32))) (maximumf (broadcastInDim S8x64x64x4x128 ![] bcast_S_S8x64x64x4x128 (id (constant S_ .f32 0xC2FE0000#32))) (Host.roundeven (Host.divf (res_main_v27 V0) (broadcastInDim S8x64x64x4x128 ![0, 1, 2, 3, 4] bcast_S8x64x1x4x1_S8x64x64x4x128_0_1_2_3_4 (broadcastInDim S8x64x1x4x1 ![0, 1, 3] bcast_S8x64x4_S8x64x1x4x1_0_1_3 (res_main_v35 V0))))))) shapeCasts_S8x64x64x4x128_S8x4096x4x128

set_option maxRecDepth 8192 in
/-- `main_v43`'s composed term of the arguments (named: it is used 2 times). -/
def res_main_v43 (V0 : Valuation τ sig (Elt F)) : (Proc.devRef .tc main_v43 : DevRef τ sig).ty.Contents (Elt F) :=
  shapeCast _ (extf .f32 (V0 (Proc.devRef .tc main_arg2)) bitsLt_bf16_f32) shapeCasts_S8x4096x512_S8x4096x4x128

set_option maxRecDepth 8192 in
/-- `main_v47`'s composed term of the arguments (named: it is used 2 times). -/
def res_main_v47 (V0 : Valuation τ sig (Elt F)) : (Proc.devRef .tc main_v47 : DevRef τ sig).ty.Contents (Elt F) :=
  mulf (Host.reduce FloatOps.maximumf (Host.absf (res_main_v43 V0)) (constant S_ .f32 0xFF800000#32) reducesTo_S8x4096x4x128_S8x4x128_d1 h_S_) (broadcastInDim S8x4x128 ![] bcast_S_S8x4x128 (constant S_ .f32 0x3B124925#32))

set_option maxRecDepth 8192 in
/-- `main_v59`'s composed term of the arguments (named: it is used 2 times). -/
def res_main_v59 (V0 : Valuation τ sig (Elt F)) : (Proc.devRef .tc main_v59 : DevRef τ sig).ty.Contents (Elt F) :=
  Host.powf (broadcastInDim S8x4x128 ![] bcast_S_S8x4x128 (constant S_ .f32 0x40000000#32)) (select (cmpf .olt (res_main_v47 V0) (broadcastInDim S8x4x128 ![] bcast_S_S8x4x128 (constant S_ .f32 0x00800000#32))) (broadcastInDim S8x4x128 ![] bcast_S_S8x4x128 (id (constant S_ .f32 0x00000000#32))) (addf (Host.floor (Host.divf (Host.log (res_main_v47 V0)) (broadcastInDim S8x4x128 ![] bcast_S_S8x4x128 (Host.log (constant S_ .f32 0x40000000#32))))) (broadcastInDim S8x4x128 ![] bcast_S_S8x4x128 (constant S_ .f32 0x3F800000#32))))

set_option maxRecDepth 8192 in
/-- `main_v81`'s composed term of the arguments (named: it is used 2 times). -/
def res_main_v81 (V0 : Valuation τ sig (Elt F)) : (Proc.devRef .tc main_v81 : DevRef τ sig).ty.Contents (Elt F) :=
  broadcastInDim S4096x1 ![0] bcast_S4096_S4096x1_0 (iotaInDim S4096 32 0)

set_option maxRecDepth 8192 in
/-- `main_v83`'s composed term of the arguments (named: it is used 2 times). -/
def res_main_v83 (V0 : Valuation τ sig (Elt F)) : (Proc.devRef .tc main_v83 : DevRef τ sig).ty.Contents (Elt F) :=
  broadcastInDim S1x4096 ![1] bcast_S4096_S1x4096_1 (iotaInDim S4096 32 0)

set_option maxRecDepth 8192 in
/-- `main_v93`'s composed term of the arguments (named: it is used 2 times). -/
def res_main_v93 (V0 : Valuation τ sig (Elt F)) : (Proc.devRef .tc main_v93 : DevRef τ sig).ty.Contents (Elt F) :=
  select (broadcastInDim S8x4x8x4096x4096 ![3, 4] bcast_S4096x4096_S8x4x8x4096x4096_3_4 (andi (cmpi .sle (broadcastInDim S4096x4096 ![0, 1] bcast_S1x4096_S4096x4096_0_1 (res_main_v83 V0)) (broadcastInDim S4096x4096 ![0, 1] bcast_S4096x1_S4096x4096_0_1 (res_main_v81 V0))) (cmpi .sgt (broadcastInDim S4096x4096 ![0, 1] bcast_S1x4096_S4096x4096_0_1 (res_main_v83 V0)) (broadcastInDim S4096x4096 ![0, 1] bcast_S4096x1_S4096x4096_0_1 (subi (res_main_v81 V0) (broadcastInDim S4096x1 ![] bcast_S_S4096x1 (constantI S_ 32 1024#32))))))) (mulf (mulf (transpose S8x4x8x4096x4096 [0, 1, 4, 3, 2] (Host.dotGeneral dot_S8x4096x4x128_S8x4096x4x8x128_S8x4x4096x4096x8_3_4_1_13_02_02 none (res_main_v41 V0) (shapeCast _ (res_main_v18 V0) shapeCasts_S8x4096x32x128_S8x4096x4x8x128)) transposes_S8x4x4096x4096x8_S8x4x8x4096x4096_0_1_4_3_2) (broadcastInDim S8x4x8x4096x4096 ![0, 1, 2, 3, 4] bcast_S8x4x8x4096x1_S8x4x8x4096x4096_0_1_2_3_4 (broadcastInDim S8x4x8x4096x1 ![0, 1, 2, 3] bcast_S8x4x8x4096_S8x4x8x4096x1_0_1_2_3 (transpose S8x4x8x4096 [0, 2, 3, 1] (shapeCast _ (shapeCast _ (broadcastInDim S8x32x128x32 ![0, 1, 3] bcast_S8x32x32_S8x32x128x32_0_1_3 (res_main_v12 V0)) shapeCasts_S8x32x128x32_S8x4096x32) shapeCasts_S8x4096x32_S8x4096x4x8) transposes_S8x4096x4x8_S8x4x8x4096_0_2_3_1)))) (broadcastInDim S8x4x8x4096x4096 ![0, 1, 2, 3, 4] bcast_S8x4x1x1x4096_S8x4x8x4096x4096_0_1_2_3_4 (broadcastInDim S8x4x1x1x4096 ![0, 1, 4] bcast_S8x4x4096_S8x4x1x1x4096_0_1_4 (transpose S8x4x4096 [0, 2, 1] (shapeCast _ (broadcastInDim S8x64x64x4 ![0, 1, 3] bcast_S8x64x4_S8x64x64x4_0_1_3 (res_main_v35 V0)) shapeCasts_S8x64x64x4_S8x4096x4) transposes_S8x4096x4_S8x4x4096_0_2_1)))) (broadcastInDim S8x4x8x4096x4096 ![] bcast_S_S8x4x8x4096x4096 (id (constant S_ .f32 0xFF800000#32)))

set_option maxRecDepth 8192 in
/-- `main_v98`'s composed term of the arguments (named: it is used 2 times). -/
def res_main_v98 (V0 : Valuation τ sig (Elt F)) : (Proc.devRef .tc main_v98 : DevRef τ sig).ty.Contents (Elt F) :=
  Host.exp (subf (res_main_v93 V0) (broadcastInDim S8x4x8x4096x4096 ![0, 1, 2, 3, 4] bcast_S8x4x8x4096x1_S8x4x8x4096x4096_0_1_2_3_4 (broadcastInDim S8x4x8x4096x1 ![0, 1, 2, 3] bcast_S8x4x8x4096_S8x4x8x4096x1_0_1_2_3 (Host.reduce FloatOps.maximumf (res_main_v93 V0) (constant S_ .f32 0xFF800000#32) reducesTo_S8x4x8x4096x4096_S8x4x8x4096_d4 h_S_))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_cst, main_v2, main_v3, main_v4, main_v5, main_cst_0, main_v6, main_cst_1, main_v7, main_cst_2, main_v8, main_v9, main_cst_3, main_v10, main_v11, main_cst_4, main_call0_v0, main_call0_v1, main_v12, main_v13, main_v14, main_v15, main_v16, main_cst_5, main_cst_6, main_call2_v0, main_call2_v1, main_call2_v2]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v12 (V0 : Valuation τ sig (Elt F)) : val0_1 V0 (no_index (Proc.devRef .tc main_v12)) = res_main_v12 V0 := by
  unfold val0_1
  simp only [ops_part0_0, TRef.binary, TRef.ternary, TRef.unary, TRef.toBuf, TRef.ofBuf, cast_eq]
  after_results_simp
  simp only [val0_main_arg0] <;> rfl
set_option maxRecDepth 8192 in
set_option maxHeartbeats 2000000 in
theorem val0_1_main_cst_6 (V0 : Valuation τ sig (Elt F)) : val0_1 V0 (no_index (Proc.devRef .tc main_cst_6)) = constant S_ .f32 0x42FE0000#32 := by
  unfold val0_1
  simp only [ops_part0_0, TRef.binary, TRef.ternary, TRef.unary, TRef.toBuf, TRef.ofBuf, cast_eq]
  after_results_simp
  all_goals rfl
set_option maxRecDepth 8192 in
set_option maxHeartbeats 2000000 in
theorem val0_1_main_call2_v2 (V0 : Valuation τ sig (Elt F)) : val0_1 V0 (no_index (Proc.devRef .tc main_call2_v2)) = maximumf (broadcastInDim S8x32x128x32x128 ![] bcast_S_S8x32x128x32x128 (id (constant S_ .f32 0xC2FE0000#32))) (Host.roundeven (Host.divf (res_main_v4 V0) (broadcastInDim S8x32x128x32x128 ![0, 1, 2, 3, 4] bcast_S8x32x1x32x1_S8x32x128x32x128_0_1_2_3_4 (broadcastInDim S8x32x1x32x1 ![0, 1, 3] bcast_S8x32x32_S8x32x1x32x1_0_1_3 (res_main_v12 V0))))) := by
  unfold val0_1
  simp only [ops_part0_0, TRef.binary, TRef.ternary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call2_v3, main_call2_v4, main_v17, main_v18, main_v19, main_v20, main_cst_7, main_v21, main_v22, main_cst_8, main_v23, main_v24, main_v25, main_v26, main_v27, main_v28, main_cst_9, main_v29, main_cst_10, main_v30, main_cst_11, main_v31, main_v32, main_cst_12, main_v33, main_v34, main_cst_13, main_call3_v0, main_call3_v1, main_v35]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v12 (V0 : Valuation τ sig (Elt F)) : val0_2 V0 (no_index (Proc.devRef .tc main_v12)) = res_main_v12 V0 :=
  (val0_2_keep V0 main_v12 (by decide)).trans (val0_1_main_v12 V0)
set_option maxRecDepth 8192 in
set_option maxHeartbeats 2000000 in
theorem val0_2_main_v18 (V0 : Valuation τ sig (Elt F)) : val0_2 V0 (no_index (Proc.devRef .tc main_v18)) = res_main_v18 V0 := by
  unfold val0_2
  simp only [ops_part0_1, TRef.binary, TRef.ternary, TRef.unary, TRef.toBuf, TRef.ofBuf, cast_eq]
  after_results_simp
  simp only [val0_1_main_call2_v2, val0_1_main_cst_6] <;> rfl
set_option maxRecDepth 8192 in
set_option maxHeartbeats 2000000 in
theorem val0_2_main_v27 (V0 : Valuation τ sig (Elt F)) : val0_2 V0 (no_index (Proc.devRef .tc main_v27)) = res_main_v27 V0 := by
  unfold val0_2
  simp only [ops_part0_1, TRef.binary, TRef.ternary, TRef.unary, TRef.toBuf, TRef.ofBuf, cast_eq]
  after_results_simp
  simp only [val0_1_main_arg1] <;> rfl
set_option maxRecDepth 8192 in
set_option maxHeartbeats 2000000 in
theorem val0_2_main_v35 (V0 : Valuation τ sig (Elt F)) : val0_2 V0 (no_index (Proc.devRef .tc main_v35)) = res_main_v35 V0 := by
  unfold val0_2
  simp only [ops_part0_1, TRef.binary, TRef.ternary, TRef.unary, TRef.toBuf, TRef.ofBuf, cast_eq]
  after_results_simp
  simp only [val0_1_main_arg1] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v36, main_v37, main_v38, main_v39, main_cst_14, main_cst_15, main_call5_v0, main_call5_v1, main_call5_v2, main_call5_v3, main_call5_v4, main_v40, main_v41, main_v42]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v12 (V0 : Valuation τ sig (Elt F)) : val1 V0 (no_index (Proc.devRef .tc main_v12)) = res_main_v12 V0 :=
  (val1_keep V0 main_v12 (by decide)).trans (val0_2_main_v12 V0)
theorem val1_main_v18 (V0 : Valuation τ sig (Elt F)) : val1 V0 (no_index (Proc.devRef .tc main_v18)) = res_main_v18 V0 :=
  (val1_keep V0 main_v18 (by decide)).trans (val0_2_main_v18 V0)
theorem val1_main_v35 (V0 : Valuation τ sig (Elt F)) : val1 V0 (no_index (Proc.devRef .tc main_v35)) = res_main_v35 V0 :=
  (val1_keep V0 main_v35 (by decide)).trans (val0_2_main_v35 V0)
set_option maxRecDepth 8192 in
set_option maxHeartbeats 1400000 in
theorem val1_main_v41 (V0 : Valuation τ sig (Elt F)) : val1 V0 (no_index (Proc.devRef .tc main_v41)) = res_main_v41 V0 := by
  unfold val1
  simp only [ops_part0_2, TRef.binary, TRef.unary, TRef.toBuf, TRef.ofBuf, cast_eq]
  after_results_simp
  simp only [val0_2_main_v35, val0_2_main_v27] <;> rfl
set_option maxRecDepth 8192 in
set_option maxHeartbeats 1400000 in
theorem val1_main_v42 (V0 : Valuation τ sig (Elt F)) : val1 V0 (no_index (Proc.devRef .tc main_v42)) = extf .f32 (V0 (Proc.devRef .tc main_arg2)) bitsLt_bf16_f32 := by
  unfold val1
  simp only [ops_part0_2, TRef.binary, TRef.unary, TRef.toBuf, TRef.ofBuf, cast_eq]
  after_results_simp
  simp only [val0_2_main_arg2] <;> rfl

/-- The device's buffer contents after @main's first 104 operations. -/
def val1_1 (V0 : Valuation τ sig (Elt F)) : Valuation τ sig (Elt F) := after ops_part1_0 (val1 V0)
/-- The buffers that window `ops_part1_0`'s operations write. -/
abbrev ops_part1_0_W : List (Ref sig .tc) := [main_v43, main_v44, main_cst_16, main_v45, main_cst_17, main_v46, main_v47, main_cst_18, main_v48, main_v49, main_v50, main_cst_19, main_v51, main_v52, main_v53, main_v54, main_cst_20, main_v55, main_v56, main_cst_21, main_call6_v0, main_call6_v1, main_v57, main_cst_22, main_v58, main_v59, main_v60, main_v61, main_v62, main_cst_23]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v12 (V0 : Valuation τ sig (Elt F)) : val1_1 V0 (no_index (Proc.devRef .tc main_v12)) = res_main_v12 V0 :=
  (val1_1_keep V0 main_v12 (by decide)).trans (val1_main_v12 V0)
theorem val1_1_main_v18 (V0 : Valuation τ sig (Elt F)) : val1_1 V0 (no_index (Proc.devRef .tc main_v18)) = res_main_v18 V0 :=
  (val1_1_keep V0 main_v18 (by decide)).trans (val1_main_v18 V0)
theorem val1_1_main_v35 (V0 : Valuation τ sig (Elt F)) : val1_1 V0 (no_index (Proc.devRef .tc main_v35)) = res_main_v35 V0 :=
  (val1_1_keep V0 main_v35 (by decide)).trans (val1_main_v35 V0)
theorem val1_1_main_v41 (V0 : Valuation τ sig (Elt F)) : val1_1 V0 (no_index (Proc.devRef .tc main_v41)) = res_main_v41 V0 :=
  (val1_1_keep V0 main_v41 (by decide)).trans (val1_main_v41 V0)
set_option maxRecDepth 8192 in
set_option maxHeartbeats 2000000 in
theorem val1_1_main_v59 (V0 : Valuation τ sig (Elt F)) : val1_1 V0 (no_index (Proc.devRef .tc main_v59)) = res_main_v59 V0 := by
  unfold val1_1
  simp only [ops_part1_0, TRef.ternary, TRef.unary, TRef.toBuf, TRef.ofBuf, cast_eq]
  after_results_simp
  simp only [val1_main_v42] <;> rfl
set_option maxRecDepth 8192 in
set_option maxHeartbeats 2000000 in
theorem val1_1_main_v62 (V0 : Valuation τ sig (Elt F)) : val1_1 V0 (no_index (Proc.devRef .tc main_v62)) = Host.divf (res_main_v43 V0) (broadcastInDim S8x4096x4x128 ![0, 1, 2, 3] bcast_S8x1x4x128_S8x4096x4x128_0_1_2_3 (broadcastInDim S8x1x4x128 ![0, 2, 3] bcast_S8x4x128_S8x1x4x128_0_2_3 (res_main_v59 V0))) := by
  unfold val1_1
  simp only [ops_part1_0, TRef.ternary, TRef.unary, TRef.toBuf, TRef.ofBuf, cast_eq]
  after_results_simp
  simp only [val1_main_v42] <;> rfl
set_option maxRecDepth 8192 in
set_option maxHeartbeats 2000000 in
theorem val1_1_main_cst_23 (V0 : Valuation τ sig (Elt F)) : val1_1 V0 (no_index (Proc.devRef .tc main_cst_23)) = constant S_ .f32 0xC3E00000#32 := by
  unfold val1_1
  simp only [ops_part1_0, TRef.ternary, TRef.unary, TRef.toBuf, TRef.ofBuf, cast_eq]
  after_results_simp
  all_goals rfl

/-- The device's buffer contents after @main's first 134 operations. -/
def val1_2 (V0 : Valuation τ sig (Elt F)) : Valuation τ sig (Elt F) := after ops_part1_1 (val1_1 V0)
/-- The buffers that window `ops_part1_1`'s operations write. -/
abbrev ops_part1_1_W : List (Ref sig .tc) := [main_cst_24, main_call7_v0, main_call7_v1, main_call7_v2, main_call7_v3, main_call7_v4, main_v63, main_v64, main_v65, main_v66, main_v67, main_v68, main_v69, main_v70, main_v71, main_v72, main_v73, main_v74, main_v75, main_v76, main_v77, main_v78, main_v79, main_v80, main_v81, main_v82, main_v83, main_v84, main_v85, main_v86]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v12 (V0 : Valuation τ sig (Elt F)) : val1_2 V0 (no_index (Proc.devRef .tc main_v12)) = res_main_v12 V0 :=
  (val1_2_keep V0 main_v12 (by decide)).trans (val1_1_main_v12 V0)
theorem val1_2_main_v18 (V0 : Valuation τ sig (Elt F)) : val1_2 V0 (no_index (Proc.devRef .tc main_v18)) = res_main_v18 V0 :=
  (val1_2_keep V0 main_v18 (by decide)).trans (val1_1_main_v18 V0)
theorem val1_2_main_v35 (V0 : Valuation τ sig (Elt F)) : val1_2 V0 (no_index (Proc.devRef .tc main_v35)) = res_main_v35 V0 :=
  (val1_2_keep V0 main_v35 (by decide)).trans (val1_1_main_v35 V0)
theorem val1_2_main_v41 (V0 : Valuation τ sig (Elt F)) : val1_2 V0 (no_index (Proc.devRef .tc main_v41)) = res_main_v41 V0 :=
  (val1_2_keep V0 main_v41 (by decide)).trans (val1_1_main_v41 V0)
theorem val1_2_main_v59 (V0 : Valuation τ sig (Elt F)) : val1_2 V0 (no_index (Proc.devRef .tc main_v59)) = res_main_v59 V0 :=
  (val1_2_keep V0 main_v59 (by decide)).trans (val1_1_main_v59 V0)
set_option maxRecDepth 8192 in
set_option maxHeartbeats 2000000 in
theorem val1_2_main_v63 (V0 : Valuation τ sig (Elt F)) : val1_2 V0 (no_index (Proc.devRef .tc main_v63)) = minimumf (broadcastInDim S8x4096x4x128 ![] bcast_S_S8x4096x4x128 (id (constant S_ .f32 0x43E00000#32))) (maximumf (broadcastInDim S8x4096x4x128 ![] bcast_S_S8x4096x4x128 (id (constant S_ .f32 0xC3E00000#32))) (Host.divf (res_main_v43 V0) (broadcastInDim S8x4096x4x128 ![0, 1, 2, 3] bcast_S8x1x4x128_S8x4096x4x128_0_1_2_3 (broadcastInDim S8x1x4x128 ![0, 2, 3] bcast_S8x4x128_S8x1x4x128_0_2_3 (res_main_v59 V0))))) := by
  unfold val1_2
  simp only [ops_part1_1, TRef.binary, TRef.unary, TRef.toBuf, TRef.ofBuf, cast_eq]
  after_results_simp
  simp only [val1_1_main_v62, val1_1_main_cst_23] <;> rfl
set_option maxRecDepth 8192 in
set_option maxHeartbeats 2000000 in
theorem val1_2_main_v79 (V0 : Valuation τ sig (Elt F)) : val1_2 V0 (no_index (Proc.devRef .tc main_v79)) = mulf (mulf (transpose S8x4x8x4096x4096 [0, 1, 4, 3, 2] (Host.dotGeneral dot_S8x4096x4x128_S8x4096x4x8x128_S8x4x4096x4096x8_3_4_1_13_02_02 none (res_main_v41 V0) (shapeCast _ (res_main_v18 V0) shapeCasts_S8x4096x32x128_S8x4096x4x8x128)) transposes_S8x4x4096x4096x8_S8x4x8x4096x4096_0_1_4_3_2) (broadcastInDim S8x4x8x4096x4096 ![0, 1, 2, 3, 4] bcast_S8x4x8x4096x1_S8x4x8x4096x4096_0_1_2_3_4 (broadcastInDim S8x4x8x4096x1 ![0, 1, 2, 3] bcast_S8x4x8x4096_S8x4x8x4096x1_0_1_2_3 (transpose S8x4x8x4096 [0, 2, 3, 1] (shapeCast _ (shapeCast _ (broadcastInDim S8x32x128x32 ![0, 1, 3] bcast_S8x32x32_S8x32x128x32_0_1_3 (res_main_v12 V0)) shapeCasts_S8x32x128x32_S8x4096x32) shapeCasts_S8x4096x32_S8x4096x4x8) transposes_S8x4096x4x8_S8x4x8x4096_0_2_3_1)))) (broadcastInDim S8x4x8x4096x4096 ![0, 1, 2, 3, 4] bcast_S8x4x1x1x4096_S8x4x8x4096x4096_0_1_2_3_4 (broadcastInDim S8x4x1x1x4096 ![0, 1, 4] bcast_S8x4x4096_S8x4x1x1x4096_0_1_4 (transpose S8x4x4096 [0, 2, 1] (shapeCast _ (broadcastInDim S8x64x64x4 ![0, 1, 3] bcast_S8x64x4_S8x64x64x4_0_1_3 (res_main_v35 V0)) shapeCasts_S8x64x64x4_S8x4096x4) transposes_S8x4096x4_S8x4x4096_0_2_1))) := by
  unfold val1_2
  simp only [ops_part1_1, TRef.binary, TRef.unary, TRef.toBuf, TRef.ofBuf, cast_eq]
  after_results_simp
  simp only [val1_1_main_v35, val1_1_main_v12, val1_1_main_v18, val1_1_main_v41] <;> rfl
set_option maxRecDepth 8192 in
set_option maxHeartbeats 2000000 in
theorem val1_2_main_v81 (V0 : Valuation τ sig (Elt F)) : val1_2 V0 (no_index (Proc.devRef .tc main_v81)) = res_main_v81 V0 := by
  unfold val1_2
  simp only [ops_part1_1, TRef.binary, TRef.unary, TRef.toBuf, TRef.ofBuf, cast_eq]
  after_results_simp
  all_goals rfl
set_option maxRecDepth 8192 in
set_option maxHeartbeats 2000000 in
theorem val1_2_main_v83 (V0 : Valuation τ sig (Elt F)) : val1_2 V0 (no_index (Proc.devRef .tc main_v83)) = res_main_v83 V0 := by
  unfold val1_2
  simp only [ops_part1_1, TRef.binary, TRef.unary, TRef.toBuf, TRef.ofBuf, cast_eq]
  after_results_simp
  all_goals rfl
set_option maxRecDepth 8192 in
set_option maxHeartbeats 2000000 in
theorem val1_2_main_v86 (V0 : Valuation τ sig (Elt F)) : val1_2 V0 (no_index (Proc.devRef .tc main_v86)) = cmpi .sle (broadcastInDim S4096x4096 ![0, 1] bcast_S1x4096_S4096x4096_0_1 (res_main_v83 V0)) (broadcastInDim S4096x4096 ![0, 1] bcast_S4096x1_S4096x4096_0_1 (res_main_v81 V0)) := by
  unfold val1_2
  simp only [ops_part1_1, TRef.binary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_c, main_v87, main_v88, main_v89, main_v90, main_v91, main_v92]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v12 (V0 : Valuation τ sig (Elt F)) : val2 V0 (no_index (Proc.devRef .tc main_v12)) = res_main_v12 V0 :=
  (val2_keep V0 main_v12 (by decide)).trans (val1_2_main_v12 V0)
theorem val2_main_v18 (V0 : Valuation τ sig (Elt F)) : val2 V0 (no_index (Proc.devRef .tc main_v18)) = res_main_v18 V0 :=
  (val2_keep V0 main_v18 (by decide)).trans (val1_2_main_v18 V0)
theorem val2_main_v35 (V0 : Valuation τ sig (Elt F)) : val2 V0 (no_index (Proc.devRef .tc main_v35)) = res_main_v35 V0 :=
  (val2_keep V0 main_v35 (by decide)).trans (val1_2_main_v35 V0)
theorem val2_main_v41 (V0 : Valuation τ sig (Elt F)) : val2 V0 (no_index (Proc.devRef .tc main_v41)) = res_main_v41 V0 :=
  (val2_keep V0 main_v41 (by decide)).trans (val1_2_main_v41 V0)
theorem val2_main_v59 (V0 : Valuation τ sig (Elt F)) : val2 V0 (no_index (Proc.devRef .tc main_v59)) = res_main_v59 V0 :=
  (val2_keep V0 main_v59 (by decide)).trans (val1_2_main_v59 V0)
theorem val2_main_v63 (V0 : Valuation τ sig (Elt F)) : val2 V0 (no_index (Proc.devRef .tc main_v63)) = minimumf (broadcastInDim S8x4096x4x128 ![] bcast_S_S8x4096x4x128 (id (constant S_ .f32 0x43E00000#32))) (maximumf (broadcastInDim S8x4096x4x128 ![] bcast_S_S8x4096x4x128 (id (constant S_ .f32 0xC3E00000#32))) (Host.divf (res_main_v43 V0) (broadcastInDim S8x4096x4x128 ![0, 1, 2, 3] bcast_S8x1x4x128_S8x4096x4x128_0_1_2_3 (broadcastInDim S8x1x4x128 ![0, 2, 3] bcast_S8x4x128_S8x1x4x128_0_2_3 (res_main_v59 V0))))) :=
  (val2_keep V0 main_v63 (by decide)).trans (val1_2_main_v63 V0)
theorem val2_main_v79 (V0 : Valuation τ sig (Elt F)) : val2 V0 (no_index (Proc.devRef .tc main_v79)) = mulf (mulf (transpose S8x4x8x4096x4096 [0, 1, 4, 3, 2] (Host.dotGeneral dot_S8x4096x4x128_S8x4096x4x8x128_S8x4x4096x4096x8_3_4_1_13_02_02 none (res_main_v41 V0) (shapeCast _ (res_main_v18 V0) shapeCasts_S8x4096x32x128_S8x4096x4x8x128)) transposes_S8x4x4096x4096x8_S8x4x8x4096x4096_0_1_4_3_2) (broadcastInDim S8x4x8x4096x4096 ![0, 1, 2, 3, 4] bcast_S8x4x8x4096x1_S8x4x8x4096x4096_0_1_2_3_4 (broadcastInDim S8x4x8x4096x1 ![0, 1, 2, 3] bcast_S8x4x8x4096_S8x4x8x4096x1_0_1_2_3 (transpose S8x4x8x4096 [0, 2, 3, 1] (shapeCast _ (shapeCast _ (broadcastInDim S8x32x128x32 ![0, 1, 3] bcast_S8x32x32_S8x32x128x32_0_1_3 (res_main_v12 V0)) shapeCasts_S8x32x128x32_S8x4096x32) shapeCasts_S8x4096x32_S8x4096x4x8) transposes_S8x4096x4x8_S8x4x8x4096_0_2_3_1)))) (broadcastInDim S8x4x8x4096x4096 ![0, 1, 2, 3, 4] bcast_S8x4x1x1x4096_S8x4x8x4096x4096_0_1_2_3_4 (broadcastInDim S8x4x1x1x4096 ![0, 1, 4] bcast_S8x4x4096_S8x4x1x1x4096_0_1_4 (transpose S8x4x4096 [0, 2, 1] (shapeCast _ (broadcastInDim S8x64x64x4 ![0, 1, 3] bcast_S8x64x4_S8x64x64x4_0_1_3 (res_main_v35 V0)) shapeCasts_S8x64x64x4_S8x4096x4) transposes_S8x4096x4_S8x4x4096_0_2_1))) :=
  (val2_keep V0 main_v79 (by decide)).trans (val1_2_main_v79 V0)
set_option maxRecDepth 8192 in
theorem val2_main_v92 (V0 : Valuation τ sig (Elt F)) : val2 V0 (no_index (Proc.devRef .tc main_v92)) = andi (cmpi .sle (broadcastInDim S4096x4096 ![0, 1] bcast_S1x4096_S4096x4096_0_1 (res_main_v83 V0)) (broadcastInDim S4096x4096 ![0, 1] bcast_S4096x1_S4096x4096_0_1 (res_main_v81 V0))) (cmpi .sgt (broadcastInDim S4096x4096 ![0, 1] bcast_S1x4096_S4096x4096_0_1 (res_main_v83 V0)) (broadcastInDim S4096x4096 ![0, 1] bcast_S4096x1_S4096x4096_0_1 (subi (res_main_v81 V0) (broadcastInDim S4096x1 ![] bcast_S_S4096x1 (constantI S_ 32 1024#32))))) := by
  unfold val2
  simp only [ops_part1_2]
  after_results_simp
  simp only [val1_2_main_v81, val1_2_main_v83, val1_2_main_v86] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_cst_25, main_call8_v0, main_call8_v1, main_call8_v2, main_v93, main_cst_26, main_v94, main_v95, main_v96, main_v97, main_v98, main_cst_27, main_v99, main_cst_28, main_v100, main_v101, main_cst_29, main_v102, main_v103, main_v104, main_v105, main_cst_30, main_v106, main_v107, main_v108, main_v109, main_v110, main_v111, main_v112, main_v113, main_v114, main_v115, main_v116, main_v117, main_v118, main_v119, main_v120, main_v121, main_v122, main_v123, main_v124, main_v125]
set_option maxRecDepth 8192 in
theorem ops_part2_writes : (ops_part2 : List (HloOp τ sig (Elt F))).Forall fun op => op.writes ⊆ (ops_part2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_v59 (V0 : Valuation τ sig (Elt F)) : val3 V0 (no_index (Proc.devRef .tc main_v59)) = res_main_v59 V0 :=
  (val3_keep V0 main_v59 (by decide)).trans (val2_main_v59 V0)
set_option maxRecDepth 8192 in
set_option maxHeartbeats 2000000 in
theorem val3_main_v116 (V0 : Valuation τ sig (Elt F)) : val3 V0 (no_index (Proc.devRef .tc main_v116)) = shapeCast _ (truncf .bf16 (Host.divf (mulf (mulf (transpose S8x4096x4x8x128 [0, 4, 1, 3, 2] (Host.dotGeneral dot_S8x4096x4x128_S8x4x8x4096x4096_S8x4x128x8x4096_1_4_3_23_02_01 none (minimumf (broadcastInDim S8x4096x4x128 ![] bcast_S_S8x4096x4x128 (id (constant S_ .f32 0x43E00000#32))) (maximumf (broadcastInDim S8x4096x4x128 ![] bcast_S_S8x4096x4x128 (id (constant S_ .f32 0xC3E00000#32))) (Host.divf (res_main_v43 V0) (broadcastInDim S8x4096x4x128 ![0, 1, 2, 3] bcast_S8x1x4x128_S8x4096x4x128_0_1_2_3 (broadcastInDim S8x1x4x128 ![0, 2, 3] bcast_S8x4x128_S8x1x4x128_0_2_3 (res_main_v59 V0)))))) (minimumf (mulf (res_main_v98 V0) (broadcastInDim S8x4x8x4096x4096 ![] bcast_S_S8x4x8x4096x4096 (constant S_ .f32 0x43800000#32))) (broadcastInDim S8x4x8x4096x4096 ![] bcast_S_S8x4x8x4096x4096 (constant S_ .f32 0x43E00000#32)))) transposes_S8x4x128x8x4096_S8x4096x4x8x128_0_4_1_3_2) (broadcastInDim S8x4096x4x8x128 ![] bcast_S_S8x4096x4x8x128 (constant S_ .f32 0x3B800000#32))) (broadcastInDim S8x4096x4x8x128 ![0, 1, 2, 3, 4] bcast_S8x1x4x1x128_S8x4096x4x8x128_0_1_2_3_4 (broadcastInDim S8x1x4x1x128 ![0, 2, 4] bcast_S8x4x128_S8x1x4x1x128_0_2_4 (res_main_v59 V0)))) (broadcastInDim S8x4096x4x8x128 ![0, 1, 2, 3, 4] bcast_S8x4096x4x8x1_S8x4096x4x8x128_0_1_2_3_4 (broadcastInDim S8x4096x4x8x1 ![0, 1, 2, 3] bcast_S8x4096x4x8_S8x4096x4x8x1_0_1_2_3 (transpose S8x4096x4x8 [0, 3, 1, 2] (Host.reduceAdd (res_main_v98 V0) (constant S_ .f32 0x00000000#32) reducesTo_S8x4x8x4096x4096_S8x4x8x4096_d4 h_S_) transposes_S8x4x8x4096_S8x4096x4x8_0_3_1_2)))) bitsLt_bf16_f32) shapeCasts_S8x4096x4x8x128_S8x4096x4096 := by
  unfold val3
  simp only [ops_part2, TRef.ternary, TRef.unary, TRef.toBuf, TRef.ofBuf, cast_eq]
  after_results_simp
  simp only [val2_main_v79, val2_main_v92, val2_main_v59, val2_main_v63] <;> rfl
set_option maxRecDepth 8192 in
set_option maxHeartbeats 2000000 in
theorem val3_main_v119 (V0 : Valuation τ sig (Elt F)) : val3 V0 (no_index (Proc.devRef .tc main_v119)) = trunci 8 (fptosi 32 (shapeCast _ (res_main_v18 V0) shapeCasts_S8x4096x32x128_S8x4096x4096)) natLt_8_32 := by
  unfold val3
  simp only [ops_part2, TRef.ternary, TRef.unary, TRef.toBuf, TRef.ofBuf, cast_eq]
  after_results_simp
  simp only [val2_main_v18] <;> rfl
set_option maxRecDepth 8192 in
set_option maxHeartbeats 2000000 in
theorem val3_main_v120 (V0 : Valuation τ sig (Elt F)) : val3 V0 (no_index (Proc.devRef .tc main_v120)) = transpose S8x32x32 [0, 2, 1] (res_main_v12 V0) transposes_S8x32x32_S8x32x32_0_2_1 := by
  unfold val3
  simp only [ops_part2, TRef.ternary, TRef.unary, TRef.toBuf, TRef.ofBuf, cast_eq]
  after_results_simp
  simp only [val2_main_v12] <;> rfl
set_option maxRecDepth 8192 in
set_option maxHeartbeats 2000000 in
theorem val3_main_v123 (V0 : Valuation τ sig (Elt F)) : val3 V0 (no_index (Proc.devRef .tc main_v123)) = trunci 8 (fptosi 32 (shapeCast _ (res_main_v41 V0) shapeCasts_S8x4096x4x128_S8x4096x512)) natLt_8_32 := by
  unfold val3
  simp only [ops_part2, TRef.ternary, TRef.unary, TRef.toBuf, TRef.ofBuf, cast_eq]
  after_results_simp
  simp only [val2_main_v41] <;> rfl
set_option maxRecDepth 8192 in
set_option maxHeartbeats 2000000 in
theorem val3_main_v124 (V0 : Valuation τ sig (Elt F)) : val3 V0 (no_index (Proc.devRef .tc main_v124)) = transpose S8x4x64 [0, 2, 1] (res_main_v35 V0) transposes_S8x64x4_S8x4x64_0_2_1 := by
  unfold val3
  simp only [ops_part2, TRef.ternary, TRef.unary, TRef.toBuf, TRef.ofBuf, cast_eq]
  after_results_simp
  simp only [val2_main_v35] <;> rfl
set_option maxRecDepth 8192 in
set_option maxHeartbeats 2000000 in
theorem val3_main_v125 (V0 : Valuation τ sig (Elt F)) : val3 V0 (no_index (Proc.devRef .tc main_v125)) = shapeCast _ (minimumf (broadcastInDim S8x4096x4x128 ![] bcast_S_S8x4096x4x128 (id (constant S_ .f32 0x43E00000#32))) (maximumf (broadcastInDim S8x4096x4x128 ![] bcast_S_S8x4096x4x128 (id (constant S_ .f32 0xC3E00000#32))) (Host.divf (res_main_v43 V0) (broadcastInDim S8x4096x4x128 ![0, 1, 2, 3] bcast_S8x1x4x128_S8x4096x4x128_0_1_2_3 (broadcastInDim S8x1x4x128 ![0, 2, 3] bcast_S8x4x128_S8x1x4x128_0_2_3 (res_main_v59 V0)))))) shapeCasts_S8x4096x4x128_S8x4096x512 := by
  unfold val3
  simp only [ops_part2, TRef.ternary, TRef.unary, TRef.toBuf, TRef.ofBuf, cast_eq]
  after_results_simp
  simp only [val2_main_v63] <;> rfl

theorem after_ops (V0 : Valuation τ sig (Elt F)) : after ops V0 = val3 V0 := by
  simp only [ops, ops_part0, ops_part1, after_append]
  rfl

set_option maxRecDepth 16384 in
set_option maxHeartbeats 4000000 in
/-- The operations before the kernel are the windows' operations. -/
theorem V_eq (m : (ℓ : Loc nD τ sig) → Buf (Elt F) ℓ) (c : Dev nD) (b : Ref sig .tc) : V m c b = val3 (launchContents m c) (Proc.devRef .tc b) :=
  (show V m c b = after ops (launchContents m c) (Proc.devRef .tc b) from rfl).trans (congrFun (after_ops _) _)

end Cert.ReferenceIdeal.Entry

end
-- ==== Proof.Ref.lean ====
/- The reference's result in named stages, each over the stages before it. -/
module

public import proofs.«01_k».proof.Proof.RefRun
public import proofs.«01_k».proof.Proof.Gen.ReferenceIdeal.Value
public import Idealize.ShloMosaic.Lib.Pipeline.ValueKit
public import Idealize.ShloMosaic.Lib.Pipeline.Covers

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The values by head. -/
def vf (V : FVec F S8x4096x512 .bf16) : FVec F S8x4096x4x128 .f32 :=
  shapeCast _ (extf .f32 V bitsLt_bf16_f32) shapeCasts_S8x4096x512_S8x4096x4x128

/-- Their sizes. -/
def vAbs (a10 : FVec F S8x4096x4x128 .f32) : FVec F S8x4096x4x128 .f32 :=
  Host.absf a10

/-- The channel maxima. -/
def vM (a13 : FVec F S8x4096x4x128 .f32) : FVec F S8x4x128 .f32 :=
  Host.reduce FloatOps.maximumf a13 (constant S_ .f32 0xFF800000#32) reducesTo_S8x4096x4x128_S8x4x128_d1 h_S_

/-- The maxima over 448. -/
def vY (a15 : FVec F S8x4x128 .f32) : FVec F S8x4x128 .f32 :=
  mulf a15 (broadcastInDim S8x4x128 ![] bcast_S_S8x4x128 (constant S_ .f32 0x3B124925#32))

/-- The channel scales. -/
def vSc (a18 : FVec F S8x4x128 .f32) : FVec F S8x4x128 .f32 :=
  Host.powf (broadcastInDim S8x4x128 ![] bcast_S_S8x4x128 (constant S_ .f32 0x40000000#32)) (select (cmpf .olt a18 (broadcastInDim S8x4x128 ![] bcast_S_S8x4x128 (constant S_ .f32 0x00800000#32))) (broadcastInDim S8x4x128 ![] bcast_S_S8x4x128 (id (constant S_ .f32 0x00000000#32))) (addf (Host.floor (Host.divf (Host.log a18) (broadcastInDim S8x4x128 ![] bcast_S_S8x4x128 (Host.log (constant S_ .f32 0x40000000#32))))) (broadcastInDim S8x4x128 ![] bcast_S_S8x4x128 (constant S_ .f32 0x3F800000#32))))

/-- The value codes. -/
def vCodes (a10 : FVec F S8x4096x4x128 .f32) (a34 : FVec F S8x4x128 .f32) : FVec F S8x4096x4x128 .f32 :=
  minimumf (broadcastInDim S8x4096x4x128 ![] bcast_S_S8x4096x4x128 (id (constant S_ .f32 0x43E00000#32))) (maximumf (broadcastInDim S8x4096x4x128 ![] bcast_S_S8x4096x4x128 (id (constant S_ .f32 0xC3E00000#32))) (Host.divf a10 (broadcastInDim S8x4096x4x128 ![0, 1, 2, 3] bcast_S8x1x4x128_S8x4096x4x128_0_1_2_3 (broadcastInDim S8x1x4x128 ![0, 2, 3] bcast_S8x4x128_S8x1x4x128_0_2_3 a34))))

/-- Where a query may see a key. -/
def seen  : IVec S8x4x8x4096x4096 1 :=
  broadcastInDim S8x4x8x4096x4096 ![3, 4] bcast_S4096x4096_S8x4x8x4096x4096_3_4 (andi (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (cmpi .sgt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (subi (broadcastInDim S4096x1 ![0] bcast_S4096_S4096x1_0 (iotaInDim S4096 32 0)) (broadcastInDim S4096x1 ![] bcast_S_S4096x1 (constantI S_ 32 1024#32))))))

/-- The keys by head. -/
def kf (K : FVec F S8x4096x512 .bf16) : FVec F S8x4096x4x128 .f32 :=
  shapeCast _ (extf .f32 K bitsLt_bf16_f32) shapeCasts_S8x4096x512_S8x4096x4x128

/-- The mean key. -/
def kMean (a62 : FVec F S8x4096x4x128 .f32) : FVec F S8x1x4x128 .f32 :=
  Host.divf (broadcastInDim S8x1x4x128 ![0, 2, 3] bcast_S8x4x128_S8x1x4x128_0_2_3 (Host.reduceAdd a62 (constant S_ .f32 0x00000000#32) reducesTo_S8x4096x4x128_S8x4x128_d1 h_S_)) (broadcastInDim S8x1x4x128 ![] bcast_S_S8x1x4x128 (constant S_ .f32 0x45800000#32))

/-- The centred keys, by group. -/
def kC (a62 : FVec F S8x4096x4x128 .f32) (a67 : FVec F S8x1x4x128 .f32) : FVec F S8x64x64x4x128 .f32 :=
  shapeCast _ (subf a62 (broadcastInDim S8x4096x4x128 ![0, 1, 2, 3] bcast_S8x1x4x128_S8x4096x4x128_0_1_2_3 a67)) shapeCasts_S8x4096x4x128_S8x64x64x4x128

/-- Their sizes. -/
def kAbs (a70 : FVec F S8x64x64x4x128 .f32) : FVec F S8x64x64x4x128 .f32 :=
  Host.absf a70

/-- A group's largest size. -/
def kAmax (a71 : FVec F S8x64x64x4x128 .f32) : FVec F S8x64x4 .f32 :=
  Host.reduce FloatOps.maximumf (Host.reduce FloatOps.maximumf a71 (constant S_ .f32 0xFF800000#32) reducesTo_S8x64x64x4x128_S8x64x64x4_d4 h_S_) (constant S_ .f32 0xFF800000#32) reducesTo_S8x64x64x4_S8x64x4_d2 h_S_

/-- The key scales. -/
def kSc (a73 : FVec F S8x64x4 .f32) : FVec F S8x64x4 .f32 :=
  select (cmpf .ogt a73 (broadcastInDim S8x64x4 ![] bcast_S_S8x64x4 (constant S_ .f32 0x00000000#32))) (Host.divf a73 (broadcastInDim S8x64x4 ![] bcast_S_S8x64x4 (constant S_ .f32 0x42FE0000#32))) (broadcastInDim S8x64x4 ![] bcast_S_S8x64x4 (id (constant S_ .f32 0x3F800000#32)))

/-- The key codes. -/
def kCodes (a70 : FVec F S8x64x64x4x128 .f32) (a80 : FVec F S8x64x4 .f32) : FVec F S8x64x64x4x128 .f32 :=
  minimumf (broadcastInDim S8x64x64x4x128 ![] bcast_S_S8x64x64x4x128 (id (constant S_ .f32 0x42FE0000#32))) (maximumf (broadcastInDim S8x64x64x4x128 ![] bcast_S_S8x64x64x4x128 (id (constant S_ .f32 0xC2FE0000#32))) (Host.roundeven (Host.divf a70 (broadcastInDim S8x64x64x4x128 ![0, 1, 2, 3, 4] bcast_S8x64x1x4x1_S8x64x64x4x128_0_1_2_3_4 (broadcastInDim S8x64x1x4x1 ![0, 1, 3] bcast_S8x64x4_S8x64x1x4x1_0_1_3 a80)))))

/-- The scaled queries, by block. -/
def qf (X : FVec F S8x4096x4096 .bf16) : FVec F S8x32x128x32x128 .f32 :=
  shapeCast _ (mulf (shapeCast _ (extf .f32 X bitsLt_bf16_f32) shapeCasts_S8x4096x4096_S8x4096x32x128) (broadcastInDim S8x4096x32x128 ![] bcast_S_S8x4096x32x128 (constant S_ .f32 0x3DB504F3#32))) shapeCasts_S8x4096x32x128_S8x32x128x32x128

/-- Their sizes. -/
def qAbs (a97 : FVec F S8x32x128x32x128 .f32) : FVec F S8x32x128x32x128 .f32 :=
  Host.absf a97

/-- A block's largest size. -/
def qAmax (a98 : FVec F S8x32x128x32x128 .f32) : FVec F S8x32x32 .f32 :=
  Host.reduce FloatOps.maximumf (Host.reduce FloatOps.maximumf a98 (constant S_ .f32 0xFF800000#32) reducesTo_S8x32x128x32x128_S8x32x128x32_d4 h_S_) (constant S_ .f32 0xFF800000#32) reducesTo_S8x32x128x32_S8x32x32_d2 h_S_

/-- The query scales. -/
def qSc (a100 : FVec F S8x32x32 .f32) : FVec F S8x32x32 .f32 :=
  select (cmpf .ogt a100 (broadcastInDim S8x32x32 ![] bcast_S_S8x32x32 (constant S_ .f32 0x00000000#32))) (Host.divf a100 (broadcastInDim S8x32x32 ![] bcast_S_S8x32x32 (constant S_ .f32 0x42FE0000#32))) (broadcastInDim S8x32x32 ![] bcast_S_S8x32x32 (id (constant S_ .f32 0x3F800000#32)))

/-- The query codes. -/
def qCodes (a97 : FVec F S8x32x128x32x128 .f32) (a106 : FVec F S8x32x32 .f32) : FVec F S8x32x128x32x128 .f32 :=
  minimumf (broadcastInDim S8x32x128x32x128 ![] bcast_S_S8x32x128x32x128 (id (constant S_ .f32 0x42FE0000#32))) (maximumf (broadcastInDim S8x32x128x32x128 ![] bcast_S_S8x32x128x32x128 (id (constant S_ .f32 0xC2FE0000#32))) (Host.roundeven (Host.divf a97 (broadcastInDim S8x32x128x32x128 ![0, 1, 2, 3, 4] bcast_S8x32x1x32x1_S8x32x128x32x128_0_1_2_3_4 (broadcastInDim S8x32x1x32x1 ![0, 1, 3] bcast_S8x32x32_S8x32x1x32x1_0_1_3 a106)))))

/-- The products of the codes. -/
def dotQK (a86 : FVec F S8x64x64x4x128 .f32) (a112 : FVec F S8x32x128x32x128 .f32) : FVec F S8x4x8x4096x4096 .f32 :=
  transpose S8x4x8x4096x4096 [0, 1, 4, 3, 2] (Host.dotGeneral dot_S8x4096x4x128_S8x4096x4x8x128_S8x4x4096x4096x8_3_4_1_13_02_02 none (shapeCast _ a86 shapeCasts_S8x64x64x4x128_S8x4096x4x128) (shapeCast _ (shapeCast _ a112 shapeCasts_S8x32x128x32x128_S8x4096x32x128) shapeCasts_S8x4096x32x128_S8x4096x4x8x128)) transposes_S8x4x4096x4096x8_S8x4x8x4096x4096_0_1_4_3_2

/-- The scores. -/
def sc (a116 : FVec F S8x4x8x4096x4096 .f32) (a106 : FVec F S8x32x32 .f32) (a80 : FVec F S8x64x4 .f32) : FVec F S8x4x8x4096x4096 .f32 :=
  mulf (mulf a116 (broadcastInDim S8x4x8x4096x4096 ![0, 1, 2, 3, 4] bcast_S8x4x8x4096x1_S8x4x8x4096x4096_0_1_2_3_4 (broadcastInDim S8x4x8x4096x1 ![0, 1, 2, 3] bcast_S8x4x8x4096_S8x4x8x4096x1_0_1_2_3 (transpose S8x4x8x4096 [0, 2, 3, 1] (shapeCast _ (shapeCast _ (broadcastInDim S8x32x128x32 ![0, 1, 3] bcast_S8x32x32_S8x32x128x32_0_1_3 a106) shapeCasts_S8x32x128x32_S8x4096x32) shapeCasts_S8x4096x32_S8x4096x4x8) transposes_S8x4096x4x8_S8x4x8x4096_0_2_3_1)))) (broadcastInDim S8x4x8x4096x4096 ![0, 1, 2, 3, 4] bcast_S8x4x1x1x4096_S8x4x8x4096x4096_0_1_2_3_4 (broadcastInDim S8x4x1x1x4096 ![0, 1, 4] bcast_S8x4x4096_S8x4x1x1x4096_0_1_4 (transpose S8x4x4096 [0, 2, 1] (shapeCast _ (broadcastInDim S8x64x64x4 ![0, 1, 3] bcast_S8x64x4_S8x64x64x4_0_1_3 a80) shapeCasts_S8x64x64x4_S8x4096x4) transposes_S8x4096x4_S8x4x4096_0_2_1)))

/-- The scores, masked. -/
def masked (a52 : IVec S8x4x8x4096x4096 1) (a129 : FVec F S8x4x8x4096x4096 .f32) : FVec F S8x4x8x4096x4096 .f32 :=
  select a52 a129 (broadcastInDim S8x4x8x4096x4096 ![] bcast_S_S8x4x8x4096x4096 (id (constant S_ .f32 0xFF800000#32)))

/-- The row maxima. -/
def mx (a132 : FVec F S8x4x8x4096x4096 .f32) : FVec F S8x4x8x4096 .f32 :=
  Host.reduce FloatOps.maximumf a132 (constant S_ .f32 0xFF800000#32) reducesTo_S8x4x8x4096x4096_S8x4x8x4096_d4 h_S_

/-- The exponentials. -/
def p (a132 : FVec F S8x4x8x4096x4096 .f32) (a133 : FVec F S8x4x8x4096 .f32) : FVec F S8x4x8x4096x4096 .f32 :=
  Host.exp (subf a132 (broadcastInDim S8x4x8x4096x4096 ![0, 1, 2, 3, 4] bcast_S8x4x8x4096x1_S8x4x8x4096x4096_0_1_2_3_4 (broadcastInDim S8x4x8x4096x1 ![0, 1, 2, 3] bcast_S8x4x8x4096_S8x4x8x4096x1_0_1_2_3 a133)))

/-- The probability codes. -/
def pc (a137 : FVec F S8x4x8x4096x4096 .f32) : FVec F S8x4x8x4096x4096 .f32 :=
  minimumf (mulf a137 (broadcastInDim S8x4x8x4096x4096 ![] bcast_S_S8x4x8x4096x4096 (constant S_ .f32 0x43800000#32))) (broadcastInDim S8x4x8x4096x4096 ![] bcast_S_S8x4x8x4096x4096 (constant S_ .f32 0x43E00000#32))

/-- The weighted values. -/
def o (a39 : FVec F S8x4096x4x128 .f32) (a142 : FVec F S8x4x8x4096x4096 .f32) : FVec F S8x4096x4x8x128 .f32 :=
  transpose S8x4096x4x8x128 [0, 4, 1, 3, 2] (Host.dotGeneral dot_S8x4096x4x128_S8x4x8x4096x4096_S8x4x128x8x4096_1_4_3_23_02_01 none a39 a142) transposes_S8x4x128x8x4096_S8x4096x4x8x128_0_4_1_3_2

/-- The row sums. -/
def l (a137 : FVec F S8x4x8x4096x4096 .f32) : FVec F S8x4x8x4096 .f32 :=
  Host.reduceAdd a137 (constant S_ .f32 0x00000000#32) reducesTo_S8x4x8x4096x4096_S8x4x8x4096_d4 h_S_

/-- The result. -/
def res (a144 : FVec F S8x4096x4x8x128 .f32) (a34 : FVec F S8x4x128 .f32) (a151 : FVec F S8x4x8x4096 .f32) : FVec F S8x4096x4096 .bf16 :=
  shapeCast _ (truncf .bf16 (Host.divf (mulf (mulf a144 (broadcastInDim S8x4096x4x8x128 ![] bcast_S_S8x4096x4x8x128 (constant S_ .f32 0x3B800000#32))) (broadcastInDim S8x4096x4x8x128 ![0, 1, 2, 3, 4] bcast_S8x1x4x1x128_S8x4096x4x8x128_0_1_2_3_4 (broadcastInDim S8x1x4x1x128 ![0, 2, 4] bcast_S8x4x128_S8x1x4x1x128_0_2_4 a34))) (broadcastInDim S8x4096x4x8x128 ![0, 1, 2, 3, 4] bcast_S8x4096x4x8x1_S8x4096x4x8x128_0_1_2_3_4 (broadcastInDim S8x4096x4x8x1 ![0, 1, 2, 3] bcast_S8x4096x4x8_S8x4096x4x8x1_0_1_2_3 (transpose S8x4096x4x8 [0, 3, 1, 2] a151 transposes_S8x4x8x4096_S8x4096x4x8_0_3_1_2)))) bitsLt_bf16_f32) shapeCasts_S8x4096x4x8x128_S8x4096x4096

/-- The reference of three arrays. -/
def out (X : FVec F S8x4096x4096 .bf16) (K V : FVec F S8x4096x512 .bf16) : FVec F S8x4096x4096 .bf16 :=
  res (o (vCodes (vf V) (vSc (vY (vM (vAbs (vf V)))))) (pc (p (masked seen (sc (dotQK (kCodes (kC (kf K) (kMean (kf K))) (kSc (kAmax (kAbs (kC (kf K) (kMean (kf K))))))) (qCodes (qf X) (qSc (qAmax (qAbs (qf X)))))) (qSc (qAmax (qAbs (qf X)))) (kSc (kAmax (kAbs (kC (kf K) (kMean (kf K)))))))) (mx (masked seen (sc (dotQK (kCodes (kC (kf K) (kMean (kf K))) (kSc (kAmax (kAbs (kC (kf K) (kMean (kf K))))))) (qCodes (qf X) (qSc (qAmax (qAbs (qf X)))))) (qSc (qAmax (qAbs (qf X)))) (kSc (kAmax (kAbs (kC (kf K) (kMean (kf K)))))))))))) (vSc (vY (vM (vAbs (vf V))))) (l (p (masked seen (sc (dotQK (kCodes (kC (kf K) (kMean (kf K))) (kSc (kAmax (kAbs (kC (kf K) (kMean (kf K))))))) (qCodes (qf X) (qSc (qAmax (qAbs (qf X)))))) (qSc (qAmax (qAbs (qf X)))) (kSc (kAmax (kAbs (kC (kf K) (kMean (kf K)))))))) (mx (masked seen (sc (dotQK (kCodes (kC (kf K) (kMean (kf K))) (kSc (kAmax (kAbs (kC (kf K) (kMean (kf K))))))) (qCodes (qf X) (qSc (qAmax (qAbs (qf X)))))) (qSc (qAmax (qAbs (qf X)))) (kSc (kAmax (kAbs (kC (kf K) (kMean (kf K)))))))))))

/-- The query codes as eight bit integers, by token and channel. -/
def q8 (a : FVec F S8x32x128x32x128 .f32) : IVec S8x4096x4096 8 :=
  trunci 8 (fptosi 32 (shapeCast _ (shapeCast _ a shapeCasts_S8x32x128x32x128_S8x4096x32x128) shapeCasts_S8x4096x32x128_S8x4096x4096)) natLt_8_32

/-- The key codes as eight bit integers, by token and channel. -/
def k8 (a : FVec F S8x64x64x4x128 .f32) : IVec S8x4096x512 8 :=
  trunci 8 (fptosi 32 (shapeCast _ (shapeCast _ a shapeCasts_S8x64x64x4x128_S8x4096x4x128) shapeCasts_S8x4096x4x128_S8x4096x512)) natLt_8_32

/-- The query scales, by head and block. -/
def qsT (a : FVec F S8x32x32 .f32) : FVec F S8x32x32 .f32 := transpose S8x32x32 [0, 2, 1] a transposes_S8x32x32_S8x32x32_0_2_1

/-- The key scales, by head and group. -/
def ksT (a : FVec F S8x64x4 .f32) : FVec F S8x4x64 .f32 := transpose S8x4x64 [0, 2, 1] a transposes_S8x64x4_S8x4x64_0_2_1

/-- The reference's query scales. -/
def outQs (X : FVec F S8x4096x4096 .bf16) : FVec F S8x32x32 .f32 := qsT (qSc (qAmax (qAbs (qf X))))
/-- The reference's query codes. -/
def outQc (X : FVec F S8x4096x4096 .bf16) : IVec S8x4096x4096 8 := q8 (qCodes (qf X) (qSc (qAmax (qAbs (qf X)))))
/-- The reference's key scales. -/
def outKs (K : FVec F S8x4096x512 .bf16) : FVec F S8x4x64 .f32 := ksT (kSc (kAmax (kAbs (kC (kf K) (kMean (kf K))))))
/-- The reference's key codes. -/
def outKc (K : FVec F S8x4096x512 .bf16) : IVec S8x4096x512 8 := k8 (kCodes (kC (kf K) (kMean (kf K))) (kSc (kAmax (kAbs (kC (kf K) (kMean (kf K)))))))
/-- The reference's value scales. -/
def outVs (V : FVec F S8x4096x512 .bf16) : FVec F S8x4x128 .f32 := vSc (vY (vM (vAbs (vf V))))

/-- The value codes as eight bit floats, by token and channel. -/
def v8 (a : FVec F S8x4096x4x128 .f32) : FVec F S8x4096x512 .fp8e4m3 :=
  truncf .fp8e4m3 (shapeCast _ a shapeCasts_S8x4096x4x128_S8x4096x512) bitsLt_fp8e4m3_f32

/-- The reference's value codes. -/
def outVc (V : FVec F S8x4096x512 .bf16) : FVec F S8x4096x512 .fp8e4m3 := v8 (vCodes (vf V) (vSc (vY (vM (vAbs (vf V))))))

/-- The kernel of one point rounds its whole operand. -/
theorem rounded (m : (ℓ : Loc nD τ sig) → Buf (Elt F) ℓ) (c : Dev nD) :
    (dats m 0 c).arrAt 1 cfg0.N = truncf (φ := .f32) .fp8e4m3 (V m c main_v125) bitsLt_fp8e4m3_f32 := by
  refine Pipeline.Dat.arrAt_eq_of_covers _ 1 _ (by decide +kernel) fun t hf y => ?_
  blk_simp
  rw [after0_1]
  unfold out0_1
  refine (Value.canon1_eq _ _).trans ?_
  refine congrArg (FloatOps.truncf (φ := .f32) .fp8e4m3 bitsLt_fp8e4m3_f32) ?_
  change V m c main_v125 (((cfg0.win 0).blk t).view.emb (r0_0.idx (Value.ix1_0 y))) = V m c main_v125 _
  refine congrArg (V m c main_v125) ?_
  have e : r0_0.idx (Value.ix1_0 y) = y := by
    funext a
    refine Fin.ext ?_
    match a with
    | 0 => show 0 + 1 * (y 0).val = (y 0).val; omega
    | 1 => show 0 + 1 * (y 1).val = (y 1).val; omega
    | 2 => show 0 + 1 * (y 2).val = (y 2).val; omega
  have hi : ∀ t : Fin cfg0.N, win0_0.index t = win0_1.index t := (by decide +kernel : ∀ t : Fin grid0.N, _)
  rw [e]
  blk_ext [hi t]

theorem kept (m : (ℓ : Loc nD τ sig) → Buf (Elt F) ℓ) (r : PUnit × MemSt nD τ sig (Elt F)) (h : Pipeline.FramePost cfgs (dats m) 0 (V m) r) (c : Dev nD) (b : Ref sig .tc) (hb : b ∈ Pipeline.restRefs sig spec0) :
    r.2.mem ((c.tc : Thread nD τ).loc b) = Entry.val3 (launchContents m c) (Proc.devRef .tc b) :=
  ((h c).2 b hb).trans (Entry.V_eq m c b)

set_option maxRecDepth 16384 in
set_option maxHeartbeats 4000000 in
/-- The reference program's results are the arrays named above, and it keeps its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = out (m ((c.tc : Thread nD τ).loc main_arg0)) (m ((c.tc : Thread nD τ).loc main_arg1)) (m ((c.tc : Thread nD τ).loc main_arg2))
      ∧ r.2.mem ((c.tc : Thread nD τ).loc main_v119) = outQc (m ((c.tc : Thread nD τ).loc main_arg0))
      ∧ r.2.mem ((c.tc : Thread nD τ).loc main_v120) = outQs (m ((c.tc : Thread nD τ).loc main_arg0))
      ∧ r.2.mem ((c.tc : Thread nD τ).loc main_v123) = outKc (m ((c.tc : Thread nD τ).loc main_arg1))
      ∧ r.2.mem ((c.tc : Thread nD τ).loc main_v124) = outKs (m ((c.tc : Thread nD τ).loc main_arg1))
      ∧ r.2.mem ((c.tc : Thread nD τ).loc main_v126) = outVc (m ((c.tc : Thread nD τ).loc main_arg2))
      ∧ r.2.mem ((c.tc : Thread nD τ).loc main_v59) = outVs (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(kept m r h c main_v116 (Pipeline.mem_restRefs_of main_v116 (by decide) (by decide))).trans ((Entry.val3_main_v116 _).trans rfl),
    (kept m r h c main_v119 (Pipeline.mem_restRefs_of main_v119 (by decide) (by decide))).trans ((Entry.val3_main_v119 _).trans rfl),
    (kept m r h c main_v120 (Pipeline.mem_restRefs_of main_v120 (by decide) (by decide))).trans ((Entry.val3_main_v120 _).trans rfl),
    (kept m r h c main_v123 (Pipeline.mem_restRefs_of main_v123 (by decide) (by decide))).trans ((Entry.val3_main_v123 _).trans rfl),
    (kept m r h c main_v124 (Pipeline.mem_restRefs_of main_v124 (by decide) (by decide))).trans ((Entry.val3_main_v124 _).trans rfl),
    (Value.post1 m r h c).trans ((rounded m c).trans (congrArg (fun a => truncf (φ := .f32) .fp8e4m3 a bitsLt_fp8e4m3_f32) ((Entry.V_eq m c main_v125).trans (Entry.val3_main_v125 _)))),
    (kept m r h c main_v59 (Pipeline.mem_restRefs_of main_v59 (by decide) (by decide))).trans ((Entry.val3_main_v59 _).trans rfl),
    Value.kept_main_arg0 m r h c, Value.kept_main_arg1 m r h c, Value.kept_main_arg2 m r h c⟩) (Gen.run_main m ρ)

end Cert.ReferenceIdeal.Stage
-- ==== Proof.RefVal.lean ====
/- The reference's stages at an index, over the reals. -/
module

public import proofs.«01_k».proof.Proof.Ref
public import Idealize.ShloMosaic.PureOps.Ideal
public import Idealize.ShloMosaic.Lib.Pointwise
public import Idealize.ShloMosaic.Lib.IdealHost
public import Idealize.ShloMosaic.Lib.Pointwise.IndexVar

@[expose] public section

noncomputable section

namespace Cert.ReferenceIdeal.Stage

open Cert.ReferenceIdeal Cert.ReferenceIdeal.Gen Idealize.ShloMosaic

variable (X : FVec Ideal S8x4096x4096 .bf16) (K V : FVec Ideal S8x4096x512 .bf16)

theorem one_at : (id (constant S_ .f32 0x3F800000#32) ix0 : Ideal .f32) = 1 := by
  show Ideal.ofBits .f32 0x3F800000#32 = 1
  simp
theorem zero_at : (id (constant S_ .f32 0#32) ix0 : Ideal .f32) = 0 := by
  show Ideal.ofBits .f32 0#32 = 0
  simp [Ideal.ofBits, Ideal.ieee]
theorem qf_at (b : Fin 8) (n : Fin 32) (r : Fin 128) (h : Fin 32) (d : Fin 128) :
    qf X (ix5 b n r h d) = X (ix3 b ⟨n.val * 128 + r.val, by omega⟩ ⟨h.val * 128 + d.val, by omega⟩) * Ideal.ofBits .f32 0x3DB504F3#32 := by pointwise [qf]
theorem qAbs_at (a) (i) : qAbs (F := Ideal) a i = FloatOps.absf (a i) := rfl
theorem qAmax_at (a) (b : Fin 8) (n : Fin 32) (h : Fin 32) : qAmax (F := Ideal) a (ix3 b n h)
    = Finset.fold max (Ideal.ofBits .f32 0xFF800000#32) (fun r => Finset.fold max (Ideal.ofBits .f32 0xFF800000#32) (fun d => a (ix5 b n r h d)) Finset.univ) Finset.univ := by pointwise [qAmax]
theorem qSc_at (a) (b : Fin 8) (n : Fin 32) (h : Fin 32) : qSc (F := Ideal) a (ix3 b n h)
    = if 0 < a (ix3 b n h) then Ideal.div (a (ix3 b n h)) (Ideal.ofBits .f32 0x42FE0000#32) else 1 := by pointwise [qSc]; rw [one_at]
theorem qCodes_at (a a') (b : Fin 8) (n : Fin 32) (r : Fin 128) (h : Fin 32) (d : Fin 128) : qCodes (F := Ideal) a a' (ix5 b n r h d)
    = min (Ideal.ofBits .f32 0x42FE0000#32) (max (Ideal.ofBits .f32 0xC2FE0000#32) (Ideal.liftRound Ideal.roundHalfEven (Ideal.div (a (ix5 b n r h d)) (a' (ix3 b n h))))) := by pointwise [qCodes]; rfl
theorem kf_at (b : Fin 8) (t : Fin 4096) (h : Fin 4) (d : Fin 128) : kf K (ix4 b t h d) = K (ix3 b t ⟨h.val * 128 + d.val, by omega⟩) := by pointwise [kf]
theorem kMean_at (a) (b : Fin 8) (h : Fin 4) (d : Fin 128) : kMean (F := Ideal) a (ix4 b 0 h d) = Ideal.div (∑ x, a (ix4 b x h d)) (Ideal.ofBits .f32 0x45800000#32) := by pointwise [kMean]
theorem kC_at (a a') (b : Fin 8) (g : Fin 64) (r : Fin 64) (h : Fin 4) (d : Fin 128) : kC (F := Ideal) a a' (ix5 b g r h d)
    = a (ix4 b ⟨g.val * 64 + r.val, by omega⟩ h d) - a' (ix4 b 0 h d) := by pointwise [kC]
theorem kAbs_at (a) (i) : kAbs (F := Ideal) a i = FloatOps.absf (a i) := rfl
theorem kAmax_at (a) (b : Fin 8) (g : Fin 64) (h : Fin 4) : kAmax (F := Ideal) a (ix3 b g h)
    = Finset.fold max (Ideal.ofBits .f32 0xFF800000#32) (fun r => Finset.fold max (Ideal.ofBits .f32 0xFF800000#32) (fun d => a (ix5 b g r h d)) Finset.univ) Finset.univ := by pointwise [kAmax]
theorem kSc_at (a) (b : Fin 8) (g : Fin 64) (h : Fin 4) : kSc (F := Ideal) a (ix3 b g h)
    = if 0 < a (ix3 b g h) then Ideal.div (a (ix3 b g h)) (Ideal.ofBits .f32 0x42FE0000#32) else 1 := by pointwise [kSc]; rw [one_at]
theorem kCodes_at (a a') (b : Fin 8) (g : Fin 64) (r : Fin 64) (h : Fin 4) (d : Fin 128) : kCodes (F := Ideal) a a' (ix5 b g r h d)
    = min (Ideal.ofBits .f32 0x42FE0000#32) (max (Ideal.ofBits .f32 0xC2FE0000#32) (Ideal.liftRound Ideal.roundHalfEven (Ideal.div (a (ix5 b g r h d)) (a' (ix3 b g h))))) := by pointwise [kCodes]; rfl
theorem vf_at (b : Fin 8) (t : Fin 4096) (h : Fin 4) (d : Fin 128) : vf V (ix4 b t h d) = V (ix3 b t ⟨h.val * 128 + d.val, by omega⟩) := by pointwise [vf]
theorem vAbs_at (a) (i) : vAbs (F := Ideal) a i = FloatOps.absf (a i) := rfl
theorem vM_at (a) (b : Fin 8) (h : Fin 4) (d : Fin 128) : vM (F := Ideal) a (ix3 b h d) = Finset.fold max (Ideal.ofBits .f32 0xFF800000#32) (fun x => a (ix4 b x h d)) Finset.univ := by pointwise [vM]
theorem vY_at (a) (b : Fin 8) (h : Fin 4) (d : Fin 128) : vY (F := Ideal) a (ix3 b h d) = a (ix3 b h d) * Ideal.ofBits .f32 0x3B124925#32 := by pointwise [vY]
theorem vSc_at (a) (b : Fin 8) (h : Fin 4) (d : Fin 128) : vSc (F := Ideal) a (ix3 b h d)
    = Ideal.pow (Ideal.ofBits .f32 0x40000000#32) (if a (ix3 b h d) < Ideal.ofBits .f32 0x00800000#32 then 0
      else Ideal.liftRound Int.floor (Ideal.div (Ideal.log (a (ix3 b h d))) (Ideal.log (Ideal.ofBits .f32 0x40000000#32))) + 1) := by pointwise [vSc]; rw [zero_at]
theorem vCodes_at (a a') (b : Fin 8) (t : Fin 4096) (h : Fin 4) (d : Fin 128) : vCodes (F := Ideal) a a' (ix4 b t h d)
    = min (Ideal.ofBits .f32 0x43E00000#32) (max (Ideal.ofBits .f32 0xC3E00000#32) (Ideal.div (a (ix4 b t h d)) (a' (ix3 b h d)))) := by pointwise [vCodes]; rfl
theorem dotQK_at (a a') (b : Fin 8) (h : Fin 4) (i : Fin 8) (q t : Fin 4096) : dotQK (F := Ideal) a a' (ix5 b h i q t)
    = ∑ x, a (ix5 b ⟨t.val / 64, by omega⟩ ⟨t.val % 64, by omega⟩ h x) * a' (ix5 b ⟨q.val / 128, by omega⟩ ⟨q.val % 128, by omega⟩ ⟨h.val * 8 + i.val, by omega⟩ x) := by pointwise [dotQK]
theorem sc_at (a a' a'') (b : Fin 8) (h : Fin 4) (i : Fin 8) (q t : Fin 4096) : sc (F := Ideal) a a' a'' (ix5 b h i q t)
    = a (ix5 b h i q t) * a' (ix3 b ⟨q.val / 128, by omega⟩ ⟨h.val * 8 + i.val, by omega⟩) * a'' (ix3 b ⟨t.val / 64, by omega⟩ h) := by pointwise [sc]
theorem seen_at (b : Fin 8) (h : Fin 4) (i : Fin 8) (q t : Fin 4096) : seen (ix5 b h i q t)
    = IntOp.andi (IntOp.cmpi CmpIPredicate.sle (BitVec.ofNat 32 t.val) (BitVec.ofNat 32 q.val))
      (IntOp.cmpi CmpIPredicate.sgt (BitVec.ofNat 32 t.val) (IntOp.subi (BitVec.ofNat 32 q.val) 1024#32)) := by pointwise [seen]
theorem masked_at (a a') (b : Fin 8) (h : Fin 4) (i : Fin 8) (q t : Fin 4096) : masked (F := Ideal) a a' (ix5 b h i q t)
    = Scalar.select (a (ix5 b h i q t)) (a' (ix5 b h i q t)) (Ideal.ofBits .f32 0xFF800000#32) := by pointwise [masked]; rfl
theorem mx_at (a) (b : Fin 8) (h : Fin 4) (i : Fin 8) (q : Fin 4096) : mx (F := Ideal) a (ix4 b h i q)
    = Finset.fold max (Ideal.ofBits .f32 0xFF800000#32) (fun x => a (ix5 b h i q x)) Finset.univ := by pointwise [mx]
theorem p_at (a a') (b : Fin 8) (h : Fin 4) (i : Fin 8) (q t : Fin 4096) : p (F := Ideal) a a' (ix5 b h i q t)
    = Ideal.exp (a (ix5 b h i q t) - a' (ix4 b h i q)) := by pointwise [p]
theorem pc_at (a) (b : Fin 8) (h : Fin 4) (i : Fin 8) (q t : Fin 4096) : pc (F := Ideal) a (ix5 b h i q t)
    = min (a (ix5 b h i q t) * Ideal.ofBits .f32 0x43800000#32) (Ideal.ofBits .f32 0x43E00000#32) := by pointwise [pc]
theorem l_at (a) (b : Fin 8) (h : Fin 4) (i : Fin 8) (q : Fin 4096) : l (F := Ideal) a (ix4 b h i q) = ∑ x, a (ix5 b h i q x) := by pointwise [l]
theorem o_at (a a') (b : Fin 8) (h : Fin 4) (i : Fin 8) (q : Fin 4096) (d : Fin 128) : o (F := Ideal) a a' (ix5 b q h i d)
    = ∑ x, a (ix4 b x h d) * a' (ix5 b h i q x) := by pointwise [o]
theorem res_at (a a' a'') (b : Fin 8) (q c : Fin 4096) : res (F := Ideal) a a' a'' (ix3 b q c)
    = Ideal.div (a (ix5 b q ⟨c.val / 1024, by omega⟩ ⟨c.val / 128 % 8, by omega⟩ ⟨c.val % 128, by omega⟩) * Ideal.ofBits .f32 0x3B800000#32
        * a' (ix3 b ⟨c.val / 1024, by omega⟩ ⟨c.val % 128, by omega⟩)) (a'' (ix4 b ⟨c.val / 1024, by omega⟩ ⟨c.val / 128 % 8, by omega⟩ q)) := by pointwise [res]
theorem qsT_at (a) (b : Fin 8) (h n : Fin 32) : qsT (F := Ideal) a (ix3 b h n) = a (ix3 b n h) := by pointwise [qsT]
theorem ksT_at (a) (b : Fin 8) (h : Fin 4) (g : Fin 64) : ksT (F := Ideal) a (ix3 b h g) = a (ix3 b g h) := by pointwise [ksT]
theorem q8_at (a) (b : Fin 8) (q c : Fin 4096) : q8 (F := Ideal) a (ix3 b q c)
    = BitVec.setWidth 8 (Ideal.fptosi 32 (a (ix5 b ⟨q.val / 128, by omega⟩ ⟨q.val % 128, by omega⟩ ⟨c.val / 128, by omega⟩ ⟨c.val % 128, by omega⟩))) := by pointwise [q8]; rfl
theorem v8_at (a) (b : Fin 8) (t : Fin 4096) (c : Fin 512) : v8 (F := Ideal) a (ix3 b t c) = a (ix4 b t ⟨c.val / 128, by omega⟩ ⟨c.val % 128, by omega⟩) := by
  pointwise [v8]
theorem k8_at (a) (b : Fin 8) (t : Fin 4096) (c : Fin 512) : k8 (F := Ideal) a (ix3 b t c)
    = BitVec.setWidth 8 (Ideal.fptosi 32 (a (ix5 b ⟨t.val / 64, by omega⟩ ⟨t.val % 64, by omega⟩ ⟨c.val / 128, by omega⟩ ⟨c.val % 128, by omega⟩))) := by pointwise [k8]; rfl

end Cert.ReferenceIdeal.Stage
-- ==== Proof.Match.lean ====
/- The kernel's value at one index is the reference's there: scales and codes agree, and both are the softmax of the same real scores. -/
module

public import proofs.«01_k».proof.Proof.Scale
public import proofs.«01_k».proof.Proof.RefVal

@[expose] public section

set_option maxRecDepth 16384

noncomputable section

namespace Cert.Body

open Idealize.ShloMosaic
open Cert.ReferenceIdeal (S8x4096x4096 S8x4096x512)

theorem absf_coe (φ : FTy) (x : ℝ) : FloatOps.absf (F := Ideal) (φ := φ) (x : EReal) = ((|x| : ℝ) : EReal) := by
  show max (x : EReal) (-(x : EReal)) = _
  rw [← EReal.coe_neg, abs_eq_max_neg]
  exact (EReal.coe_strictMono.monotone.map_max).symm

theorem c127_eq : (Ideal.ofBits .f32 0x42FE0000#32 : EReal) = ((127 : ℝ) : EReal) := by simp [Ideal.ofBits, Ideal.ieee, -EReal.coe_mul]; norm_num
theorem cm127_eq : (Ideal.ofBits .f32 0xC2FE0000#32 : EReal) = ((-127 : ℝ) : EReal) := by
  simp [Ideal.ofBits, Ideal.ieee, -EReal.coe_mul, -EReal.coe_neg]; norm_num

theorem cod_real (x s : EReal) : ∃ r : ℝ, cod x s = (r : EReal) := by
  unfold cod
  rw [c127_eq, cm127_eq]
  generalize Ideal.liftRound _ _ = y
  have h1 : min ((127 : ℝ) : EReal) (max ((-127 : ℝ) : EReal) y) ≠ ⊤ := ne_top_of_le_ne_top (EReal.coe_ne_top 127) (min_le_left _ _)
  have h2 : min ((127 : ℝ) : EReal) (max ((-127 : ℝ) : EReal) y) ≠ ⊥ :=
    ne_bot_of_le_ne_bot (EReal.coe_ne_bot (-127)) (le_min (by exact_mod_cast (by norm_num : (-127 : ℝ) ≤ 127)) (le_max_left _ _))
  exact ⟨_, (EReal.coe_toReal h1 h2).symm⟩

theorem scl_real (a : EReal) (ha : a < ⊤) : ∃ r : ℝ, scl a = (r : EReal) := by
  unfold scl
  split_ifs with h
  · lift a to ℝ using ⟨ha.ne, fun hb => by rw [hb] at h; exact absurd h (by simp)⟩
    rw [c127_eq, div_coe _ _ (by norm_num)]
    exact ⟨_, rfl⟩
  · exact ⟨1, EReal.coe_one.symm⟩

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul _ _).symm⟩

theorem sum_real {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [coe_sum']; exact Finset.sum_congr rfl fun i _ => hg i⟩

def cqR : ℝ := 11863283 * 2 ^ (-27 : Int)
theorem cq_eq : cq = (cqR : EReal) := by
  simp [cq, cqR, Ideal.ofBits, Ideal.ieee, -EReal.coe_mul]
theorem cqR_pos : 0 < cqR := by unfold cqR; positivity

/-- A head's largest size, by its upper bounds. -/
theorem qAm_le (X : (sh3 1 128 1024).Idx → EReal) (h : Nat) (v : EReal) :
    qAm X h ≤ v ↔ ∀ r < 128, ∀ d < 128, FloatOps.absf (F := Ideal) (φ := .bf16) (at3 X 0 r (128 * h + d)) ≤ v := by
  unfold qAm
  simp only [Finset.fold_max_le, botC_eq, bot16, bot_le, true_and, Finset.mem_univ, true_implies]
  constructor
  · intro H r hr d hd
    have := H ⟨d, hd⟩ ⟨r % 16, by omega⟩ ⟨r / 16, by omega⟩
    simp only at this
    rwa [show r / 16 * 16 + r % 16 = r by omega] at this
  · intro H d r x
    exact H _ (by omega) _ d.2

theorem kSc_arg_le (K : (sh3 1 4096 128).Idx → EReal) (g : Nat) (v : EReal) :
    (Finset.fold max botC (fun d : Fin 128 => Finset.fold max botC (fun r : Fin 8 => Finset.fold max botC
      (fun x : Fin 8 => FloatOps.absf (F := Ideal) (φ := .f32) (kCen K (64 * g + (x.val * 8 + r.val)) d)) Finset.univ) Finset.univ) Finset.univ) ≤ v
    ↔ ∀ r < 64, ∀ d < 128, FloatOps.absf (F := Ideal) (φ := .f32) (kCen K (64 * g + r) d) ≤ v := by
  simp only [Finset.fold_max_le, botC_eq, bot_le, true_and, Finset.mem_univ, true_implies]
  constructor
  · intro H r hr d hd
    have := H ⟨d, hd⟩ ⟨r % 8, by omega⟩ ⟨r / 8, by omega⟩
    simp only at this
    rwa [show r / 8 * 8 + r % 8 = r by omega] at this
  · intro H d r x
    exact H _ (by omega) _ d.2

section
variable (X : FVec Ideal S8x4096x4096 .bf16) (K V : FVec Ideal S8x4096x512 .bf16)
  (xR kR vR : Nat → Nat → Nat → ℝ)
  (hXr : ∀ a b c, at3 (A := 8) (B := 4096) (C := 4096) X a b c = (xR a b c : EReal))
  (hKr : ∀ a b c, at3 (A := 8) (B := 4096) (C := 512) K a b c = (kR a b c : EReal))
  (hVr : ∀ a b c, at3 (A := 8) (B := 4096) (C := 512) V a b c = (vR a b c : EReal))
  (b j kv : Nat) (hb : b < 8) (hj : j < 32) (hkv : kv < 4)
  (X' : (sh3 1 128 1024).Idx → EReal) (K' V' : (sh3 1 4096 128).Idx → EReal)
  (hX : ∀ r < 128, ∀ c < 1024, at3 X' 0 r c = at3 (A := 8) (B := 4096) (C := 4096) X b (128 * j + r) (1024 * kv + c))
  (hK : ∀ t < 4096, ∀ d < 128, at3 K' 0 t d = at3 (A := 8) (B := 4096) (C := 512) K b t (128 * kv + d))
  (hV : ∀ t < 4096, ∀ d < 128, at3 V' 0 t d = at3 (A := 8) (B := 4096) (C := 512) V b t (128 * kv + d))

include hX hb hj hkv in
theorem qf_match (h r d : Nat) (hh : h < 8) (hr : r < 128) (hd : d < 128) :
    ReferenceIdeal.Stage.qf X (ix5 ⟨b, hb⟩ ⟨j, hj⟩ ⟨r, hr⟩ ⟨kv * 8 + h, by omega⟩ ⟨d, hd⟩) = at3 X' 0 r (128 * h + d) * cq := by
  rw [ReferenceIdeal.Stage.qf_at, hX r hr _ (by omega)]
  refine congrArg (· * cq) ?_
  refine (of_at3 (A := 8) (B := 4096) (C := 4096) X ⟨b, hb⟩ ⟨j * 128 + r, by omega⟩ ⟨(kv * 8 + h) * 128 + d, by omega⟩).trans ?_
  congr 1 <;> (simp only; ring)

include hX hXr hb hj hkv in
theorem qSc_match (h : Nat) (hh : h < 8) :
    ReferenceIdeal.Stage.qSc (F := Ideal) (ReferenceIdeal.Stage.qAmax (ReferenceIdeal.Stage.qAbs (ReferenceIdeal.Stage.qf X))) (ix3 ⟨b, hb⟩ ⟨j, hj⟩ ⟨kv * 8 + h, by omega⟩) = qSc X' h
    ∧ qAm X' h < ⊤ := by
  have hreal : ∀ r < 128, ∀ d < 128, at3 X' 0 r (128 * h + d) = (xR b (128 * j + r) (1024 * kv + (128 * h + d)) : EReal) := fun r hr d hd =>
    (hX r hr _ (by omega)).trans (hXr _ _ _)
  have hlt : qAm X' h < ⊤ := by
    unfold qAm
    simp only [Finset.fold_max_lt, botC_eq, bot16, bot_lt_top, true_and, Finset.mem_univ, true_implies]
    intro d r x
    rw [hreal _ (by omega) _ d.2, absf_coe]
    exact EReal.coe_lt_top _
  refine ⟨?_, hlt⟩
  rw [ReferenceIdeal.Stage.qSc_at]
  suffices e : ReferenceIdeal.Stage.qAmax (F := Ideal) (ReferenceIdeal.Stage.qAbs (ReferenceIdeal.Stage.qf X)) (ix3 ⟨b, hb⟩ ⟨j, hj⟩ ⟨kv * 8 + h, by omega⟩) = qAm X' h * cq by
    rw [e]; rfl
  have hval : ∀ (r d : Fin 128), ReferenceIdeal.Stage.qAbs (F := Ideal) (ReferenceIdeal.Stage.qf X) (ix5 ⟨b, hb⟩ ⟨j, hj⟩ r ⟨kv * 8 + h, by omega⟩ d)
      = FloatOps.absf (F := Ideal) (φ := .bf16) (at3 X' 0 r (128 * h + d)) * cq := by
    intro r d
    rw [ReferenceIdeal.Stage.qAbs_at, qf_match X b j kv hb hj hkv X' hX h r d hh r.2 d.2, hreal r r.2 d d.2, cq_eq, ← EReal.coe_mul, absf_coe, absf_coe, abs_mul, abs_of_pos cqR_pos, EReal.coe_mul]
  have hc0 : (0 : EReal) < cq := by rw [cq_eq]; exact_mod_cast cqR_pos
  have hct : cq ≠ ⊤ := by rw [cq_eq]; exact EReal.coe_ne_top _
  rw [ReferenceIdeal.Stage.qAmax_at]
  simp only [hval]
  refine le_antisymm ?_ ?_
  · simp only [Finset.fold_max_le, bot32, bot_le, true_and, Finset.mem_univ, true_implies]
    intro r d
    exact mul_le_mul_of_nonneg_right ((qAm_le X' h _).1 le_rfl r r.2 d d.2) hc0.le
  · rw [← EReal.le_div_iff_mul_le hc0 hct, qAm_le]
    intro r hr d hd
    rw [EReal.le_div_iff_mul_le hc0 hct, Finset.le_fold_max]
    refine Or.inr ⟨⟨r, hr⟩, Finset.mem_univ _, ?_⟩
    rw [Finset.le_fold_max]
    exact Or.inr ⟨⟨d, hd⟩, Finset.mem_univ _, le_rfl⟩

include hX hXr hb hj hkv in
theorem qCodes_match (h r d : Nat) (hh : h < 8) (hr : r < 128) (hd : d < 128) :
    ReferenceIdeal.Stage.qCodes (F := Ideal) (ReferenceIdeal.Stage.qf X) (ReferenceIdeal.Stage.qSc (ReferenceIdeal.Stage.qAmax (ReferenceIdeal.Stage.qAbs (ReferenceIdeal.Stage.qf X)))) (ix5 ⟨b, hb⟩ ⟨j, hj⟩ ⟨r, hr⟩ ⟨kv * 8 + h, by omega⟩ ⟨d, hd⟩) = qCd X' h r d := by
  rw [ReferenceIdeal.Stage.qCodes_at, (qSc_match X xR hXr b j kv hb hj hkv X' hX h hh).1, qf_match X b j kv hb hj hkv X' hX h r d hh hr hd]
  rfl

include hK hb hkv in
theorem kf_match (t d : Nat) (ht : t < 4096) (hd : d < 128) :
    ReferenceIdeal.Stage.kf K (ix4 ⟨b, hb⟩ ⟨t, ht⟩ ⟨kv, hkv⟩ ⟨d, hd⟩) = at3 K' 0 t d := by
  rw [ReferenceIdeal.Stage.kf_at, hK t ht d hd]
  refine (of_at3 (A := 8) (B := 4096) (C := 512) K ⟨b, hb⟩ ⟨t, ht⟩ ⟨kv * 128 + d, by omega⟩).trans ?_
  congr 1; simp only; ring

include hV hb hkv in
theorem vf_match (t d : Nat) (ht : t < 4096) (hd : d < 128) :
    ReferenceIdeal.Stage.vf V (ix4 ⟨b, hb⟩ ⟨t, ht⟩ ⟨kv, hkv⟩ ⟨d, hd⟩) = at3 V' 0 t d := by
  rw [ReferenceIdeal.Stage.vf_at, hV t ht d hd]
  refine (of_at3 (A := 8) (B := 4096) (C := 512) V ⟨b, hb⟩ ⟨t, ht⟩ ⟨kv * 128 + d, by omega⟩).trans ?_
  congr 1; simp only; ring

include hK hb hkv in
theorem kMean_match (d : Nat) (hd : d < 128) :
    ReferenceIdeal.Stage.kMean (F := Ideal) (ReferenceIdeal.Stage.kf K) (ix4 ⟨b, hb⟩ 0 ⟨kv, hkv⟩ ⟨d, hd⟩) = kMn K' d := by
  rw [ReferenceIdeal.Stage.kMean_at]
  have e : (∑ t : Fin 4096, ReferenceIdeal.Stage.kf K (ix4 ⟨b, hb⟩ t ⟨kv, hkv⟩ ⟨d, hd⟩)) = ∑ t ∈ Finset.range 4096, at3 K' 0 t d := by
    rw [Finset.sum_range]
    exact Finset.sum_congr rfl fun t _ => kf_match K b kv hb hkv K' hK t d t.2 hd
  rw [e]
  unfold kMn
  have c1 : (Ideal.ofBits .f32 0x45800000#32 : EReal) = ((4096 : ℝ) : EReal) := by simp [Ideal.ofBits, Ideal.ieee, -EReal.coe_mul]; norm_num
  have c2 : (Ideal.ofBits .f32 0x39800000#32 : EReal) = (((4096 : ℝ)⁻¹ : ℝ) : EReal) := by simp [Ideal.ofBits, Ideal.ieee, -EReal.coe_mul, -EReal.coe_inv]; norm_num
  rw [c1, c2]
  unfold Ideal.div
  rw [if_neg (by exact_mod_cast (by norm_num : (4096 : ℝ) ≠ 0)), EReal.coe_inv]

include hK hb hkv in
theorem kC_match (g r d : Nat) (hg : g < 64) (hr : r < 64) (hd : d < 128) :
    ReferenceIdeal.Stage.kC (F := Ideal) (ReferenceIdeal.Stage.kf K) (ReferenceIdeal.Stage.kMean (ReferenceIdeal.Stage.kf K)) (ix5 ⟨b, hb⟩ ⟨g, hg⟩ ⟨r, hr⟩ ⟨kv, hkv⟩ ⟨d, hd⟩) = kCen K' (64 * g + r) d := by
  rw [ReferenceIdeal.Stage.kC_at, kMean_match K b kv hb hkv K' hK d hd, kf_match K b kv hb hkv K' hK (g * 64 + r) d (by omega) hd, Nat.mul_comm g 64]
  rfl

include hK hKr in
theorem kCen_real (t d : Nat) (ht : t < 4096) (hd : d < 128) : ∃ r : ℝ, kCen K' t d = (r : EReal) := by
  unfold kCen kMn
  have c2 : (Ideal.ofBits .f32 0x39800000#32 : EReal) = (((4096 : ℝ)⁻¹ : ℝ) : EReal) := by simp [Ideal.ofBits, Ideal.ieee, -EReal.coe_mul, -EReal.coe_inv]; norm_num
  have e : ∑ t ∈ Finset.range 4096, at3 K' 0 t d = ((∑ t ∈ Finset.range 4096, kR b t (128 * kv + d) : ℝ) : EReal) := by
    rw [coe_sum']
    exact Finset.sum_congr rfl fun t ht => (hK t (Finset.mem_range.1 ht) d hd).trans (hKr _ _ _)
  rw [e, c2, hK t ht d hd, hKr, ← EReal.coe_mul, ← EReal.coe_sub]
  exact ⟨_, rfl⟩

include hK hKr hb hkv in
theorem kSc_match (g : Nat) (hg : g < 64) :
    ReferenceIdeal.Stage.kSc (F := Ideal) (ReferenceIdeal.Stage.kAmax (ReferenceIdeal.Stage.kAbs (ReferenceIdeal.Stage.kC (ReferenceIdeal.Stage.kf K) (ReferenceIdeal.Stage.kMean (ReferenceIdeal.Stage.kf K))))) (ix3 ⟨b, hb⟩ ⟨g, hg⟩ ⟨kv, hkv⟩) = kSc K' g
    ∧ ∃ r : ℝ, kSc K' g = (r : EReal) := by
  refine ⟨?_, ?_⟩
  · rw [ReferenceIdeal.Stage.kSc_at]
    unfold kSc
    suffices e : ∀ A B : EReal, A = B → (if 0 < A then Ideal.div A (Ideal.ofBits .f32 0x42FE0000#32) else 1) = scl B by
      refine e _ _ ?_
      rw [ReferenceIdeal.Stage.kAmax_at]
      have hval : ∀ (r : Fin 64) (d : Fin 128), ReferenceIdeal.Stage.kAbs (F := Ideal) (ReferenceIdeal.Stage.kC (ReferenceIdeal.Stage.kf K) (ReferenceIdeal.Stage.kMean (ReferenceIdeal.Stage.kf K))) (ix5 ⟨b, hb⟩ ⟨g, hg⟩ r ⟨kv, hkv⟩ d)
          = FloatOps.absf (F := Ideal) (φ := .f32) (kCen K' (64 * g + r) d) := fun r d => by
        rw [ReferenceIdeal.Stage.kAbs_at, kC_match K b kv hb hkv K' hK g r d hg r.2 d.2]
      simp only [hval]
      refine le_antisymm ?_ ?_
      · simp only [Finset.fold_max_le, bot32, bot_le, true_and, Finset.mem_univ, true_implies]
        intro r d
        exact (kSc_arg_le K' g _).1 le_rfl r r.2 d d.2
      · rw [kSc_arg_le]
        intro r hr d hd
        rw [Finset.le_fold_max]
        refine Or.inr ⟨⟨r, hr⟩, Finset.mem_univ _, ?_⟩
        rw [Finset.le_fold_max]
        exact Or.inr ⟨⟨d, hd⟩, Finset.mem_univ _, le_rfl⟩
    rintro A B rfl
    rfl
  · refine scl_real _ ?_
    simp only [Finset.fold_max_lt, botC_eq, bot_lt_top, true_and, Finset.mem_univ, true_implies]
    intro d r x
    obtain ⟨y, hy⟩ := kCen_real K kR hKr b kv K' hK (64 * g + (x.val * 8 + r.val)) d (by omega) d.2
    rw [hy, absf_coe]
    exact EReal.coe_lt_top _

include hK hKr hb hkv in
theorem kCodes_match (g r d : Nat) (hg : g < 64) (hr : r < 64) (hd : d < 128) :
    ReferenceIdeal.Stage.kCodes (F := Ideal) (ReferenceIdeal.Stage.kC (ReferenceIdeal.Stage.kf K) (ReferenceIdeal.Stage.kMean (ReferenceIdeal.Stage.kf K))) (ReferenceIdeal.Stage.kSc (ReferenceIdeal.Stage.kAmax (ReferenceIdeal.Stage.kAbs (ReferenceIdeal.Stage.kC (ReferenceIdeal.Stage.kf K) (ReferenceIdeal.Stage.kMean (ReferenceIdeal.Stage.kf K)))))) (ix5 ⟨b, hb⟩ ⟨g, hg⟩ ⟨r, hr⟩ ⟨kv, hkv⟩ ⟨d, hd⟩)
      = cod (kCen K' (64 * g + r) d) (kSc K' g) := by
  rw [ReferenceIdeal.Stage.kCodes_at, (kSc_match K kR hKr b kv hb hkv K' hK g hg).1, kC_match K b kv hb hkv K' hK g r d hg hr hd]
  rfl

end

theorem seen_iff (b : Fin 8) (h : Fin 4) (i : Fin 8) (q t : Fin 4096) :
    ReferenceIdeal.Stage.seen (ix5 b h i q t) = if t.val ∈ win q.val then 1#1 else 0#1 := by
  rw [ReferenceIdeal.Stage.seen_at]
  have hq := q.2
  have ht := t.2
  have e1 : (BitVec.ofNat 32 t.val).toInt = t.val := by rw [BitVec.toInt_ofNat']; simp [Int.bmod]; omega
  have e2 : (BitVec.ofNat 32 q.val).toInt = q.val := by rw [BitVec.toInt_ofNat']; simp [Int.bmod]; omega
  have e3 : (IntOp.subi (BitVec.ofNat 32 q.val) 1024#32).toInt = (q.val : Int) - 1024 := by
    show (BitVec.ofNat 32 q.val - 1024#32).toInt = _
    rw [BitVec.toInt_sub, e2]
    simp [Int.bmod]; omega
  have a1 : IntOp.cmpi CmpIPredicate.sle (BitVec.ofNat 32 t.val) (BitVec.ofNat 32 q.val) = if t.val ≤ q.val then 1#1 else 0#1 := by
    simp only [IntOp.cmpi, BitVec.sle, e1, e2]
    by_cases h : t.val ≤ q.val <;> simp [h]
  have a2 : IntOp.cmpi CmpIPredicate.sgt (BitVec.ofNat 32 t.val) (IntOp.subi (BitVec.ofNat 32 q.val) 1024#32) = if q.val < t.val + 1024 then 1#1 else 0#1 := by
    simp only [IntOp.cmpi, BitVec.slt, e1, e3]
    by_cases h : q.val < t.val + 1024
    · rw [if_pos h, decide_eq_true (by omega)]; rfl
    · rw [if_neg h, decide_eq_false (by omega)]; rfl
  rw [a1, a2]
  by_cases h1 : t.val ≤ q.val <;> by_cases h2 : q.val < t.val + 1024 <;> simp [h1, h2, IntOp.andi, mem_win]

section
variable (X : FVec Ideal S8x4096x4096 .bf16) (K V : FVec Ideal S8x4096x512 .bf16)
  (xR kR vR : Nat → Nat → Nat → ℝ)
  (hXr : ∀ a b c, at3 (A := 8) (B := 4096) (C := 4096) X a b c = (xR a b c : EReal))
  (hKr : ∀ a b c, at3 (A := 8) (B := 4096) (C := 512) K a b c = (kR a b c : EReal))
  (hVr : ∀ a b c, at3 (A := 8) (B := 4096) (C := 512) V a b c = (vR a b c : EReal))
  (hVb : ∀ a b c, |vR a b c| ≤ 2 ^ (128 : Nat))
  (b j kv : Nat) (hb : b < 8) (hj : j < 32) (hkv : kv < 4)
  (X' : (sh3 1 128 1024).Idx → EReal) (K' V' : (sh3 1 4096 128).Idx → EReal)
  (hX : ∀ r < 128, ∀ c < 1024, at3 X' 0 r c = at3 (A := 8) (B := 4096) (C := 4096) X b (128 * j + r) (1024 * kv + c))
  (hK : ∀ t < 4096, ∀ d < 128, at3 K' 0 t d = at3 (A := 8) (B := 4096) (C := 512) K b t (128 * kv + d))
  (hV : ∀ t < 4096, ∀ d < 128, at3 V' 0 t d = at3 (A := 8) (B := 4096) (C := 512) V b t (128 * kv + d))

/-- The score of a query against a key. -/
def score (X' : (sh3 1 128 1024).Idx → EReal) (K' : (sh3 1 4096 128).Idx → EReal) (h r t : Nat) : EReal :=
  (∑ d : Fin 128, cod (kCen K' t d) (kSc K' (t / 64)) * qCd X' h r d) * qSc X' h * kSc K' (t / 64)

include hX hXr hK hKr hb hj hkv in
theorem score_real (h r t : Nat) (hh : h < 8) (ht : t < 4096) : ∃ y : ℝ, score X' K' h r t = (y : EReal) := by
  unfold score
  refine mul_real (mul_real (sum_real _ _ fun d => mul_real (cod_real _ _) (cod_real _ _)) ?_) (kSc_match K kR hKr b kv hb hkv K' hK (t / 64) (by omega)).2
  unfold qSc
  refine scl_real _ ?_
  have hlt := (qSc_match X xR hXr b j kv hb hj hkv X' hX h hh).2
  generalize qAm X' h = a at hlt
  rw [cq_eq]
  induction a using EReal.rec with
  | bot => rw [EReal.bot_mul_coe_of_pos cqR_pos]; exact bot_lt_top
  | coe a => rw [← EReal.coe_mul]; exact EReal.coe_lt_top _
  | top => exact absurd hlt (lt_irrefl _)

include hX hXr hK hKr hb hj hkv in
theorem masked_match (h r t : Nat) (hh : h < 8) (hr : r < 128) (ht : t < 4096) (A : FVec Ideal Cert.ReferenceIdeal.S8x32x32 .f32) (hA : A = ReferenceIdeal.Stage.qSc (F := Ideal) (ReferenceIdeal.Stage.qAmax (ReferenceIdeal.Stage.qAbs (ReferenceIdeal.Stage.qf X))))
    (B : FVec Ideal Cert.ReferenceIdeal.S8x64x4 .f32) (hB : B = ReferenceIdeal.Stage.kSc (F := Ideal) (ReferenceIdeal.Stage.kAmax (ReferenceIdeal.Stage.kAbs (ReferenceIdeal.Stage.kC (ReferenceIdeal.Stage.kf K) (ReferenceIdeal.Stage.kMean (ReferenceIdeal.Stage.kf K)))))) :
    ReferenceIdeal.Stage.masked (F := Ideal) ReferenceIdeal.Stage.seen (ReferenceIdeal.Stage.sc (ReferenceIdeal.Stage.dotQK (ReferenceIdeal.Stage.kCodes (ReferenceIdeal.Stage.kC (ReferenceIdeal.Stage.kf K) (ReferenceIdeal.Stage.kMean (ReferenceIdeal.Stage.kf K))) B)
      (ReferenceIdeal.Stage.qCodes (ReferenceIdeal.Stage.qf X) A)) A B) (ix5 ⟨b, hb⟩ ⟨kv, hkv⟩ ⟨h, hh⟩ ⟨128 * j + r, by omega⟩ ⟨t, ht⟩)
    = if t ∈ win (128 * j + r) then score X' K' h r t else ⊥ := by
  rw [ReferenceIdeal.Stage.masked_at, seen_iff, bot32]
  simp only
  split_ifs with hw
  · rw [show Scalar.select 1#1 = fun (a b : EReal) => a from rfl]
    simp only
    rw [ReferenceIdeal.Stage.sc_at, ReferenceIdeal.Stage.dotQK_at]
    have i1 : (⟨(128 * j + r) / 128, by omega⟩ : Fin 32) = ⟨j, hj⟩ := Fin.ext (by simp only; omega)
    have i2 : (⟨(128 * j + r) % 128, by omega⟩ : Fin 128) = ⟨r, hr⟩ := Fin.ext (by simp only; omega)
    simp only [i1, i2]
    have hq : A (ix3 ⟨b, hb⟩ ⟨j, hj⟩ ⟨kv * 8 + h, by omega⟩) = qSc X' h := by rw [hA]; exact (qSc_match X xR hXr b j kv hb hj hkv X' hX h hh).1
    have hk : B (ix3 ⟨b, hb⟩ ⟨t / 64, by omega⟩ ⟨kv, hkv⟩) = kSc K' (t / 64) := by rw [hB]; exact (kSc_match K kR hKr b kv hb hkv K' hK (t / 64) (by omega)).1
    rw [hq, hk]
    unfold score
    refine congrArg (fun z => z * qSc X' h * kSc K' (t / 64)) (Finset.sum_congr rfl fun d _ => ?_)
    rw [hA, hB, qCodes_match X xR hXr b j kv hb hj hkv X' hX h r d hh hr d.2, kCodes_match K kR hKr b kv hb hkv K' hK (t / 64) (t % 64) d (by omega) (by omega) d.2,
      show 64 * (t / 64) + t % 64 = t by omega]
  · rfl

include hV hVr hb hkv in
theorem vSc_match (d : Nat) (hd : d < 128) : ∃ σ : ℝ, 0 < σ
    ∧ ReferenceIdeal.Stage.vSc (F := Ideal) (ReferenceIdeal.Stage.vY (ReferenceIdeal.Stage.vM (ReferenceIdeal.Stage.vAbs (ReferenceIdeal.Stage.vf V)))) (ix3 ⟨b, hb⟩ ⟨kv, hkv⟩ ⟨d, hd⟩) = (σ : EReal)
    ∧ ∀ t < 4096, |vR b t (128 * kv + d)| ≤ 448 * σ := by
  rw [ReferenceIdeal.Stage.vSc_at, ReferenceIdeal.Stage.vY_at, ReferenceIdeal.Stage.vM_at]
  have hval : ∀ t : Fin 4096, ReferenceIdeal.Stage.vAbs (F := Ideal) (ReferenceIdeal.Stage.vf V) (ix4 ⟨b, hb⟩ t ⟨kv, hkv⟩ ⟨d, hd⟩) = ((|vR b t (128 * kv + d)| : ℝ) : EReal) := fun t => by
    rw [ReferenceIdeal.Stage.vAbs_at, vf_match V b kv hb hkv V' hV t d t.2 hd, hV t t.2 d hd, hVr, absf_coe]
  simp only [hval]
  have hlt : Finset.fold max (Ideal.ofBits .f32 0xFF800000#32) (fun t : Fin 4096 => ((|vR b t (128 * kv + d)| : ℝ) : EReal)) Finset.univ < ⊤ := by
    rw [Finset.fold_max_lt]
    exact ⟨by rw [bot32]; exact bot_lt_top, fun t _ => EReal.coe_lt_top _⟩
  have hge : ∀ t (ht : t < 4096), ((|vR b t (128 * kv + d)| : ℝ) : EReal)
      ≤ Finset.fold max (Ideal.ofBits .f32 0xFF800000#32) (fun t : Fin 4096 => ((|vR b t (128 * kv + d)| : ℝ) : EReal)) Finset.univ := fun t ht => by
    rw [Finset.le_fold_max]
    exact Or.inr ⟨⟨t, ht⟩, Finset.mem_univ _, le_rfl⟩
  generalize Finset.fold max (Ideal.ofBits .f32 0xFF800000#32) (fun t : Fin 4096 => ((|vR b t (128 * kv + d)| : ℝ) : EReal)) Finset.univ = a at hlt hge ⊢
  lift a to ℝ using ⟨hlt.ne, fun h => by have := hge 0 (by norm_num); rw [h] at this; exact absurd this (by simp)⟩
  have hge' : ∀ t < 4096, |vR b t (128 * kv + d)| ≤ a := fun t ht => by exact_mod_cast hge t ht
  have := rscale (fun t => vR b t (128 * kv + d)) a ((abs_nonneg _).trans (hge' 0 (by norm_num))) hge'
  rw [EReal.coe_mul, ← cInv_eq] at this
  exact this

include hX hXr hK hKr hb hj hkv hV hVr hVb in
/-- What the kernel leaves at an index of its block is the reference's value there. -/
theorem point_eq (h r d : Nat) (hh : h < 8) (hr : r < 128) (hd : d < 128) (s : S) (hp : Prepared K' V' s) (l : EReal) (hl : l = (((Real.log 2)⁻¹ : ℝ) : EReal)) (o : EReal)
    (ho : KO (sco X' (s .kc) (s .kt) l h r) (fun t => at2 (s .vt) d t) (at2 (s .vs) 0 d) (128 * j + r) o) :
    o = ReferenceIdeal.Stage.out X K V (ix3 ⟨b, hb⟩ ⟨128 * j + r, by omega⟩ ⟨1024 * kv + (128 * h + d), by omega⟩) := by
  have hs : ∀ t, ∃ y : ℝ, t < 4096 → score X' K' h r t = (y : EReal) := fun t => by
    by_cases ht : t < 4096
    · obtain ⟨y, hy⟩ := score_real X K xR kR hXr hKr b j kv hb hj hkv X' K' hX hK h r t hh ht
      exact ⟨y, fun _ => hy⟩
    · exact ⟨0, fun h => absurd h ht⟩
  choose sR hsR using hs
  obtain ⟨p1, p2, p3⟩ := hp
  have hv : ∀ t < 4096, at3 V' 0 t d = (vR b t (128 * kv + d) : EReal) := fun t ht => (hV t ht d hd).trans (hVr _ _ _)
  have hq : 128 * j + r < 4096 := by omega
  have hkern : o = (nf sR (fun t => vR b t (128 * kv + d)) (128 * j + r) : EReal) := by
    obtain ⟨A, hA, h1, h2⟩ := p3 ⟨d, hd⟩
    obtain ⟨σ, hσ, e1, e2, e3⟩ := kscale (fun t => vR b t (128 * kv + d)) A (fun z => by
      rw [hA z]
      refine and_congr Iff.rfl (forall_congr' fun t => forall_congr' fun ht => ?_)
      rw [hv t ht, absf_coe]) fun t _ => hVb _ _ _
    rw [e1] at h1
    simp only [e2] at h2
    simp only at h1 h2
    rw [h1] at ho
    refine KO_eq sR _ σ hσ _ hq e3 _ _ (fun t ht => ?_) (fun t ht => ?_) o ho
    · have ht' := ((mem_win _ _).1 ht).1
      unfold sco
      rw [p1 (t / 64) (by omega) r hr, hl, EReal.coe_mul, ← hsR t ht']
      unfold score
      have e : (∑ d : Fin 128, at2 (s .kc) t d * qCd X' h r d) = ∑ d : Fin 128, cod (kCen K' t d) (kSc K' (t / 64)) * qCd X' h r d :=
        Finset.sum_congr rfl fun d _ => by rw [p2 t ht' d d.2]
      rw [e]
      generalize (∑ d : Fin 128, cod (kCen K' t d) (kSc K' (t / 64)) * qCd X' h r d) = D
      ac_rfl
    · have ht' := ((mem_win _ _).1 ht).1
      rw [h2 t ht', hv t ht']
  rw [hkern]
  unfold ReferenceIdeal.Stage.out
  generalize hMk : ReferenceIdeal.Stage.masked (F := Ideal) _ _ = M
  have hmk : ∀ t : Fin 4096, M (ix5 ⟨b, hb⟩ ⟨kv, hkv⟩ ⟨h, hh⟩ ⟨128 * j + r, by omega⟩ t) = if t.val ∈ win (128 * j + r) then (sR t : EReal) else ⊥ := fun t => by
    rw [← hMk, masked_match X K xR kR hXr hKr b j kv hb hj hkv X' K' hX hK h r t hh hr t.2 _ rfl _ rfl, hsR t t.2]
  obtain ⟨σ, hσ, e1, e2⟩ := vSc_match V vR hVr b kv hb hkv V' hV d hd
  generalize ReferenceIdeal.Stage.vSc (F := Ideal) _ = SV at e1 ⊢
  have hvc : ∀ t : Fin 4096, ReferenceIdeal.Stage.vCodes (F := Ideal) (ReferenceIdeal.Stage.vf V) SV (ix4 ⟨b, hb⟩ t ⟨kv, hkv⟩ ⟨d, hd⟩)
      = min (Ideal.ofBits .f32 0x43E00000#32) (max (Ideal.ofBits .f32 0xC3E00000#32) (Ideal.div ((vR b t (128 * kv + d) : ℝ) : EReal) (σ : EReal))) := fun t => by
    rw [ReferenceIdeal.Stage.vCodes_at, e1, vf_match V b kv hb hkv V' hV t d t.2 hd, hv t t.2]
  generalize ReferenceIdeal.Stage.vCodes (F := Ideal) _ _ = VC at hvc ⊢
  rw [ReferenceIdeal.Stage.res_at]
  have i1 : (⟨(1024 * kv + (128 * h + d)) / 1024, by omega⟩ : Fin 4) = ⟨kv, hkv⟩ := Fin.ext (by simp only; omega)
  have i2 : (⟨(1024 * kv + (128 * h + d)) / 128 % 8, by omega⟩ : Fin 8) = ⟨h, hh⟩ := Fin.ext (by simp only; omega)
  have i3 : (⟨(1024 * kv + (128 * h + d)) % 128, by omega⟩ : Fin 128) = ⟨d, hd⟩ := Fin.ext (by simp only; omega)
  simp only [i1, i2, i3]
  rw [e1, ReferenceIdeal.Stage.o_at, ReferenceIdeal.Stage.l_at]
  simp only [ReferenceIdeal.Stage.pc_at, ReferenceIdeal.Stage.p_at, ReferenceIdeal.Stage.mx_at]
  exact (ref_eq sR (fun t => vR b t (128 * kv + d)) σ hσ (128 * j + r) hq e2 (fun t => M (ix5 ⟨b, hb⟩ ⟨kv, hkv⟩ ⟨h, hh⟩ ⟨128 * j + r, by omega⟩ t))
    (fun t => VC (ix4 ⟨b, hb⟩ t ⟨kv, hkv⟩ ⟨d, hd⟩)) hmk hvc).symm

end

end Cert.Body
-- ==== Proof.MatchCodes.lean ====
/- The kernel's codes and scales are the reference's: the eight bit integers by truncation of small integers, the value
   scales because counting the powers of two below a number is the floor of its logarithm. -/
module

public import proofs.«01_k».proof.Proof.Match

@[expose] public section

set_option maxRecDepth 16384

noncomputable section

namespace Cert.Body

open Idealize.ShloMosaic
open Cert.ReferenceIdeal (S8x4096x4096 S8x4096x512)

/-- An integer between -127 and 127 is the same in eight bits and in thirty-two cut to eight. -/
theorem cut8 (z : Int) (h1 : -127 ≤ z) (h2 : z ≤ 127) : BitVec.setWidth 8 (BitVec.ofInt 32 z) = BitVec.ofInt 8 z := by
  interval_cases z <;> rfl

/-- A number between -127 and 127 converts to eight bits directly as it does by way of thirty-two. -/
theorem code8_eq (x : EReal) (h1 : ((-127 : ℝ) : EReal) ≤ x) (h2 : x ≤ ((127 : ℝ) : EReal)) : BitVec.setWidth 8 (Ideal.fptosi 32 x) = code8 x := by
  lift x to ℝ using ⟨fun h => by rw [h] at h2; exact absurd h2 (not_le.2 (EReal.coe_lt_top _)), fun h => by rw [h] at h1; exact absurd h1 (not_le.2 (EReal.bot_lt_coe _))⟩
  have h1' : (-127 : ℝ) ≤ x := EReal.coe_le_coe_iff.1 h1
  have h2' : x ≤ (127 : ℝ) := EReal.coe_le_coe_iff.1 h2
  unfold code8 Ideal.fptosi
  rw [Ideal.toIntClamped_coe, Ideal.toIntClamped_coe]
  have hz1 : -127 ≤ (if 0 ≤ x then ⌊x⌋ else ⌈x⌉) := by
    split_ifs with h
    · exact Int.le_floor.2 (by push_cast; linarith)
    · exact (Int.le_floor.2 (by push_cast; exact h1')).trans (Int.floor_le_ceil x)
  have hz2 : (if 0 ≤ x then ⌊x⌋ else ⌈x⌉) ≤ 127 := by
    split_ifs with h
    · exact (Int.floor_le_ceil x).trans (Int.ceil_le.2 (by push_cast; exact h2'))
    · exact Int.ceil_le.2 (by push_cast; exact h2')
  generalize (if 0 ≤ x then ⌊x⌋ else ⌈x⌉) = z at hz1 hz2 ⊢
  rw [min_eq_right (by norm_num; omega), max_eq_right (by norm_num; omega), min_eq_right (by norm_num; omega), max_eq_right (by norm_num; omega)]
  exact cut8 z hz1 hz2

theorem cod_cut (x s : EReal) : BitVec.setWidth 8 (Ideal.fptosi 32 (cod x s)) = code8 (cod x s) := by
  have e1 : (Ideal.ofBits .f32 0x42FE0000#32 : EReal) = ((127 : ℝ) : EReal) := by simp [Ideal.ofBits, Ideal.ieee, -EReal.coe_mul]; norm_num
  have e2 : (Ideal.ofBits .f32 0xC2FE0000#32 : EReal) = ((-127 : ℝ) : EReal) := by simp [Ideal.ofBits, Ideal.ieee, -EReal.coe_mul]; norm_num
  refine code8_eq _ ?_ ?_
  · unfold cod
    rw [e1, e2]
    exact le_min (EReal.coe_le_coe_iff.2 (by norm_num)) (le_max_left _ _)
  · unfold cod
    rw [e1]
    exact min_le_left _ _

/-- The kernel's scale of a channel, by counting, is the reference's, by the logarithm. -/
theorem scale_same (A : ℝ) (h0 : 0 ≤ A) (hup : A ≤ 2 ^ (128 : Nat)) : scN (BitVec.ofNat 32 (cnt 255 ((A * cI : ℝ) : EReal)))
    = Ideal.pow (Ideal.ofBits .f32 0x40000000#32) (if ((A * cI : ℝ) : EReal) < Ideal.ofBits .f32 0x00800000#32 then 0
          else Ideal.liftRound Int.floor (Ideal.div (Ideal.log ((A * cI : ℝ) : EReal)) (Ideal.log (Ideal.ofBits .f32 0x40000000#32))) + 1) := by
  have h2 : (Ideal.ofBits .f32 0x40000000#32 : EReal) = ((2 : ℝ) : EReal) := by simp [Ideal.ofBits, Ideal.ieee, -EReal.coe_mul]; norm_num
  have h1 : (1 : EReal) = ((1 : ℝ) : EReal) := EReal.coe_one.symm
  have hmin : (Ideal.ofBits .f32 0x00800000#32 : EReal) = (((2 : ℝ) ^ (-126 : Int) : ℝ) : EReal) := by simp [Ideal.ofBits, Ideal.ieee, -EReal.coe_mul]; norm_num
  have hN : cnt 255 ((A * cI : ℝ) : EReal) < 249 := by
    by_contra hc
    have := (cnt_iff ((A * cI : ℝ) : EReal) 248 (by norm_num)).2 (by omega)
    rw [pw_eq _ (by norm_num) (by norm_num)] at this
    have : (2 : ℝ) ^ (((1 + 248 : Nat) : Int) - 127) ≤ A * cI := by exact_mod_cast this
    have h3 : A * cI ≤ 2 ^ 128 * (1 / 256) := mul_le_mul hup cI_le (by unfold cI; positivity) (by positivity)
    norm_num at this h3
    linarith
  have hlt : ¬ pw (1 + cnt 255 ((A * cI : ℝ) : EReal)) ≤ ((A * cI : ℝ) : EReal) := fun h => by
    have := (cnt_iff ((A * cI : ℝ) : EReal) _ (by omega)).1 h
    omega
  have hge : cnt 255 ((A * cI : ℝ) : EReal) ≠ 0 → pw (1 + (cnt 255 ((A * cI : ℝ) : EReal) - 1)) ≤ ((A * cI : ℝ) : EReal) := fun h =>
    (cnt_iff ((A * cI : ℝ) : EReal) _ (by omega)).2 (by omega)
  generalize A * cI = y at hN hlt hge ⊢
  generalize cnt 255 (y : EReal) = N at hN hlt hge ⊢
  rw [pw_eq _ (by omega) (by omega)] at hlt
  have hlt' : y < (2 : ℝ) ^ (((1 + N : Nat) : Int) - 127) := EReal.coe_lt_coe_iff.1 (not_le.1 hlt)
  rw [h2, hmin, h1]
  by_cases hz : N = 0
  · subst hz
    have hy : ((y : ℝ) : EReal) < (((2 : ℝ) ^ (-126 : Int) : ℝ) : EReal) := EReal.coe_lt_coe_iff.2 hlt'
    rw [if_pos hy, scN_zero.1, ← EReal.coe_zero]
    show _ = ((Real.rpow 2 0 : ℝ) : EReal)
    rw [Real.rpow_eq_pow, Real.rpow_zero]
  · have hge := hge hz
    rw [pw_eq _ (by omega) (by omega)] at hge
    have hge' : (2 : ℝ) ^ ((N : Int) - 127) ≤ y := by
      have := EReal.coe_le_coe_iff.1 hge
      rwa [show (((1 + (N - 1) : Nat) : Int) - 127) = (N : Int) - 127 by omega] at this
    have hlow : (2 : ℝ) ^ (-126 : Int) ≤ y := (zpow_le_zpow_right₀ (by norm_num : (1 : ℝ) ≤ 2) (by omega)).trans hge'
    have hy : 0 < y := lt_of_lt_of_le (by positivity) hlow
    have hl : 0 < Real.log 2 := Real.log_pos (by norm_num)
    have hfl : ⌊Real.log y / Real.log 2⌋ = (N : Int) - 127 := by
      rw [Int.floor_eq_iff]
      constructor
      · rw [le_div_iff₀ hl, ← Real.log_zpow]
        exact Real.log_le_log (by positivity) hge'
      · rw [div_lt_iff₀ hl]
        have := Real.log_lt_log hy hlt'
        rw [Real.log_zpow] at this
        refine this.trans_eq ?_
        congr 1
        push_cast
        ring
    rw [if_neg (not_lt.2 (EReal.coe_le_coe_iff.2 hlow)), Ideal.log_coe, Ideal.log_coe, if_neg (not_le.2 hy), if_neg (by norm_num), div_coe _ _ hl.ne', Ideal.liftRound_coe, hfl, ← EReal.coe_add,
      (scN_eq N (by omega) (by omega)).1, pw_eq _ (by omega) (by omega)]
    show _ = ((Real.rpow 2 _ : ℝ) : EReal)
    rw [Real.rpow_eq_pow, show (((N : Int) - 127 : Int) : ℝ) + 1 = (((((N + 1 : Nat) : Int) - 127) : Int) : ℝ) by push_cast; ring, Real.rpow_intCast]

section
variable (X : FVec Ideal S8x4096x4096 .bf16) (K V : FVec Ideal S8x4096x512 .bf16)
  (xR kR vR : Nat → Nat → Nat → ℝ)
  (hXr : ∀ a b c, at3 (A := 8) (B := 4096) (C := 4096) X a b c = (xR a b c : EReal))
  (hKr : ∀ a b c, at3 (A := 8) (B := 4096) (C := 512) K a b c = (kR a b c : EReal))
  (hVr : ∀ a b c, at3 (A := 8) (B := 4096) (C := 512) V a b c = (vR a b c : EReal))
  (hVb : ∀ a b c, |vR a b c| ≤ 2 ^ (128 : Nat))
  (b j kv : Nat) (hb : b < 8) (hj : j < 32) (hkv : kv < 4)
  (X' : (sh3 1 128 1024).Idx → EReal) (K' V' : (sh3 1 4096 128).Idx → EReal)
  (hX : ∀ r < 128, ∀ c < 1024, at3 X' 0 r c = at3 (A := 8) (B := 4096) (C := 4096) X b (128 * j + r) (1024 * kv + c))
  (hK : ∀ t < 4096, ∀ d < 128, at3 K' 0 t d = at3 (A := 8) (B := 4096) (C := 512) K b t (128 * kv + d))
  (hV : ∀ t < 4096, ∀ d < 128, at3 V' 0 t d = at3 (A := 8) (B := 4096) (C := 512) V b t (128 * kv + d))

include hX hXr hb hj hkv in
theorem outQs_match (h : Nat) (hh : h < 8) : at3 (A := 8) (B := 32) (C := 32) (ReferenceIdeal.Stage.outQs (F := Ideal) X) b (8 * kv + h) j = qSc X' h := by
  rw [at3_of _ hb (by omega) hj]
  unfold ReferenceIdeal.Stage.outQs
  refine (ReferenceIdeal.Stage.qsT_at _ _ _ _).trans ?_
  refine Eq.trans ?_ (qSc_match X xR hXr b j kv hb hj hkv X' hX h hh).1
  congr 1
  simp only [Nat.mul_comm 8 kv]

include hX hXr hb hj hkv in
theorem outQc_match (h r d : Nat) (hh : h < 8) (hr : r < 128) (hd : d < 128) :
    b3 (A := 8) (B := 4096) (C := 4096) (ReferenceIdeal.Stage.outQc (F := Ideal) X) b (128 * j + r) (1024 * kv + (128 * h + d)) = code8 (qCd X' h r d) := by
  rw [b3_of _ hb (by omega) (by omega)]
  unfold ReferenceIdeal.Stage.outQc
  refine (ReferenceIdeal.Stage.q8_at _ _ _ _).trans ?_
  refine Eq.trans ?_ (cod_cut _ _)
  refine congrArg (fun z => BitVec.setWidth 8 (Ideal.fptosi 32 z)) ?_
  refine Eq.trans ?_ (qCodes_match X xR hXr b j kv hb hj hkv X' hX h r d hh hr hd)
  have i1 : (⟨(128 * j + r) / 128, by omega⟩ : Fin 32) = ⟨j, hj⟩ := Fin.ext (by simp only; omega)
  have i2 : (⟨(128 * j + r) % 128, by omega⟩ : Fin 128) = ⟨r, hr⟩ := Fin.ext (by simp only; omega)
  have i3 : (⟨(1024 * kv + (128 * h + d)) / 128, by omega⟩ : Fin 32) = ⟨kv * 8 + h, by omega⟩ := Fin.ext (by simp only; omega)
  have i4 : (⟨(1024 * kv + (128 * h + d)) % 128, by omega⟩ : Fin 128) = ⟨d, hd⟩ := Fin.ext (by simp only; omega)
  simp only [i1, i2, i3, i4]

include hK hKr hb hkv in
theorem outKs_match (g : Nat) (hg : g < 64) : at3 (A := 8) (B := 4) (C := 64) (ReferenceIdeal.Stage.outKs (F := Ideal) K) b kv g = kSc K' g := by
  rw [at3_of _ hb hkv hg]
  unfold ReferenceIdeal.Stage.outKs
  exact (ReferenceIdeal.Stage.ksT_at _ _ _ _).trans (kSc_match K kR hKr b kv hb hkv K' hK g hg).1

include hK hKr hb hkv in
theorem outKc_match (t d : Nat) (ht : t < 4096) (hd : d < 128) :
    b3 (A := 8) (B := 4096) (C := 512) (ReferenceIdeal.Stage.outKc (F := Ideal) K) b t (128 * kv + d) = code8 (cod (kCen K' t d) (kSc K' (t / 64))) := by
  rw [b3_of _ hb ht (by omega)]
  unfold ReferenceIdeal.Stage.outKc
  refine (ReferenceIdeal.Stage.k8_at _ _ _ _).trans ?_
  refine Eq.trans ?_ (cod_cut _ _)
  refine congrArg (fun z => BitVec.setWidth 8 (Ideal.fptosi 32 z)) ?_
  have := kCodes_match K kR hKr b kv hb hkv K' hK (t / 64) (t % 64) d (by omega) (by omega) hd
  rw [show 64 * (t / 64) + t % 64 = t by omega] at this
  refine Eq.trans ?_ this
  have i3 : (⟨(128 * kv + d) / 128, by omega⟩ : Fin 4) = ⟨kv, hkv⟩ := Fin.ext (by simp only; omega)
  have i4 : (⟨(128 * kv + d) % 128, by omega⟩ : Fin 128) = ⟨d, hd⟩ := Fin.ext (by simp only; omega)
  simp only [i3, i4]

include hV hVr hVb hb hkv in
theorem outVs_match (d : Nat) (hd : d < 128) (A : EReal) (hA : IsAm V' d A) :
    at3 (A := 8) (B := 4) (C := 128) (ReferenceIdeal.Stage.outVs (F := Ideal) V) b kv d = scN (BitVec.ofNat 32 (cnt 255 (A * cInv))) := by
  have hA' : ∀ z : EReal, A ≤ z ↔ 0 ≤ z ∧ ∀ t < 4096, ((|vR b t (128 * kv + d)| : ℝ) : EReal) ≤ z := fun z => by
    rw [hA z]
    refine and_congr Iff.rfl (forall_congr' fun t => forall_congr' fun ht => ?_)
    rw [hV t ht d hd, hVr, absf_coe]
  rw [at3_of _ hb hkv hd]
  unfold ReferenceIdeal.Stage.outVs
  rw [ReferenceIdeal.Stage.vSc_at, ReferenceIdeal.Stage.vY_at, ReferenceIdeal.Stage.vM_at]
  have hval : ∀ t : Fin 4096, ReferenceIdeal.Stage.vAbs (F := Ideal) (ReferenceIdeal.Stage.vf V) (ix4 ⟨b, hb⟩ t ⟨kv, hkv⟩ ⟨d, hd⟩) = ((|vR b t (128 * kv + d)| : ℝ) : EReal) := fun t => by
    rw [ReferenceIdeal.Stage.vAbs_at, vf_match V b kv hb hkv V' hV t d t.2 hd, hV t t.2 d hd, hVr, absf_coe]
  simp only [hval]
  have hAe : Finset.fold max (Ideal.ofBits .f32 0xFF800000#32) (fun t : Fin 4096 => ((|vR b t (128 * kv + d)| : ℝ) : EReal)) Finset.univ = A := by
    refine eq_of_forall_ge_iff fun z => ?_
    rw [Finset.fold_max_le, hA']
    constructor
    · rintro ⟨-, h⟩
      exact ⟨(EReal.coe_nonneg.2 (abs_nonneg _)).trans (h ⟨0, by norm_num⟩ (Finset.mem_univ _)), fun t ht => h ⟨t, ht⟩ (Finset.mem_univ _)⟩
    · rintro ⟨-, h⟩
      exact ⟨by rw [bot32]; exact bot_le, fun t _ => h t t.2⟩
  rw [hAe]
  have h0 := ((hA' A).1 le_rfl).1
  have hup : A ≤ (((2 : ℝ) ^ (128 : Nat) : ℝ) : EReal) := (hA' _).2 ⟨by exact_mod_cast (by positivity : (0 : ℝ) ≤ 2 ^ 128), fun t ht => by exact_mod_cast hVb _ _ _⟩
  lift A to ℝ using ⟨fun h => by rw [h] at hup; exact absurd hup (not_le.2 (EReal.coe_lt_top _)), fun h => by rw [h] at h0; exact absurd h0 (by simp)⟩
  have h0' : (0 : ℝ) ≤ A := by exact_mod_cast h0
  have hup' : A ≤ (2 : ℝ) ^ (128 : Nat) := by exact_mod_cast hup
  have hc : (Ideal.ofBits .f32 0x3B124925#32 : EReal) = (cI : EReal) := cInv_eq
  simp only [hc, ← EReal.coe_mul]
  exact (scale_same A h0' hup').symm

include hV hVr hVb hb hkv in
theorem outVc_match (t d : Nat) (ht : t < 4096) (hd : d < 128) (A : EReal) (hA : IsAm V' d A) :
    at3 (A := 8) (B := 4096) (C := 512) (ReferenceIdeal.Stage.outVc (F := Ideal) V) b t (128 * kv + d) = vcd (at3 V' 0 t d) (invN (BitVec.ofNat 32 (cnt 255 (A * cInv)))) := by
  have hs := outVs_match V vR hVr hVb b kv hb hkv V' hV d hd A hA
  rw [at3_of _ hb hkv hd] at hs
  obtain ⟨σ, hσ, e1, e2, -⟩ := kscale (fun t => vR b t (128 * kv + d)) A (fun z => by
    rw [hA z]
    refine and_congr Iff.rfl (forall_congr' fun t => forall_congr' fun ht => ?_)
    rw [hV t ht d hd, hVr, absf_coe]) fun t _ => hVb _ _ _
  rw [e1] at hs
  rw [at3_of _ hb ht (by omega)]
  unfold ReferenceIdeal.Stage.outVc
  refine (ReferenceIdeal.Stage.v8_at _ _ _ _).trans ?_
  have i3 : (⟨(128 * kv + d) / 128, by omega⟩ : Fin 4) = ⟨kv, hkv⟩ := Fin.ext (by simp only; omega)
  have i4 : (⟨(128 * kv + d) % 128, by omega⟩ : Fin 128) = ⟨d, hd⟩ := Fin.ext (by simp only; omega)
  simp only [i3, i4]
  unfold ReferenceIdeal.Stage.outVs at hs
  rw [ReferenceIdeal.Stage.vCodes_at, hs, vf_match V b kv hb hkv V' hV t d ht hd, e2, hV t ht d hd, hVr]
  unfold vcd
  rw [div_coe _ _ hσ.ne', ← EReal.coe_mul, div_eq_mul_inv]

end

end Cert.Body
-- ==== Proof.Array.lean ====
/- From one grid point to the whole array: what each window block holds, what the scratch keeps between points,
   and the result array read off the blocks that cover it. -/
module

public import proofs.«01_k».proof.Proof.MatchCodes
public import proofs.«01_k».proof.Proof.KernelIdealRun
public import Idealize.ShloMosaic.Lib.Pipeline.ValueKit
public import Idealize.ShloMosaic.Lib.Pipeline.Covers

@[expose] public section

set_option maxRecDepth 16384

noncomputable section

namespace Cert.Body

open Idealize.ShloMosaic
open Cert.Mem

theorem Same.prepared {K V : (sh3 1 4096 128).Idx → EReal} {W : List Buf} {s s' : S} (h : Same W s s') (h1 : Buf.kt ∉ W) (h2 : Buf.kc ∉ W) (h3 : Buf.vs ∉ W) (h4 : Buf.vt ∉ W)
    (hp : Prepared K V s) : Prepared K V s' := by
  unfold Prepared at hp ⊢
  rw [h .kt h1, h .kc h2, h .vs h3, h .vt h4]
  exact hp

/-- What a grid point leaves of the codes and the scales. -/
def Coded (kv j : Nat) (s s' : S) : Prop :=
  (∀ h < 8, ∀ r < 128, ∀ d < 128, b3 (s' .qc) 0 r (128 * h + d) = code8 (qCd (s .x) h r d))
    ∧ (∀ h < 8, ∀ c < 32, (c = j → at3 (s' .qs) 0 h c = qSc (s .x) h) ∧ (c ≠ j → j ≠ 0 → at3 (s' .qs) 0 h c = at3 (s .qs) 0 h c))
    ∧ (j = 0 → Wrote kv (s .k) (s .v) s s') ∧ (j ≠ 0 → s' .kcode = s .kcode ∧ s' .ks = s .ks ∧ s' .vcode = s .vcode ∧ s' .vsc = s .vsc)

/-- A grid point's program leaves the attention of its blocks. -/
theorem whole_post (l : Ideal .f32) (kv j : Nat) (hkv : kv < 4) (hj : j < 32) (s : S) (hs : j ≠ 0 → Prepared (s .k) (s .v) s) :
    Post (whole l kv j hkv hj) s fun _ s' => (s' .x = s .x ∧ s' .k = s .k ∧ s' .v = s .v) ∧ Prepared (s .k) (s .v) s'
      ∧ (∀ h < 8, ∀ r < 128, ∀ d < 128, KO (sco (s .x) (s' .kc) (s' .kt) l h r) (fun t => at2 (s' .vt) d t) (at2 (s' .vs) 0 d) (128 * j + r) (at3 (s' .out) 0 r (128 * h + d))) ∧ Coded kv j s s' := by
  unfold whole
  refine Post.bind (Post.mono (Q := fun _ s' => Same [.kt, .kcode, .kc, .ks, .vsc, .vs, .vcode, .vt, .qs] s s' ∧ Prepared (s .k) (s .v) s'
    ∧ (j = 0 → Wrote kv (s .k) (s .v) s s') ∧ (j ≠ 0 → s' = s)) ?_ ?_)
  · by_cases hz : j = 0
    · rw [if_pos hz]; exact Post.mono (prep_post kv hkv s) fun _ s' h => ⟨h.1, h.2.1, fun _ => h.2.2, fun h => absurd hz h⟩
    · rw [if_neg hz]; exact Post.ret ⟨Same.refl _ _, hs hz, fun h => absurd h hz, fun _ => rfl⟩
  · rintro _ s1 ⟨e1, p1, w1, w2⟩
    have cod : ∀ s2, StepPost l j s1 s2 → CodePost (BitVec.ofNat 32 j) s1 s2 → Coded kv j s s2 := by
      rintro s2 ⟨e2, -⟩ ⟨c1, c2⟩
      rw [e1 .x (by simp)] at c1 c2
      refine ⟨c1, fun h hh c hc => ⟨fun e => ?_, fun e hz => ?_⟩, fun hz => ?_, fun hz => ?_⟩
      · rw [c2 h hh c hc, if_pos (by rw [e])]
      · rw [c2 h hh c hc, w2 hz, if_neg fun h3 => e ?_]
        have := congrArg BitVec.toNat h3
        simp only [BitVec.toNat_ofNat] at this
        omega
      · have := w1 hz
        unfold Wrote at this ⊢
        rw [e2 .kcode (by simp), e2 .ks (by simp), e2 .vcode (by simp), e2 .vsc (by simp)]
        exact this
      · rw [e2 .kcode (by simp), e2 .ks (by simp), e2 .vcode (by simp), e2 .vsc (by simp), w2 hz]
        exact ⟨rfl, rfl, rfl, rfl⟩
    have fin : ∀ s2, StepPost l j s1 s2 → (s2 .x = s .x ∧ s2 .k = s .k ∧ s2 .v = s .v) ∧ Prepared (s .k) (s .v) s2
        ∧ ∀ h < 8, ∀ r < 128, ∀ d < 128, KO (sco (s .x) (s2 .kc) (s2 .kt) l h r) (fun t => at2 (s2 .vt) d t) (at2 (s2 .vs) 0 d) (128 * j + r) (at3 (s2 .out) 0 r (128 * h + d)) := by
      rintro s2 ⟨e2, k2⟩
      refine ⟨⟨?_, ?_, ?_⟩, e2.prepared (by simp) (by simp) (by simp) (by simp) p1, ?_⟩
      · rw [e2 .x (by simp), e1 .x (by simp)]
      · rw [e2 .k (by simp), e1 .k (by simp)]
      · rw [e2 .v (by simp), e1 .v (by simp)]
      · rw [e2 .kc (by simp), e2 .kt (by simp), e2 .vt (by simp), e2 .vs (by simp), ← e1 .x (by simp)]
        exact k2
    by_cases h : j < 8
    · rw [dif_pos h]; exact Post.mono (step_post l _ j h _ s1) fun _ s2 h2 => have f := fin s2 h2.1; ⟨f.1, f.2.1, f.2.2, cod s2 h2.1 h2.2⟩
    · rw [dif_neg h]; exact Post.mono (stepM_post l _ j (by omega) hj _ _ s1) fun _ s2 h2 => have f := fin s2 h2.1; ⟨f.1, f.2.1, f.2.2, cod s2 h2.1 h2.2⟩

end Cert.Body

namespace Cert.KernelIdeal.Attn

open Idealize.ShloMosaic Idealize.ShloMosaic.TcCoe
open Idealize.SL.Sem
open Idealize.ShloMosaic.Pipeline (RDat Dat Cfg Window)
open Cert.KernelIdeal Cert.KernelIdeal.Gen
open Cert.Body (b3 b3_of at3 at3_of sh3 whole Buf lay Prepared)
open Cert.Mem (Cmd St)

theorem idx : ∀ t : Fin cfg0.N, win0_0.index t = ![t.val / 128, t.val % 32, t.val / 32 % 4] ∧ win0_1.index t = ![t.val / 128, 0, t.val / 32 % 4]
    ∧ win0_2.index t = ![t.val / 128, 0, t.val / 32 % 4] ∧ win0_3.index t = ![t.val / 128, t.val % 32, t.val / 32 % 4]
    ∧ win0_4.index t = ![t.val / 128, t.val % 32, t.val / 32 % 4] ∧ win0_5.index t = ![t.val / 128, t.val / 32 % 4, 0] ∧ win0_6.index t = ![t.val / 128, 0, t.val / 32 % 4]
    ∧ win0_7.index t = ![t.val / 128, 0, 0] ∧ win0_8.index t = ![t.val / 128, 0, t.val / 32 % 4] ∧ win0_9.index t = ![t.val / 128, 0, 0] :=
  (by decide +kernel : ∀ t : Fin grid0.N, _)

theorem crd : ∀ t : Fin cfg0.N, (grid0.coords t 1).val = t.val / 32 % 4 ∧ (grid0.coords t 2).val = t.val % 32 :=
  (by decide +kernel : ∀ t : Fin grid0.N, _)

theorem N_lt (t : Fin cfg0.N) : t.val < 1024 := t.isLt

variable (m : (ℓ : Loc nD τ sig) → Idealize.ShloMosaic.Buf (Elt Ideal) ℓ)

/-- Query block `j` of the eight heads of key-value head `kv` in batch `b`. -/
def xblk (c : Dev nD) (b j kv : Nat) : (sh3 1 128 1024).Idx → EReal := fun y =>
  at3 (A := 8) (B := 4096) (C := 4096) (m ((c.tc : Thread nD τ).loc main_arg0)) b (128 * j + (y 1).val) (1024 * kv + (y 2).val)
/-- The keys of key-value head `kv` in batch `b`. -/
def kblk (c : Dev nD) (b kv : Nat) : (sh3 1 4096 128).Idx → EReal := fun y =>
  at3 (A := 8) (B := 4096) (C := 512) (m ((c.tc : Thread nD τ).loc main_arg1)) b (y 1).val (128 * kv + (y 2).val)
/-- The values of key-value head `kv` in batch `b`. -/
def vblk (c : Dev nD) (b kv : Nat) : (sh3 1 4096 128).Idx → EReal := fun y =>
  at3 (A := 8) (B := 4096) (C := 512) (m ((c.tc : Thread nD τ).loc main_arg2)) b (y 1).val (128 * kv + (y 2).val)

theorem iblk0 (c : Dev nD) (t : Fin cfg0.N) : iblk m c 0 t = xblk m c (t.val / 128) (t.val % 32) (t.val / 32 % 4) := by
  funext y
  have ht := N_lt t
  have h1 : (y 1).val < 128 := (y 1).isLt
  have h2 : (y 2).val < 1024 := (y 2).isLt
  have h0 : (y 0).val < 1 := (y 0).isLt
  unfold xblk
  rw [at3_of _ (by omega) (by omega) (by omega)]
  blk_ext [iblk, V, idx t]

theorem iblk1 (c : Dev nD) (t : Fin cfg0.N) : iblk m c 1 t = kblk m c (t.val / 128) (t.val / 32 % 4) := by
  funext y
  have ht := N_lt t
  have h1 : (y 1).val < 4096 := (y 1).isLt
  have h2 : (y 2).val < 128 := (y 2).isLt
  have h0 : (y 0).val < 1 := (y 0).isLt
  unfold kblk
  rw [at3_of _ (by omega) (by omega) (by omega)]
  blk_ext [iblk, V, idx t]

theorem iblk2 (c : Dev nD) (t : Fin cfg0.N) : iblk m c 2 t = vblk m c (t.val / 128) (t.val / 32 % 4) := by
  funext y
  have ht := N_lt t
  have h1 : (y 1).val < 4096 := (y 1).isLt
  have h2 : (y 2).val < 128 := (y 2).isLt
  have h0 : (y 0).val < 1 := (y 0).isLt
  unfold vblk
  rw [at3_of _ (by omega) (by omega) (by omega)]
  blk_ext [iblk, V, idx t]

/-- The reference of the kernel's arguments. -/
def refOut (c : Dev nD) : FVec Ideal Cert.ReferenceIdeal.S8x4096x4096 .bf16 :=
  Cert.ReferenceIdeal.Stage.out (m ((c.tc : Thread nD τ).loc main_arg0)) (m ((c.tc : Thread nD τ).loc main_arg1)) (m ((c.tc : Thread nD τ).loc main_arg2))

/-- The reference's query codes of the kernel's arguments. -/
def refQc (c : Dev nD) : IVec Cert.ReferenceIdeal.S8x4096x4096 8 := Cert.ReferenceIdeal.Stage.outQc (F := Ideal) (m ((c.tc : Thread nD τ).loc main_arg0))
/-- The reference's query scales. -/
def refQs (c : Dev nD) : FVec Ideal Cert.ReferenceIdeal.S8x32x32 .f32 := Cert.ReferenceIdeal.Stage.outQs (m ((c.tc : Thread nD τ).loc main_arg0))
/-- The reference's key codes. -/
def refKc (c : Dev nD) : IVec Cert.ReferenceIdeal.S8x4096x512 8 := Cert.ReferenceIdeal.Stage.outKc (F := Ideal) (m ((c.tc : Thread nD τ).loc main_arg1))
/-- The reference's key scales. -/
def refKs (c : Dev nD) : FVec Ideal Cert.ReferenceIdeal.S8x4x64 .f32 := Cert.ReferenceIdeal.Stage.outKs (m ((c.tc : Thread nD τ).loc main_arg1))
/-- The reference's value codes. -/
def refVc (c : Dev nD) : FVec Ideal Cert.ReferenceIdeal.S8x4096x512 .fp8e4m3 := Cert.ReferenceIdeal.Stage.outVc (m ((c.tc : Thread nD τ).loc main_arg2))
/-- The reference's value scales. -/
def refVs (c : Dev nD) : FVec Ideal Cert.ReferenceIdeal.S8x4x128 .f32 := Cert.ReferenceIdeal.Stage.outVs (m ((c.tc : Thread nD τ).loc main_arg2))

/-- Between a head's first and last query block the scratch holds that head's prepared keys and values. -/
def I (t : Fin (cfg0.N + 1)) (st : St lay (Elt Ideal)) : Prop :=
  ∀ c, t.val % 32 ≠ 0 → Prepared (kblk m c (t.val / 128) (t.val / 32 % 4)) (vblk m c (t.val / 128) (t.val / 32 % 4)) st

/-- A result block is the reference's. -/
def Res (t : Fin cfg0.N) (X : (sh3 1 128 1024).Idx → EReal) : Prop :=
  ∀ c : Dev nD, ∀ r < 128, ∀ k < 1024, at3 X 0 r k = at3 (A := 8) (B := 4096) (C := 4096) (refOut m c) (t.val / 128) (128 * (t.val % 32) + r) (1024 * (t.val / 32 % 4) + k)

/-- A block of query codes is the reference's. -/
def ResQc (t : Fin cfg0.N) (X : (sh3 1 128 1024).Idx → BitVec 8) : Prop :=
  ∀ c : Dev nD, ∀ r < 128, ∀ k < 1024, b3 X 0 r k = b3 (A := 8) (B := 4096) (C := 4096) (refQc m c) (t.val / 128) (128 * (t.val % 32) + r) (1024 * (t.val / 32 % 4) + k)

/-- A table of query scales is the reference's up to this point's column. -/
def ResQs (t : Fin cfg0.N) (X : (sh3 1 8 32).Idx → EReal) : Prop :=
  ∀ c : Dev nD, ∀ h < 8, ∀ n < 32, n ≤ t.val % 32 → at3 X 0 h n = at3 (A := 8) (B := 32) (C := 32) (refQs m c) (t.val / 128) (8 * (t.val / 32 % 4) + h) n

/-- A block of key codes is the reference's. -/
def ResKc (t : Fin cfg0.N) (X : (sh3 1 4096 128).Idx → BitVec 8) : Prop :=
  ∀ c : Dev nD, ∀ r < 4096, ∀ k < 128, b3 X 0 r k = b3 (A := 8) (B := 4096) (C := 512) (refKc m c) (t.val / 128) r (128 * (t.val / 32 % 4) + k)

/-- A table of key scales is the reference's up to this point's row. -/
def ResKs (t : Fin cfg0.N) (X : (sh3 1 4 64).Idx → EReal) : Prop :=
  ∀ c : Dev nD, ∀ h ≤ t.val / 32 % 4, ∀ g < 64, at3 X 0 h g = at3 (A := 8) (B := 4) (C := 64) (refKs m c) (t.val / 128) h g

/-- A block of value codes is the reference's. -/
def ResVc (t : Fin cfg0.N) (X : (sh3 1 4096 128).Idx → EReal) : Prop :=
  ∀ c : Dev nD, ∀ r < 4096, ∀ k < 128, at3 X 0 r k = at3 (A := 8) (B := 4096) (C := 512) (refVc m c) (t.val / 128) r (128 * (t.val / 32 % 4) + k)

/-- A table of value scales is the reference's up to this point's row. -/
def ResVs (t : Fin cfg0.N) (X : (sh3 1 4 128).Idx → EReal) : Prop :=
  ∀ c : Dev nD, ∀ h ≤ t.val / 32 % 4, ∀ d < 128, at3 X 0 h d = at3 (A := 8) (B := 4) (C := 128) (refVs m c) (t.val / 128) h d

/-- What a grid point does to its window blocks. -/
def After : (w : Fin cfg0.W) → Fin cfg0.N → (Y X : (cfg0.win w).block.Idx → Elt Ideal (cfg0.win w).elt) → Prop := fun w t => match w with
  | 0 => fun Y X => X = Y
  | 1 => fun Y X => X = Y
  | 2 => fun Y X => X = Y
  | 3 => fun _ X => Res m t X
  | 4 => fun _ X => ResQc m t X
  | 5 => fun _ X => ResQs m t X
  | 6 => fun _ X => ResKc m t X
  | 7 => fun _ X => ResKs m t X
  | 8 => fun _ X => ResVc m t X
  | 9 => fun _ X => ResVs m t X

theorem finds0 (c : Dev nD) (t : Fin cfg0.N) (Y : (cfg0.win 0).block.Idx → Elt Ideal (cfg0.win 0).elt) (h : (rdat (I m) (After m) m c).Finds 0 t Y) :
    Y = xblk m c (t.val / 128) (t.val % 32) (t.val / 32 % 4) := by
  obtain ⟨d, rfl⟩ := (RDat.finds_of_fetch _ (fetch0_0 t) Y).1 h
  exact (show _ = iblk m c 0 t from by unfold RDat.fetched RDat.blockOf iblk; rfl).trans (iblk0 m c t)

theorem finds1 (c : Dev nD) : ∀ (n : Nat) (t : Fin cfg0.N), t.val = n → ∀ (Y : (cfg0.win 1).block.Idx → Elt Ideal (cfg0.win 1).elt), (rdat (I m) (After m) m c).Finds 1 t Y →
    Y = kblk m c (t.val / 128) (t.val / 32 % 4) := by
  intro n
  induction n using Nat.strong_induction_on with
  | _ n ih =>
    intro t ht Y h
    by_cases hz : t.val % 32 = 0
    · obtain ⟨d, rfl⟩ := (RDat.finds_of_fetch _ ((fetch0_1 t).2 hz) Y).1 h
      exact (show _ = iblk m c 1 t from by unfold RDat.fetched RDat.blockOf iblk; rfl).trans (iblk1 m c t)
    · have hf : (cfg0.win 1).fetch t = false := eq_false_of_ne_true fun h => hz ((fetch0_1 t).1 h)
      rcases (RDat.finds_of_pos _ hf (by omega) Y).1 h with h | ⟨Y', hY', ha⟩
      · exact absurd h (by simp [Window.flush])
      · have e : Y = Y' := ha
        rw [e, ih (t.val - 1) (by omega) _ rfl Y' hY']
        have e1 : (t.val - 1) / 128 = t.val / 128 := by omega
        have e2 : (t.val - 1) / 32 % 4 = t.val / 32 % 4 := by omega
        simp only [e1, e2]

theorem finds2 (c : Dev nD) : ∀ (n : Nat) (t : Fin cfg0.N), t.val = n → ∀ (Y : (cfg0.win 2).block.Idx → Elt Ideal (cfg0.win 2).elt), (rdat (I m) (After m) m c).Finds 2 t Y →
    Y = vblk m c (t.val / 128) (t.val / 32 % 4) := by
  intro n
  induction n using Nat.strong_induction_on with
  | _ n ih =>
    intro t ht Y h
    by_cases hz : t.val % 32 = 0
    · obtain ⟨d, rfl⟩ := (RDat.finds_of_fetch _ ((fetch0_2 t).2 hz) Y).1 h
      exact (show _ = iblk m c 2 t from by unfold RDat.fetched RDat.blockOf iblk; rfl).trans (iblk2 m c t)
    · have hf : (cfg0.win 2).fetch t = false := eq_false_of_ne_true fun h => hz ((fetch0_2 t).1 h)
      rcases (RDat.finds_of_pos _ hf (by omega) Y).1 h with h | ⟨Y', hY', ha⟩
      · exact absurd h (by simp [Window.flush])
      · have e : Y = Y' := ha
        rw [e, ih (t.val - 1) (by omega) _ rfl Y' hY']
        have e1 : (t.val - 1) / 128 = t.val / 128 := by omega
        have e2 : (t.val - 1) / 32 % 4 = t.val / 32 % 4 := by omega
        simp only [e1, e2]

theorem prev_lt (t : Fin cfg0.N) : t.val - 1 < cfg0.N := Nat.lt_of_le_of_lt (Nat.sub_le _ _) t.isLt

/-- A result's block that the previous point did not write out is found as that point left it. -/
theorem prev (c : Dev nD) (w : Fin cfg0.W) (t : Fin cfg0.N) (hf : (cfg0.win w).fetch t = false) (ht : t.val ≠ 0) (hl : (cfg0.win w).flush ⟨t.val - 1, prev_lt t⟩ ≠ true)
    (Y : (cfg0.win w).block.Idx → Elt Ideal (cfg0.win w).elt) (h : (rdat (I m) (After m) m c).Finds w t Y) : ∃ Y', After m w ⟨t.val - 1, prev_lt t⟩ Y' Y := by
  rcases (RDat.finds_of_pos _ hf ht Y).1 h with h | ⟨Y', -, ha⟩
  · exact absurd h hl
  · exact ⟨Y', ha⟩

/-- The arguments' elements are real numbers no larger than the bound. -/
def Bounded : Prop := ∀ c : Dev nD, ∃ xR kR vR : Nat → Nat → Nat → ℝ,
  (∀ a b d, at3 (A := 8) (B := 4096) (C := 4096) (m ((c.tc : Thread nD τ).loc main_arg0)) a b d = (xR a b d : EReal))
  ∧ (∀ a b d, at3 (A := 8) (B := 4096) (C := 512) (m ((c.tc : Thread nD τ).loc main_arg1)) a b d = (kR a b d : EReal))
  ∧ (∀ a b d, at3 (A := 8) (B := 4096) (C := 512) (m ((c.tc : Thread nD τ).loc main_arg2)) a b d = (vR a b d : EReal))
  ∧ ∀ a b d, |vR a b d| ≤ 2 ^ (128 : Nat)

/-- A grid point keeps the results' codes and scales the reference's. -/
theorem coded (hm : Bounded m) (c : Dev nD) (t : Fin cfg0.N) (Y : Blocks Ideal) (hY : ∀ w, (rdat (I m) (After m) m c).Finds w t (Y w))
    (y0 : Y 0 = xblk m c (t.val / 128) (t.val % 32) (t.val / 32 % 4)) (y1 : Y 1 = kblk m c (t.val / 128) (t.val / 32 % 4)) (y2 : Y 2 = vblk m c (t.val / 128) (t.val / 32 % 4))
    {st : St lay (Elt Ideal)} (s' : St lay (Elt Ideal)) (h : Cert.Body.Coded (t.val / 32 % 4) (t.val % 32) (mix Y st) s') :
    ResQc m t (s' .qc) ∧ ResQs m t (s' .qs) ∧ ResKc m t (s' .kcode) ∧ ResKs m t (s' .ks) ∧ ResVc m t (s' .vcode) ∧ ResVs m t (s' .vsc) := by
  have ht := N_lt t
  obtain ⟨h1, h2, h3, h4⟩ := h
  change ∀ h < 8, ∀ r < 128, ∀ d < 128, b3 (s' .qc) 0 r (128 * h + d) = Cert.Body.code8 (Cert.Body.qCd (Y 0) h r d) at h1
  change ∀ h < 8, ∀ c < 32, (c = t.val % 32 → at3 (s' .qs) 0 h c = Cert.Body.qSc (Y 0) h) ∧ (c ≠ t.val % 32 → t.val % 32 ≠ 0 → at3 (s' .qs) 0 h c = at3 (Y 5) 0 h c) at h2
  change t.val % 32 = 0 → Cert.Body.Wrote (t.val / 32 % 4) (Y 1) (Y 2) (mix Y st) s' at h3
  change t.val % 32 ≠ 0 → s' .kcode = Y 6 ∧ s' .ks = Y 7 ∧ s' .vcode = Y 8 ∧ s' .vsc = Y 9 at h4
  rw [y0] at h1 h2
  rw [y1, y2] at h3
  obtain ⟨xR, kR, vR, a0, a1, a2, a3⟩ := hm c
  have hXb : ∀ r < 128, ∀ k < 1024, at3 (xblk m c (t.val / 128) (t.val % 32) (t.val / 32 % 4)) 0 r k
      = at3 (A := 8) (B := 4096) (C := 4096) (m ((c.tc : Thread nD τ).loc main_arg0)) (t.val / 128) (128 * (t.val % 32) + r) (1024 * (t.val / 32 % 4) + k) :=
    fun r hr k hk => by rw [at3_of _ (by omega) hr hk]; rfl
  have hKb : ∀ r < 4096, ∀ k < 128, at3 (kblk m c (t.val / 128) (t.val / 32 % 4)) 0 r k
      = at3 (A := 8) (B := 4096) (C := 512) (m ((c.tc : Thread nD τ).loc main_arg1)) (t.val / 128) r (128 * (t.val / 32 % 4) + k) :=
    fun r hr k hk => by rw [at3_of _ (by omega) hr hk]; rfl
  have hVb : ∀ r < 4096, ∀ k < 128, at3 (vblk m c (t.val / 128) (t.val / 32 % 4)) 0 r k
      = at3 (A := 8) (B := 4096) (C := 512) (m ((c.tc : Thread nD τ).loc main_arg2)) (t.val / 128) r (128 * (t.val / 32 % 4) + k) :=
    fun r hr k hk => by rw [at3_of _ (by omega) hr hk]; rfl
  have hb : t.val / 128 < 8 := by omega
  have hj : t.val % 32 < 32 := by omega
  have hv : t.val / 32 % 4 < 4 := by omega
  refine ⟨fun c' r hr k hk => ?_, fun c' h hh n hn hle => ?_, fun c' r hr k hk => ?_, fun c' h hh g hg => ?_, fun c' r hr k hk => ?_, fun c' h hh d hd => ?_⟩ <;> obtain rfl : c' = c := Subsingleton.elim _ _
  · have := h1 (k / 128) (by omega) r hr (k % 128) (by omega)
    have e := Cert.Body.outQc_match _ xR a0 _ _ _ hb hj hv _ hXb (k / 128) r (k % 128) (by omega) hr (by omega)
    rw [show 128 * (k / 128) + k % 128 = k by omega] at this e
    exact this.trans e.symm
  · by_cases hne : n = t.val % 32
    · subst hne
      exact ((h2 h hh _ hn).1 rfl).trans (Cert.Body.outQs_match _ xR a0 _ _ _ hb hj hv _ hXb h hh).symm
    · obtain ⟨Y', hp⟩ := prev m c' 5 t (by simp [Window.fetch]) (by omega) (fun hf => by have := (flush0_5 _).1 hf; simp only at this; omega) (Y 5) (hY 5)
      have hp' := (show ResQs m ⟨t.val - 1, prev_lt t⟩ (Y 5) from hp) c' h hh n hn (by simp only; omega)
      rw [(h2 h hh n hn).2 hne (by omega), hp']
      simp only [show (t.val - 1) / 128 = t.val / 128 by omega, show (t.val - 1) / 32 % 4 = t.val / 32 % 4 by omega]
  · by_cases hz : t.val % 32 = 0
    · exact ((h3 hz).1 r hr k hk).trans (Cert.Body.outKc_match _ kR a1 _ _ hb hv _ hKb r k hr hk).symm
    · obtain ⟨Y', hp⟩ := prev m c' 6 t (by simp [Window.fetch]) (by omega) (fun hf => by have := (flush0_6 _).1 hf; simp only at this; omega) (Y 6) (hY 6)
      have hp' := (show ResKc m ⟨t.val - 1, prev_lt t⟩ (Y 6) from hp) c' r hr k hk
      rw [(h4 hz).1, hp']
      simp only [show (t.val - 1) / 128 = t.val / 128 by omega, show (t.val - 1) / 32 % 4 = t.val / 32 % 4 by omega]
  · by_cases hz : t.val % 32 = 0 ∧ h = t.val / 32 % 4
    · have := (h3 hz.1).2.1 h g hg
      rw [if_pos hz.2] at this
      rw [this, hz.2]
      exact (Cert.Body.outKs_match _ kR a1 _ _ hb hv _ hKb g hg).symm
    · obtain ⟨Y', hp⟩ := prev m c' 7 t (by simp [Window.fetch]) (by omega) (fun hf => by have := (flush0_7 _).1 hf; simp only at this; omega) (Y 7) (hY 7)
      have hp' := (show ResKs m ⟨t.val - 1, prev_lt t⟩ (Y 7) from hp) c' h (by simp only; omega) g hg
      have e : at3 (s' .ks) 0 h g = at3 (Y 7) 0 h g := by
        by_cases hz' : t.val % 32 = 0
        · have := (h3 hz').2.1 h g hg
          rw [if_neg fun h5 => hz ⟨hz', h5⟩] at this
          exact this
        · rw [(h4 hz').2.1]
      rw [e, hp']
      simp only [show (t.val - 1) / 128 = t.val / 128 by omega]
  · by_cases hz : t.val % 32 = 0
    · obtain ⟨A, hA, this⟩ := (h3 hz).2.2.1 ⟨k, hk⟩
      exact (this r hr).trans (Cert.Body.outVc_match _ vR a2 a3 _ _ hb hv _ hVb r k hr hk A hA).symm
    · obtain ⟨Y', hp⟩ := prev m c' 8 t (by simp [Window.fetch]) (by omega) (fun hf => by have := (flush0_8 _).1 hf; simp only at this; omega) (Y 8) (hY 8)
      have hp' := (show ResVc m ⟨t.val - 1, prev_lt t⟩ (Y 8) from hp) c' r hr k hk
      rw [(h4 hz).2.2.1, hp']
      simp only [show (t.val - 1) / 128 = t.val / 128 by omega, show (t.val - 1) / 32 % 4 = t.val / 32 % 4 by omega]
  · by_cases hz : t.val % 32 = 0 ∧ h = t.val / 32 % 4
    · obtain ⟨A, hA, this⟩ := ((h3 hz.1).2.2.2 h ⟨d, hd⟩).2 hz.2
      simp only at this
      rw [this, hz.2]
      exact (Cert.Body.outVs_match _ vR a2 a3 _ _ hb hv _ hVb d hd A hA).symm
    · obtain ⟨Y', hp⟩ := prev m c' 9 t (by simp [Window.fetch]) (by omega) (fun hf => by have := (flush0_9 _).1 hf; simp only at this; omega) (Y 9) (hY 9)
      have hp' := (show ResVs m ⟨t.val - 1, prev_lt t⟩ (Y 9) from hp) c' h (by simp only; omega) d hd
      have e : at3 (s' .vsc) 0 h d = at3 (Y 9) 0 h d := by
        by_cases hz' : t.val % 32 = 0
        · exact ((h3 hz').2.2.2 h ⟨d, hd⟩).1 fun h5 => hz ⟨hz', h5⟩
        · rw [(h4 hz').2.2.2]
      rw [e, hp']
      simp only [show (t.val - 1) / 128 = t.val / 128 by omega]

theorem hstep (hm : Bounded m) (c : Dev nD) (t : Fin cfg0.N) (Y : Blocks Ideal) (hY : ∀ w, (rdat (I m) (After m) m c).Finds w t (Y w)) (st : St lay (Elt Ideal)) (hI : I m t.castSucc st) :
    I m t.succ (stepAt t Y st) ∧ ∀ w, After m w t (Y w) (blocks (stepAt t Y st) w) := by
  have ht := N_lt t
  have y0 := finds0 m c t (Y 0) (hY 0)
  have y1 := finds1 m c t.val t rfl (Y 1) (hY 1)
  have y2 := finds2 m c t.val t rfl (Y 2) (hY 2)
  have hp := Cert.Body.whole_post (log2e (F := Ideal)) ((cfg0.grid.coords t) 1).val ((cfg0.grid.coords t) 2).val (lt1 (cfg0.grid.coords t)) (lt2 (cfg0.grid.coords t)) (mix Y st) fun hz => by
    have hz' : t.val % 32 ≠ 0 := by rw [← (crd t).2]; exact hz
    show Prepared (Y 1) (Y 2) (mix Y st)
    rw [y1, y2]
    exact hI c hz'
  obtain ⟨⟨hx, hk, hv⟩, hprep, hko, hcod⟩ := hp
  change (stepAt t Y st) .x = Y 0 at hx
  change (stepAt t Y st) .k = Y 1 at hk
  change (stepAt t Y st) .v = Y 2 at hv
  change Prepared (Y 1) (Y 2) (stepAt t Y st) at hprep
  rw [y1, y2] at hprep
  have hres : Res m t ((stepAt t Y st) .out) := by
    intro c' r hr k hk
    obtain rfl : c' = c := Subsingleton.elim _ _
    obtain ⟨xR, kR, vR, b0, b1, b2, b3⟩ := hm c'
    have this : Cert.Body.KO (Cert.Body.sco (Y 0) (stepAt t Y st .kc) (stepAt t Y st .kt) (log2e (F := Ideal)) (k / 128) r)
        (fun t_1 => Cert.Body.at2 (stepAt t Y st .vt) (k % 128) t_1) (Cert.Body.at2 (stepAt t Y st .vs) 0 (k % 128))
        (128 * ((cfg0.grid.coords t) 2).val + r) (at3 (stepAt t Y st .out) 0 r (128 * (k / 128) + k % 128)) :=
      hko (k / 128) (by omega) r hr (k % 128) (by omega)
    rw [show ((cfg0.grid.coords t) 2).val = t.val % 32 from (crd t).2, y0] at this
    have e := Cert.Body.point_eq _ _ _ xR kR vR b0 b1 b2 b3 (t.val / 128) (t.val % 32) (t.val / 32 % 4) (by omega) (by omega) (by omega)
      (xblk m c' (t.val / 128) (t.val % 32) (t.val / 32 % 4)) (kblk m c' (t.val / 128) (t.val / 32 % 4)) (vblk m c' (t.val / 128) (t.val / 32 % 4))
      (fun r hr k hk => by rw [at3_of _ (by omega) hr hk]; rfl) (fun r hr k hk => by rw [at3_of _ (by omega) hr hk]; rfl) (fun r hr k hk => by rw [at3_of _ (by omega) hr hk]; rfl)
      (k / 128) r (k % 128) (by omega) hr (by omega) (stepAt t Y st) hprep _ rfl _ this
    refine (congrArg (at3 _ 0 r) (show k = 128 * (k / 128) + k % 128 by omega)).trans (e.trans ?_)
    rw [at3_of _ (by omega) (by omega) (by omega)]
    unfold refOut
    congr 1
    simp only [show 128 * (k / 128) + k % 128 = k by omega]
  obtain ⟨rQc, rQs, rKc, rKs, rVc, rVs⟩ := coded m hm c t Y hY y0 y1 y2 (stepAt t Y st) (by rw [← (crd t).1, ← (crd t).2]; exact hcod)
  refine ⟨fun c' hz => ?_, fun w => match w with
    | 0 => hx | 1 => hk | 2 => hv | 3 => hres | 4 => rQc | 5 => rQs | 6 => rKc | 7 => rKs | 8 => rVc | 9 => rVs⟩
  obtain rfl : c' = c := Subsingleton.elim _ _
  have e1 : t.succ.val / 128 = t.val / 128 := by simp only [Fin.val_succ] at hz ⊢; omega
  have e2 : t.succ.val / 32 % 4 = t.val / 32 % 4 := by simp only [Fin.val_succ] at hz ⊢; omega
  rw [e1, e2]
  exact hprep

theorem final (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 3 cfg0.N = refOut m c := by
  refine Dat.arrAt_eq_of_covers _ 3 _ (by decide +kernel) fun t hf y => ?_
  obtain ⟨Y, -, hres⟩ := hL 3 t hf
  have ht := N_lt t
  have h1 : (y 1).val < 128 := (y 1).isLt
  have h2 : (y 2).val < 1024 := (y 2).isLt
  have h0 : (y 0).val < 1 := (y 0).isLt
  have e := (show Res m t (after 3 t) from hres) c (y 1).val h1 (y 2).val h2
  rw [at3_of _ (by omega) h1 h2, at3_of _ (by omega) (by omega) (by omega)] at e
  blk_simp
  refine Eq.trans (show after 3 t y = _ from ?_) (e.trans ?_)
  · blk_ext []
  · blk_ext [idx t]

theorem finalQc (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 4 cfg0.N = refQc m c := by
  refine Dat.arrAt_eq_of_covers _ 4 _ (by decide +kernel) fun t hf y => ?_
  obtain ⟨Y, -, hres⟩ := hL 4 t hf
  have ht := N_lt t
  have h1 : (y 1).val < 128 := (y 1).isLt
  have h2 : (y 2).val < 1024 := (y 2).isLt
  have h0 : (y 0).val < 1 := (y 0).isLt
  have e := (show ResQc m t (after 4 t) from hres) c (y 1).val h1 (y 2).val h2
  rw [b3_of _ (by omega) h1 h2, b3_of _ (by omega) (by omega) (by omega)] at e
  blk_simp
  refine Eq.trans (show after 4 t y = _ from ?_) (e.trans ?_)
  · blk_ext []
  · blk_ext [idx t]

theorem finalQs (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 5 cfg0.N = refQs m c := by
  refine Dat.arrAt_eq_of_covers _ 5 _ (by decide +kernel) fun t hf y => ?_
  obtain ⟨Y, -, hres⟩ := hL 5 t hf
  have ht := N_lt t
  have h1 : (y 1).val < 8 := (y 1).isLt
  have h2 : (y 2).val < 32 := (y 2).isLt
  have h0 : (y 0).val < 1 := (y 0).isLt
  have e := (show ResQs m t (after 5 t) from hres) c (y 1).val h1 (y 2).val h2 (by have := (flush0_5 t).1 hf; omega)
  rw [at3_of _ (by omega) h1 h2, at3_of _ (by omega) (by omega) (by omega)] at e
  blk_simp
  refine Eq.trans (show after 5 t y = _ from ?_) (e.trans ?_)
  · blk_ext []
  · refine congrArg (refQs m c) ?_
    blk_ext [idx t]

theorem finalKc (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 6 cfg0.N = refKc m c := by
  refine Dat.arrAt_eq_of_covers _ 6 _ (by decide +kernel) fun t hf y => ?_
  obtain ⟨Y, -, hres⟩ := hL 6 t hf
  have ht := N_lt t
  have h1 : (y 1).val < 4096 := (y 1).isLt
  have h2 : (y 2).val < 128 := (y 2).isLt
  have h0 : (y 0).val < 1 := (y 0).isLt
  have e := (show ResKc m t (after 6 t) from hres) c (y 1).val h1 (y 2).val h2
  rw [b3_of _ (by omega) h1 h2, b3_of _ (by omega) (by omega) (by omega)] at e
  blk_simp
  refine Eq.trans (show after 6 t y = _ from ?_) (e.trans ?_)
  · blk_ext []
  · blk_ext [idx t]

theorem finalKs (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 7 cfg0.N = refKs m c := by
  refine Dat.arrAt_eq_of_covers _ 7 _ (by decide +kernel) fun t hf y => ?_
  obtain ⟨Y, -, hres⟩ := hL 7 t hf
  have ht := N_lt t
  have h1 : (y 1).val < 4 := (y 1).isLt
  have h2 : (y 2).val < 64 := (y 2).isLt
  have h0 : (y 0).val < 1 := (y 0).isLt
  have e := (show ResKs m t (after 7 t) from hres) c (y 1).val (by have := (flush0_7 t).1 hf; omega) (y 2).val h2
  rw [at3_of _ (by omega) h1 h2, at3_of _ (by omega) (by omega) (by omega)] at e
  blk_simp
  refine Eq.trans (show after 7 t y = _ from ?_) (e.trans ?_)
  · blk_ext []
  · refine congrArg (refKs m c) ?_
    blk_ext [idx t]

theorem finalVc (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 8 cfg0.N = refVc m c := by
  refine Dat.arrAt_eq_of_covers _ 8 _ (by decide +kernel) fun t hf y => ?_
  obtain ⟨Y, -, hres⟩ := hL 8 t hf
  have ht := N_lt t
  have h1 : (y 1).val < 4096 := (y 1).isLt
  have h2 : (y 2).val < 128 := (y 2).isLt
  have h0 : (y 0).val < 1 := (y 0).isLt
  have e := (show ResVc m t (after 8 t) from hres) c (y 1).val h1 (y 2).val h2
  rw [at3_of _ (by omega) h1 h2, at3_of _ (by omega) (by omega) (by omega)] at e
  blk_simp
  refine Eq.trans (show after 8 t y = _ from ?_) (e.trans ?_)
  · blk_ext []
  · refine congrArg (refVc m c) ?_
    blk_ext [idx t]

theorem finalVs (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat (I m) (After m) m c).Leaves w u (after w u)) :
    ((rdat (I m) (After m) m c).withAfter after).arrAt 9 cfg0.N = refVs m c := by
  refine Dat.arrAt_eq_of_covers _ 9 _ (by decide +kernel) fun t hf y => ?_
  obtain ⟨Y, -, hres⟩ := hL 9 t hf
  have ht := N_lt t
  have h1 : (y 1).val < 4 := (y 1).isLt
  have h2 : (y 2).val < 128 := (y 2).isLt
  have h0 : (y 0).val < 1 := (y 0).isLt
  have e := (show ResVs m t (after 9 t) from hres) c (y 1).val (by have := (flush0_9 t).1 hf; omega) (y 2).val h2
  rw [at3_of _ (by omega) h1 h2, at3_of _ (by omega) (by omega) (by omega)] at e
  blk_simp
  refine Eq.trans (show after 9 t y = _ from ?_) (e.trans ?_)
  · blk_ext []
  · refine congrArg (refVs m c) ?_
    blk_ext [idx t]

end Cert.KernelIdeal.Attn
-- ==== Proof.Algebraic.lean ====
/- The value claim: on arguments that are all within the finite range of bfloat16, the kernel's attention output, its
   query, key and value codes and its three tables of scales over the extended reals are the reference's, element by element. -/
module

public import proofs.«01_k».proof.Proof.Array
public import proofs.«01_k».proof.Proof.Frames
public import Idealize.ShloMosaic.Lib.ReduceAll

@[expose] public section

set_option maxRecDepth 16384

noncomputable section

namespace Cert.KernelIdeal.Attn

open Idealize.ShloMosaic Idealize.ShloMosaic.TcCoe
open Idealize.SL.Sem
open Idealize.ShloMosaic.Pipeline (RDat Dat Cfg Window)
open Cert.KernelIdeal Cert.KernelIdeal.Gen
open Cert.Body (at3)

theorem preFacts : Cert.Pre_within_bf16.Facts where
  bitsLt_bf16_f32 := by decide
  bcast_S_S8x4096x4096 := by decide
  reducesTo_S8x4096x4096_S_d0_1_2 := by decide
  h_S_ := by decide
  bcast_S_S8x4096x512 := by decide
  reducesTo_S8x4096x512_S_d0_1_2 := by decide

/-- The largest finite bfloat16. -/
theorem cmax_eq : (Ideal.ofBits .f32 0x7F7F0000#32 : EReal) = ((255 * 2 ^ (120 : Nat) : ℝ) : EReal) := by
  simp [Ideal.ofBits, Ideal.ieee, -EReal.coe_mul]; norm_num

/-- An extended real whose magnitude is within the range is a real number, below 2 to the 128th. -/
theorem real_of_le (x : EReal) (h : Ideal.cmp .ole (max x (-x)) (Ideal.ofBits .f32 0x7F7F0000#32) = 1#1) : ((x.toReal : ℝ) : EReal) = x ∧ |x.toReal| ≤ 2 ^ (128 : Nat) := by
  have hle : max x (-x) ≤ ((255 * 2 ^ (120 : Nat) : ℝ) : EReal) := by
    by_contra hc
    rw [← cmax_eq] at hc
    simp [Ideal.cmp, hc] at h
  obtain ⟨h1, h2⟩ := max_le_iff.1 hle
  have ht : x ≠ ⊤ := fun e => by rw [e] at h1; exact absurd h1 (not_le_of_gt (EReal.coe_lt_top _))
  have hb : x ≠ ⊥ := fun e => by rw [e, EReal.neg_bot] at h2; exact absurd h2 (not_le_of_gt (EReal.coe_lt_top _))
  have hx := EReal.coe_toReal ht hb
  refine ⟨hx, ?_⟩
  rw [← hx] at h1 h2
  rw [← EReal.coe_neg] at h2
  have a1 := EReal.coe_le_coe_iff.1 h1
  have a2 := EReal.coe_le_coe_iff.1 h2
  refine (abs_le'.2 ⟨a1, a2⟩).trans ?_
  norm_num

instance : Subsingleton Cert.Pre_within_bf16.S_.Idx := inferInstanceAs (Subsingleton (∀ a : Fin 0, _))

attribute [local instance] preFacts

theorem pre_real (x : FVec Ideal Cert.Pre_within_bf16.S8x4096x4096 .bf16) (k v : FVec Ideal Cert.Pre_within_bf16.S8x4096x512 .bf16)
    (h : Cert.Pre_within_bf16.fn (F := Ideal) x k v = fun _ => 1#1) :
    (∀ i, ((x i : EReal).toReal : EReal) = x i ∧ |(x i : EReal).toReal| ≤ 2 ^ (128 : Nat)) ∧ (∀ i, ((k i : EReal).toReal : EReal) = k i ∧ |(k i : EReal).toReal| ≤ 2 ^ (128 : Nat))
      ∧ ∀ i, ((v i : EReal).toReal : EReal) = v i ∧ |(v i : EReal).toReal| ≤ 2 ^ (128 : Nat) := by
  have h0 := congrFun h fun a => Fin.elim0 a
  dsimp only [Cert.Pre_within_bf16.fn] at h0
  rw [andi_apply, andi_apply] at h0
  obtain ⟨h1, hv⟩ := IntOp.andi_eq_one.1 h0
  obtain ⟨hx, hk⟩ := IntOp.andi_eq_one.1 h1
  exact ⟨fun i => real_of_le _ (Host.reduce_andi_all _ _ _ _ _ hx i), fun i => real_of_le _ (Host.reduce_andi_all _ _ _ _ _ hk i),
    fun i => real_of_le _ (Host.reduce_andi_all _ _ _ _ _ hv i)⟩

theorem at3_real {A B C : Nat} (f : (Cert.Body.sh3 A B C).Idx → EReal) (hf : ∀ i, ((f i).toReal : EReal) = f i ∧ |(f i).toReal| ≤ 2 ^ (128 : Nat)) (a b c : Nat) :
    at3 f a b c = (((at3 f a b c).toReal : ℝ) : EReal) ∧ |(at3 f a b c).toReal| ≤ 2 ^ (128 : Nat) := by
  unfold at3
  split
  · exact ⟨(hf _).1.symm, (hf _).2⟩
  · simp

theorem bounded (m : (ℓ : Loc nD τ sig) → Idealize.ShloMosaic.Buf (Elt Ideal) ℓ) (hpre : Cert.Pre_KernelIdeal_within_bf16 m) : Bounded m := fun c => by
  obtain ⟨hx, hk, hv⟩ := pre_real _ _ _ (hpre c)
  exact ⟨_, _, _, fun a b d => (at3_real _ hx a b d).1, fun a b d => (at3_real _ hk a b d).1, fun a b d => (at3_real _ hv a b d).1, fun a b d => (at3_real _ hv a b d).2⟩

end Cert.KernelIdeal.Attn

namespace Cert.Proof

open Idealize.ShloMosaic Idealize.ShloMosaic.TcCoe Idealize.SL.Sem
open Cert.KernelIdeal.Attn

theorem results_congr {x x' : FVec Ideal Cert.ReferenceIdeal.S8x4096x4096 .bf16} {k k' v v' : FVec Ideal Cert.ReferenceIdeal.S8x4096x512 .bf16} (hx : x = x') (hk : k = k') (hv : v = v') :
    Cert.ReferenceIdeal.Stage.out x k v = Cert.ReferenceIdeal.Stage.out x' k' v'
      ∧ Cert.ReferenceIdeal.Stage.outQc (F := Ideal) x = Cert.ReferenceIdeal.Stage.outQc (F := Ideal) x' ∧ Cert.ReferenceIdeal.Stage.outQs x = Cert.ReferenceIdeal.Stage.outQs x'
      ∧ Cert.ReferenceIdeal.Stage.outKc (F := Ideal) k = Cert.ReferenceIdeal.Stage.outKc (F := Ideal) k' ∧ Cert.ReferenceIdeal.Stage.outKs k = Cert.ReferenceIdeal.Stage.outKs k'
      ∧ Cert.ReferenceIdeal.Stage.outVc v = Cert.ReferenceIdeal.Stage.outVc v' ∧ Cert.ReferenceIdeal.Stage.outVs v = Cert.ReferenceIdeal.Stage.outVs v' := by
  subst hx hk hv; exact ⟨rfl, rfl, rfl, rfl, rfl, rfl, rfl⟩

theorem algebraic : Cert.algebraic_KernelIdeal_ReferenceIdeal_pre_within_bf16 (hKernelIdeal := Cert.KernelIdeal.Gen.facts) (hReferenceIdeal := Cert.ReferenceIdeal.Gen.facts) (hPre_within_bf16 := preFacts) := by
  intro m g m' g' hpre hargs
  have hm := bounded m hpre
  refine ⟨fun c => refOut m c, fun c => refQc m c, fun c => refQs m c, fun c => refKc m c, fun c => refKs m c, fun c => refVc m c, fun c => refVs m c, ?_, ?_⟩
  · refine Cert.KernelIdeal.run_main (I m) (After m) m g (hstep m hm) (fun st c h => absurd rfl h) _ fun r h c => ?_
    obtain ⟨after, hL, hA⟩ := h.1.exists_exact c
    exact ⟨(hA 3).trans (final m c after hL), (hA 4).trans (finalQc m c after hL), (hA 5).trans (finalQs m c after hL), (hA 6).trans (finalKc m c after hL),
      (hA 7).trans (finalKs m c after hL), (hA 8).trans (finalVc m c after hL), (hA 9).trans (finalVs m c after hL), h.1.arr_in c 0 rfl, h.1.arr_in c 1 rfl, h.1.arr_in c 2 rfl⟩
  · refine (θ_run _ _ _).mono (fun r h c => ?_) (Cert.ReferenceIdeal.Stage.run m' g')
    obtain ⟨h0, h1, h2, h3, h4, h5, h6, ha⟩ := h c
    obtain ⟨e0, e1, e2⟩ := hargs c
    obtain ⟨r0, r1, r2, r3, r4, r5, r6⟩ := results_congr e0 e1 e2
    unfold refOut refQc refQs refKc refKs refVc refVs
    exact ⟨h0.trans r0, h1.trans r1, h2.trans r2, h3.trans r3, h4.trans r4, h5.trans r5, h6.trans r6, ha⟩

end Cert.Proof

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.KernelIdeal.Attn.preFacts, frame_kernel, frame_kernelIdeal,
    fun m g _ => frame_kernelIdeal m g trivial, frame_reference, fun m g _ => frame_reference m g trivial, preserves, algebraic⟩

end Cert.Proof

end
